-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_real_entries [hPre_real_entries : Cert.Pre_real_entries.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_real_entries.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 = (fun _ => 1#1)
    ∧ (Cert.Pre_real_entries.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.1 = (fun _ => 1#1)
    ∧ (Cert.Pre_real_entries.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_real_entries [hPre_real_entries : Cert.Pre_real_entries.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_real_entries.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).1 = (fun _ => 1#1)
    ∧ (Cert.Pre_real_entries.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.1 = (fun _ => 1#1)
    ∧ (Cert.Pre_real_entries.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_real_entries [hKernel7Ideal : Cert.Kernel7Ideal.Facts] [hPre_real_entries : Cert.Pre_real_entries.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_real_entries m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_real_entries [hReference7Ideal : Cert.Reference7Ideal.Facts] [hPre_real_entries : Cert.Pre_real_entries.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_real_entries m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)) (v3 : (c : Dev Cert.KernelIdeal.nD) → Buf (Elt Ideal) ((c.tc : Thread Cert.KernelIdeal.nD Cert.KernelIdeal.τ).loc Cert.KernelIdeal.main_v30_3)) (v4 : (c : Dev Cert.KernelIdeal.nD) → Buf (Elt Ideal) ((c.tc : Thread Cert.KernelIdeal.nD Cert.KernelIdeal.τ).loc Cert.KernelIdeal.main_v30_4)) (v5 : (c : Dev Cert.KernelIdeal.nD) → Buf (Elt Ideal) ((c.tc : Thread Cert.KernelIdeal.nD Cert.KernelIdeal.τ).loc Cert.KernelIdeal.main_v30_5)) (v6 : (c : Dev Cert.KernelIdeal.nD) → Buf (Elt Ideal) ((c.tc : Thread Cert.KernelIdeal.nD Cert.KernelIdeal.τ).loc Cert.KernelIdeal.main_v30_6)) (v7 : (c : Dev Cert.KernelIdeal.nD) → Buf (Elt Ideal) ((c.tc : Thread Cert.KernelIdeal.nD Cert.KernelIdeal.τ).loc Cert.KernelIdeal.main_v30_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_v30_3) = v3 c
          ∧ r.2.mem ((c.tc : Thread Cert.KernelIdeal.nD Cert.KernelIdeal.τ).loc Cert.KernelIdeal.main_v30_4) = v4 c
          ∧ r.2.mem ((c.tc : Thread Cert.KernelIdeal.nD Cert.KernelIdeal.τ).loc Cert.KernelIdeal.main_v30_5) = v5 c
          ∧ r.2.mem ((c.tc : Thread Cert.KernelIdeal.nD Cert.KernelIdeal.τ).loc Cert.KernelIdeal.main_v30_6) = v6 c
          ∧ r.2.mem ((c.tc : Thread Cert.KernelIdeal.nD Cert.KernelIdeal.τ).loc Cert.KernelIdeal.main_v30_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_v202) = v1 c
          ∧ r.2.mem ((c.tc : Thread Cert.ReferenceIdeal.nD Cert.ReferenceIdeal.τ).loc Cert.ReferenceIdeal.main_v173) = v2 c
          ∧ r.2.mem ((c.tc : Thread Cert.ReferenceIdeal.nD Cert.ReferenceIdeal.τ).loc Cert.ReferenceIdeal.main_v111) = v3 c
          ∧ r.2.mem ((c.tc : Thread Cert.ReferenceIdeal.nD Cert.ReferenceIdeal.τ).loc Cert.ReferenceIdeal.main_v213) = v4 c
          ∧ r.2.mem ((c.tc : Thread Cert.ReferenceIdeal.nD Cert.ReferenceIdeal.τ).loc Cert.ReferenceIdeal.main_v214) = v5 c
          ∧ r.2.mem ((c.tc : Thread Cert.ReferenceIdeal.nD Cert.ReferenceIdeal.τ).loc Cert.ReferenceIdeal.main_v211) = v6 c
          ∧ r.2.mem ((c.tc : Thread Cert.ReferenceIdeal.nD Cert.ReferenceIdeal.τ).loc Cert.ReferenceIdeal.main_v215) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)) (v4 : (c : Dev Cert.Kernel2Ideal.nD) → Buf (Elt Ideal) ((c.tc : Thread Cert.Kernel2Ideal.nD Cert.Kernel2Ideal.τ).loc Cert.Kernel2Ideal.main_v20_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_v20_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v62) = v1 c
          ∧ r.2.mem ((c.tc : Thread Cert.Reference2Ideal.nD Cert.Reference2Ideal.τ).loc Cert.Reference2Ideal.main_v82) = v2 c
          ∧ r.2.mem ((c.tc : Thread Cert.Reference2Ideal.nD Cert.Reference2Ideal.τ).loc Cert.Reference2Ideal.main_v42) = v3 c
          ∧ r.2.mem ((c.tc : Thread Cert.Reference2Ideal.nD Cert.Reference2Ideal.τ).loc Cert.Reference2Ideal.main_v66) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)) (v3 : (c : Dev Cert.Kernel6Ideal.nD) → Buf (Elt Ideal) ((c.tc : Thread Cert.Kernel6Ideal.nD Cert.Kernel6Ideal.τ).loc Cert.Kernel6Ideal.main_v5_3)) (v4 : (c : Dev Cert.Kernel6Ideal.nD) → Buf (Elt Ideal) ((c.tc : Thread Cert.Kernel6Ideal.nD Cert.Kernel6Ideal.τ).loc Cert.Kernel6Ideal.main_v5_4)) (v5 : (c : Dev Cert.Kernel6Ideal.nD) → Buf (Elt Ideal) ((c.tc : Thread Cert.Kernel6Ideal.nD Cert.Kernel6Ideal.τ).loc Cert.Kernel6Ideal.main_v5_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_v5_3) = v3 c
          ∧ r.2.mem ((c.tc : Thread Cert.Kernel6Ideal.nD Cert.Kernel6Ideal.τ).loc Cert.Kernel6Ideal.main_v5_4) = v4 c
          ∧ r.2.mem ((c.tc : Thread Cert.Kernel6Ideal.nD Cert.Kernel6Ideal.τ).loc Cert.Kernel6Ideal.main_v5_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v69) = v0 c
          ∧ r.2.mem ((c.tc : Thread Cert.Reference6Ideal.nD Cert.Reference6Ideal.τ).loc Cert.Reference6Ideal.main_v70) = v1 c
          ∧ r.2.mem ((c.tc : Thread Cert.Reference6Ideal.nD Cert.Reference6Ideal.τ).loc Cert.Reference6Ideal.main_v71) = v2 c
          ∧ r.2.mem ((c.tc : Thread Cert.Reference6Ideal.nD Cert.Reference6Ideal.τ).loc Cert.Reference6Ideal.main_v72) = v3 c
          ∧ r.2.mem ((c.tc : Thread Cert.Reference6Ideal.nD Cert.Reference6Ideal.τ).loc Cert.Reference6Ideal.main_v52) = v4 c
          ∧ r.2.mem ((c.tc : Thread Cert.Reference6Ideal.nD Cert.Reference6Ideal.τ).loc Cert.Reference6Ideal.main_v73) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal_pre_real_entries [hKernel7Ideal : Cert.Kernel7Ideal.Facts] [hReference7Ideal : Cert.Reference7Ideal.Facts] [hPre_real_entries : Cert.Pre_real_entries.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_real_entries m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v28_0)) (v1 : (c : Dev Cert.Kernel7Ideal.nD) → Buf (Elt Ideal) ((c.tc : Thread Cert.Kernel7Ideal.nD Cert.Kernel7Ideal.τ).loc Cert.Kernel7Ideal.main_v28_1)) (v2 : (c : Dev Cert.Kernel7Ideal.nD) → Buf (Elt Ideal) ((c.tc : Thread Cert.Kernel7Ideal.nD Cert.Kernel7Ideal.τ).loc Cert.Kernel7Ideal.main_v28_2)) (v3 : (c : Dev Cert.Kernel7Ideal.nD) → Buf (Elt Ideal) ((c.tc : Thread Cert.Kernel7Ideal.nD Cert.Kernel7Ideal.τ).loc Cert.Kernel7Ideal.main_v28_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v28_0) = v0 c
          ∧ r.2.mem ((c.tc : Thread Cert.Kernel7Ideal.nD Cert.Kernel7Ideal.τ).loc Cert.Kernel7Ideal.main_v28_1) = v1 c
          ∧ r.2.mem ((c.tc : Thread Cert.Kernel7Ideal.nD Cert.Kernel7Ideal.τ).loc Cert.Kernel7Ideal.main_v28_2) = v2 c
          ∧ r.2.mem ((c.tc : Thread Cert.Kernel7Ideal.nD Cert.Kernel7Ideal.τ).loc Cert.Kernel7Ideal.main_v28_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v67) = v0 c
          ∧ r.2.mem ((c.tc : Thread Cert.Reference7Ideal.nD Cert.Reference7Ideal.τ).loc Cert.Reference7Ideal.main_v68) = v1 c
          ∧ r.2.mem ((c.tc : Thread Cert.Reference7Ideal.nD Cert.Reference7Ideal.τ).loc Cert.Reference7Ideal.main_v62) = v2 c
          ∧ r.2.mem ((c.tc : Thread Cert.Reference7Ideal.nD Cert.Reference7Ideal.τ).loc Cert.Reference7Ideal.main_v33) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)) (v2 : (c : Dev Cert.Kernel8Ideal.nD) → Buf (Elt Ideal) ((c.tc : Thread Cert.Kernel8Ideal.nD Cert.Kernel8Ideal.τ).loc Cert.Kernel8Ideal.main_v5_2)) (v3 : (c : Dev Cert.Kernel8Ideal.nD) → Buf (Elt Ideal) ((c.tc : Thread Cert.Kernel8Ideal.nD Cert.Kernel8Ideal.τ).loc Cert.Kernel8Ideal.main_v5_3)) (v4 : (c : Dev Cert.Kernel8Ideal.nD) → Buf (Elt Ideal) ((c.tc : Thread Cert.Kernel8Ideal.nD Cert.Kernel8Ideal.τ).loc Cert.Kernel8Ideal.main_v5_4)) (v5 : (c : Dev Cert.Kernel8Ideal.nD) → Buf (Elt Ideal) ((c.tc : Thread Cert.Kernel8Ideal.nD Cert.Kernel8Ideal.τ).loc Cert.Kernel8Ideal.main_v5_5)) (v6 : (c : Dev Cert.Kernel8Ideal.nD) → Buf (Elt Ideal) ((c.tc : Thread Cert.Kernel8Ideal.nD Cert.Kernel8Ideal.τ).loc Cert.Kernel8Ideal.main_v5_6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_v5_2) = v2 c
          ∧ r.2.mem ((c.tc : Thread Cert.Kernel8Ideal.nD Cert.Kernel8Ideal.τ).loc Cert.Kernel8Ideal.main_v5_3) = v3 c
          ∧ r.2.mem ((c.tc : Thread Cert.Kernel8Ideal.nD Cert.Kernel8Ideal.τ).loc Cert.Kernel8Ideal.main_v5_4) = v4 c
          ∧ r.2.mem ((c.tc : Thread Cert.Kernel8Ideal.nD Cert.Kernel8Ideal.τ).loc Cert.Kernel8Ideal.main_v5_5) = v5 c
          ∧ r.2.mem ((c.tc : Thread Cert.Kernel8Ideal.nD Cert.Kernel8Ideal.τ).loc Cert.Kernel8Ideal.main_v5_6) = v6 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_v56) = v1 c
          ∧ r.2.mem ((c.tc : Thread Cert.Reference8Ideal.nD Cert.Reference8Ideal.τ).loc Cert.Reference8Ideal.main_v57) = v2 c
          ∧ r.2.mem ((c.tc : Thread Cert.Reference8Ideal.nD Cert.Reference8Ideal.τ).loc Cert.Reference8Ideal.main_v58) = v3 c
          ∧ r.2.mem ((c.tc : Thread Cert.Reference8Ideal.nD Cert.Reference8Ideal.τ).loc Cert.Reference8Ideal.main_v59) = v4 c
          ∧ r.2.mem ((c.tc : Thread Cert.Reference8Ideal.nD Cert.Reference8Ideal.τ).loc Cert.Reference8Ideal.main_v60) = v5 c
          ∧ r.2.mem ((c.tc : Thread Cert.Reference8Ideal.nD Cert.Reference8Ideal.τ).loc Cert.Reference8Ideal.main_v61) = v6 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v18_0)) (v1 : (c : Dev Cert.Kernel9Ideal.nD) → Buf (Elt Ideal) ((c.tc : Thread Cert.Kernel9Ideal.nD Cert.Kernel9Ideal.τ).loc Cert.Kernel9Ideal.main_v18_1)) (v2 : (c : Dev Cert.Kernel9Ideal.nD) → Buf (Elt Ideal) ((c.tc : Thread Cert.Kernel9Ideal.nD Cert.Kernel9Ideal.τ).loc Cert.Kernel9Ideal.main_v18_2)) (v3 : (c : Dev Cert.Kernel9Ideal.nD) → Buf (Elt Ideal) ((c.tc : Thread Cert.Kernel9Ideal.nD Cert.Kernel9Ideal.τ).loc Cert.Kernel9Ideal.main_v18_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v18_0) = v0 c
          ∧ r.2.mem ((c.tc : Thread Cert.Kernel9Ideal.nD Cert.Kernel9Ideal.τ).loc Cert.Kernel9Ideal.main_v18_1) = v1 c
          ∧ r.2.mem ((c.tc : Thread Cert.Kernel9Ideal.nD Cert.Kernel9Ideal.τ).loc Cert.Kernel9Ideal.main_v18_2) = v2 c
          ∧ r.2.mem ((c.tc : Thread Cert.Kernel9Ideal.nD Cert.Kernel9Ideal.τ).loc Cert.Kernel9Ideal.main_v18_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v78) = v0 c
          ∧ r.2.mem ((c.tc : Thread Cert.Reference9Ideal.nD Cert.Reference9Ideal.τ).loc Cert.Reference9Ideal.main_v79) = v1 c
          ∧ r.2.mem ((c.tc : Thread Cert.Reference9Ideal.nD Cert.Reference9Ideal.τ).loc Cert.Reference9Ideal.main_v92) = v2 c
          ∧ r.2.mem ((c.tc : Thread Cert.Reference9Ideal.nD Cert.Reference9Ideal.τ).loc Cert.Reference9Ideal.main_v77) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v14_0)) (v1 : (c : Dev Cert.Kernel10Ideal.nD) → Buf (Elt Ideal) ((c.tc : Thread Cert.Kernel10Ideal.nD Cert.Kernel10Ideal.τ).loc Cert.Kernel10Ideal.main_v14_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v14_0) = v0 c
          ∧ r.2.mem ((c.tc : Thread Cert.Kernel10Ideal.nD Cert.Kernel10Ideal.τ).loc Cert.Kernel10Ideal.main_v14_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_v17) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v13_0)) (v1 : (c : Dev Cert.Kernel11Ideal.nD) → Buf (Elt Ideal) ((c.tc : Thread Cert.Kernel11Ideal.nD Cert.Kernel11Ideal.τ).loc Cert.Kernel11Ideal.main_v13_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v13_0) = v0 c
          ∧ r.2.mem ((c.tc : Thread Cert.Kernel11Ideal.nD Cert.Kernel11Ideal.τ).loc Cert.Kernel11Ideal.main_v13_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v15) = v0 c
          ∧ r.2.mem ((c.tc : Thread Cert.Reference11Ideal.nD Cert.Reference11Ideal.τ).loc Cert.Reference11Ideal.main_v16) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_real_entries : Cert.Pre_real_entries.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_real_entries (hKernel7Ideal := hKernel7Ideal) (hPre_real_entries := hPre_real_entries)
    ∧ quiescent_Reference7Ideal (hReference7Ideal := hReference7Ideal)
    ∧ quiescent_Reference7Ideal_pre_real_entries (hReference7Ideal := hReference7Ideal) (hPre_real_entries := hPre_real_entries)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_real_entries (hKernel7Ideal := hKernel7Ideal) (hReference7Ideal := hReference7Ideal) (hPre_real_entries := hPre_real_entries)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_real_entries.lean ====
abbrev S8192x2816 : Shape := ⟨2, ![8192, 2816]⟩
abbrev S3x2816 : Shape := ⟨2, ![3, 2816]⟩
abbrev S1x2816 : Shape := ⟨2, ![1, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x2816 .f32) (main_arg1 : FVec F S8192x2816 .f32) (main_arg2 : FVec F S3x2816 .f32) (main_arg3 : FVec F S1x2816 .f32) (main_arg4 : FVec F S2816x1024 .f32) (main_arg5 : FVec F S8192x1024 .f32) : IVec S8192x2816 1 × IVec S2816x1024 1 × IVec S8192x1024 1 :=
  let main_v0 : FVec F S8192x2816 .f32 := subf main_arg1 main_arg1
  let main_cst : FVec F S_ .f32 := constant S_ .f32 0x00000000#32
  let main_v1 : FVec F S8192x2816 .f32 := broadcastInDim S8192x2816 ![] bcast_S_S8192x2816 main_cst
  let main_v2 : IVec S8192x2816 1 := cmpf .oeq main_v0 main_v1
  let main_v3 : FVec F S2816x1024 .f32 := subf main_arg4 main_arg4
  let main_cst_0 : FVec F S_ .f32 := constant S_ .f32 0x00000000#32
  let main_v4 : FVec F S2816x1024 .f32 := broadcastInDim S2816x1024 ![] bcast_S_S2816x1024 main_cst_0
  let main_v5 : IVec S2816x1024 1 := cmpf .oeq main_v3 main_v4
  let main_v6 : FVec F S8192x1024 .f32 := subf main_arg5 main_arg5
  let main_cst_1 : FVec F S_ .f32 := constant S_ .f32 0x00000000#32
  let main_v7 : FVec F S8192x1024 .f32 := broadcastInDim S8192x1024 ![] bcast_S_S8192x1024 main_cst_1
  let main_v8 : IVec S8192x1024 1 := cmpf .oeq main_v6 main_v7
  (main_v2, main_v5, main_v8)
-- ==== Kernel.lean ====
abbrev S8192x1024 : Shape := ⟨2, ![8192, 1024]⟩
abbrev S1x1024 : Shape := ⟨2, ![1, 1024]⟩
abbrev S1024x3072 : Shape := ⟨2, ![1024, 3072]⟩
abbrev S3x512 : Shape := ⟨2, ![3, 512]⟩
abbrev S1x512 : Shape := ⟨2, ![1, 512]⟩
abbrev S1x64 : Shape := ⟨2, ![1, 64]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x1x1x64 : Shape := ⟨4, ![1, 1, 1, 64]⟩
abbrev S1x1x8x64 : Shape := ⟨4, ![1, 1, 8, 64]⟩
abbrev S8192x1536 : Shape := ⟨2, ![8192, 1536]⟩
abbrev S512x1024 : Shape := ⟨2, ![512, 1024]⟩
abbrev S512x1536 : Shape := ⟨2, ![512, 1536]⟩
abbrev S8x1536 : Shape := ⟨2, ![8, 1536]⟩
abbrev S512x3072 : Shape := ⟨2, ![512, 3072]⟩
abbrev S520x512 : Shape := ⟨2, ![520, 512]⟩
abbrev S2 : Shape := ⟨1, ![2]⟩
abbrev S8x512 : Shape := ⟨2, ![8, 512]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S1 : Shape := ⟨1, ![1]⟩

abbrev nBuf : Space → Nat
  | .hbm => 60
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S3x512, .f32⟩
  | .hbm, ⟨4, _⟩ => ⟨S1x512, .f32⟩
  | .hbm, ⟨5, _⟩ => ⟨S1x64, .f32⟩
  | .hbm, ⟨6, _⟩ => ⟨S1x64, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x3072, .f32⟩
  | .hbm, ⟨28, _⟩ => ⟨S8x8, .i32⟩
  | .hbm, ⟨29, _⟩ => ⟨S8x8, .i32⟩
  | .hbm, ⟨30, _⟩ => ⟨S_, .i32⟩
  | .hbm, ⟨31, _⟩ => ⟨S8x8, .i32⟩
  | .hbm, ⟨32, _⟩ => ⟨S8x8, .i32⟩
  | .hbm, ⟨33, _⟩ => ⟨S8x8, .i1⟩
  | .hbm, ⟨34, _⟩ => ⟨S8x8, .f32⟩
  | .hbm, ⟨35, _⟩ => ⟨S_, .f32⟩
  | .hbm, ⟨36, _⟩ => ⟨S64x64, .f32⟩
  | .hbm, ⟨37, _⟩ => ⟨S8x1x8x1, .f32⟩
  | .hbm, ⟨38, _⟩ => ⟨S1x64x1x64, .f32⟩
  | .hbm, ⟨39, _⟩ => ⟨S8x64x8x64, .f32⟩
  | .hbm, ⟨40, _⟩ => ⟨S8x64x8x64, .f32⟩
  | .hbm, ⟨41, _⟩ => ⟨S8x64x8x64, .f32⟩
  | .hbm, ⟨42, _⟩ => ⟨S512x512, .f32⟩
  | .hbm, ⟨43, _⟩ => ⟨S512x512, .bf16⟩
  | .hbm, ⟨44, _⟩ => ⟨S1x1x1x64, .f32⟩
  | .hbm, ⟨45, _⟩ => ⟨S1x1x8x64, .f32⟩
  | .hbm, ⟨46, _⟩ => ⟨S1x512, .f32⟩
  | .hbm, ⟨47, _⟩ => ⟨S1x1x1x64, .f32⟩
  | .hbm, ⟨48, _⟩ => ⟨S1x1x8x64, .f32⟩
  | .hbm, ⟨49, _⟩ => ⟨S1x512, .f32⟩
  | .hbm, ⟨50, _⟩ => ⟨S8192x1536, .f32⟩
  | .hbm, ⟨51, _⟩ => ⟨S8192x1536, .f32⟩
  | .hbm, ⟨52, _⟩ => ⟨S8192x3072, .bf16⟩
  | .hbm, ⟨53, _⟩ => ⟨S3x512, .f32⟩
  | .hbm, ⟨54, _⟩ => ⟨S1x512, .f32⟩
  | .hbm, ⟨55, _⟩ => ⟨S1x512, .f32⟩
  | .hbm, ⟨56, _⟩ => ⟨S1x512, .f32⟩
  | .hbm, ⟨57, _⟩ => ⟨S1x512, .f32⟩
  | .hbm, ⟨58, _⟩ => ⟨S1024x3072, .f32⟩
  | .hbm, ⟨59, _⟩ => ⟨S1024x3072, .bf16⟩
  | .local _ .vmem, ⟨0, _⟩ => ⟨S512x1024, .f32⟩
  | .local _ .vmem, ⟨1, _⟩ => ⟨S512x1024, .f32⟩
  | .local _ .vmem, ⟨2, _⟩ => ⟨S512x1536, .f32⟩
  | .local _ .vmem, ⟨3, _⟩ => ⟨S512x1536, .f32⟩
  | .local _ .vmem, ⟨4, _⟩ => ⟨S8x1536, .f32⟩
  | .local _ .vmem, ⟨5, _⟩ => ⟨S8x1536, .f32⟩
  | .local _ .vmem, ⟨6, _⟩ => ⟨S512x1536, .f32⟩
  | .local _ .vmem, ⟨7, _⟩ => ⟨S512x1536, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S3x512, .f32⟩
  | .local _ .vmem, ⟨17, _⟩ => ⟨S1x512, .f32⟩
  | .local _ .vmem, ⟨18, _⟩ => ⟨S1x512, .f32⟩
  | .local _ .vmem, ⟨19, _⟩ => ⟨S1x1024, .f32⟩
  | .local _ .vmem, ⟨20, _⟩ => ⟨S512x512, .bf16⟩
  | .local _ .vmem, ⟨21, _⟩ => ⟨S1x512, .f32⟩
  | .local _ .vmem, ⟨22, _⟩ => ⟨S1x512, .f32⟩
  | .local _ .vmem, ⟨23, _⟩ => ⟨S512x3072, .bf16⟩
  | .local _ .vmem, ⟨24, _⟩ => ⟨S512x3072, .bf16⟩
  | .local _ .vmem, ⟨25, _⟩ => ⟨S3x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S520x512, .f32⟩
  | .local _ .vmem, ⟨31, _⟩ => ⟨S520x512, .f32⟩
  | .local _ .vmem, ⟨32, _⟩ => ⟨S1024x3072, .f32⟩
  | .local _ .vmem, ⟨33, _⟩ => ⟨S1024x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30_0 : Ref sig .tc := ⟨.hbm, 52, rfl⟩
abbrev main_v30_1 : Ref sig .tc := ⟨.hbm, 53, rfl⟩
abbrev main_v30_2 : Ref sig .tc := ⟨.hbm, 54, rfl⟩
abbrev main_v30_3 : Ref sig .tc := ⟨.hbm, 55, rfl⟩
abbrev main_v30_4 : Ref sig .tc := ⟨.hbm, 56, rfl⟩
abbrev main_v30_5 : Ref sig .tc := ⟨.hbm, 57, rfl⟩
abbrev main_v30_6 : Ref sig .tc := ⟨.hbm, 58, rfl⟩
abbrev main_v30_7 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S3x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S8192x1024 : Shape := ⟨2, ![8192, 1024]⟩
abbrev S1x1024 : Shape := ⟨2, ![1, 1024]⟩
abbrev S1024x3072 : Shape := ⟨2, ![1024, 3072]⟩
abbrev S3x512 : Shape := ⟨2, ![3, 512]⟩
abbrev S1x512 : Shape := ⟨2, ![1, 512]⟩
abbrev S1x64 : Shape := ⟨2, ![1, 64]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x1x1x64 : Shape := ⟨4, ![1, 1, 1, 64]⟩
abbrev S8x1x1x64 : Shape := ⟨4, ![8, 1, 1, 64]⟩
abbrev S8x64 : Shape := ⟨2, ![8, 64]⟩
abbrev S8192x3072 : Shape := ⟨2, ![8192, 3072]⟩
abbrev S2x512 : Shape := ⟨2, ![2, 512]⟩
abbrev S8194x512 : Shape := ⟨2, ![8194, 512]⟩
abbrev S512 : Shape := ⟨1, ![512]⟩
abbrev S8192x8x64 : Shape := ⟨3, ![8192, 8, 64]⟩
abbrev S8192x8 : Shape := ⟨2, ![8192, 8]⟩
abbrev S8192x8x1 : Shape := ⟨3, ![8192, 8, 1]⟩
abbrev S1x8x64 : Shape := ⟨3, ![1, 8, 64]⟩
abbrev S3072x1024 : Shape := ⟨2, ![3072, 1024]⟩

abbrev nBuf : Space → Nat
  | .hbm => 274
  | .vmem => 0
  | .smem => 0
  | _ => 0

abbrev hbmTy0_0 (i : Nat) : BufTy := match i % 128 with
  | 0 => ⟨S8192x1024, .f32⟩
  | 1 => ⟨S1x1024, .f32⟩
  | 2 => ⟨S1024x3072, .f32⟩
  | 3 => ⟨S3x512, .f32⟩
  | 4 => ⟨S1x512, .f32⟩
  | 5 => ⟨S1x64, .f32⟩
  | 6 => ⟨S1x64, .f32⟩
  | 7 => ⟨S1x512, .f32⟩
  | 8 => ⟨S8192x512, .f32⟩
  | 9 => ⟨S8192x512, .f32⟩
  | 10 => ⟨S8192x512, .f32⟩
  | 11 => ⟨S8192x512, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1024, .f32⟩
  | 24 => ⟨S8192x1024, .f32⟩
  | 25 => ⟨S8192x1024, .f32⟩
  | 26 => ⟨S8192x1024, .f32⟩
  | 27 => ⟨S1x1x1x64, .f32⟩
  | 28 => ⟨S8x1x1x64, .f32⟩
  | 29 => ⟨S8x64, .f32⟩
  | 30 => ⟨S1x1x1x64, .f32⟩
  | 31 => ⟨S8x1x1x64, .f32⟩
  | 32 => ⟨S8x64, .f32⟩
  | 33 => ⟨S8192x3072, .f32⟩
  | 34 => ⟨S8192x512, .f32⟩
  | 35 => ⟨S8192x512, .f32⟩
  | 36 => ⟨S8192x512, .f32⟩
  | 37 => ⟨S8192x512, .f32⟩
  | 38 => ⟨S8192x512, .f32⟩
  | 39 => ⟨S8192x512, .f32⟩
  | 40 => ⟨S8192x512, .f32⟩
  | 41 => ⟨S_, .f32⟩
  | 42 => ⟨S2x512, .f32⟩
  | 43 => ⟨S8194x512, .f32⟩
  | 44 => ⟨S_, .f32⟩
  | 45 => ⟨S2x512, .f32⟩
  | 46 => ⟨S8192x512, .f32⟩
  | 47 => ⟨S1x512, .f32⟩
  | 48 => ⟨S512, .f32⟩
  | 49 => ⟨S1x512, .f32⟩
  | 50 => ⟨S8192x512, .f32⟩
  | 51 => ⟨S8192x512, .f32⟩
  | 52 => ⟨S8192x512, .f32⟩
  | 53 => ⟨S1x512, .f32⟩
  | 54 => ⟨S512, .f32⟩
  | 55 => ⟨S1x512, .f32⟩
  | 56 => ⟨S8192x512, .f32⟩
  | 57 => ⟨S8192x512, .f32⟩
  | 58 => ⟨S8192x512, .f32⟩
  | 59 => ⟨S8192x512, .f32⟩
  | 60 => ⟨S1x512, .f32⟩
  | 61 => ⟨S512, .f32⟩
  | 62 => ⟨S1x512, .f32⟩
  | 63 => ⟨S8192x512, .f32⟩
  | 64 => ⟨S8192x512, .f32⟩
  | 65 => ⟨S8192x512, .f32⟩
  | 66 => ⟨S8192x512, .f32⟩
  | 67 => ⟨S8192x512, .f32⟩
  | 68 => ⟨S8192x512, .f32⟩
  | 69 => ⟨S8192x8x64, .f32⟩
  | 70 => ⟨S8192x8x64, .f32⟩
  | 71 => ⟨S_, .f32⟩
  | 72 => ⟨S8192x8, .f32⟩
  | 73 => ⟨S8192x8x1, .f32⟩
  | 74 => ⟨S_, .f32⟩
  | 75 => ⟨S8192x8x1, .f32⟩
  | 76 => ⟨S8192x8x1, .f32⟩
  | 77 => ⟨S_, .f32⟩
  | 78 => ⟨S8192x8x1, .f32⟩
  | 79 => ⟨S8192x8x1, .f32⟩
  | 80 => ⟨S8192x8x1, .f32⟩
  | 81 => ⟨S8192x8x1, .f32⟩
  | 82 => ⟨S_, .f32⟩
  | 83 => ⟨S8192x8x1, .f32⟩
  | 84 => ⟨S8192x8x1, .f32⟩
  | 85 => ⟨S8192x8x64, .f32⟩
  | 86 => ⟨S8192x8x64, .f32⟩
  | 87 => ⟨S1x8x64, .f32⟩
  | 88 => ⟨S8192x8x64, .f32⟩
  | 89 => ⟨S8192x8x64, .f32⟩
  | 90 => ⟨S8192x8x64, .f32⟩
  | 91 => ⟨S8192x8x64, .f32⟩
  | 92 => ⟨S_, .f32⟩
  | 93 => ⟨S8192x8, .f32⟩
  | 94 => ⟨S8192x8x1, .f32⟩
  | 95 => ⟨S_, .f32⟩
  | 96 => ⟨S8192x8x1, .f32⟩
  | 97 => ⟨S8192x8x1, .f32⟩
  | 98 => ⟨S_, .f32⟩
  | 99 => ⟨S8192x8x1, .f32⟩
  | 100 => ⟨S8192x8x1, .f32⟩
  | 101 => ⟨S8192x8x1, .f32⟩
  | 102 => ⟨S8192x8x1, .f32⟩
  | 103 => ⟨S_, .f32⟩
  | 104 => ⟨S8192x8x1, .f32⟩
  | 105 => ⟨S8192x8x1, .f32⟩
  | 106 => ⟨S8192x8x64, .f32⟩
  | 107 => ⟨S8192x8x64, .f32⟩
  | 108 => ⟨S1x8x64, .f32⟩
  | 109 => ⟨S8192x8x64, .f32⟩
  | 110 => ⟨S8192x8x64, .f32⟩
  | 111 => ⟨S8192x512, .f32⟩
  | 112 => ⟨S_, .f32⟩
  | 113 => ⟨S8192, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192x1, .f32⟩
  | 120 => ⟨S8192x1, .f32⟩
  | 121 => ⟨S8192x1, .f32⟩
  | 122 => ⟨S8192x1, .f32⟩
  | 123 => ⟨S_, .f32⟩
  | 124 => ⟨S8192x1, .f32⟩
  | 125 => ⟨S8192x1, .f32⟩
  | 126 => ⟨S8192x512, .f32⟩
  | 127 => ⟨S8192x512, .f32⟩
  | _ => ⟨S8192x1024, .f32⟩

abbrev hbmTy0_1 (i : Nat) : BufTy := match i % 128 with
  | 0 => ⟨S8192x512, .f32⟩
  | 1 => ⟨S8192x512, .f32⟩
  | 2 => ⟨S_, .f32⟩
  | 3 => ⟨S8192x8x64, .f32⟩
  | 4 => ⟨S8192x8x64, .f32⟩
  | 5 => ⟨S8192x512, .f32⟩
  | 6 => ⟨S8192x512, .f32⟩
  | 7 => ⟨S8192x8x64, .f32⟩
  | 8 => ⟨S8192x8x64, .f32⟩
  | 9 => ⟨S_, .f32⟩
  | 10 => ⟨S8192x8x64, .f32⟩
  | 11 => ⟨S8192x8x64, .f32⟩
  | 12 => ⟨S8192x512, .f32⟩
  | 13 => ⟨S_, .f32⟩
  | 14 => ⟨S512, .f32⟩
  | 15 => ⟨S1x512, .f32⟩
  | 16 => ⟨S8192x512, .f32⟩
  | 17 => ⟨S8192x512, .f32⟩
  | 18 => ⟨S8192x512, .f32⟩
  | 19 => ⟨S_, .f32⟩
  | 20 => ⟨S8192, .f32⟩
  | 21 => ⟨S8192x1, .f32⟩
  | 22 => ⟨S8192x512, .f32⟩
  | 23 => ⟨S8192x512, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192, .f32⟩
  | 30 => ⟨S8192x512, .f32⟩
  | 31 => ⟨S8192x512, .f32⟩
  | 32 => ⟨S8192x512, .f32⟩
  | 33 => ⟨S8192x512, .f32⟩
  | 34 => ⟨S8192x512, .f32⟩
  | 35 => ⟨S8192x8x64, .f32⟩
  | 36 => ⟨S_, .f32⟩
  | 37 => ⟨S8x64, .f32⟩
  | 38 => ⟨S1x8x64, .f32⟩
  | 39 => ⟨S8192x8x64, .f32⟩
  | 40 => ⟨S8192x8x64, .f32⟩
  | 41 => ⟨S_, .f32⟩
  | 42 => ⟨S8x64, .f32⟩
  | 43 => ⟨S8192x8x64, .f32⟩
  | 44 => ⟨S_, .f32⟩
  | 45 => ⟨S8192x8, .f32⟩
  | 46 => ⟨S8192x8x1, .f32⟩
  | 47 => ⟨S8192x8x64, .f32⟩
  | 48 => ⟨S8192x8x64, .f32⟩
  | 49 => ⟨S8192x8x1, .f32⟩
  | 50 => ⟨S_, .f32⟩
  | 51 => ⟨S8192x8x1, .f32⟩
  | 52 => ⟨S8192x8x1, .f32⟩
  | 53 => ⟨S_, .f32⟩
  | 54 => ⟨S8192x8, .f32⟩
  | 55 => ⟨S8192x8x64, .f32⟩
  | 56 => ⟨S8192x8x64, .f32⟩
  | 57 => ⟨S8192x8x64, .f32⟩
  | 58 => ⟨S8192x8x64, .f32⟩
  | 59 => ⟨S8192x8x64, .f32⟩
  | 60 => ⟨S8192x512, .f32⟩
  | 61 => ⟨S8192x8x64, .f32⟩
  | 62 => ⟨S_, .f32⟩
  | 63 => ⟨S8x64, .f32⟩
  | 64 => ⟨S1x8x64, .f32⟩
  | 65 => ⟨S8192x8x64, .f32⟩
  | 66 => ⟨S8192x8x64, .f32⟩
  | 67 => ⟨S_, .f32⟩
  | 68 => ⟨S8x64, .f32⟩
  | 69 => ⟨S8192x8x64, .f32⟩
  | 70 => ⟨S_, .f32⟩
  | 71 => ⟨S8192x8, .f32⟩
  | 72 => ⟨S8192x8x1, .f32⟩
  | 73 => ⟨S8192x8x64, .f32⟩
  | 74 => ⟨S8192x8x64, .f32⟩
  | 75 => ⟨S8192x8x1, .f32⟩
  | 76 => ⟨S_, .f32⟩
  | 77 => ⟨S8192x8x1, .f32⟩
  | 78 => ⟨S8192x8x1, .f32⟩
  | 79 => ⟨S_, .f32⟩
  | 80 => ⟨S8192x8, .f32⟩
  | 81 => ⟨S8192x8x64, .f32⟩
  | 82 => ⟨S8192x8x64, .f32⟩
  | 83 => ⟨S8192x8x64, .f32⟩
  | 84 => ⟨S8192x8x64, .f32⟩
  | 85 => ⟨S8192x8x64, .f32⟩
  | 86 => ⟨S8192x512, .f32⟩
  | 87 => ⟨S8192x512, .f32⟩
  | 88 => ⟨S8192x512, .f32⟩
  | 89 => ⟨S_, .f32⟩
  | 90 => ⟨S512, .f32⟩
  | 91 => ⟨S1x512, .f32⟩
  | 92 => ⟨S8192x512, .f32⟩
  | 93 => ⟨S_, .f32⟩
  | 94 => ⟨S512, .f32⟩
  | 95 => ⟨S1x512, .f32⟩
  | 96 => ⟨S8192x512, .f32⟩
  | 97 => ⟨S8192x512, .f32⟩
  | 98 => ⟨S_, .f32⟩
  | 99 => ⟨S512, .f32⟩
  | 100 => ⟨S1x512, .f32⟩
  | 101 => ⟨S_, .f32⟩
  | 102 => ⟨S3x512, .f32⟩
  | 103 => ⟨S_, .f32⟩
  | 104 => ⟨S8194x512, .f32⟩
  | 105 => ⟨S8192x512, .f32⟩
  | 106 => ⟨S_, .f32⟩
  | 107 => ⟨S512, .f32⟩
  | 108 => ⟨S1x512, .f32⟩
  | 109 => ⟨S8192x512, .f32⟩
  | 110 => ⟨S8192x512, .f32⟩
  | 111 => ⟨S_, .f32⟩
  | 112 => ⟨S512, .f32⟩
  | 113 => ⟨S1x512, .f32⟩
  | 114 => ⟨S_, .f32⟩
  | 115 => ⟨S3x512, .f32⟩
  | 116 => ⟨S3x512, .f32⟩
  | 117 => ⟨S_, .f32⟩
  | 118 => ⟨S8194x512, .f32⟩
  | 119 => ⟨S8194x512, .f32⟩
  | 120 => ⟨S8192x512, .f32⟩
  | 121 => ⟨S_, .f32⟩
  | 122 => ⟨S512, .f32⟩
  | 123 => ⟨S1x512, .f32⟩
  | 124 => ⟨S8192x512, .f32⟩
  | 125 => ⟨S8192x512, .f32⟩
  | 126 => ⟨S_, .f32⟩
  | 127 => ⟨S512, .f32⟩
  | _ => ⟨S8192x1024, .f32⟩

abbrev hbmTy0_2 (i : Nat) : BufTy := match i % 128 with
  | 0 => ⟨S1x512, .f32⟩
  | 1 => ⟨S_, .f32⟩
  | 2 => ⟨S3x512, .f32⟩
  | 3 => ⟨S3x512, .f32⟩
  | 4 => ⟨S_, .f32⟩
  | 5 => ⟨S8194x512, .f32⟩
  | 6 => ⟨S8194x512, .f32⟩
  | 7 => ⟨S2x512, .f32⟩
  | 8 => ⟨S8192x512, .f32⟩
  | 9 => ⟨S8192x512, .f32⟩
  | 10 => ⟨S8192x512, .f32⟩
  | 11 => ⟨S8192x3072, .f32⟩
  | 12 => ⟨S3072x1024, .f32⟩
  | 13 => ⟨S1024x3072, .f32⟩
  | 14 => ⟨S8192x3072, .bf16⟩
  | 15 => ⟨S1x512, .f32⟩
  | 16 => ⟨S1x512, .f32⟩
  | 17 => ⟨S1024x3072, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_4 : Ref sig .tc := ⟨.hbm, 71, rfl⟩
abbrev main_v54 : Ref sig .tc := ⟨.hbm, 72, rfl⟩
abbrev main_v55 : Ref sig .tc := ⟨.hbm, 73, rfl⟩
abbrev main_cst_5 : Ref sig .tc := ⟨.hbm, 74, rfl⟩
abbrev main_v56 : Ref sig .tc := ⟨.hbm, 75, rfl⟩
abbrev main_v57 : Ref sig .tc := ⟨.hbm, 76, rfl⟩
abbrev main_cst_6 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_7 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_8 : Ref sig .tc := ⟨.hbm, 92, rfl⟩
abbrev main_v71 : Ref sig .tc := ⟨.hbm, 93, rfl⟩
abbrev main_v72 : Ref sig .tc := ⟨.hbm, 94, rfl⟩
abbrev main_cst_9 : Ref sig .tc := ⟨.hbm, 95, rfl⟩
abbrev main_v73 : Ref sig .tc := ⟨.hbm, 96, rfl⟩
abbrev main_v74 : Ref sig .tc := ⟨.hbm, 97, rfl⟩
abbrev main_cst_10 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_11 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_12 : Ref sig .tc := ⟨.hbm, 112, rfl⟩
abbrev main_v87 : Ref sig .tc := ⟨.hbm, 113, rfl⟩
abbrev main_v88 : Ref sig .tc := ⟨.hbm, 114, rfl⟩
abbrev main_cst_13 : Ref sig .tc := ⟨.hbm, 115, rfl⟩
abbrev main_v89 : Ref sig .tc := ⟨.hbm, 116, rfl⟩
abbrev main_v90 : Ref sig .tc := ⟨.hbm, 117, rfl⟩
abbrev main_cst_14 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_15 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_16 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_17 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_18 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_19 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_20 : Ref sig .tc := ⟨.hbm, 153, rfl⟩
abbrev main_v120 : Ref sig .tc := ⟨.hbm, 154, rfl⟩
abbrev main_v121 : Ref sig .tc := ⟨.hbm, 155, rfl⟩
abbrev main_cst_21 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_22 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_23 : Ref sig .tc := ⟨.hbm, 169, rfl⟩
abbrev main_v133 : Ref sig .tc := ⟨.hbm, 170, rfl⟩
abbrev main_v134 : Ref sig .tc := ⟨.hbm, 171, rfl⟩
abbrev main_cst_24 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_cst_25 : Ref sig .tc := ⟨.hbm, 178, rfl⟩
abbrev main_v140 : Ref sig .tc := ⟨.hbm, 179, rfl⟩
abbrev main_v141 : Ref sig .tc := ⟨.hbm, 180, rfl⟩
abbrev main_cst_26 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_cst_27 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_cst_28 : Ref sig .tc := ⟨.hbm, 195, rfl⟩
abbrev main_v154 : Ref sig .tc := ⟨.hbm, 196, rfl⟩
abbrev main_v155 : Ref sig .tc := ⟨.hbm, 197, rfl⟩
abbrev main_cst_29 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_cst_30 : Ref sig .tc := ⟨.hbm, 204, rfl⟩
abbrev main_v161 : Ref sig .tc := ⟨.hbm, 205, rfl⟩
abbrev main_v162 : Ref sig .tc := ⟨.hbm, 206, rfl⟩
abbrev main_cst_31 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_cst_32 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_cst_33 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_cst_34 : Ref sig .tc := ⟨.hbm, 226, rfl⟩
abbrev main_v179 : Ref sig .tc := ⟨.hbm, 227, rfl⟩
abbrev main_v180 : Ref sig .tc := ⟨.hbm, 228, rfl⟩
abbrev main_cst_35 : Ref sig .tc := ⟨.hbm, 229, rfl⟩
abbrev main_v181 : Ref sig .tc := ⟨.hbm, 230, rfl⟩
abbrev main_cst_36 : Ref sig .tc := ⟨.hbm, 231, rfl⟩
abbrev main_v182 : Ref sig .tc := ⟨.hbm, 232, rfl⟩
abbrev main_v183 : Ref sig .tc := ⟨.hbm, 233, rfl⟩
abbrev main_cst_37 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_cst_38 : Ref sig .tc := ⟨.hbm, 239, rfl⟩
abbrev main_v188 : Ref sig .tc := ⟨.hbm, 240, rfl⟩
abbrev main_v189 : Ref sig .tc := ⟨.hbm, 241, rfl⟩
abbrev main_cst_39 : Ref sig .tc := ⟨.hbm, 242, rfl⟩
abbrev main_v190 : Ref sig .tc := ⟨.hbm, 243, rfl⟩
abbrev main_v191 : Ref sig .tc := ⟨.hbm, 244, rfl⟩
abbrev main_cst_40 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_cst_41 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_cst_42 : Ref sig .tc := ⟨.hbm, 254, rfl⟩
abbrev main_v199 : Ref sig .tc := ⟨.hbm, 255, rfl⟩
abbrev main_v200 : Ref sig .tc := ⟨.hbm, 256, rfl⟩
abbrev main_cst_43 : Ref sig .tc := ⟨.hbm, 257, rfl⟩
abbrev main_v201 : Ref sig .tc := ⟨.hbm, 258, rfl⟩
abbrev main_v202 : Ref sig .tc := ⟨.hbm, 259, rfl⟩
abbrev main_cst_44 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩

abbrev nD : Nat := 1
abbrev τ : Topo := Topo.v7x

variable {F : FTy → Type} [FloatOps F]
-- ==== Kernel2.lean ====
abbrev S8192x1024 : Shape := ⟨2, ![8192, 1024]⟩
abbrev S8192x512 : Shape := ⟨2, ![8192, 512]⟩
abbrev S1024x1024 : Shape := ⟨2, ![1024, 1024]⟩
abbrev S1x512 : Shape := ⟨2, ![1, 512]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S2816x1024 : Shape := ⟨2, ![2816, 1024]⟩
abbrev S512x2816 : Shape := ⟨2, ![512, 2816]⟩
abbrev S512x1024 : Shape := ⟨2, ![512, 1024]⟩
abbrev S512x512 : Shape := ⟨2, ![512, 512]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩
abbrev S1024 : Shape := ⟨1, ![1024]⟩

abbrev nBuf : Space → Nat
  | .hbm => 39
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1x512, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S8192x2816, .bf16⟩
  | .hbm, ⟨9, _⟩ => ⟨S8192x2816, .bf16⟩
  | .hbm, ⟨10, _⟩ => ⟨S8192x1024, .f32⟩
  | .hbm, ⟨11, _⟩ => ⟨S8192x512, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S2816x1024, .f32⟩
  | .hbm, ⟨30, _⟩ => ⟨S2816x1024, .bf16⟩
  | .hbm, ⟨31, _⟩ => ⟨S2816x1024, .f32⟩
  | .hbm, ⟨32, _⟩ => ⟨S2816x1024, .bf16⟩
  | .hbm, ⟨33, _⟩ => ⟨S1024x1024, .bf16⟩
  | .hbm, ⟨34, _⟩ => ⟨S8192x1024, .f32⟩
  | .hbm, ⟨35, _⟩ => ⟨S8192x512, .f32⟩
  | .hbm, ⟨36, _⟩ => ⟨S8192x512, .f32⟩
  | .hbm, ⟨37, _⟩ => ⟨S1x1024, .f32⟩
  | .hbm, ⟨38, _⟩ => ⟨S1x512, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S2816x1024, .bf16⟩
  | .local _ .vmem, ⟨11, _⟩ => ⟨S2816x1024, .bf16⟩
  | .local _ .vmem, ⟨12, _⟩ => ⟨S1024x1024, .bf16⟩
  | .local _ .vmem, ⟨13, _⟩ => ⟨S1x1024, .f32⟩
  | .local _ .vmem, ⟨14, _⟩ => ⟨S1x512, .f32⟩
  | .local _ .vmem, ⟨15, _⟩ => ⟨S512x1024, .f32⟩
  | .local _ .vmem, ⟨16, _⟩ => ⟨S512x1024, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S1x1024, .f32⟩
  | .local _ .vmem, ⟨22, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev main_v20_3 : Ref sig .tc := ⟨.hbm, 37, rfl⟩
abbrev main_v20_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference2Ideal.lean ====
abbrev S8192x1024 : Shape := ⟨2, ![8192, 1024]⟩
abbrev S8192x512 : Shape := ⟨2, ![8192, 512]⟩
abbrev S1024x1024 : Shape := ⟨2, ![1024, 1024]⟩
abbrev S1x512 : Shape := ⟨2, ![1, 512]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024 : Shape := ⟨1, ![1024]⟩
abbrev S512 : Shape := ⟨1, ![512]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1x512, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S8192x2816, .bf16⟩
  | .hbm, ⟨9, _⟩ => ⟨S8192x2816, .bf16⟩
  | .hbm, ⟨10, _⟩ => ⟨S8192x1024, .f32⟩
  | .hbm, ⟨11, _⟩ => ⟨S8192x512, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x512, .f32⟩
  | .hbm, ⟨86, _⟩ => ⟨S8192x512, .f32⟩
  | .hbm, ⟨87, _⟩ => ⟨S8192x512, .f32⟩
  | .hbm, ⟨88, _⟩ => ⟨S_, .f32⟩
  | .hbm, ⟨89, _⟩ => ⟨S512, .f32⟩
  | .hbm, ⟨90, _⟩ => ⟨S1x512, .f32⟩
  | .hbm, ⟨91, _⟩ => ⟨S8192x512, .f32⟩
  | .hbm, ⟨92, _⟩ => ⟨S8192x512, .f32⟩
  | .hbm, ⟨93, _⟩ => ⟨S8192x512, .f32⟩
  | .hbm, ⟨94, _⟩ => ⟨S_, .f32⟩
  | .hbm, ⟨95, _⟩ => ⟨S8192, .f32⟩
  | .hbm, ⟨96, _⟩ => ⟨S8192x1, .f32⟩
  | .hbm, ⟨97, _⟩ => ⟨S8192x512, .f32⟩
  | .hbm, ⟨98, _⟩ => ⟨S8192x512, .f32⟩
  | .hbm, ⟨99, _⟩ => ⟨S8192x1, .f32⟩
  | .hbm, ⟨100, _⟩ => ⟨S_, .f32⟩
  | .hbm, ⟨101, _⟩ => ⟨S8192x1, .f32⟩
  | .hbm, ⟨102, _⟩ => ⟨S8192x1, .f32⟩
  | .hbm, ⟨103, _⟩ => ⟨S_, .f32⟩
  | .hbm, ⟨104, _⟩ => ⟨S8192, .f32⟩
  | .hbm, ⟨105, _⟩ => ⟨S8192x512, .f32⟩
  | .hbm, ⟨106, _⟩ => ⟨S8192x512, .f32⟩
  | .hbm, ⟨107, _⟩ => ⟨S8192x512, .f32⟩
  | .hbm, ⟨108, _⟩ => ⟨S8192x512, .f32⟩
  | .hbm, ⟨109, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x3072 : Shape := ⟨2, ![1024, 3072]⟩
abbrev S8192x3072 : Shape := ⟨2, ![8192, 3072]⟩
abbrev S1024x4x768 : Shape := ⟨3, ![1024, 4, 768]⟩
abbrev S4x1024x768 : Shape := ⟨3, ![4, 1024, 768]⟩
abbrev S512x1024 : Shape := ⟨2, ![512, 1024]⟩
abbrev S512x3072 : Shape := ⟨2, ![512, 3072]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S8192x1024, .f32⟩
  | .hbm, ⟨4, _⟩ => ⟨S8192x3072, .bf16⟩
  | .hbm, ⟨5, _⟩ => ⟨S1024x4x768, .f32⟩
  | .hbm, ⟨6, _⟩ => ⟨S4x1024x768, .f32⟩
  | .hbm, ⟨7, _⟩ => ⟨S4x1024x768, .bf16⟩
  | .hbm, ⟨8, _⟩ => ⟨S8192x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x3072, .bf16⟩
  | .local _ .vmem, ⟨5, _⟩ => ⟨S512x3072, .bf16⟩
  | .local _ .vmem, ⟨6, _⟩ => ⟨S4x1024x768, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S8192x1024 : Shape := ⟨2, ![8192, 1024]⟩
abbrev S1x1024 : Shape := ⟨2, ![1, 1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S8192x1024, .f32⟩
  | .hbm, ⟨4, _⟩ => ⟨S8192x3072, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x3072, .f32⟩
  | .hbm, ⟨25, _⟩ => ⟨S8192x3072, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S2816x1024 : Shape := ⟨2, ![2816, 1024]⟩
abbrev S1024x1024 : Shape := ⟨2, ![1024, 1024]⟩

abbrev nBuf : Space → Nat
  | .hbm => 22
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S8192x2816, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S2816x1024, .f32⟩
  | .hbm, ⟨21, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .f32⟩
  | .local _ .vmem, ⟨5, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference4Ideal.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S2816x1024 : Shape := ⟨2, ![2816, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S8192x2816, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x2816, .f32⟩
  | .hbm, ⟨20, _⟩ => ⟨S8192x2816, .f32⟩
  | .hbm, ⟨21, _⟩ => ⟨S2816x1024, .f32⟩
  | .hbm, ⟨22, _⟩ => ⟨S1024x2816, .f32⟩
  | .hbm, ⟨23, _⟩ => ⟨S2816x1024, .f32⟩
  | .hbm, ⟨24, _⟩ => ⟨S2816x1024, .f32⟩
  | .hbm, ⟨25, _⟩ => ⟨S2816x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel5.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S1024x2816 : Shape := ⟨2, ![1024, 2816]⟩
abbrev S1024x1024 : Shape := ⟨2, ![1024, 1024]⟩

abbrev nBuf : Space → Nat
  | .hbm => 17
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .bf16⟩
  | .hbm, ⟨15, _⟩ => ⟨S2816x1024, .f32⟩
  | .hbm, ⟨16, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S2816x1024, .f32⟩
  | .local _ .vmem, ⟨5, _⟩ => ⟨S2816x1024, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference5Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S1024x2816 : Shape := ⟨2, ![1024, 2816]⟩

abbrev nBuf : Space → Nat
  | .hbm => 18
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x1024, .f32⟩
  | .hbm, ⟨15, _⟩ => ⟨S1024x2816, .f32⟩
  | .hbm, ⟨16, _⟩ => ⟨S2816x1024, .f32⟩
  | .hbm, ⟨17, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Kernel6.lean ====
abbrev S8192x1024 : Shape := ⟨2, ![8192, 1024]⟩
abbrev S8192x2816 : Shape := ⟨2, ![8192, 2816]⟩
abbrev S8192x256 : Shape := ⟨2, ![8192, 256]⟩
abbrev S2816x1024 : Shape := ⟨2, ![2816, 1024]⟩
abbrev S1024x1024 : Shape := ⟨2, ![1024, 1024]⟩
abbrev S256x1024 : Shape := ⟨2, ![256, 1024]⟩
abbrev S1x1024 : Shape := ⟨2, ![1, 1024]⟩
abbrev S256x4x256 : Shape := ⟨3, ![256, 4, 256]⟩
abbrev S4x256x256 : Shape := ⟨3, ![4, 256, 256]⟩
abbrev S1x128 : Shape := ⟨2, ![1, 128]⟩
abbrev S512x1024 : Shape := ⟨2, ![512, 1024]⟩
abbrev S512x2816 : Shape := ⟨2, ![512, 2816]⟩
abbrev S512x256 : Shape := ⟨2, ![512, 256]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 19
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x256, .f32⟩
  | .hbm, ⟨3, _⟩ => ⟨S8192x1024, .f32⟩
  | .hbm, ⟨4, _⟩ => ⟨S2816x1024, .f32⟩
  | .hbm, ⟨5, _⟩ => ⟨S1024x1024, .f32⟩
  | .hbm, ⟨6, _⟩ => ⟨S256x1024, .f32⟩
  | .hbm, ⟨7, _⟩ => ⟨S1x1024, .f32⟩
  | .hbm, ⟨8, _⟩ => ⟨S256x4x256, .f32⟩
  | .hbm, ⟨9, _⟩ => ⟨S4x256x256, .f32⟩
  | .hbm, ⟨10, _⟩ => ⟨S4x256x256, .bf16⟩
  | .hbm, ⟨11, _⟩ => ⟨S2816x1024, .bf16⟩
  | .hbm, ⟨12, _⟩ => ⟨S1024x1024, .bf16⟩
  | .hbm, ⟨13, _⟩ => ⟨S8192x1024, .f32⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S1x1024, .f32⟩
  | .hbm, ⟨18, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S2816x1024, .bf16⟩
  | .local _ .vmem, ⟨9, _⟩ => ⟨S1024x1024, .bf16⟩
  | .local _ .vmem, ⟨10, _⟩ => ⟨S4x256x256, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S1x128, .f32⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v97 : BitVec 1 := Scalar.cmpi .eq arg0 c15_i32
  let v98 : BitVec 32 := Scalar.extui v97
  let c0_i32_62 : BitVec 32 := 0#32
  let v99 : BitVec 1 := Scalar.cmpi .ne v98 c0_i32_62
  v99

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference6Ideal.lean ====
abbrev S8192x1024 : Shape := ⟨2, ![8192, 1024]⟩
abbrev S8192x2816 : Shape := ⟨2, ![8192, 2816]⟩
abbrev S8192x256 : Shape := ⟨2, ![8192, 256]⟩
abbrev S2816x1024 : Shape := ⟨2, ![2816, 1024]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 101
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x256, .f32⟩
  | .hbm, ⟨3, _⟩ => ⟨S8192x1024, .f32⟩
  | .hbm, ⟨4, _⟩ => ⟨S2816x1024, .f32⟩
  | .hbm, ⟨5, _⟩ => ⟨S1024x1024, .f32⟩
  | .hbm, ⟨6, _⟩ => ⟨S256x1024, .f32⟩
  | .hbm, ⟨7, _⟩ => ⟨S1x1024, .f32⟩
  | .hbm, ⟨8, _⟩ => ⟨S8192x2816, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .bf16⟩
  | .hbm, ⟨98, _⟩ => ⟨S8192x1024, .bf16⟩
  | .hbm, ⟨99, _⟩ => ⟨S8192x1024, .bf16⟩
  | .hbm, ⟨100, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_cst_11 : Ref sig .tc := ⟨.hbm, 60, rfl⟩
abbrev main_cst_12 : Ref sig .tc := ⟨.hbm, 61, rfl⟩
abbrev main_v40 : Ref sig .tc := ⟨.hbm, 62, rfl⟩
abbrev main_v41 : Ref sig .tc := ⟨.hbm, 63, rfl⟩
abbrev main_cst_13 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_15 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_16 : Ref sig .tc := ⟨.hbm, 86, rfl⟩
abbrev main_v61 : Ref sig .tc := ⟨.hbm, 87, rfl⟩
abbrev main_v62 : Ref sig .tc := ⟨.hbm, 88, rfl⟩
abbrev main_cst_17 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]
-- ==== Kernel7.lean ====
abbrev S8192x2816 : Shape := ⟨2, ![8192, 2816]⟩
abbrev S3x2816 : Shape := ⟨2, ![3, 2816]⟩
abbrev S1x2816 : Shape := ⟨2, ![1, 2816]⟩
abbrev S2816x1024 : Shape := ⟨2, ![2816, 1024]⟩
abbrev S8192x1024 : Shape := ⟨2, ![8192, 1024]⟩
abbrev S_ : Shape := ⟨0, ![]⟩
abbrev S2x2816 : Shape := ⟨2, ![2, 2816]⟩
abbrev S8194x2816 : Shape := ⟨2, ![8194, 2816]⟩
abbrev S2816 : Shape := ⟨1, ![2816]⟩
abbrev S512x1024 : Shape := ⟨2, ![512, 1024]⟩
abbrev S512x2816 : Shape := ⟨2, ![512, 2816]⟩
abbrev S520x2816 : Shape := ⟨2, ![520, 2816]⟩
abbrev S8x2816 : Shape := ⟨2, ![8, 2816]⟩
abbrev S512x1408 : Shape := ⟨2, ![512, 1408]⟩
abbrev S1x1408 : Shape := ⟨2, ![1, 1408]⟩
abbrev S1408x1024 : Shape := ⟨2, ![1408, 1024]⟩
abbrev S520x1408 : Shape := ⟨2, ![520, 1408]⟩
abbrev S1408 : Shape := ⟨1, ![1408]⟩

abbrev nBuf : Space → Nat
  | .hbm => 39
  | .vmem => 17
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S3x2816, .f32⟩
  | .hbm, ⟨3, _⟩ => ⟨S1x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S2x2816, .f32⟩
  | .hbm, ⟨8, _⟩ => ⟨S8194x2816, .f32⟩
  | .hbm, ⟨9, _⟩ => ⟨S8192x2816, .f32⟩
  | .hbm, ⟨10, _⟩ => ⟨S1x2816, .f32⟩
  | .hbm, ⟨11, _⟩ => ⟨S2816, .f32⟩
  | .hbm, ⟨12, _⟩ => ⟨S1x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S1x2816, .f32⟩
  | .hbm, ⟨17, _⟩ => ⟨S2816, .f32⟩
  | .hbm, ⟨18, _⟩ => ⟨S1x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S1x2816, .f32⟩
  | .hbm, ⟨24, _⟩ => ⟨S2816, .f32⟩
  | .hbm, ⟨25, _⟩ => ⟨S1x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .bf16⟩
  | .hbm, ⟨32, _⟩ => ⟨S8192x2816, .bf16⟩
  | .hbm, ⟨33, _⟩ => ⟨S8192x2816, .bf16⟩
  | .hbm, ⟨34, _⟩ => ⟨S2816x1024, .bf16⟩
  | .hbm, ⟨35, _⟩ => ⟨S8192x2816, .bf16⟩
  | .hbm, ⟨36, _⟩ => ⟨S8192x2816, .bf16⟩
  | .hbm, ⟨37, _⟩ => ⟨S3x2816, .f32⟩
  | .hbm, ⟨38, _⟩ => ⟨S1x2816, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S2816x1024, .bf16⟩
  | .local _ .vmem, ⟨9, _⟩ => ⟨S3x2816, .f32⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S3x2816, .f32⟩
  | .local _ .vmem, ⟨15, _⟩ => ⟨S1x2816, .f32⟩
  | .local _ .vmem, ⟨16, _⟩ => ⟨S520x2816, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev main_v28_2 : Ref sig .tc := ⟨.hbm, 37, rfl⟩
abbrev main_v28_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference7Ideal.lean ====
abbrev S8192x2816 : Shape := ⟨2, ![8192, 2816]⟩
abbrev S3x2816 : Shape := ⟨2, ![3, 2816]⟩
abbrev S1x2816 : Shape := ⟨2, ![1, 2816]⟩
abbrev S2816x1024 : Shape := ⟨2, ![2816, 1024]⟩
abbrev S8192x1024 : Shape := ⟨2, ![8192, 1024]⟩
abbrev S_ : Shape := ⟨0, ![]⟩
abbrev S2x2816 : Shape := ⟨2, ![2, 2816]⟩
abbrev S8194x2816 : Shape := ⟨2, ![8194, 2816]⟩
abbrev S2816 : Shape := ⟨1, ![2816]⟩

abbrev nBuf : Space → Nat
  | .hbm => 105
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S3x2816, .f32⟩
  | .hbm, ⟨3, _⟩ => ⟨S1x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S2x2816, .f32⟩
  | .hbm, ⟨8, _⟩ => ⟨S8194x2816, .f32⟩
  | .hbm, ⟨9, _⟩ => ⟨S_, .f32⟩
  | .hbm, ⟨10, _⟩ => ⟨S2x2816, .f32⟩
  | .hbm, ⟨11, _⟩ => ⟨S8192x2816, .f32⟩
  | .hbm, ⟨12, _⟩ => ⟨S1x2816, .f32⟩
  | .hbm, ⟨13, _⟩ => ⟨S2816, .f32⟩
  | .hbm, ⟨14, _⟩ => ⟨S1x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S1x2816, .f32⟩
  | .hbm, ⟨19, _⟩ => ⟨S2816, .f32⟩
  | .hbm, ⟨20, _⟩ => ⟨S1x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S1x2816, .f32⟩
  | .hbm, ⟨26, _⟩ => ⟨S2816, .f32⟩
  | .hbm, ⟨27, _⟩ => ⟨S1x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x1024, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S_, .f32⟩
  | .hbm, ⟨56, _⟩ => ⟨S2816, .f32⟩
  | .hbm, ⟨57, _⟩ => ⟨S1x2816, .f32⟩
  | .hbm, ⟨58, _⟩ => ⟨S8192x2816, .f32⟩
  | .hbm, ⟨59, _⟩ => ⟨S_, .f32⟩
  | .hbm, ⟨60, _⟩ => ⟨S2816, .f32⟩
  | .hbm, ⟨61, _⟩ => ⟨S1x2816, .f32⟩
  | .hbm, ⟨62, _⟩ => ⟨S8192x2816, .f32⟩
  | .hbm, ⟨63, _⟩ => ⟨S8192x2816, .f32⟩
  | .hbm, ⟨64, _⟩ => ⟨S_, .f32⟩
  | .hbm, ⟨65, _⟩ => ⟨S2816, .f32⟩
  | .hbm, ⟨66, _⟩ => ⟨S1x2816, .f32⟩
  | .hbm, ⟨67, _⟩ => ⟨S_, .f32⟩
  | .hbm, ⟨68, _⟩ => ⟨S3x2816, .f32⟩
  | .hbm, ⟨69, _⟩ => ⟨S_, .f32⟩
  | .hbm, ⟨70, _⟩ => ⟨S8194x2816, .f32⟩
  | .hbm, ⟨71, _⟩ => ⟨S8192x2816, .f32⟩
  | .hbm, ⟨72, _⟩ => ⟨S_, .f32⟩
  | .hbm, ⟨73, _⟩ => ⟨S2816, .f32⟩
  | .hbm, ⟨74, _⟩ => ⟨S1x2816, .f32⟩
  | .hbm, ⟨75, _⟩ => ⟨S8192x2816, .f32⟩
  | .hbm, ⟨76, _⟩ => ⟨S8192x2816, .f32⟩
  | .hbm, ⟨77, _⟩ => ⟨S_, .f32⟩
  | .hbm, ⟨78, _⟩ => ⟨S2816, .f32⟩
  | .hbm, ⟨79, _⟩ => ⟨S1x2816, .f32⟩
  | .hbm, ⟨80, _⟩ => ⟨S_, .f32⟩
  | .hbm, ⟨81, _⟩ => ⟨S3x2816, .f32⟩
  | .hbm, ⟨82, _⟩ => ⟨S3x2816, .f32⟩
  | .hbm, ⟨83, _⟩ => ⟨S_, .f32⟩
  | .hbm, ⟨84, _⟩ => ⟨S8194x2816, .f32⟩
  | .hbm, ⟨85, _⟩ => ⟨S8194x2816, .f32⟩
  | .hbm, ⟨86, _⟩ => ⟨S8192x2816, .f32⟩
  | .hbm, ⟨87, _⟩ => ⟨S_, .f32⟩
  | .hbm, ⟨88, _⟩ => ⟨S2816, .f32⟩
  | .hbm, ⟨89, _⟩ => ⟨S1x2816, .f32⟩
  | .hbm, ⟨90, _⟩ => ⟨S8192x2816, .f32⟩
  | .hbm, ⟨91, _⟩ => ⟨S8192x2816, .f32⟩
  | .hbm, ⟨92, _⟩ => ⟨S_, .f32⟩
  | .hbm, ⟨93, _⟩ => ⟨S2816, .f32⟩
  | .hbm, ⟨94, _⟩ => ⟨S1x2816, .f32⟩
  | .hbm, ⟨95, _⟩ => ⟨S_, .f32⟩
  | .hbm, ⟨96, _⟩ => ⟨S3x2816, .f32⟩
  | .hbm, ⟨97, _⟩ => ⟨S3x2816, .f32⟩
  | .hbm, ⟨98, _⟩ => ⟨S_, .f32⟩
  | .hbm, ⟨99, _⟩ => ⟨S8194x2816, .f32⟩
  | .hbm, ⟨100, _⟩ => ⟨S8194x2816, .f32⟩
  | .hbm, ⟨101, _⟩ => ⟨S2x2816, .f32⟩
  | .hbm, ⟨102, _⟩ => ⟨S8192x2816, .f32⟩
  | .hbm, ⟨103, _⟩ => ⟨S8192x2816, .bf16⟩
  | .hbm, ⟨104, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v25_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v25_1 : Ref sig .tc := ⟨.hbm, 44, rfl⟩
abbrev main_v25_0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v31 : Ref sig .tc := ⟨.hbm, 54, rfl⟩
abbrev main_cst_1 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_3 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_10 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_cst_13 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩

abbrev nD : Nat := 1
abbrev τ : Topo := Topo.v7x

variable {F : FTy → Type} [FloatOps F]
-- ==== Kernel8.lean ====
abbrev S8192x1024 : Shape := ⟨2, ![8192, 1024]⟩
abbrev S8192x512 : Shape := ⟨2, ![8192, 512]⟩
abbrev S1024x1024 : Shape := ⟨2, ![1024, 1024]⟩
abbrev S1024x2816 : Shape := ⟨2, ![1024, 2816]⟩
abbrev S1x512 : Shape := ⟨2, ![1, 512]⟩
abbrev S1x1024 : Shape := ⟨2, ![1, 1024]⟩
abbrev S3x2816 : Shape := ⟨2, ![3, 2816]⟩
abbrev S1x2816 : Shape := ⟨2, ![1, 2816]⟩
abbrev S2816x1024 : Shape := ⟨2, ![2816, 1024]⟩
abbrev S8192x2816 : Shape := ⟨2, ![8192, 2816]⟩
abbrev S256x1024 : Shape := ⟨2, ![256, 1024]⟩
abbrev S256x512 : Shape := ⟨2, ![256, 512]⟩
abbrev S256x2816 : Shape := ⟨2, ![256, 2816]⟩
abbrev S264x2816 : Shape := ⟨2, ![264, 2816]⟩
abbrev S8x2816 : Shape := ⟨2, ![8, 2816]⟩
abbrev S256 : Shape := ⟨1, ![256]⟩
abbrev S256x1 : Shape := ⟨2, ![256, 1]⟩
abbrev S512x1024 : Shape := ⟨2, ![512, 1024]⟩
abbrev S1408x1024 : Shape := ⟨2, ![1408, 1024]⟩
abbrev S256x1408 : Shape := ⟨2, ![256, 1408]⟩
abbrev S264x1408 : Shape := ⟨2, ![264, 1408]⟩
abbrev S1x1408 : Shape := ⟨2, ![1, 1408]⟩

abbrev nBuf : Space → Nat
  | .hbm => 22
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .f32⟩
  | .hbm, ⟨3, _⟩ => ⟨S1024x1024, .f32⟩
  | .hbm, ⟨4, _⟩ => ⟨S1024x2816, .f32⟩
  | .hbm, ⟨5, _⟩ => ⟨S1024x2816, .f32⟩
  | .hbm, ⟨6, _⟩ => ⟨S1x512, .f32⟩
  | .hbm, ⟨7, _⟩ => ⟨S1x1024, .f32⟩
  | .hbm, ⟨8, _⟩ => ⟨S3x2816, .f32⟩
  | .hbm, ⟨9, _⟩ => ⟨S1x2816, .f32⟩
  | .hbm, ⟨10, _⟩ => ⟨S1024x1024, .bf16⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S8192x1024, .f32⟩
  | .hbm, ⟨16, _⟩ => ⟨S8192x2816, .bf16⟩
  | .hbm, ⟨17, _⟩ => ⟨S8192x2816, .bf16⟩
  | .hbm, ⟨18, _⟩ => ⟨S8192x2816, .bf16⟩
  | .hbm, ⟨19, _⟩ => ⟨S8192x2816, .bf16⟩
  | .hbm, ⟨20, _⟩ => ⟨S8192x1024, .bf16⟩
  | .hbm, ⟨21, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S1024x1024, .bf16⟩
  | .local _ .vmem, ⟨7, _⟩ => ⟨S2816x1024, .bf16⟩
  | .local _ .vmem, ⟨8, _⟩ => ⟨S2816x1024, .bf16⟩
  | .local _ .vmem, ⟨9, _⟩ => ⟨S1x512, .f32⟩
  | .local _ .vmem, ⟨10, _⟩ => ⟨S1x1024, .f32⟩
  | .local _ .vmem, ⟨11, _⟩ => ⟨S3x2816, .f32⟩
  | .local _ .vmem, ⟨12, _⟩ => ⟨S1x2816, .f32⟩
  | .local _ .vmem, ⟨13, _⟩ => ⟨S256x1024, .f32⟩
  | .local _ .vmem, ⟨14, _⟩ => ⟨S256x1024, .f32⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S264x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev main_v5_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference8Ideal.lean ====
abbrev S8192x1024 : Shape := ⟨2, ![8192, 1024]⟩
abbrev S8192x512 : Shape := ⟨2, ![8192, 512]⟩
abbrev S1024x1024 : Shape := ⟨2, ![1024, 1024]⟩
abbrev S1024x2816 : Shape := ⟨2, ![1024, 2816]⟩
abbrev S1x512 : Shape := ⟨2, ![1, 512]⟩
abbrev S1x1024 : Shape := ⟨2, ![1, 1024]⟩
abbrev S3x2816 : Shape := ⟨2, ![3, 2816]⟩
abbrev S1x2816 : Shape := ⟨2, ![1, 2816]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S2x2816 : Shape := ⟨2, ![2, 2816]⟩
abbrev S8194x2816 : Shape := ⟨2, ![8194, 2816]⟩
abbrev S2816 : Shape := ⟨1, ![2816]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .f32⟩
  | .hbm, ⟨3, _⟩ => ⟨S1024x1024, .f32⟩
  | .hbm, ⟨4, _⟩ => ⟨S1024x2816, .f32⟩
  | .hbm, ⟨5, _⟩ => ⟨S1024x2816, .f32⟩
  | .hbm, ⟨6, _⟩ => ⟨S1x512, .f32⟩
  | .hbm, ⟨7, _⟩ => ⟨S1x1024, .f32⟩
  | .hbm, ⟨8, _⟩ => ⟨S3x2816, .f32⟩
  | .hbm, ⟨9, _⟩ => ⟨S1x2816, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x2816, .f32⟩
  | .hbm, ⟨45, _⟩ => ⟨S8192x2816, .f32⟩
  | .hbm, ⟨46, _⟩ => ⟨S_, .f32⟩
  | .hbm, ⟨47, _⟩ => ⟨S2x2816, .f32⟩
  | .hbm, ⟨48, _⟩ => ⟨S8194x2816, .f32⟩
  | .hbm, ⟨49, _⟩ => ⟨S8192x2816, .f32⟩
  | .hbm, ⟨50, _⟩ => ⟨S1x2816, .f32⟩
  | .hbm, ⟨51, _⟩ => ⟨S2816, .f32⟩
  | .hbm, ⟨52, _⟩ => ⟨S1x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S1x2816, .f32⟩
  | .hbm, ⟨57, _⟩ => ⟨S2816, .f32⟩
  | .hbm, ⟨58, _⟩ => ⟨S1x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S1x2816, .f32⟩
  | .hbm, ⟨64, _⟩ => ⟨S2816, .f32⟩
  | .hbm, ⟨65, _⟩ => ⟨S1x2816, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S8192x2816, .f32⟩
  | .hbm, ⟨72, _⟩ => ⟨S8192x2816, .f32⟩
  | .hbm, ⟨73, _⟩ => ⟨S_, .f32⟩
  | .hbm, ⟨74, _⟩ => ⟨S8192x2816, .f32⟩
  | .hbm, ⟨75, _⟩ => ⟨S8192x2816, .f32⟩
  | .hbm, ⟨76, _⟩ => ⟨S_, .f32⟩
  | .hbm, ⟨77, _⟩ => ⟨S8192x2816, .f32⟩
  | .hbm, ⟨78, _⟩ => ⟨S8192x2816, .f32⟩
  | .hbm, ⟨79, _⟩ => ⟨S8192x2816, .f32⟩
  | .hbm, ⟨80, _⟩ => ⟨S8192x2816, .f32⟩
  | .hbm, ⟨81, _⟩ => ⟨S8192x2816, .bf16⟩
  | .hbm, ⟨82, _⟩ => ⟨S8192x2816, .bf16⟩
  | .hbm, ⟨83, _⟩ => ⟨S8192x2816, .bf16⟩
  | .hbm, ⟨84, _⟩ => ⟨S8192x2816, .bf16⟩
  | .hbm, ⟨85, _⟩ => ⟨S8192x1024, .bf16⟩
  | .hbm, ⟨86, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S1024x3072 : Shape := ⟨2, ![1024, 3072]⟩
abbrev S3x512 : Shape := ⟨2, ![3, 512]⟩
abbrev S1x512 : Shape := ⟨2, ![1, 512]⟩
abbrev S1x64 : Shape := ⟨2, ![1, 64]⟩
abbrev S1024x4x768 : Shape := ⟨3, ![1024, 4, 768]⟩
abbrev S4x1024x768 : Shape := ⟨3, ![4, 1024, 768]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x1x1x64 : Shape := ⟨4, ![1, 1, 1, 64]⟩
abbrev S1x1x8x64 : Shape := ⟨4, ![1, 1, 8, 64]⟩
abbrev S8192x1536 : Shape := ⟨2, ![8192, 1536]⟩
abbrev S8192x512 : Shape := ⟨2, ![8192, 512]⟩
abbrev S512x1024 : Shape := ⟨2, ![512, 1024]⟩
abbrev S512x1536 : Shape := ⟨2, ![512, 1536]⟩
abbrev S520x512 : Shape := ⟨2, ![520, 512]⟩
abbrev S8x512 : Shape := ⟨2, ![8, 512]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 37
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S3x512, .f32⟩
  | .hbm, ⟨4, _⟩ => ⟨S1x512, .f32⟩
  | .hbm, ⟨5, _⟩ => ⟨S1x64, .f32⟩
  | .hbm, ⟨6, _⟩ => ⟨S1x64, .f32⟩
  | .hbm, ⟨7, _⟩ => ⟨S1x512, .f32⟩
  | .hbm, ⟨8, _⟩ => ⟨S1024x4x768, .f32⟩
  | .hbm, ⟨9, _⟩ => ⟨S4x1024x768, .f32⟩
  | .hbm, ⟨10, _⟩ => ⟨S4x1024x768, .bf16⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .f32⟩
  | .hbm, ⟨18, _⟩ => ⟨S_, .f32⟩
  | .hbm, ⟨19, _⟩ => ⟨S64x64, .f32⟩
  | .hbm, ⟨20, _⟩ => ⟨S8x1x8x1, .f32⟩
  | .hbm, ⟨21, _⟩ => ⟨S1x64x1x64, .f32⟩
  | .hbm, ⟨22, _⟩ => ⟨S8x64x8x64, .f32⟩
  | .hbm, ⟨23, _⟩ => ⟨S8x64x8x64, .f32⟩
  | .hbm, ⟨24, _⟩ => ⟨S8x64x8x64, .f32⟩
  | .hbm, ⟨25, _⟩ => ⟨S512x512, .f32⟩
  | .hbm, ⟨26, _⟩ => ⟨S512x512, .bf16⟩
  | .hbm, ⟨27, _⟩ => ⟨S1x1x1x64, .f32⟩
  | .hbm, ⟨28, _⟩ => ⟨S1x1x8x64, .f32⟩
  | .hbm, ⟨29, _⟩ => ⟨S1x512, .f32⟩
  | .hbm, ⟨30, _⟩ => ⟨S1x1x1x64, .f32⟩
  | .hbm, ⟨31, _⟩ => ⟨S1x1x8x64, .f32⟩
  | .hbm, ⟨32, _⟩ => ⟨S1x512, .f32⟩
  | .hbm, ⟨33, _⟩ => ⟨S8192x1536, .f32⟩
  | .hbm, ⟨34, _⟩ => ⟨S8192x1536, .f32⟩
  | .hbm, ⟨35, _⟩ => ⟨S8192x512, .bf16⟩
  | .hbm, ⟨36, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x768, .bf16⟩
  | .local _ .vmem, ⟨4, _⟩ => ⟨S3x512, .f32⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S512x1536, .f32⟩
  | .local _ .vmem, ⟨11, _⟩ => ⟨S512x1536, .f32⟩
  | .local _ .vmem, ⟨12, _⟩ => ⟨S512x1536, .f32⟩
  | .local _ .vmem, ⟨13, _⟩ => ⟨S512x1536, .f32⟩
  | .local _ .vmem, ⟨14, _⟩ => ⟨S512x512, .bf16⟩
  | .local _ .vmem, ⟨15, _⟩ => ⟨S512x512, .bf16⟩
  | .local _ .vmem, ⟨16, _⟩ => ⟨S512x1024, .f32⟩
  | .local _ .vmem, ⟨17, _⟩ => ⟨S512x1024, .f32⟩
  | .local _ .vmem, ⟨18, _⟩ => ⟨S520x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev main_v18_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference9Ideal.lean ====
abbrev S8192x1024 : Shape := ⟨2, ![8192, 1024]⟩
abbrev S1x1024 : Shape := ⟨2, ![1, 1024]⟩
abbrev S1024x3072 : Shape := ⟨2, ![1024, 3072]⟩
abbrev S3x512 : Shape := ⟨2, ![3, 512]⟩
abbrev S1x512 : Shape := ⟨2, ![1, 512]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩
abbrev S8192x512 : Shape := ⟨2, ![8192, 512]⟩
abbrev S2x512 : Shape := ⟨2, ![2, 512]⟩
abbrev S8194x512 : Shape := ⟨2, ![8194, 512]⟩
abbrev S512 : Shape := ⟨1, ![512]⟩
abbrev S8192x8x64 : Shape := ⟨3, ![8192, 8, 64]⟩
abbrev S8192x8 : Shape := ⟨2, ![8192, 8]⟩
abbrev S8192x8x1 : Shape := ⟨3, ![8192, 8, 1]⟩
abbrev S1x1x64 : Shape := ⟨3, ![1, 1, 64]⟩
abbrev S8192x1536 : Shape := ⟨2, ![8192, 1536]⟩

abbrev nBuf : Space → Nat
  | .hbm => 115
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S3x512, .f32⟩
  | .hbm, ⟨4, _⟩ => ⟨S1x512, .f32⟩
  | .hbm, ⟨5, _⟩ => ⟨S1x64, .f32⟩
  | .hbm, ⟨6, _⟩ => ⟨S1x64, .f32⟩
  | .hbm, ⟨7, _⟩ => ⟨S1x512, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x3072, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S2x512, .f32⟩
  | .hbm, ⟨33, _⟩ => ⟨S8194x512, .f32⟩
  | .hbm, ⟨34, _⟩ => ⟨S8192x512, .f32⟩
  | .hbm, ⟨35, _⟩ => ⟨S1x512, .f32⟩
  | .hbm, ⟨36, _⟩ => ⟨S512, .f32⟩
  | .hbm, ⟨37, _⟩ => ⟨S1x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S1x512, .f32⟩
  | .hbm, ⟨42, _⟩ => ⟨S512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S1x512, .f32⟩
  | .hbm, ⟨49, _⟩ => ⟨S512, .f32⟩
  | .hbm, ⟨50, _⟩ => ⟨S1x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x8x64, .f32⟩
  | .hbm, ⟨58, _⟩ => ⟨S8192x8x64, .f32⟩
  | .hbm, ⟨59, _⟩ => ⟨S_, .f32⟩
  | .hbm, ⟨60, _⟩ => ⟨S8192x8, .f32⟩
  | .hbm, ⟨61, _⟩ => ⟨S8192x8x1, .f32⟩
  | .hbm, ⟨62, _⟩ => ⟨S_, .f32⟩
  | .hbm, ⟨63, _⟩ => ⟨S8192x8x1, .f32⟩
  | .hbm, ⟨64, _⟩ => ⟨S8192x8x1, .f32⟩
  | .hbm, ⟨65, _⟩ => ⟨S_, .f32⟩
  | .hbm, ⟨66, _⟩ => ⟨S8192x8x1, .f32⟩
  | .hbm, ⟨67, _⟩ => ⟨S8192x8x1, .f32⟩
  | .hbm, ⟨68, _⟩ => ⟨S8192x8x1, .f32⟩
  | .hbm, ⟨69, _⟩ => ⟨S8192x8x64, .f32⟩
  | .hbm, ⟨70, _⟩ => ⟨S8192x8x64, .f32⟩
  | .hbm, ⟨71, _⟩ => ⟨S1x1x64, .f32⟩
  | .hbm, ⟨72, _⟩ => ⟨S8192x8x64, .f32⟩
  | .hbm, ⟨73, _⟩ => ⟨S8192x8x64, .f32⟩
  | .hbm, ⟨74, _⟩ => ⟨S8192x8x64, .f32⟩
  | .hbm, ⟨75, _⟩ => ⟨S8192x8x64, .f32⟩
  | .hbm, ⟨76, _⟩ => ⟨S_, .f32⟩
  | .hbm, ⟨77, _⟩ => ⟨S8192x8, .f32⟩
  | .hbm, ⟨78, _⟩ => ⟨S8192x8x1, .f32⟩
  | .hbm, ⟨79, _⟩ => ⟨S_, .f32⟩
  | .hbm, ⟨80, _⟩ => ⟨S8192x8x1, .f32⟩
  | .hbm, ⟨81, _⟩ => ⟨S8192x8x1, .f32⟩
  | .hbm, ⟨82, _⟩ => ⟨S_, .f32⟩
  | .hbm, ⟨83, _⟩ => ⟨S8192x8x1, .f32⟩
  | .hbm, ⟨84, _⟩ => ⟨S8192x8x1, .f32⟩
  | .hbm, ⟨85, _⟩ => ⟨S8192x8x1, .f32⟩
  | .hbm, ⟨86, _⟩ => ⟨S8192x8x64, .f32⟩
  | .hbm, ⟨87, _⟩ => ⟨S8192x8x64, .f32⟩
  | .hbm, ⟨88, _⟩ => ⟨S1x1x64, .f32⟩
  | .hbm, ⟨89, _⟩ => ⟨S8192x8x64, .f32⟩
  | .hbm, ⟨90, _⟩ => ⟨S8192x8x64, .f32⟩
  | .hbm, ⟨91, _⟩ => ⟨S_, .f32⟩
  | .hbm, ⟨92, _⟩ => ⟨S8192x8x64, .f32⟩
  | .hbm, ⟨93, _⟩ => ⟨S8192x8x64, .f32⟩
  | .hbm, ⟨94, _⟩ => ⟨S8192x512, .f32⟩
  | .hbm, ⟨95, _⟩ => ⟨S8192x512, .f32⟩
  | .hbm, ⟨96, _⟩ => ⟨S8192x1024, .f32⟩
  | .hbm, ⟨97, _⟩ => ⟨S8192x1536, .f32⟩
  | .hbm, ⟨98, _⟩ => ⟨S8192x1536, .f32⟩
  | .hbm, ⟨99, _⟩ => ⟨S8192x512, .f32⟩
  | .hbm, ⟨100, _⟩ => ⟨S_, .f32⟩
  | .hbm, ⟨101, _⟩ => ⟨S8192, .f32⟩
  | .hbm, ⟨102, _⟩ => ⟨S8192x1, .f32⟩
  | .hbm, ⟨103, _⟩ => ⟨S_, .f32⟩
  | .hbm, ⟨104, _⟩ => ⟨S8192x1, .f32⟩
  | .hbm, ⟨105, _⟩ => ⟨S8192x1, .f32⟩
  | .hbm, ⟨106, _⟩ => ⟨S_, .f32⟩
  | .hbm, ⟨107, _⟩ => ⟨S8192x1, .f32⟩
  | .hbm, ⟨108, _⟩ => ⟨S8192x1, .f32⟩
  | .hbm, ⟨109, _⟩ => ⟨S8192x1, .f32⟩
  | .hbm, ⟨110, _⟩ => ⟨S8192x512, .f32⟩
  | .hbm, ⟨111, _⟩ => ⟨S8192x512, .f32⟩
  | .hbm, ⟨112, _⟩ => ⟨S8192x512, .f32⟩
  | .hbm, ⟨113, _⟩ => ⟨S8192x512, .f32⟩
  | .hbm, ⟨114, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_6 : Ref sig .tc := ⟨.hbm, 76, rfl⟩
abbrev main_v61 : Ref sig .tc := ⟨.hbm, 77, rfl⟩
abbrev main_v62 : Ref sig .tc := ⟨.hbm, 78, rfl⟩
abbrev main_cst_7 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_9 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_10 : Ref sig .tc := ⟨.hbm, 100, rfl⟩
abbrev main_v81 : Ref sig .tc := ⟨.hbm, 101, rfl⟩
abbrev main_v82 : Ref sig .tc := ⟨.hbm, 102, rfl⟩
abbrev main_cst_11 : Ref sig .tc := ⟨.hbm, 103, rfl⟩
abbrev main_v83 : Ref sig .tc := ⟨.hbm, 104, rfl⟩
abbrev main_v84 : Ref sig .tc := ⟨.hbm, 105, rfl⟩
abbrev main_cst_12 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩

abbrev nD : Nat := 1
abbrev τ : Topo := Topo.v7x

variable {F : FTy → Type} [FloatOps F]
-- ==== Kernel10.lean ====
abbrev S8192x512 : Shape := ⟨2, ![8192, 512]⟩
abbrev S1x512 : Shape := ⟨2, ![1, 512]⟩
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S1x512, .f32⟩
  | .hbm, ⟨3, _⟩ => ⟨S1024x1024, .f32⟩
  | .hbm, ⟨4, _⟩ => ⟨S8192x1024, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .bf16⟩
  | .hbm, ⟨21, _⟩ => ⟨S8192x1024, .bf16⟩
  | .hbm, ⟨22, _⟩ => ⟨S1024x1024, .f32⟩
  | .hbm, ⟨23, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference10Ideal.lean ====
abbrev S8192x512 : Shape := ⟨2, ![8192, 512]⟩
abbrev S1x512 : Shape := ⟨2, ![1, 512]⟩
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S1x512, .f32⟩
  | .hbm, ⟨3, _⟩ => ⟨S1024x1024, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x1024, .f32⟩
  | .hbm, ⟨22, _⟩ => ⟨S8192x1024, .f32⟩
  | .hbm, ⟨23, _⟩ => ⟨S1024x1024, .f32⟩
  | .hbm, ⟨24, _⟩ => ⟨S1024x1024, .f32⟩
  | .hbm, ⟨25, _⟩ => ⟨S1024x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel11.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S8192x1024, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x1024, .f32⟩
  | .hbm, ⟨21, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference11Ideal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S8192x1024, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1024x1024, .f32⟩
  | .hbm, ⟨22, _⟩ => ⟨S1024x1024, .f32⟩
  | .hbm, ⟨23, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel12.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .bf16⟩
  | .hbm, ⟨3, _⟩ => ⟨S256x1024, .f32⟩
  | .hbm, ⟨4, _⟩ => ⟨S256x1024, .bf16⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference12Ideal.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Mix.Step.lean ====
module

public import proofs.«01_k».proof.Proof.Gen.KernelIdeal.Frame.Runs
public import Idealize.ShloMosaic.Lib.VecWindow
public import Idealize.ShloMosaic.Lib.Pointwise.Index

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open VecWindow (window put)

variable {F : FTy → Type} [FloatOps F]

local notation "𝕄" => MT nD τ sig Unit (Elt F) ℕ (Pipeline.UD sig nD τ) ℕ

/-- The values the fifteen input blocks of one grid point hold. -/
structure Blk (F : FTy → Type) where
  x0 : Vec F S512x1024 .f32
  x1 : Vec F S512x1536 .f32
  x2 : Vec F S8x1536 .f32
  x3 : Vec F S512x1536 .f32
  x4 : Vec F S512x512 .f32
  x5 : Vec F S512x512 .f32
  x6 : Vec F S512x512 .f32
  x7 : Vec F S512x512 .f32
  x8 : Vec F S3x512 .f32
  x9 : Vec F S1x512 .f32
  x10 : Vec F S1x512 .f32
  x11 : Vec F S1x1024 .f32
  x12 : Vec F S512x512 .bf16
  x13 : Vec F S1x512 .f32
  x14 : Vec F S1x512 .f32

/-- What the grid points carry to each other: the halo buffer of the convolution's gradient, the product's accumulator,
and the five small gradients. -/
structure St (F : FTy → Type) where
  dbuf : Vec F S520x512 .f32
  wacc : Vec F S1024x3072 .f32
  dcw : Vec F S3x512 .f32
  dcb : Vec F S1x512 .f32
  dgoc : Vec F S1x512 .f32
  dgq : Vec F S1x512 .f32
  dgk : Vec F S1x512 .f32

/-- Eight rows over 512 rows. -/
def rows8 (h : Vec F S8x512 .f32) (u : Vec F S512x512 .f32) : Vec F S520x512 .f32 := fun y =>
  if h8 : (y 0).val < 8 then h (ix2 ⟨(y 0).val, h8⟩ (y 1))
  else u (ix2 ⟨(y 0).val - 8, by have h := (y 0).isLt; have e : S520x512.size 0 = 520 := rfl; omega⟩ (y 1))

/-- 512 rows over eight rows. -/
def rows512 (d : Vec F S512x512 .f32) (h : Vec F S8x512 .f32) : Vec F S520x512 .f32 := fun y =>
  if h5 : (y 0).val < 512 then d (ix2 ⟨(y 0).val, h5⟩ (y 1))
  else h (ix2 ⟨(y 0).val - 512, by have h := (y 0).isLt; have e : S520x512.size 0 = 520 := rfl; omega⟩ (y 1))

/-- Three rows under each other. -/
def rows3 (a b c : Vec F S1x512 .f32) : Vec F S3x512 .f32 := fun y =>
  (match (y 0).val with | 0 => a | 1 => b | _ => c) (ix2 0 (y 1))

/-- Six blocks of 512 columns side by side. -/
def cols6 (a0 a1 a2 a3 a4 a5 : Vec F S512x512 .bf16) : Vec F S512x3072 .bf16 := fun y =>
  (match (y 1).val / 512 with | 0 => a0 | 1 => a1 | 2 => a2 | 3 => a3 | 4 => a4 | _ => a5)
    (ix2 (y 0) ⟨(y 1).val % 512, Nat.mod_lt _ (by decide)⟩)

/-- Four slabs of 768 columns side by side. -/
def cols4 (a0 a1 a2 a3 : Vec F S1024x768 .f32) : Vec F S1024x3072 .f32 := fun y =>
  (match (y 1).val / 768 with | 0 => a0 | 1 => a1 | 2 => a2 | _ => a3)
    (ix2 (y 0) ⟨(y 1).val % 768, Nat.mod_lt _ (by decide)⟩)

/-- The state the first grid point starts from. -/
def St.zero : St F where
  dbuf := rows512 (fun _ => k0_pay4 (ix2 0 0)) k0_pay4
  wacc := k0_pay3
  dcw := k0_pay5
  dcb := k0_pay6
  dgoc := k0_pay7
  dgq := k0_pay8
  dgk := k0_pay9

section Step

variable (i : grid0.Coords) (b : Blk F)

/-- The three column blocks of the convolution's part of `z`, the convolution's three taps. -/
def zb : Vec F S512x512 .f32 := window b.x1 ![0, 0] S512x512.size inb_S512x1536_S512x512_0_0
def zc : Vec F S512x512 .f32 := window b.x1 ![0, 512] S512x512.size inb_S512x1536_S512x512_0_512
def zx : Vec F S512x512 .f32 := window b.x1 ![0, 1024] S512x512.size inb_S512x1536_S512x512_0_1024
def w0 : Vec F S1x512 .f32 := window b.x8 ![0, 0] S1x512.size inb_S3x512_S1x512_0_0
def w1 : Vec F S1x512 .f32 := window b.x8 ![1, 0] S1x512.size inb_S3x512_S1x512_1_0
def w2 : Vec F S1x512 .f32 := window b.x8 ![2, 0] S1x512.size inb_S3x512_S1x512_2_0

/-- The tile of `zc * zx` under the eight rows before it, and the tile moved down by none, one and two rows. -/
def ubuf : Vec F S520x512 .f32 :=
  rows8 (k0_pay14 i (window b.x2 ![0, 512] S8x512.size inb_S8x1536_S8x512_0_512)
    (window b.x2 ![0, 1024] S8x512.size inb_S8x1536_S8x512_0_1024)) (k0_pay15 (zc b) (zx b))
def u0 : FVec F S512x512 .f32 := k0_pay13 (zc b) (zx b)
def u1 : FVec F S512x512 .f32 := k0_pay16 (ubuf i b)
def u2 : FVec F S512x512 .f32 := k0_pay17 (ubuf i b)

/-- The convolution, its norm's root and normed value, and the norm's backward pass. -/
def cv : FVec F S512x512 .f32 := k0_pay18 (u0 b) (u1 i b) (u2 i b) (w0 b) (w1 b) (w2 b) b.x9
def rr : FVec F S512x1 .f32 := k0_pay20 (k0_pay10 (zb b)) (u0 b) (u1 i b) (u2 i b) (w0 b) (w1 b) (w2 b) b.x9
def yh : FVec F S512x512 .f32 := k0_pay21 (k0_pay10 (zb b)) (u0 b) (u1 i b) (u2 i b) (w0 b) (w1 b) (w2 b) b.x9
def dxh : FVec F S512x512 .f32 := k0_pay23 b.x4 b.x10
def mn : FVec F S512x512 .f32 :=
  k0_pay24 (k0_pay10 (zb b)) (u0 b) (u1 i b) (u2 i b) (w0 b) (w1 b) (w2 b) b.x9 b.x4 b.x10
def dyc : FVec F S512x512 .f32 := k0_pay25 (rr i b) (yh i b) (dxh b) (mn i b)
def dcv : FVec F S512x512 .f32 := k0_pay26 (k0_pay10 (zb b)) (rr i b) (yh i b) (dxh b) (mn i b)

/-- The tile of the convolution's gradient over the eight rows after it. -/
def dnext (h : Vec F S8x512 .f32) : Vec F S520x512 .f32 := rows512 (k0_pay31 (dcv i b)) h

/-- The two heads' norms: the columns of `z`, the means of their squares. -/
def zq : Vec F S512x512 .f32 := window b.x3 ![0, 0] S512x512.size inb_S512x1536_S512x512_0_0
def zk : Vec F S512x512 .f32 := window b.x3 ![0, 512] S512x512.size inb_S512x1536_S512x512_0_512

/-- The tile of the gradient of `z`, from the eight rows of the convolution's gradient after it. -/
def dzH (h : Vec F S8x512 .f32) : Vec F S512x3072 .bf16 :=
  cols6 (k0_pay34 (cv i b) (dyc i b))
    (k0_pay35 (k0_pay12 (zx b)) (w0 b) (w1 b) (w2 b) (dcv i b) (dnext i b h))
    (k0_pay36 (k0_pay11 (zc b)) (w0 b) (w1 b) (w2 b) (dcv i b) (dnext i b h))
    (k0_pay44 (k0_pay37 (zq b)) (k0_pay38 (zq b) b.x12) k0_pay39 b.x5 b.x13 b.x12)
    (k0_pay50 (k0_pay46 (zk b) b.x12) (k0_pay47 (zk b) b.x12) b.x6 b.x14 b.x12)
    (k0_pay51 b.x7)

/-- The same from the halo buffer. -/
def dzB (dbuf : Vec F S520x512 .f32) : Vec F S512x3072 .bf16 :=
  dzH i b (window dbuf ![512, 0] S8x512.size inb_S520x512_S8x512_512_0)

/-- The product's accumulator after the tile `dz` was added to it, slab by slab. -/
def waccD (wacc : Vec F S1024x3072 .f32) (dz : Vec F S512x3072 .bf16) : Vec F S1024x3072 .f32 :=
  cols4
    (k0_pay55 b.x0 (k0_pay52 b.x0) k0_pay53 b.x11 (window wacc ![0, 0] S1024x768.size inb_S1024x3072_S1024x768_0_0)
      (window dz ![0, 0] S512x768.size inb_S512x3072_S512x768_0_0))
    (k0_pay56 b.x0 (k0_pay52 b.x0) k0_pay53 b.x11 (window wacc ![0, 768] S1024x768.size inb_S1024x3072_S1024x768_0_768)
      (window dz ![0, 768] S512x768.size inb_S512x3072_S512x768_0_768))
    (k0_pay57 b.x0 (k0_pay52 b.x0) k0_pay53 b.x11 (window wacc ![0, 1536] S1024x768.size inb_S1024x3072_S1024x768_0_1536)
      (window dz ![0, 1536] S512x768.size inb_S512x3072_S512x768_0_1536))
    (k0_pay1 (k0_pay54 b.x0 (k0_pay52 b.x0) k0_pay53 b.x11) (window wacc ![0, 2304] S1024x768.size inb_S1024x3072_S1024x768_0_2304)
      (window dz ![0, 2304] S512x768.size inb_S512x3072_S512x768_0_2304))

/-- One grid point's effect on the state. -/
def step (s : St F) : St F where
  dbuf := rows512 (k0_pay31 (dcv i b))
    (k0_pay33 (window (k0_pay31 (dcv i b)) ![0, 0] S8x512.size (fun a => by fin_cases a <;> decide)))
  wacc := waccD b s.wacc (dzB i b s.dbuf)
  dcw := rows3
    (k0_pay28 (k0_pay10 (zb b)) (u2 i b) (rr i b) (yh i b) (dxh b) (mn i b) (window s.dcw ![0, 0] S1x512.size inb_S3x512_S1x512_0_0))
    (k0_pay29 (k0_pay10 (zb b)) (u1 i b) (rr i b) (yh i b) (dxh b) (mn i b) (window s.dcw ![1, 0] S1x512.size inb_S3x512_S1x512_1_0))
    (k0_pay30 (k0_pay10 (zb b)) (u0 b) (rr i b) (yh i b) (dxh b) (mn i b) (window s.dcw ![2, 0] S1x512.size inb_S3x512_S1x512_2_0))
  dcb := k0_pay27 (k0_pay10 (zb b)) (rr i b) (yh i b) (dxh b) (mn i b) s.dcb
  dgoc := k0_pay22 (k0_pay10 (zb b)) (u0 b) (u1 i b) (u2 i b) (w0 b) (w1 b) (w2 b) b.x9 b.x4 s.dgoc
  dgq := k0_pay43 (k0_pay37 (zq b)) (k0_pay38 (zq b) b.x12) k0_pay39 b.x5 s.dgq
  dgk := k0_pay49 (k0_pay47 (zk b) b.x12) b.x6 s.dgk

/-- The eight rows under the tile. -/
theorem window_rows512_hi (d : Vec F S512x512 .f32) (h : Vec F S8x512 .f32) :
    window (rows512 d h) ![512, 0] S8x512.size inb_S520x512_S8x512_512_0 = h := by
  funext y
  have h5 : ¬ ((Rect.unit (s := S520x512) ![512, 0] S8x512.size inb_S520x512_S8x512_512_0).emb y 0).val < 512 := by
    show ¬ 512 + 1 * (y 0).val < 512; omega
  refine (dif_neg h5).trans (congrArg h (funext fun a => Fin.ext ?_))
  revert a
  exact Fin.forall_fin_two.mpr ⟨by show 512 + 1 * (y 0).val - 512 = (y 0).val; omega, by show 0 + 1 * (y 1).val = (y 1).val; omega⟩

theorem dzB_zero : dzB i b (St.zero : St F).dbuf = dzH i b k0_pay4 := congrArg (dzH i b) (window_rows512_hi (fun _ => k0_pay4 (ix2 0 0)) k0_pay4)

end Step

end Cert.KernelIdeal.Mix
-- ==== Proof.Mix.Reads.lean ====
module

public import proofs.«01_k».proof.Proof.Mix.Step

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open VecWindow (window put)

variable {F : FTy → Type} [FloatOps F]

local notation "𝕄" => MT nD τ sig Unit (Elt F) ℕ (Pipeline.UD sig nD τ) ℕ

section Generic

variable {sg : RefSig} {κ : Kind} {sp : Space} {s : Shape} {e : EltTy} {Val : EltTy → Type}

/-- A load of a unit-stride box is the window there of what the view reads. -/
theorem readAt_window (v : View sg κ sp s e) (f : v.ty.Contents Val) {off size : Fin s.rank → ℕ}
    (inb : ∀ a, off a + size a ≤ s.size a) :
    v.readAt Val (Rect.unit off size inb).toLoadRect f = window (v.read Val f) off size inb := rfl

/-- The same for a load stated over the stores alone. -/
theorem readCov_window [∀ e, Nonempty (Val e)] (v : View sg κ sp s e) (L : List (View.Piece Val s e)) {off size : Fin s.rank → ℕ}
    (inb : ∀ a, off a + size a ≤ s.size a) :
    v.readCov L (Rect.unit off size inb).toLoadRect = window (v.read Val (v.writes Val v.junk L)) off size inb := rfl

/-- The window of the shape's own sizes is the vector. -/
theorem window_full {α : Type} (x : s.Idx → α) {off : Fin s.rank → ℕ} (inb : ∀ a, off a + s.size a ≤ s.size a) :
    window x off s.size inb = x :=
  funext fun y => congrArg x (Rect.emb_unit_full inb y)

/-- The window just stored is the payload. -/
theorem window_same (v : View sg κ sp s e) (f : v.ty.Contents Val) {off size : Fin s.rank → ℕ}
    (inb inb' : ∀ a, off a + size a ≤ s.size a) (w : (Rect.unit off size inb).shape.Idx → Val e) (L : List (View.Piece Val s e)) :
    window (v.read Val (v.writes Val f (⟨Rect.unit off size inb, w⟩ :: L))) off size inb' = w :=
  funext fun y => View.read_writes_cons_emb v f (Rect.unit off size inb) w L y

end Generic

section Rank2

variable {sg : RefSig} {κ : Kind} {sp : Space} {n m : ℕ} {e : EltTy} {Val : EltTy → Type}

/-- A window apart on the rows from the last store reads what was there before it. -/
theorem window_miss0 (v : View sg κ sp ⟨2, ![n, m]⟩ e) (f : v.ty.Contents Val) {off size off' size' : Fin 2 → ℕ}
    (inb : ∀ a, off a + size a ≤ (![n, m] : Fin 2 → ℕ) a) (inb' : ∀ a, off' a + size' a ≤ (![n, m] : Fin 2 → ℕ) a)
    (w : (Rect.unit (s := ⟨2, ![n, m]⟩) off size inb).shape.Idx → Val e) (L : List (View.Piece Val ⟨2, ![n, m]⟩ e))
    (h : off' 0 + size' 0 ≤ off 0 ∨ off 0 + size 0 ≤ off' 0) :
    window (s := ⟨2, ![n, m]⟩) (v.read Val (v.writes Val f (⟨Rect.unit (s := ⟨2, ![n, m]⟩) off size inb, w⟩ :: L))) off' size' inb'
      = window (s := ⟨2, ![n, m]⟩) (v.read Val (v.writes Val f L)) off' size' inb' :=
  (congrArg (window (s := ⟨2, ![n, m]⟩) · off' size' inb') (View.read_writes_cons_put v f inb w L rfl)).trans
    (VecWindow.window_put_of_disjoint (s := ⟨2, ![n, m]⟩) _ off size off' size' inb' w 0 h)

/-- A window apart on the columns from the last store reads what was there before it. -/
theorem window_miss1 (v : View sg κ sp ⟨2, ![n, m]⟩ e) (f : v.ty.Contents Val) {off size off' size' : Fin 2 → ℕ}
    (inb : ∀ a, off a + size a ≤ (![n, m] : Fin 2 → ℕ) a) (inb' : ∀ a, off' a + size' a ≤ (![n, m] : Fin 2 → ℕ) a)
    (w : (Rect.unit (s := ⟨2, ![n, m]⟩) off size inb).shape.Idx → Val e) (L : List (View.Piece Val ⟨2, ![n, m]⟩ e))
    (h : off' 1 + size' 1 ≤ off 1 ∨ off 1 + size 1 ≤ off' 1) :
    window (s := ⟨2, ![n, m]⟩) (v.read Val (v.writes Val f (⟨Rect.unit (s := ⟨2, ![n, m]⟩) off size inb, w⟩ :: L))) off' size' inb'
      = window (s := ⟨2, ![n, m]⟩) (v.read Val (v.writes Val f L)) off' size' inb' :=
  (congrArg (window (s := ⟨2, ![n, m]⟩) · off' size' inb') (View.read_writes_cons_put v f inb w L rfl)).trans
    (VecWindow.window_put_of_disjoint (s := ⟨2, ![n, m]⟩) _ off size off' size' inb' w 1 h)

/-- The whole window of a rank-2 vector is the vector. -/
theorem window_full2 {α : Type} (x : (⟨2, ![n, m]⟩ : Shape).Idx → α)
    (inb : ∀ a, (![0, 0] : Fin 2 → ℕ) a + (![n, m] : Fin 2 → ℕ) a ≤ (![n, m] : Fin 2 → ℕ) a) :
    window (s := ⟨2, ![n, m]⟩) x ![0, 0] ![n, m] inb = x := window_full (s := ⟨2, ![n, m]⟩) x inb

/-- After a store of the whole rank-2 buffer it holds the payload. -/
theorem read_full2 (v : View sg κ sp ⟨2, ![n, m]⟩ e) (f : v.ty.Contents Val)
    (inb : ∀ a, (![0, 0] : Fin 2 → ℕ) a + (![n, m] : Fin 2 → ℕ) a ≤ (![n, m] : Fin 2 → ℕ) a)
    (w : (⟨2, ![n, m]⟩ : Shape).Idx → Val e) (L : List (View.Piece Val ⟨2, ![n, m]⟩ e)) :
    v.read Val (v.writes Val f (⟨Rect.unit (s := ⟨2, ![n, m]⟩) ![0, 0] ![n, m] inb, w⟩ :: L)) = w :=
  View.read_writes_full v f inb w L

end Rank2

section Buffers

variable {sg : RefSig} {κ : Kind} {sp : Space} {Val : EltTy → Type}

/-- Where the box of `c` columns from column `o` and `r` rows from row `p` places an index. -/
theorem read_hit {n m r q o p : ℕ} {e : EltTy} (v : View sg κ sp ⟨2, ![n, m]⟩ e) (f : v.ty.Contents Val)
    (inb : ∀ a, (![p, o] : Fin 2 → ℕ) a + (![r, q] : Fin 2 → ℕ) a ≤ (![n, m] : Fin 2 → ℕ) a)
    (w : (⟨2, ![r, q]⟩ : Shape).Idx → Val e) (L : List (View.Piece Val ⟨2, ![n, m]⟩ e)) (y : (⟨2, ![n, m]⟩ : Shape).Idx)
    (a : Fin r) (c : Fin q) (h0 : (y 0).val = p + a.val) (h1 : (y 1).val = o + c.val) :
    v.read Val (v.writes Val f (⟨Rect.unit (s := ⟨2, ![n, m]⟩) ![p, o] ![r, q] inb, w⟩ :: L)) y = w (ix2 a c) :=
  View.read_writes_cons_unit_of_mem v f inb w L y (ix2 a c) rfl (Fin.forall_fin_two.mpr ⟨h0, h1⟩)

theorem read_miss {n m r q o p : ℕ} {e : EltTy} (v : View sg κ sp ⟨2, ![n, m]⟩ e) (f : v.ty.Contents Val)
    (inb : ∀ a, (![p, o] : Fin 2 → ℕ) a + (![r, q] : Fin 2 → ℕ) a ≤ (![n, m] : Fin 2 → ℕ) a)
    (w : (⟨2, ![r, q]⟩ : Shape).Idx → Val e) (L : List (View.Piece Val ⟨2, ![n, m]⟩ e)) (y : (⟨2, ![n, m]⟩ : Shape).Idx)
    (h : ((y 0).val < p ∨ p + r ≤ (y 0).val) ∨ ((y 1).val < o ∨ o + q ≤ (y 1).val)) :
    v.read Val (v.writes Val f (⟨Rect.unit (s := ⟨2, ![n, m]⟩) ![p, o] ![r, q] inb, w⟩ :: L)) y
      = v.read Val (v.writes Val f L) y := by
  rcases h with h | h
  · exact View.read_writes_cons_unit_of_not_mem v f inb w L y rfl 0 h
  · exact View.read_writes_cons_unit_of_not_mem v f inb w L y rfl 1 h

/-- The eight rows and the tile under them, read back. -/
theorem read_rows8 (v : View sg κ sp S520x512 .f32) (f : v.ty.Contents (Elt F)) (h : Vec F S8x512 .f32) (u : Vec F S512x512 .f32)
    (L : List (View.Piece (Elt F) S520x512 .f32)) :
    v.read (Elt F) (v.writes (Elt F) f (⟨Rect.unit ![8, 0] ![512, 512] inb_S520x512_S512x512_8_0, u⟩ ::
      ⟨Rect.unit ![0, 0] ![8, 512] inb_S520x512_S8x512_0_0, h⟩ :: L)) = rows8 h u := by
  funext y
  unfold rows8
  have hy := (y 0).isLt
  have e : S520x512.size 0 = 520 := rfl
  split_ifs with h8
  · exact (read_miss v f inb_S520x512_S512x512_8_0 u _ y (.inl (.inl h8))).trans
      (read_hit v f inb_S520x512_S8x512_0_0 h L y ⟨_, h8⟩ (y 1) (by simp) (by simp))
  · exact read_hit v f inb_S520x512_S512x512_8_0 u _ y _ (y 1) (by simp; omega) (by simp)

/-- The tile over the eight rows that were there before. -/
theorem read_rows512 (v : View sg κ sp S520x512 .f32) (f : v.ty.Contents (Elt F)) (d : Vec F S512x512 .f32)
    (L : List (View.Piece (Elt F) S520x512 .f32)) :
    v.read (Elt F) (v.writes (Elt F) f (⟨Rect.unit ![0, 0] ![512, 512] inb_S520x512_S512x512_0_0, d⟩ :: L))
      = rows512 d (window (v.read (Elt F) (v.writes (Elt F) f L)) ![512, 0] ![8, 512] inb_S520x512_S8x512_512_0) := by
  funext y
  unfold rows512
  have hy := (y 0).isLt
  have e : S520x512.size 0 = 520 := rfl
  split_ifs with h8
  · exact read_hit v f inb_S520x512_S512x512_0_0 d L y ⟨_, h8⟩ (y 1) (by simp) (by simp)
  · refine (read_miss v f inb_S520x512_S512x512_0_0 d _ y (.inl (.inr (by simpa using h8)))).trans ?_
    refine congrArg (v.read (Elt F) (v.writes (Elt F) f L)) (funext fun a => Fin.ext ?_)
    revert a
    exact Fin.forall_fin_two.mpr ⟨by show (y 0).val = 512 + 1 * ((y 0).val - 512); omega, by
      show (y 1).val = 0 + 1 * (y 1).val; omega⟩

/-- The tile over eight rows stored after it. -/
theorem read_rows512' (v : View sg κ sp S520x512 .f32) (f : v.ty.Contents (Elt F)) (d : Vec F S512x512 .f32) (h : Vec F S8x512 .f32)
    (L : List (View.Piece (Elt F) S520x512 .f32)) :
    v.read (Elt F) (v.writes (Elt F) f (⟨Rect.unit ![512, 0] ![8, 512] inb_S520x512_S8x512_512_0, h⟩ ::
      ⟨Rect.unit ![0, 0] ![512, 512] inb_S520x512_S512x512_0_0, d⟩ :: L)) = rows512 d h := by
  funext y
  unfold rows512
  have hy := (y 0).isLt
  have e : S520x512.size 0 = 520 := rfl
  split_ifs with h8
  · exact (read_miss v f inb_S520x512_S8x512_512_0 h _ y (.inl (.inl h8))).trans
      (read_hit v f inb_S520x512_S512x512_0_0 d L y ⟨_, h8⟩ (y 1) (by simp) (by simp))
  · exact read_hit v f inb_S520x512_S8x512_512_0 h _ y _ (y 1) (by simp; omega) (by simp)

/-- The first eight rows lie in the tile. -/
theorem window_rows512 (d : Vec F S512x512 .f32) (h : Vec F S8x512 .f32) (inb : ∀ a, (![0, 0] : Fin 2 → ℕ) a + (![8, 512] : Fin 2 → ℕ) a ≤ S520x512.size a)
    (inb' : ∀ a, (![0, 0] : Fin 2 → ℕ) a + (![8, 512] : Fin 2 → ℕ) a ≤ S512x512.size a) :
    window (rows512 d h) ![0, 0] ![8, 512] inb = window d ![0, 0] ![8, 512] inb' := by
  funext y
  have hy : (y 0).val < 8 := (y 0).isLt
  have h5 : ((Rect.unit (s := S520x512) ![0, 0] ![8, 512] inb).emb y 0).val < 512 := by
    show 0 + 1 * (y 0).val < 512; omega
  refine (dif_pos h5).trans (congrArg d (funext fun a => Fin.ext ?_))
  revert a
  exact Fin.forall_fin_two.mpr ⟨rfl, rfl⟩

/-- Three rows, read back. -/
theorem read_rows3 (v : View sg κ sp S3x512 .f32) (f : v.ty.Contents (Elt F)) (a b c : Vec F S1x512 .f32)
    (L : List (View.Piece (Elt F) S3x512 .f32)) :
    v.read (Elt F) (v.writes (Elt F) f (⟨Rect.unit ![2, 0] ![1, 512] inb_S3x512_S1x512_2_0, c⟩ ::
      ⟨Rect.unit ![1, 0] ![1, 512] inb_S3x512_S1x512_1_0, b⟩ :: ⟨Rect.unit ![0, 0] ![1, 512] inb_S3x512_S1x512_0_0, a⟩ :: L))
      = rows3 a b c := by
  funext y
  unfold rows3
  have hy : (y 0).val < 3 := (y 0).isLt
  rcases h : (y 0).val with _ | _ | _ | k
  · exact (read_miss v f inb_S3x512_S1x512_2_0 c _ y (.inl (.inl (by omega)))).trans
      ((read_miss v f inb_S3x512_S1x512_1_0 b _ y (.inl (.inl (by omega)))).trans
        (read_hit v f inb_S3x512_S1x512_0_0 a L y 0 (y 1) (by simp; omega) (by simp)))
  · exact (read_miss v f inb_S3x512_S1x512_2_0 c _ y (.inl (.inl (by omega)))).trans
      (read_hit v f inb_S3x512_S1x512_1_0 b _ y 0 (y 1) (by simp; omega) (by simp))
  · exact read_hit v f inb_S3x512_S1x512_2_0 c _ y 0 (y 1) (by simp; omega) (by simp)
  · omega

/-- 6 blocks of columns, read back. -/
theorem read_cols6 (v : View sg κ sp S512x3072 .bf16) (f : v.ty.Contents (Elt F)) (a0 a1 a2 a3 a4 a5 : Vec F S512x512 .bf16)
    (L : List (View.Piece (Elt F) S512x3072 .bf16)) :
    v.read (Elt F) (v.writes (Elt F) f (⟨Rect.unit ![0, 2560] ![512, 512] inb_S512x3072_S512x512_0_2560, a5⟩ ::
      ⟨Rect.unit ![0, 2048] ![512, 512] inb_S512x3072_S512x512_0_2048, a4⟩ ::
      ⟨Rect.unit ![0, 1536] ![512, 512] inb_S512x3072_S512x512_0_1536, a3⟩ ::
      ⟨Rect.unit ![0, 1024] ![512, 512] inb_S512x3072_S512x512_0_1024, a2⟩ ::
      ⟨Rect.unit ![0, 512] ![512, 512] inb_S512x3072_S512x512_0_512, a1⟩ ::
      ⟨Rect.unit ![0, 0] ![512, 512] inb_S512x3072_S512x512_0_0, a0⟩ :: L)) = cols6 a0 a1 a2 a3 a4 a5 := by
  funext y
  unfold cols6
  have hy : (y 1).val < 3072 := (y 1).isLt
  have hm := Nat.div_add_mod (y 1).val 512
  have hl := Nat.mod_lt (y 1).val (show 0 < 512 by decide)
  rcases h : (y 1).val / 512 with _ | _ | _ | _ | _ | _ | k
  · rw [h] at hm
    refine (read_miss v f inb_S512x3072_S512x512_0_2560 a5 _ y (.inr (.inl (by omega)))).trans ?_
    refine (read_miss v f inb_S512x3072_S512x512_0_2048 a4 _ y (.inr (.inl (by omega)))).trans ?_
    refine (read_miss v f inb_S512x3072_S512x512_0_1536 a3 _ y (.inr (.inl (by omega)))).trans ?_
    refine (read_miss v f inb_S512x3072_S512x512_0_1024 a2 _ y (.inr (.inl (by omega)))).trans ?_
    refine (read_miss v f inb_S512x3072_S512x512_0_512 a1 _ y (.inr (.inl (by omega)))).trans ?_
    exact read_hit v f inb_S512x3072_S512x512_0_0 a0 _ y (y 0) ⟨_, hl⟩ (by simp) (by dsimp only; omega)
  · rw [h] at hm
    refine (read_miss v f inb_S512x3072_S512x512_0_2560 a5 _ y (.inr (.inl (by omega)))).trans ?_
    refine (read_miss v f inb_S512x3072_S512x512_0_2048 a4 _ y (.inr (.inl (by omega)))).trans ?_
    refine (read_miss v f inb_S512x3072_S512x512_0_1536 a3 _ y (.inr (.inl (by omega)))).trans ?_
    refine (read_miss v f inb_S512x3072_S512x512_0_1024 a2 _ y (.inr (.inl (by omega)))).trans ?_
    exact read_hit v f inb_S512x3072_S512x512_0_512 a1 _ y (y 0) ⟨_, hl⟩ (by simp) (by dsimp only; omega)
  · rw [h] at hm
    refine (read_miss v f inb_S512x3072_S512x512_0_2560 a5 _ y (.inr (.inl (by omega)))).trans ?_
    refine (read_miss v f inb_S512x3072_S512x512_0_2048 a4 _ y (.inr (.inl (by omega)))).trans ?_
    refine (read_miss v f inb_S512x3072_S512x512_0_1536 a3 _ y (.inr (.inl (by omega)))).trans ?_
    exact read_hit v f inb_S512x3072_S512x512_0_1024 a2 _ y (y 0) ⟨_, hl⟩ (by simp) (by dsimp only; omega)
  · rw [h] at hm
    refine (read_miss v f inb_S512x3072_S512x512_0_2560 a5 _ y (.inr (.inl (by omega)))).trans ?_
    refine (read_miss v f inb_S512x3072_S512x512_0_2048 a4 _ y (.inr (.inl (by omega)))).trans ?_
    exact read_hit v f inb_S512x3072_S512x512_0_1536 a3 _ y (y 0) ⟨_, hl⟩ (by simp) (by dsimp only; omega)
  · rw [h] at hm
    refine (read_miss v f inb_S512x3072_S512x512_0_2560 a5 _ y (.inr (.inl (by omega)))).trans ?_
    exact read_hit v f inb_S512x3072_S512x512_0_2048 a4 _ y (y 0) ⟨_, hl⟩ (by simp) (by dsimp only; omega)
  · rw [h] at hm
    exact read_hit v f inb_S512x3072_S512x512_0_2560 a5 _ y (y 0) ⟨_, hl⟩ (by simp) (by dsimp only; omega)
  · omega

/-- 4 blocks of columns, read back. -/
theorem read_cols4 (v : View sg κ sp S1024x3072 .f32) (f : v.ty.Contents (Elt F)) (a0 a1 a2 a3 : Vec F S1024x768 .f32)
    (L : List (View.Piece (Elt F) S1024x3072 .f32)) :
    v.read (Elt F) (v.writes (Elt F) f (⟨Rect.unit ![0, 2304] ![1024, 768] inb_S1024x3072_S1024x768_0_2304, a3⟩ ::
      ⟨Rect.unit ![0, 1536] ![1024, 768] inb_S1024x3072_S1024x768_0_1536, a2⟩ ::
      ⟨Rect.unit ![0, 768] ![1024, 768] inb_S1024x3072_S1024x768_0_768, a1⟩ ::
      ⟨Rect.unit ![0, 0] ![1024, 768] inb_S1024x3072_S1024x768_0_0, a0⟩ :: L)) = cols4 a0 a1 a2 a3 := by
  funext y
  unfold cols4
  have hy : (y 1).val < 3072 := (y 1).isLt
  have hm := Nat.div_add_mod (y 1).val 768
  have hl := Nat.mod_lt (y 1).val (show 0 < 768 by decide)
  rcases h : (y 1).val / 768 with _ | _ | _ | _ | k
  · rw [h] at hm
    refine (read_miss v f inb_S1024x3072_S1024x768_0_2304 a3 _ y (.inr (.inl (by omega)))).trans ?_
    refine (read_miss v f inb_S1024x3072_S1024x768_0_1536 a2 _ y (.inr (.inl (by omega)))).trans ?_
    refine (read_miss v f inb_S1024x3072_S1024x768_0_768 a1 _ y (.inr (.inl (by omega)))).trans ?_
    exact read_hit v f inb_S1024x3072_S1024x768_0_0 a0 _ y (y 0) ⟨_, hl⟩ (by simp) (by dsimp only; omega)
  · rw [h] at hm
    refine (read_miss v f inb_S1024x3072_S1024x768_0_2304 a3 _ y (.inr (.inl (by omega)))).trans ?_
    refine (read_miss v f inb_S1024x3072_S1024x768_0_1536 a2 _ y (.inr (.inl (by omega)))).trans ?_
    exact read_hit v f inb_S1024x3072_S1024x768_0_768 a1 _ y (y 0) ⟨_, hl⟩ (by simp) (by dsimp only; omega)
  · rw [h] at hm
    refine (read_miss v f inb_S1024x3072_S1024x768_0_2304 a3 _ y (.inr (.inl (by omega)))).trans ?_
    exact read_hit v f inb_S1024x3072_S1024x768_0_1536 a2 _ y (y 0) ⟨_, hl⟩ (by simp) (by dsimp only; omega)
  · rw [h] at hm
    exact read_hit v f inb_S1024x3072_S1024x768_0_2304 a3 _ y (y 0) ⟨_, hl⟩ (by simp) (by dsimp only; omega)
  · omega

end Buffers

end Cert.KernelIdeal.Mix
-- ==== Proof.Mix.RunA.lean ====
module

public import proofs.«01_k».proof.Proof.Mix.Reads
public import Idealize.ShloMosaic.Lib.VecWindow

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 0 in
theorem runA (c : Dev nD) (i : grid0.Coords) (b : Blk F)
    (arg1 : Memref sig .tc .vmem S512x1024 .f32) (harg1 : arg1.IsWhole) (arg2 : Memref sig .tc .vmem S512x1536 .f32) (harg2 : arg2.IsWhole) (arg3 : Memref sig .tc .vmem S8x1536 .f32) (harg3 : arg3.IsWhole) (arg4 : Memref sig .tc .vmem S512x1536 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x1024 .f32) (harg12 : arg12.IsWhole) (arg13 : Memref sig .tc .vmem S512x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S512x3072 .bf16) (harg16 : arg16.IsWhole) (arg17 : Memref sig .tc .vmem S3x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg24 : Memref sig .tc .vmem S520x512 .f32) (harg24 : arg24.IsWhole) (arg25 : Memref sig .tc .vmem S520x512 .f32) (harg25 : arg25.IsWhole) (arg26 : Memref sig .tc .vmem S1024x3072 .f32) (harg26 : arg26.IsWhole) (arg27 : Memref sig .tc .vmem S1024x3072 .bf16) (harg27 : arg27.IsWhole)
    (hc0 : cond0_0 i) (hc1 : ¬cond0_1 i) (W : Waits sig Unit) (K : PUnit → sProp 𝕄) :
    iprop(owns (c : Thread nD τ) arg1 fullShare b.x0 ∗
      owns (c : Thread nD τ) arg2 fullShare b.x1 ∗
      owns (c : Thread nD τ) arg3 fullShare b.x2 ∗
      owns (c : Thread nD τ) arg4 fullShare b.x3 ∗
      owns (c : Thread nD τ) arg5 fullShare b.x4 ∗
      owns (c : Thread nD τ) arg6 fullShare b.x5 ∗
      owns (c : Thread nD τ) arg7 fullShare b.x6 ∗
      owns (c : Thread nD τ) arg8 fullShare b.x7 ∗
      owns (c : Thread nD τ) arg9 fullShare b.x8 ∗
      owns (c : Thread nD τ) arg10 fullShare b.x9 ∗
      owns (c : Thread nD τ) arg11 fullShare b.x10 ∗
      owns (c : Thread nD τ) arg12 fullShare b.x11 ∗
      owns (c : Thread nD τ) arg13 fullShare b.x12 ∗
      owns (c : Thread nD τ) arg14 fullShare b.x13 ∗
      owns (c : Thread nD τ) arg15 fullShare b.x14 ∗
      (∃ d, owns (c : Thread nD τ) arg16 fullShare d) ∗
      (∃ d, owns (c : Thread nD τ) arg17 fullShare d) ∗
      (∃ d, owns (c : Thread nD τ) arg18 fullShare d) ∗
      (∃ d, owns (c : Thread nD τ) arg19 fullShare d) ∗
      (∃ d, owns (c : Thread nD τ) arg20 fullShare d) ∗
      (∃ d, owns (c : Thread nD τ) arg21 fullShare d) ∗
      (∃ d, owns (c : Thread nD τ) arg24 fullShare d) ∗
      (∃ d, owns (c : Thread nD τ) arg25 fullShare d) ∗
      (∃ d, owns (c : Thread nD τ) arg26 fullShare d) ∗
      (∃ d, owns (c : Thread nD τ) arg27 fullShare d) ∗
      semVal ((c : Thread nD τ), SemLoc.dma 30) 0 ∗
      semVal ((c : Thread nD τ), SemLoc.dma 31) 0 ∗
      (∃ f, hbPt0 c hbM0_0 f) ∗
      (∃ f, hbPt0 c hbM0_1 f) ∗
      owes (c : Thread nD τ) 0 W ∗
      (iprop(owns (c : Thread nD τ) arg1 fullShare b.x0 ∗
      owns (c : Thread nD τ) arg2 fullShare b.x1 ∗
      owns (c : Thread nD τ) arg3 fullShare b.x2 ∗
      owns (c : Thread nD τ) arg4 fullShare b.x3 ∗
      owns (c : Thread nD τ) arg5 fullShare b.x4 ∗
      owns (c : Thread nD τ) arg6 fullShare b.x5 ∗
      owns (c : Thread nD τ) arg7 fullShare b.x6 ∗
      owns (c : Thread nD τ) arg8 fullShare b.x7 ∗
      owns (c : Thread nD τ) arg9 fullShare b.x8 ∗
      owns (c : Thread nD τ) arg10 fullShare b.x9 ∗
      owns (c : Thread nD τ) arg11 fullShare b.x10 ∗
      owns (c : Thread nD τ) arg12 fullShare b.x11 ∗
      owns (c : Thread nD τ) arg13 fullShare b.x12 ∗
      owns (c : Thread nD τ) arg14 fullShare b.x13 ∗
      owns (c : Thread nD τ) arg15 fullShare b.x14 ∗
      owns (c : Thread nD τ) arg16 fullShare (dzB i b St.zero.dbuf) ∗
      owns (c : Thread nD τ) arg17 fullShare (step i b St.zero).dcw ∗
      owns (c : Thread nD τ) arg18 fullShare (step i b St.zero).dcb ∗
      owns (c : Thread nD τ) arg19 fullShare (step i b St.zero).dgoc ∗
      owns (c : Thread nD τ) arg20 fullShare (step i b St.zero).dgq ∗
      owns (c : Thread nD τ) arg21 fullShare (step i b St.zero).dgk ∗
      (∃ d, owns (c : Thread nD τ) arg24 fullShare d) ∗
      owns (c : Thread nD τ) arg25 fullShare (step i b St.zero).dbuf ∗
      owns (c : Thread nD τ) arg26 fullShare (step i b St.zero).wacc ∗
      (∃ d, owns (c : Thread nD τ) arg27 fullShare d) ∗
      semVal ((c : Thread nD τ), SemLoc.dma 30) 0 ∗
      semVal ((c : Thread nD τ), SemLoc.dma 31) 0 ∗
      (∃ f, hbPt0 c hbM0_0 f) ∗
      (∃ f, hbPt0 c hbM0_1 f) ∗
      (∃ W', owes (c : Thread nD τ) 0 W')) -∗ K ⟨⟩))
    ⊢ wp frame (wpE (defs₀ (F := F)) Variants.none (c : Thread nD τ) none) Set.univ (cc0_bwd_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Memref.whole main_v30_6) (Memref.isWhole_whole _) (Memref.whole main_v30_7) (Memref.isWhole_whole _) arg24 harg24 arg25 harg25 arg26 harg26 arg27 harg27 cc0_scratch4) K := by
  simp only [cc0_bwd_mix_eq_skeleton]; unfold cc0_bwd_mix_skel
  simp only [k0_part1_eq_skeleton, k0_part2_eq_skeleton, k0_part3_eq_skeleton, k0_part4_eq_skeleton, k0_part5_eq_skeleton,
    k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d16, %g16, -, G16⟩, ⟨%d17, %g17, -, G17⟩, ⟨%d18, %g18, -, G18⟩, ⟨%d19, %g19, -, G19⟩, ⟨%d20, %g20, -, G20⟩, ⟨%d21, %g21, -, G21⟩, ⟨%d24, %g24, -, G24⟩, ⟨%d25, %g25, -, G25⟩, ⟨%d26, %g26, -, G26⟩, ⟨%d27, %g27, -, G27⟩, Hq0, Hq1, ⟨%fw0, Hh0⟩, ⟨%fw1, Hh1⟩, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [G16]
  · iexists _; isplitr; swap; · iexact G16
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    exact (dzB_zero i b).symm
  isplitl [G17]
  · iexists _; isplitr; swap; · iexact G17
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  isplitl [G18]
  · iexists _; isplitr; swap; · iexact G18
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  isplitl [G19]
  · iexists _; isplitr; swap; · iexact G19
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  isplitl [G20]
  · iexists _; isplitr; swap; · iexact G20
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  isplitl [G21]
  · iexists _; isplitr; swap; · iexact G21
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  isplitl [G24]
  · iexists _; iexists _; isplitr; swap; · iexact G24
    ipureintro; rfl
  isplitl [G25]
  · iexists _; isplitr; swap; · iexact G25
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    exact congrArg (rows512 _) (congrArg k0_pay33 (window_rows512 _ _ _ _))
  isplitl [G26]
  · iexists _; isplitr; swap; · iexact G26
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    exact congrArg (waccD b k0_pay3) (dzB_zero i b).symm
  isplitl [G27]
  · iexists _; iexists _; isplitr; swap; · iexact G27
    ipureintro; rfl
  isplitl [Hq0]; · iexact Hq0
  isplitl [Hq1]; · iexact Hq1
  isplitl [Hh0]; · iexists _; iexact Hh0
  isplitl [Hh1]; · iexists _; iexact Hh1
  iexists _; iexact HW

end Cert.KernelIdeal.Mix
-- ==== Proof.Mix.RunB.lean ====
module

public import proofs.«01_k».proof.Proof.Mix.Reads
public import Idealize.ShloMosaic.Lib.VecWindow

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 0 in
theorem runB (c : Dev nD) (i : grid0.Coords) (b : Blk F) (st : St F)
    (arg1 : Memref sig .tc .vmem S512x1024 .f32) (harg1 : arg1.IsWhole) (arg2 : Memref sig .tc .vmem S512x1536 .f32) (harg2 : arg2.IsWhole) (arg3 : Memref sig .tc .vmem S8x1536 .f32) (harg3 : arg3.IsWhole) (arg4 : Memref sig .tc .vmem S512x1536 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x1024 .f32) (harg12 : arg12.IsWhole) (arg13 : Memref sig .tc .vmem S512x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S512x3072 .bf16) (harg16 : arg16.IsWhole) (arg17 : Memref sig .tc .vmem S3x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg24 : Memref sig .tc .vmem S520x512 .f32) (harg24 : arg24.IsWhole) (arg25 : Memref sig .tc .vmem S520x512 .f32) (harg25 : arg25.IsWhole) (arg26 : Memref sig .tc .vmem S1024x3072 .f32) (harg26 : arg26.IsWhole) (arg27 : Memref sig .tc .vmem S1024x3072 .bf16) (harg27 : arg27.IsWhole)
    (hc0 : ¬cond0_0 i) (hc1 : ¬cond0_1 i) (W : Waits sig Unit) (K : PUnit → sProp 𝕄) :
    iprop(owns (c : Thread nD τ) arg1 fullShare b.x0 ∗
      owns (c : Thread nD τ) arg2 fullShare b.x1 ∗
      owns (c : Thread nD τ) arg3 fullShare b.x2 ∗
      owns (c : Thread nD τ) arg4 fullShare b.x3 ∗
      owns (c : Thread nD τ) arg5 fullShare b.x4 ∗
      owns (c : Thread nD τ) arg6 fullShare b.x5 ∗
      owns (c : Thread nD τ) arg7 fullShare b.x6 ∗
      owns (c : Thread nD τ) arg8 fullShare b.x7 ∗
      owns (c : Thread nD τ) arg9 fullShare b.x8 ∗
      owns (c : Thread nD τ) arg10 fullShare b.x9 ∗
      owns (c : Thread nD τ) arg11 fullShare b.x10 ∗
      owns (c : Thread nD τ) arg12 fullShare b.x11 ∗
      owns (c : Thread nD τ) arg13 fullShare b.x12 ∗
      owns (c : Thread nD τ) arg14 fullShare b.x13 ∗
      owns (c : Thread nD τ) arg15 fullShare b.x14 ∗
      (∃ d, owns (c : Thread nD τ) arg16 fullShare d) ∗
      owns (c : Thread nD τ) arg17 fullShare st.dcw ∗
      owns (c : Thread nD τ) arg18 fullShare st.dcb ∗
      owns (c : Thread nD τ) arg19 fullShare st.dgoc ∗
      owns (c : Thread nD τ) arg20 fullShare st.dgq ∗
      owns (c : Thread nD τ) arg21 fullShare st.dgk ∗
      (∃ d, owns (c : Thread nD τ) arg24 fullShare d) ∗
      owns (c : Thread nD τ) arg25 fullShare st.dbuf ∗
      owns (c : Thread nD τ) arg26 fullShare st.wacc ∗
      (∃ d, owns (c : Thread nD τ) arg27 fullShare d) ∗
      semVal ((c : Thread nD τ), SemLoc.dma 30) 0 ∗
      semVal ((c : Thread nD τ), SemLoc.dma 31) 0 ∗
      (∃ f, hbPt0 c hbM0_0 f) ∗
      (∃ f, hbPt0 c hbM0_1 f) ∗
      owes (c : Thread nD τ) 0 W ∗
      (iprop(owns (c : Thread nD τ) arg1 fullShare b.x0 ∗
      owns (c : Thread nD τ) arg2 fullShare b.x1 ∗
      owns (c : Thread nD τ) arg3 fullShare b.x2 ∗
      owns (c : Thread nD τ) arg4 fullShare b.x3 ∗
      owns (c : Thread nD τ) arg5 fullShare b.x4 ∗
      owns (c : Thread nD τ) arg6 fullShare b.x5 ∗
      owns (c : Thread nD τ) arg7 fullShare b.x6 ∗
      owns (c : Thread nD τ) arg8 fullShare b.x7 ∗
      owns (c : Thread nD τ) arg9 fullShare b.x8 ∗
      owns (c : Thread nD τ) arg10 fullShare b.x9 ∗
      owns (c : Thread nD τ) arg11 fullShare b.x10 ∗
      owns (c : Thread nD τ) arg12 fullShare b.x11 ∗
      owns (c : Thread nD τ) arg13 fullShare b.x12 ∗
      owns (c : Thread nD τ) arg14 fullShare b.x13 ∗
      owns (c : Thread nD τ) arg15 fullShare b.x14 ∗
      owns (c : Thread nD τ) arg16 fullShare (dzB i b st.dbuf) ∗
      owns (c : Thread nD τ) arg17 fullShare (step i b st).dcw ∗
      owns (c : Thread nD τ) arg18 fullShare (step i b st).dcb ∗
      owns (c : Thread nD τ) arg19 fullShare (step i b st).dgoc ∗
      owns (c : Thread nD τ) arg20 fullShare (step i b st).dgq ∗
      owns (c : Thread nD τ) arg21 fullShare (step i b st).dgk ∗
      (∃ d, owns (c : Thread nD τ) arg24 fullShare d) ∗
      owns (c : Thread nD τ) arg25 fullShare (step i b st).dbuf ∗
      owns (c : Thread nD τ) arg26 fullShare (step i b st).wacc ∗
      (∃ d, owns (c : Thread nD τ) arg27 fullShare d) ∗
      semVal ((c : Thread nD τ), SemLoc.dma 30) 0 ∗
      semVal ((c : Thread nD τ), SemLoc.dma 31) 0 ∗
      (∃ f, hbPt0 c hbM0_0 f) ∗
      (∃ f, hbPt0 c hbM0_1 f) ∗
      (∃ W', owes (c : Thread nD τ) 0 W')) -∗ K ⟨⟩))
    ⊢ wp frame (wpE (defs₀ (F := F)) Variants.none (c : Thread nD τ) none) Set.univ (cc0_bwd_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Memref.whole main_v30_6) (Memref.isWhole_whole _) (Memref.whole main_v30_7) (Memref.isWhole_whole _) arg24 harg24 arg25 harg25 arg26 harg26 arg27 harg27 cc0_scratch4) K := by
  simp only [cc0_bwd_mix_eq_skeleton]; unfold cc0_bwd_mix_skel
  simp only [k0_part1_eq_skeleton, k0_part2_eq_skeleton, k0_part3_eq_skeleton, k0_part4_eq_skeleton, k0_part5_eq_skeleton,
    k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d16, %g16, -, G16⟩, ⟨%g17, %hg17, G17⟩, ⟨%g18, %hg18, G18⟩, ⟨%g19, %hg19, G19⟩, ⟨%g20, %hg20, G20⟩, ⟨%g21, %hg21, G21⟩, ⟨%d24, %g24, -, G24⟩, ⟨%g25, %hg25, G25⟩, ⟨%g26, %hg26, G26⟩, ⟨%d27, %g27, -, G27⟩, Hq0, Hq1, ⟨%fw0, Hh0⟩, ⟨%fw1, Hh1⟩, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hg17; obtain rfl := harg18.eq_unread hg18; obtain rfl := harg19.eq_unread hg19; obtain rfl := harg20.eq_unread hg20; obtain rfl := harg21.eq_unread hg21; obtain rfl := harg25.eq_unread hg25; obtain rfl := harg26.eq_unread hg26
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [G16]
  · iexists _; isplitr; swap; · iexact G16
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  isplitl [G17]
  · iexists _; isplitr; swap; · iexact G17
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  isplitl [G18]
  · iexists _; isplitr; swap; · iexact G18
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  isplitl [G19]
  · iexists _; isplitr; swap; · iexact G19
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  isplitl [G20]
  · iexists _; isplitr; swap; · iexact G20
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  isplitl [G21]
  · iexists _; isplitr; swap; · iexact G21
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  isplitl [G24]
  · iexists _; iexists _; isplitr; swap; · iexact G24
    ipureintro; rfl
  isplitl [G25]
  · iexists _; isplitr; swap; · iexact G25
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    exact congrArg (rows512 _) (congrArg k0_pay33 (window_rows512 _ _ _ _))
  isplitl [G26]
  · iexists _; isplitr; swap; · iexact G26
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  isplitl [G27]
  · iexists _; iexists _; isplitr; swap; · iexact G27
    ipureintro; rfl
  isplitl [Hq0]; · iexact Hq0
  isplitl [Hq1]; · iexact Hq1
  isplitl [Hh0]; · iexists _; iexact Hh0
  isplitl [Hh1]; · iexists _; iexact Hh1
  iexists _; iexact HW

end Cert.KernelIdeal.Mix
-- ==== Proof.Mix.RunC.lean ====
module

public import proofs.«01_k».proof.Proof.Mix.Reads
public import Idealize.ShloMosaic.Lib.VecWindow

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 0 in
theorem runC (c : Dev nD) (i : grid0.Coords) (b : Blk F) (st : St F)
    (arg1 : Memref sig .tc .vmem S512x1024 .f32) (harg1 : arg1.IsWhole) (arg2 : Memref sig .tc .vmem S512x1536 .f32) (harg2 : arg2.IsWhole) (arg3 : Memref sig .tc .vmem S8x1536 .f32) (harg3 : arg3.IsWhole) (arg4 : Memref sig .tc .vmem S512x1536 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x1024 .f32) (harg12 : arg12.IsWhole) (arg13 : Memref sig .tc .vmem S512x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S512x3072 .bf16) (harg16 : arg16.IsWhole) (arg17 : Memref sig .tc .vmem S3x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg24 : Memref sig .tc .vmem S520x512 .f32) (harg24 : arg24.IsWhole) (arg25 : Memref sig .tc .vmem S520x512 .f32) (harg25 : arg25.IsWhole) (arg26 : Memref sig .tc .vmem S1024x3072 .f32) (harg26 : arg26.IsWhole) (arg27 : Memref sig .tc .vmem S1024x3072 .bf16) (harg27 : arg27.IsWhole)
    (hc0 : ¬cond0_0 i) (hc1 : cond0_1 i) (W : Waits sig Unit) (K : PUnit → sProp 𝕄) :
    iprop(owns (c : Thread nD τ) arg1 fullShare b.x0 ∗
      owns (c : Thread nD τ) arg2 fullShare b.x1 ∗
      owns (c : Thread nD τ) arg3 fullShare b.x2 ∗
      owns (c : Thread nD τ) arg4 fullShare b.x3 ∗
      owns (c : Thread nD τ) arg5 fullShare b.x4 ∗
      owns (c : Thread nD τ) arg6 fullShare b.x5 ∗
      owns (c : Thread nD τ) arg7 fullShare b.x6 ∗
      owns (c : Thread nD τ) arg8 fullShare b.x7 ∗
      owns (c : Thread nD τ) arg9 fullShare b.x8 ∗
      owns (c : Thread nD τ) arg10 fullShare b.x9 ∗
      owns (c : Thread nD τ) arg11 fullShare b.x10 ∗
      owns (c : Thread nD τ) arg12 fullShare b.x11 ∗
      owns (c : Thread nD τ) arg13 fullShare b.x12 ∗
      owns (c : Thread nD τ) arg14 fullShare b.x13 ∗
      owns (c : Thread nD τ) arg15 fullShare b.x14 ∗
      (∃ d, owns (c : Thread nD τ) arg16 fullShare d) ∗
      owns (c : Thread nD τ) arg17 fullShare st.dcw ∗
      owns (c : Thread nD τ) arg18 fullShare st.dcb ∗
      owns (c : Thread nD τ) arg19 fullShare st.dgoc ∗
      owns (c : Thread nD τ) arg20 fullShare st.dgq ∗
      owns (c : Thread nD τ) arg21 fullShare st.dgk ∗
      (∃ d, owns (c : Thread nD τ) arg24 fullShare d) ∗
      owns (c : Thread nD τ) arg25 fullShare st.dbuf ∗
      owns (c : Thread nD τ) arg26 fullShare st.wacc ∗
      (∃ d, owns (c : Thread nD τ) arg27 fullShare d) ∗
      semVal ((c : Thread nD τ), SemLoc.dma 30) 0 ∗
      semVal ((c : Thread nD τ), SemLoc.dma 31) 0 ∗
      (∃ f, hbPt0 c hbM0_0 f) ∗
      (∃ f, hbPt0 c hbM0_1 f) ∗
      owes (c : Thread nD τ) 0 W ∗
      (iprop(owns (c : Thread nD τ) arg1 fullShare b.x0 ∗
      owns (c : Thread nD τ) arg2 fullShare b.x1 ∗
      owns (c : Thread nD τ) arg3 fullShare b.x2 ∗
      owns (c : Thread nD τ) arg4 fullShare b.x3 ∗
      owns (c : Thread nD τ) arg5 fullShare b.x4 ∗
      owns (c : Thread nD τ) arg6 fullShare b.x5 ∗
      owns (c : Thread nD τ) arg7 fullShare b.x6 ∗
      owns (c : Thread nD τ) arg8 fullShare b.x7 ∗
      owns (c : Thread nD τ) arg9 fullShare b.x8 ∗
      owns (c : Thread nD τ) arg10 fullShare b.x9 ∗
      owns (c : Thread nD τ) arg11 fullShare b.x10 ∗
      owns (c : Thread nD τ) arg12 fullShare b.x11 ∗
      owns (c : Thread nD τ) arg13 fullShare b.x12 ∗
      owns (c : Thread nD τ) arg14 fullShare b.x13 ∗
      owns (c : Thread nD τ) arg15 fullShare b.x14 ∗
      owns (c : Thread nD τ) arg16 fullShare (dzB i b st.dbuf) ∗
      owns (c : Thread nD τ) arg17 fullShare (step i b st).dcw ∗
      owns (c : Thread nD τ) arg18 fullShare (step i b st).dcb ∗
      owns (c : Thread nD τ) arg19 fullShare (step i b st).dgoc ∗
      owns (c : Thread nD τ) arg20 fullShare (step i b st).dgq ∗
      owns (c : Thread nD τ) arg21 fullShare (step i b st).dgk ∗
      (∃ d, owns (c : Thread nD τ) arg24 fullShare d) ∗
      owns (c : Thread nD τ) arg25 fullShare (step i b st).dbuf ∗
      owns (c : Thread nD τ) arg26 fullShare (step i b st).wacc ∗
      (∃ d, owns (c : Thread nD τ) arg27 fullShare d) ∗
      semVal ((c : Thread nD τ), SemLoc.dma 30) 0 ∗
      semVal ((c : Thread nD τ), SemLoc.dma 31) 0 ∗
      (∃ f, ⌜f = (step i b st).wacc⌝ ∗ hbPt0 c hbM0_0 f) ∗
      (∃ f, ⌜f = k0_pay2 (step i b st).wacc⌝ ∗ hbPt0 c hbM0_1 f) ∗
      (∃ W', owes (c : Thread nD τ) 0 W')) -∗ K ⟨⟩))
    ⊢ wp frame (wpE (defs₀ (F := F)) Variants.none (c : Thread nD τ) none) Set.univ (cc0_bwd_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Memref.whole main_v30_6) (Memref.isWhole_whole _) (Memref.whole main_v30_7) (Memref.isWhole_whole _) arg24 harg24 arg25 harg25 arg26 harg26 arg27 harg27 cc0_scratch4) K := by
  simp only [cc0_bwd_mix_eq_skeleton]; unfold cc0_bwd_mix_skel
  simp only [k0_part1_eq_skeleton, k0_part2_eq_skeleton, k0_part3_eq_skeleton, k0_part4_eq_skeleton, k0_part5_eq_skeleton,
    k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d16, %g16, -, G16⟩, ⟨%g17, %hg17, G17⟩, ⟨%g18, %hg18, G18⟩, ⟨%g19, %hg19, G19⟩, ⟨%g20, %hg20, G20⟩, ⟨%g21, %hg21, G21⟩, ⟨%d24, %g24, -, G24⟩, ⟨%g25, %hg25, G25⟩, ⟨%g26, %hg26, G26⟩, ⟨%d27, %g27, -, G27⟩, Hq0, Hq1, ⟨%fw0, Hh0⟩, ⟨%fw1, Hh1⟩, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hg17; obtain rfl := harg18.eq_unread hg18; obtain rfl := harg19.eq_unread hg19; obtain rfl := harg20.eq_unread hg20; obtain rfl := harg21.eq_unread hg21; obtain rfl := harg25.eq_unread hg25; obtain rfl := harg26.eq_unread hg26
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [G16]
  · iexists _; isplitr; swap; · iexact G16
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  isplitl [G17]
  · iexists _; isplitr; swap; · iexact G17
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  isplitl [G18]
  · iexists _; isplitr; swap; · iexact G18
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  isplitl [G19]
  · iexists _; isplitr; swap; · iexact G19
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  isplitl [G20]
  · iexists _; isplitr; swap; · iexact G20
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  isplitl [G21]
  · iexists _; isplitr; swap; · iexact G21
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  isplitl [G24]
  · iexists _; iexists _; isplitr; swap; · iexact G24
    ipureintro; rfl
  isplitl [G25]
  · iexists _; isplitr; swap; · iexact G25
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    exact congrArg (rows512 _) (congrArg k0_pay33 (window_rows512 _ _ _ _))
  isplitl [G26]
  · iexists _; isplitr; swap; · iexact G26
    ipureintro
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  isplitl [G27]
  · iexists _; iexists _; isplitr; swap; · iexact G27
    ipureintro; rfl
  isplitl [Hq0]; · iexact Hq0
  isplitl [Hq1]; · iexact Hq1
  isplitl [Hh0]
  · iexists _; isplitr; swap; · iexact Hh0
    ipureintro
    refine (View.write_whole_univ _ _ _).trans ?_
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  isplitl [Hh1]
  · iexists _; isplitr; swap; · iexact Hh1
    ipureintro
    refine (View.write_whole_univ _ _ _).trans ?_
    sl_unfold_words
    simp (disch := decide) only [readAt_window, readCov_window, Memref.IsWhole.read_unread, window_full2, read_full2,
      View.writes_nil, window_same, window_miss0, window_miss1, read_rows8, read_rows512, read_rows512', read_rows3, read_cols6,
      read_cols4]
    rfl
  iexists _; iexact HW

end Cert.KernelIdeal.Mix
-- ==== Proof.Mix.Frame.lean ====
module

public import proofs.«01_k».proof.Proof.Mix.RunA
public import proofs.«01_k».proof.Proof.Mix.RunB
public import proofs.«01_k».proof.Proof.Mix.RunC
public import Idealize.ShloMosaic.Lib.Pipeline.FrameValue
public import Idealize.ShloMosaic.Lib.Claim

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch carries from point to point -/

/-- The blocks of the fifteen inputs that grid point `t` reads. -/
def blk (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩

/-- The state carried into grid point `n`: `St.zero` before the first, one `step` more after each. -/
def stAt (c : Dev nD) : ℕ → St F
  | 0 => St.zero
  | n + 1 => if h : n < cfg0.N then step (grid0.coords ⟨n, h⟩) (blk m c ⟨n, h⟩) (stAt c n) else stAt c n

theorem stAt_zero (c : Dev nD) : stAt m c 0 = St.zero := rfl

theorem stAt_succ (c : Dev nD) (t : Fin cfg0.N) :
    stAt m c (t.val + 1) = step (grid0.coords t) (blk m c t) (stAt m c t.val) := by
  rw [stAt, dif_pos t.isLt]

/-- The tile of `dz` that point `t` writes. -/
def dzAt (c : Dev nD) (t : Fin cfg0.N) : Vec F S512x3072 .bf16 := dzB (grid0.coords t) (blk m c t) (stAt m c t.val).dbuf

/-! ## The proof data -/

/-- The invariant after point `n`: the two carried scratch buffers at the state's values, the two results in HBM at
    some contents, which after the last point are the finished weight gradient and its rounding. -/
def carried (c : Dev nD) (n : ℕ) : sProp 𝕄 :=
  iprop(iprop((∃ d, owns (c : Thread nD τ) scM0_0 fullShare d)
      ∗ owns (c : Thread nD τ) scM0_1 fullShare (stAt m c n).dbuf
      ∗ owns (c : Thread nD τ) scM0_2 fullShare (stAt m c n).wacc
      ∗ (∃ d, owns (c : Thread nD τ) scM0_3 fullShare d))
    ∗ (∃ r, prngReg c r)
    ∗ iprop(semVal ((c : Thread nD τ), SemLoc.dma 30) 0 ∗ semVal ((c : Thread nD τ), SemLoc.dma 31) 0)
    ∗ iprop((∃ f, ⌜n = 16 → f = (stAt m c n).wacc⌝ ∗ hbPt0 c hbM0_0 f)
      ∗ (∃ f, ⌜n = 16 → f = k0_pay2 (stAt m c n).wacc⌝ ∗ hbPt0 c hbM0_1 f)))

/-- The invariant before point `n`. -/
def inv (c : Dev nD) : ℕ → sProp 𝕄
  | 0 => Pipeline.ΦDR osem0 spec0 H0 R0 (V m) c
  | n + 1 => carried m c (n + 1)

/-- The launch's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => dzAt m c t
    | ⟨16, _⟩ => (stAt m c (t.val + 1)).dcw
    | ⟨17, _⟩ => (stAt m c (t.val + 1)).dcb
    | ⟨18, _⟩ => (stAt m c (t.val + 1)).dgoc
    | ⟨19, _⟩ => (stAt m c (t.val + 1)).dgq
    | ⟨20, _⟩ => (stAt m c (t.val + 1)).dgk
    | ⟨_ + 21, h⟩ => absurd h (Nat.not_lt.2 (Nat.le_add_left _ _))
  Φ t := inv m c t.val
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = dzAt m c t := by dsimp only [dats]
theorem after_16 (c : Dev nD) (t : Fin cfg0.N) : (dats m 0 c).after 16 t = (stAt m c (t.val + 1)).dcw := by dsimp only [dats]
theorem after_17 (c : Dev nD) (t : Fin cfg0.N) : (dats m 0 c).after 17 t = (stAt m c (t.val + 1)).dcb := by dsimp only [dats]
theorem after_18 (c : Dev nD) (t : Fin cfg0.N) : (dats m 0 c).after 18 t = (stAt m c (t.val + 1)).dgoc := by dsimp only [dats]
theorem after_19 (c : Dev nD) (t : Fin cfg0.N) : (dats m 0 c).after 19 t = (stAt m c (t.val + 1)).dgq := by dsimp only [dats]
theorem after_20 (c : Dev nD) (t : Fin cfg0.N) : (dats m 0 c).after 20 t = (stAt m c (t.val + 1)).dgk := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d

theorem lt16 (t : Fin cfg0.N) : t.val < 16 := lt_of_lt_of_eq t.isLt (show cfg0.N = 16 from N_0)

/-- After the first point result 16's buffer still holds what the point before left in it. -/
theorem before_16 (c : Dev nD) (t : Fin cfg0.N) (ht : t.val ≠ 0) (d) : (dats m 0 c).before 16 t d = (stAt m c t.val).dcw := by
  have hN := lt16 t
  rw [Dat.before_out_kept _ 16 rfl t (by omega) (Bool.eq_false_iff.mpr fun h => by have := (flush0_16 _).mp h; dsimp only at this; omega)
    (fun _ => rfl) (fun _ _ => rfl)]
  dsimp only [dats]
  rw [show t.val - 1 + 1 = t.val by omega]
/-- After the first point result 17's buffer still holds what the point before left in it. -/
theorem before_17 (c : Dev nD) (t : Fin cfg0.N) (ht : t.val ≠ 0) (d) : (dats m 0 c).before 17 t d = (stAt m c t.val).dcb := by
  have hN := lt16 t
  rw [Dat.before_out_kept _ 17 rfl t (by omega) (Bool.eq_false_iff.mpr fun h => by have := (flush0_17 _).mp h; dsimp only at this; omega)
    (fun _ => rfl) (fun _ _ => rfl)]
  dsimp only [dats]
  rw [show t.val - 1 + 1 = t.val by omega]
/-- After the first point result 18's buffer still holds what the point before left in it. -/
theorem before_18 (c : Dev nD) (t : Fin cfg0.N) (ht : t.val ≠ 0) (d) : (dats m 0 c).before 18 t d = (stAt m c t.val).dgoc := by
  have hN := lt16 t
  rw [Dat.before_out_kept _ 18 rfl t (by omega) (Bool.eq_false_iff.mpr fun h => by have := (flush0_18 _).mp h; dsimp only at this; omega)
    (fun _ => rfl) (fun _ _ => rfl)]
  dsimp only [dats]
  rw [show t.val - 1 + 1 = t.val by omega]
/-- After the first point result 19's buffer still holds what the point before left in it. -/
theorem before_19 (c : Dev nD) (t : Fin cfg0.N) (ht : t.val ≠ 0) (d) : (dats m 0 c).before 19 t d = (stAt m c t.val).dgq := by
  have hN := lt16 t
  rw [Dat.before_out_kept _ 19 rfl t (by omega) (Bool.eq_false_iff.mpr fun h => by have := (flush0_19 _).mp h; dsimp only at this; omega)
    (fun _ => rfl) (fun _ _ => rfl)]
  dsimp only [dats]
  rw [show t.val - 1 + 1 = t.val by omega]
/-- After the first point result 20's buffer still holds what the point before left in it. -/
theorem before_20 (c : Dev nD) (t : Fin cfg0.N) (ht : t.val ≠ 0) (d) : (dats m 0 c).before 20 t d = (stAt m c t.val).dgk := by
  have hN := lt16 t
  rw [Dat.before_out_kept _ 20 rfl t (by omega) (Bool.eq_false_iff.mpr fun h => by have := (flush0_20 _).mp h; dsimp only at this; omega)
    (fun _ => rfl) (fun _ _ => rfl)]
  dsimp only [dats]
  rw [show t.val - 1 + 1 = t.val by omega]

/-! ## One grid point -/

/-- What the body is called with at point `t`, -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 0 in
theorem soundA (c : Dev nD) (t : Fin cfg0.N) (h0 : t.val = 0) :
    pre m c t ⊢ wp frame (wpE (defs₀ (F := F)) Variants.none (c : Thread nD τ) none) Set.univ (bodyAt0 t) (fun _ => post m c t) := by
  have hN := lt16 t
  have c0 : cond0_0 (grid0.coords t) := (hcond0_0 t).mpr (by omega)
  have c1 : ¬cond0_1 (grid0.coords t) := fun h => by have := (hcond0_1 t).mp h; omega
  have hz : stAt m c t.val = St.zero := by rw [h0]; rfl
  unfold pre post bodyAt0
  simp only [before_0, before_1, before_2, before_3, before_4, before_5, before_6, before_7, before_8, before_9, before_10, before_11, before_12, before_13, before_14]
  rw [show (dats m 0 c).Φ t.succ = carried m c (t.val + 1) from rfl, after_0, after_1, after_2, after_3, after_4, after_5, after_6, after_7, after_8, after_9, after_10, after_11, after_12, after_13, after_14, after_15, after_16, after_17, after_18, after_19, after_20, stAt_succ]
  unfold Dat.owesAt Pipeline.owesWithin
  rw [show (dats m 0 c).owed t.castSucc = 0 from rfl, show (dats m 0 c).owed t.succ = 0 from rfl]
  unfold carried; rw [stAt_succ]
  rw [show (dats m 0 c).Φ t.castSucc = Pipeline.ΦDR osem0 spec0 H0 R0 (V m) c from by
    rw [show (dats m 0 c).Φ t.castSucc = inv m c t.val from rfl, h0]; rfl, PhiDR0_eq]
  unfold dzAt; rw [hz]
  iintro ⟨⟨⟨HS0, HS1, HS2, HS3⟩, Hg, ⟨Hq0, Hq1⟩, -, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (runA c (grid0.coords t) (blk m c t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) c0 c1 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, H6, H7, H8, H9, H10, H11, H12, H13, H14, H15, H16, H17, H18, H19, H20, HS0, HS1, HS2, HS3, Hq0, Hq1, ⟨%f0, Hh0⟩, ⟨%f1, Hh1⟩, ⟨%W', HW'⟩⟩
  isplitl [HS0 HS1 HS2 HS3 Hg Hq0 Hq1 Hh0 Hh1]
  · isplitl [HS0 HS1 HS2 HS3]
    · isplitl [HS0]; · iexact HS0
      isplitl [HS1]; · iexact HS1
      isplitl [HS2]; · iexact HS2
      iexact HS3
    isplitl [Hg]; · iexact Hg
    isplitl [Hq0 Hq1]
    · isplitl [Hq0]; · iexact Hq0
      iexact Hq1
    isplitl [Hh0]
    · iexists f0; isplitr; · ipureintro; exact fun h => absurd h (by omega)
      iexact Hh0
    iexists f1; isplitr; · ipureintro; exact fun h => absurd h (by omega)
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

set_option maxHeartbeats 0 in
theorem soundB (c : Dev nD) (t : Fin cfg0.N) (h0 : t.val ≠ 0) (h1 : t.val ≠ 15) :
    pre m c t ⊢ wp frame (wpE (defs₀ (F := F)) Variants.none (c : Thread nD τ) none) Set.univ (bodyAt0 t) (fun _ => post m c t) := by
  have hN := lt16 t
  have c0 : ¬cond0_0 (grid0.coords t) := fun h => by have := (hcond0_0 t).mp h; omega
  have c1 : ¬cond0_1 (grid0.coords t) := fun h => by have := (hcond0_1 t).mp h; omega
  unfold pre post bodyAt0
  simp only [before_0, before_1, before_2, before_3, before_4, before_5, before_6, before_7, before_8, before_9, before_10, before_11, before_12, before_13, before_14, before_16 m c t h0, before_17 m c t h0, before_18 m c t h0, before_19 m c t h0, before_20 m c t h0]
  rw [show (dats m 0 c).Φ t.succ = carried m c (t.val + 1) from rfl, after_0, after_1, after_2, after_3, after_4, after_5, after_6, after_7, after_8, after_9, after_10, after_11, after_12, after_13, after_14, after_15, after_16, after_17, after_18, after_19, after_20, stAt_succ]
  unfold Dat.owesAt Pipeline.owesWithin
  rw [show (dats m 0 c).owed t.castSucc = 0 from rfl, show (dats m 0 c).owed t.succ = 0 from rfl]
  unfold carried; rw [stAt_succ]
  rw [show (dats m 0 c).Φ t.castSucc = carried m c t.val from by
    rw [show (dats m 0 c).Φ t.castSucc = inv m c t.val from rfl]; obtain ⟨n, hn⟩ := t; cases n with | zero => exact absurd rfl h0 | succ n => rfl]
  unfold dzAt carried
  iintro ⟨⟨⟨HS0, HS1, HS2, HS3⟩, Hg, ⟨Hq0, Hq1⟩, ⟨⟨%g0, -, Hh0⟩, ⟨%g1, -, Hh1⟩⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (runB c (grid0.coords t) (blk m c t) (stAt m c t.val) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) c0 c1 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexact H16
  isplitl [H17]; · iexact H17
  isplitl [H18]; · iexact H18
  isplitl [H19]; · iexact H19
  isplitl [H20]; · iexact H20
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hh0]; · iexists _; iexact Hh0
  isplitl [Hh1]; · iexists _; iexact Hh1
  isplitl [HW]; · iexact HW
  iintro ⟨H0, H1, H2, H3, H4, H5, H6, H7, H8, H9, H10, H11, H12, H13, H14, H15, H16, H17, H18, H19, H20, HS0, HS1, HS2, HS3, Hq0, Hq1, ⟨%f0, Hh0⟩, ⟨%f1, Hh1⟩, ⟨%W', HW'⟩⟩
  isplitl [HS0 HS1 HS2 HS3 Hg Hq0 Hq1 Hh0 Hh1]
  · isplitl [HS0 HS1 HS2 HS3]
    · isplitl [HS0]; · iexact HS0
      isplitl [HS1]; · iexact HS1
      isplitl [HS2]; · iexact HS2
      iexact HS3
    isplitl [Hg]; · iexact Hg
    isplitl [Hq0 Hq1]
    · isplitl [Hq0]; · iexact Hq0
      iexact Hq1
    isplitl [Hh0]
    · iexists f0; isplitr; · ipureintro; exact fun h => absurd h (by omega)
      iexact Hh0
    iexists f1; isplitr; · ipureintro; exact fun h => absurd h (by omega)
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

set_option maxHeartbeats 0 in
theorem soundC (c : Dev nD) (t : Fin cfg0.N) (h1 : t.val = 15) :
    pre m c t ⊢ wp frame (wpE (defs₀ (F := F)) Variants.none (c : Thread nD τ) none) Set.univ (bodyAt0 t) (fun _ => post m c t) := by
  have hN := lt16 t
  have h0 : t.val ≠ 0 := by omega
  have c0 : ¬cond0_0 (grid0.coords t) := fun h => by have := (hcond0_0 t).mp h; omega
  have c1 : cond0_1 (grid0.coords t) := (hcond0_1 t).mpr (by omega)
  unfold pre post bodyAt0
  simp only [before_0, before_1, before_2, before_3, before_4, before_5, before_6, before_7, before_8, before_9, before_10, before_11, before_12, before_13, before_14, before_16 m c t h0, before_17 m c t h0, before_18 m c t h0, before_19 m c t h0, before_20 m c t h0]
  rw [show (dats m 0 c).Φ t.succ = carried m c (t.val + 1) from rfl, after_0, after_1, after_2, after_3, after_4, after_5, after_6, after_7, after_8, after_9, after_10, after_11, after_12, after_13, after_14, after_15, after_16, after_17, after_18, after_19, after_20, stAt_succ]
  unfold Dat.owesAt Pipeline.owesWithin
  rw [show (dats m 0 c).owed t.castSucc = 0 from rfl, show (dats m 0 c).owed t.succ = 0 from rfl]
  unfold carried; rw [stAt_succ]
  rw [show (dats m 0 c).Φ t.castSucc = carried m c t.val from by
    rw [show (dats m 0 c).Φ t.castSucc = inv m c t.val from rfl]; obtain ⟨n, hn⟩ := t; cases n with | zero => exact absurd rfl h0 | succ n => rfl]
  unfold dzAt carried
  iintro ⟨⟨⟨HS0, HS1, HS2, HS3⟩, Hg, ⟨Hq0, Hq1⟩, ⟨⟨%g0, -, Hh0⟩, ⟨%g1, -, Hh1⟩⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (runC c (grid0.coords t) (blk m c t) (stAt m c t.val) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) c0 c1 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexact H16
  isplitl [H17]; · iexact H17
  isplitl [H18]; · iexact H18
  isplitl [H19]; · iexact H19
  isplitl [H20]; · iexact H20
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hh0]; · iexists _; iexact Hh0
  isplitl [Hh1]; · iexists _; iexact Hh1
  isplitl [HW]; · iexact HW
  iintro ⟨H0, H1, H2, H3, H4, H5, H6, H7, H8, H9, H10, H11, H12, H13, H14, H15, H16, H17, H18, H19, H20, HS0, HS1, HS2, HS3, Hq0, Hq1, ⟨%f0, %e0, Hh0⟩, ⟨%f1, %e1, Hh1⟩, ⟨%W', HW'⟩⟩
  isplitl [HS0 HS1 HS2 HS3 Hg Hq0 Hq1 Hh0 Hh1]
  · isplitl [HS0 HS1 HS2 HS3]
    · isplitl [HS0]; · iexact HS0
      isplitl [HS1]; · iexact HS1
      isplitl [HS2]; · iexact HS2
      iexact HS3
    isplitl [Hg]; · iexact Hg
    isplitl [Hq0 Hq1]
    · isplitl [Hq0]; · iexact Hq0
      iexact Hq1
    isplitl [Hh0]
    · iexists f0; isplitr; · ipureintro; exact fun _ => e0
      iexact Hh0
    iexists f1; isplitr; · ipureintro; exact fun _ => e1
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem sound (c : Dev nD) (t : Fin cfg0.N) :
    pre m c t ⊢ wp frame (wpE (defs₀ (F := F)) Variants.none (c : Thread nD τ) none) Set.univ (bodyAt0 t) (fun _ => post m c t) := by
  by_cases h0 : t.val = 0
  · exact soundA m c t h0
  · by_cases h1 : t.val = 15
    · exact soundC m c t h1
    · exact soundB m c t h0 h1

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound m c t) rfl .rfl fun _ => .rfl

/-! ## The launch -/

/-- The finished weight gradient. -/
def gw (c : Dev nD) : Vec F S1024x3072 .f32 := (stAt m c 16).wacc

/-- The contents of the unscoped buffers after the last point: the two results in HBM at the finished gradient. -/
def endAt (c : Dev nD) : (b : Ref sig .tc) → Buf (Elt F) ((c.tc : Thread nD τ).loc b) :=
  Function.update (Function.update (V m c) main_v30_6 (gw m c)) main_v30_7 (k0_pay2 (gw m c))

theorem endAt_6 (c : Dev nD) : endAt m c main_v30_6 = gw m c := by
  unfold endAt
  rw [Function.update_of_ne (show (main_v30_6 : Ref sig .tc) ≠ main_v30_7 by decide), Function.update_self]

theorem endAt_7 (c : Dev nD) : endAt m c main_v30_7 = k0_pay2 (gw m c) := by unfold endAt; rw [Function.update_self]

theorem routed_eq (c : Dev nD) : (Pipeline.routed R0 c (endAt m c) : sProp 𝕄)
    = iprop(hbPt0 c hbM0_0 (gw m c) ∗ hbPt0 c hbM0_1 (k0_pay2 (gw m c))) := by
  unfold Pipeline.routed; rw [BI.bigSep_eq_bigSepL_of_eq [main_v30_6, main_v30_7] (by decide) (by decide)]
  simp only [bigSepL_cons_cons, bigSepL_singleton, endAt_6, endAt_7]
  rfl

theorem enter (c : Dev nD) : Pipeline.ΦDRG osem0 spec0 H0 R0 (V m) (V m) c ⊢ (dats m 0 c).Φ 0 := by
  rw [show (dats m 0 c).Φ 0 = Pipeline.ΦDR osem0 spec0 H0 R0 (V m) c from rfl]
  exact Pipeline.ΦDRG_ΦDR osem0 spec0 H0 R0 (V m) (V m) c

theorem leave (c : Dev nD) : (dats m 0 c).Φ (Fin.last cfg0.N) ⊢ Pipeline.ΦDRG osem0 spec0 H0 R0 (V m) (endAt m) c := by
  rw [show (dats m 0 c).Φ (Fin.last cfg0.N) = carried m c 16 from by
    rw [show (dats m 0 c).Φ (Fin.last cfg0.N) = inv m c (Fin.last cfg0.N).val from rfl, Fin.val_last,
      show cfg0.N = 16 from N_0]; rfl]
  rw [Pipeline.ΦDRG_eq, scopedRest0_eq, ownSems00_eq, hbmPts0_eq, routed_eq]
  unfold carried
  simp only [scM0_0, scM0_1, scM0_2, scM0_3, owns_whole]
  iintro ⟨⟨HS0, HS1, HS2, HS3⟩, Hg, ⟨Hq0, Hq1⟩, ⟨⟨%g0, %e0, Hh0⟩, ⟨%g1, %e1, Hh1⟩⟩⟩
  rw [show g0 = gw m c from e0 trivial, show g1 = k0_pay2 (gw m c) from e1 trivial]
  isplitl [HS0 HS1 HS2 HS3]
  · isplitl [HS0]; · iexact HS0
    isplitl [HS1]; · iexists _; iexact HS1
    isplitl [HS2]; · iexists _; iexact HS2
    iexact HS3
  isplitl [Hg]; · iexact Hg
  isplitl [Hq0 Hq1]
  · isplitl [Hq0]; · iexact Hq0
    iexact Hq1
  isplitr; · iempintro
  isplitl [Hh0]; · iexact Hh0
  iexact Hh1

set_option backward.isDefEq.respectTransparency.types false in
/-- Every run ends with each windowed array at what its points wrote, the two results in HBM at the finished weight
    gradient, every other buffer as it was, and every semaphore at zero. -/
theorem run : θ_run defs (onTc (τ := τ) (main (F := F))) (s₀ m ρ)
    (fun r => Pipeline.FramePostRG cfgs (dats m) 0 R0 (V m) (endAt m) r ∧ r.2.sem = fun _ => 0) :=
  Pipeline.θ_run_frame_dmaRG_shared (Q' := _) cfgs (dats m) (0 : Fin 1) launch₀0 osem0 defs₀ Variants.none ownSemFacts0 H0 R0 H0_sub R0_sub m ρ main
    (hbody := fun c => (obligation m c).loose) (hq := fun _ _ _ => rfl) (howed := fun _ _ => rfl) (V := V m)
    (hmain := hmain m Variants.none) (hA := A_eq m) (G := endAt m) (hin := enter m) (hout := leave m)

/-- Every run leaves the argument arrays as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) ((θ_run defs _ _).mono (fun _ h => h.1.toR) (run m ρ)))
    ((θ_run defs _ _).mono (fun _ h => h.2) (run m ρ))

end Cert.KernelIdeal.Mix
-- ==== Proof.Mix.Bits.lean ====
module

public import proofs.«01_k».proof.Defs
public import proofs.«01_k».proof.Proof.Gen.Kernel
public import proofs.«01_k».proof.Proof.Gen.KernelIdeal
public import proofs.«01_k».proof.Proof.Mix.Frame

@[expose] public section

set_option maxHeartbeats 4000000
set_option maxRecDepth 16384

noncomputable section

namespace Cert.KernelIdeal.Mix

open Idealize.ShloMosaic Idealize.SL.Sem

/-- The bodies of the two texts are the same, label by label. -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l
  match l with
  | 0 => funext a; rfl

theorem defs_eq : @Cert.Kernel.defs Bits _ Cert.Kernel.Gen.facts = @Cert.KernelIdeal.defs Bits _ Cert.KernelIdeal.Gen.facts :=
  congrArg (Pipeline.defs (@Cert.KernelIdeal.pcfgs Bits Cert.KernelIdeal.Gen.facts)) bodies_eq

/-- The kernel over bits: its text is the ideal kernel's, whose run is proved over any float values. -/
theorem frame_kernel : Cert.quiescent_Kernel (hKernel := Cert.Kernel.Gen.facts) := fun m ρ _ => by
  rw [defs_eq]
  exact (θ_run Cert.KernelIdeal.defs _ _).mono (fun _ h => h) (frame (F := Bits) m ρ)

end Cert.KernelIdeal.Mix

end
-- ==== Proof.Mix.Norm.lean ====
module

public import Idealize.ShloMosaic.PureOps.Ideal.Laws

@[expose] public section

noncomputable section

namespace Cert.Mix

open Idealize.ShloMosaic

/-- The constant under the norms' roots. -/
def eps : EReal := Ideal.ofBits .f32 0x358637BD#32

theorem eps_eq : ∃ e : ℝ, 0 < e ∧ eps = (e : EReal) := by
  refine ⟨8796093 / 8796093022208, by norm_num, ?_⟩
  unfold eps
  simp [Ideal.ofBits, Ideal.ieee, -EReal.coe_mul]
  norm_num

section Row

variable {n : ℕ} (c : ℝ) (x d : Fin n → EReal) (j : Fin n)

/-- The mean of the squares, and the norm's root. -/
def ms : EReal := Ideal.div (∑ k, x k * x k) c + eps
def rt : EReal := Ideal.rsqrt (ms c x)

/-- The backward pass of a norm, from the normed values. -/
def back : EReal := rt c x * (d j - x j * rt c x * Ideal.div (∑ k, d k * (x k * rt c x)) c)

/-- The derivative of the mean of the squares times the cotangent. -/
def coef : EReal := Ideal.div ((∑ k, x k * d k) * (((-1 / 2 : ℝ) : EReal) * Ideal.div (rt c x) (ms c x))) c

/-- The backward pass of a norm, by the product rule. -/
def backR : EReal := d j * rt c x + x j * coef c x d + coef c x d * x j

theorem real_mul_sum {ι : Type} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

theorem real_mul_add_self (u : ℝ) (s : EReal) : (u : EReal) * s + (u : EReal) * s = ((u + u : ℝ) : EReal) * s := by
  rcases lt_trichotomy u 0 with h | h | h
  · induction s with
    | bot => rw [EReal.coe_mul_bot_of_neg h, EReal.coe_mul_bot_of_neg (by linarith)]; rfl
    | coe s => rw [← EReal.coe_mul, ← EReal.coe_mul, ← EReal.coe_add, add_mul]
    | top => rw [EReal.coe_mul_top_of_neg h, EReal.coe_mul_top_of_neg (by linarith)]; rfl
  · subst h; simp
  · induction s with
    | bot => rw [EReal.coe_mul_bot_of_pos h, EReal.coe_mul_bot_of_pos (by linarith)]; rfl
    | coe s => rw [← EReal.coe_mul, ← EReal.coe_mul, ← EReal.coe_add, add_mul]
    | top => rw [EReal.coe_mul_top_of_pos h, EReal.coe_mul_top_of_pos (by linarith)]; rfl

theorem coe_sum_real {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem mul_self_nonneg' (a : EReal) : 0 ≤ a * a := by
  induction a with
  | bot => simp
  | coe a => rw [← EReal.coe_mul]; exact EReal.coe_nonneg.mpr (mul_self_nonneg a)
  | top => simp

theorem rt_of_top (hc : 0 < c) (k : Fin n) (hk : x k = ⊤ ∨ x k = ⊥) : ms c x = ⊤ ∧ rt c x = 0 := by
  have hs : ∑ k, x k * x k = ⊤ := by
    refine top_le_iff.mp ?_
    have h := Finset.single_le_sum (f := fun k => x k * x k) (fun k _ => mul_self_nonneg' (x k)) (Finset.mem_univ k)
    refine le_trans (le_of_eq ?_) h
    rcases hk with h | h <;> simp [h]
  obtain ⟨e, he, hE⟩ := eps_eq
  have hm : ms c x = ⊤ := by
    unfold ms
    rw [hs, Ideal.div_coe (ne_of_gt hc), EReal.top_mul_coe_of_pos (by positivity), hE, EReal.top_add_coe]
  exact ⟨hm, by unfold rt; rw [hm]; rfl⟩

/-- The two forms of the backward pass agree at every extended real. -/
theorem back_eq (hc : 0 < c) : back c x d j = backR c x d j := by
  by_cases hx : ∃ k, x k = ⊤ ∨ x k = ⊥
  · obtain ⟨k, hk⟩ := hx
    obtain ⟨hm, hr⟩ := rt_of_top c x hc k hk
    have h0 : Ideal.div (0 : EReal) (⊤ : EReal) = 0 := by simp [Ideal.div]
    have h1 : Ideal.div (0 : EReal) (c : EReal) = 0 := by rw [Ideal.div_coe (ne_of_gt hc), zero_mul]
    have ht : coef c x d = 0 := by unfold coef; rw [hm, hr, h0, mul_zero, mul_zero, h1]
    unfold back backR
    rw [ht, hr]; simp
  · have hx' : ∀ k, ∃ a : ℝ, x k = a := fun k => by
      have h1 : x k ≠ ⊤ := fun h => hx ⟨k, .inl h⟩
      have h2 : x k ≠ ⊥ := fun h => hx ⟨k, .inr h⟩
      exact ⟨(x k).toReal, (EReal.coe_toReal h1 h2).symm⟩
    choose a ha using hx'
    obtain ⟨e, he, hE⟩ := eps_eq
    have hs : ∑ k, x k * x k = ((∑ k, a k * a k : ℝ) : EReal) := by
      rw [coe_sum_real]
      exact Finset.sum_congr rfl fun k _ => by rw [ha k, EReal.coe_mul]
    obtain ⟨m, hm0, hm⟩ : ∃ m : ℝ, 0 < m ∧ ms c x = m := by
      refine ⟨(∑ k, a k * a k) * (1 / c) + e, ?_, ?_⟩
      · have : 0 ≤ ∑ k, a k * a k := Finset.sum_nonneg fun k _ => mul_self_nonneg _
        positivity
      · unfold ms; rw [hs, Ideal.div_coe (ne_of_gt hc), hE, EReal.coe_add, EReal.coe_mul]
    obtain ⟨r, hr0, hrm, hr⟩ : ∃ r : ℝ, 0 < r ∧ r * r * m = 1 ∧ rt c x = r := by
      refine ⟨(Real.sqrt m)⁻¹, by positivity, ?_, ?_⟩
      · have h := Real.mul_self_sqrt hm0.le
        have h' : Real.sqrt m ≠ 0 := by positivity
        field_simp
        nlinarith
      · unfold rt; rw [hm, Ideal.rsqrt_coe, if_neg (not_lt.mpr hm0.le), if_neg (ne_of_gt hm0)]
    have hS : ∑ k, d k * (x k * rt c x) = (r : EReal) * ∑ k, x k * d k := by
      rw [real_mul_sum _ r hr0.le]
      exact Finset.sum_congr rfl fun k _ => by rw [hr]; ac_rfl
    have hdm : Ideal.div (r : EReal) (m : EReal) = ((r * (1 / m) : ℝ) : EReal) := by
      rw [Ideal.div_coe (ne_of_gt hm0), EReal.coe_mul]
    have hcoef : coef c x d = ((-1 / 2 * (r * (1 / m)) * (1 / c) : ℝ) : EReal) * ∑ k, x k * d k := by
      unfold coef
      rw [hr, hm, hdm, Ideal.div_coe (ne_of_gt hc), ← EReal.coe_mul, EReal.coe_mul _ (1 / c)]
      ac_rfl
    unfold back backR
    rw [hcoef, hS, hr, Ideal.div_coe (ne_of_gt hc), ha j]
    generalize (∑ k, x k * d k) = S
    rw [EReal.mul_sub_of_nonneg_of_ne_top (EReal.coe_nonneg.mpr hr0.le) (EReal.coe_ne_top r), sub_eq_add_neg, add_assoc]
    have e1 : (a j : EReal) * (((-1 / 2 * (r * (1 / m)) * (1 / c) : ℝ) : EReal) * S)
        = ((a j * (-1 / 2 * (r * (1 / m)) * (1 / c)) : ℝ) : EReal) * S := by rw [EReal.coe_mul (a j)]; ac_rfl
    have e2 : (((-1 / 2 * (r * (1 / m)) * (1 / c) : ℝ) : EReal) * S) * (a j : EReal)
        = ((a j * (-1 / 2 * (r * (1 / m)) * (1 / c)) : ℝ) : EReal) * S := by rw [EReal.coe_mul (a j)]; ac_rfl
    have e3 : -((r : EReal) * ((a j : EReal) * (r : EReal) * ((r : EReal) * S * ((1 / c : ℝ) : EReal))))
        = ((-(r * (a j * r * (r * (1 / c)))) : ℝ) : EReal) * S := by
      rw [EReal.coe_neg, neg_mul]
      congr 1
      simp only [EReal.coe_mul]
      ac_rfl
    rw [e1, e2, e3, real_mul_add_self]
    congr 1
    · exact mul_comm _ _
    · congr 2
      have hm' : 1 / m = r * r := by field_simp; linarith
      rw [hm']; ring

end Row

end Cert.Mix
-- ==== Proof.Mix.Spec.lean ====
module

public import proofs.«01_k».proof.Proof.Mix.Norm

@[expose] public section

noncomputable section

namespace Cert.Mix

open Idealize.ShloMosaic

/-- The arrays the backward pass reads, row by row: `z`'s six column blocks, the four cotangents, the layer's input, and
the weights. -/
structure Arr where
  zb : ℕ → Fin 512 → EReal
  zc : ℕ → Fin 512 → EReal
  zx : ℕ → Fin 512 → EReal
  zq : ℕ → Fin 512 → EReal
  zk : ℕ → Fin 512 → EReal
  dy : ℕ → Fin 512 → EReal
  dq : ℕ → Fin 512 → EReal
  dk : ℕ → Fin 512 → EReal
  dv : ℕ → Fin 512 → EReal
  x : ℕ → Fin 1024 → EReal
  w : Fin 3 → Fin 512 → EReal
  b : Fin 512 → EReal
  go : Fin 512 → EReal
  gq : Fin 512 → EReal
  gk : Fin 512 → EReal
  gx : Fin 1024 → EReal

/-- A lane's head, its place in the head, and a row's part in a head. -/
def hOf (j : Fin 512) : Fin 8 := ⟨j.val / 64, by omega⟩
def oOf (j : Fin 512) : Fin 64 := ⟨j.val % 64, Nat.mod_lt _ (by decide)⟩
def lane (p : Fin 8) (o : Fin 64) : Fin 512 := ⟨64 * p.val + o.val, by omega⟩
def part (f : Fin 512 → EReal) (p : Fin 8) : Fin 64 → EReal := fun o => f (lane p o)

theorem lane_eq (j : Fin 512) : lane (hOf j) (oOf j) = j := Fin.ext (by show 64 * (j.val / 64) + j.val % 64 = j.val; omega)

/-- The scale of the queries. -/
def eighth : EReal := Ideal.ofBits .f32 0x3E000000#32

variable (A : Arr)

def u (g : ℕ) (j : Fin 512) : EReal := A.zc g j * A.zx g j
/-- `u` moved down by `k` rows, zero above. -/
def us (k g : ℕ) (j : Fin 512) : EReal := if g < k then 0 else u A (g - k) j
def cv (g : ℕ) (j : Fin 512) : EReal := A.w 0 j * us A 2 g j + A.w 1 j * us A 1 g j + A.w 2 j * us A 0 g j + A.b j
def y (g : ℕ) (j : Fin 512) : EReal := A.zb g j * cv A g j
def yr (g : ℕ) : EReal := rt 512 (y A g)
def yd (g : ℕ) (j : Fin 512) : EReal := A.dy g j * A.go j
def dyc (g : ℕ) (j : Fin 512) : EReal := back 512 (y A g) (yd A g) j
/-- The convolution's gradient, zero below the last row. -/
def dcv (g : ℕ) (j : Fin 512) : EReal := if g < 8192 then dyc A g j * A.zb g j else 0
def du (g : ℕ) (j : Fin 512) : EReal := A.w 2 j * dcv A g j + A.w 1 j * dcv A (g + 1) j + A.w 0 j * dcv A (g + 2) j

/-- A head norm's root, normed value and backward pass, of the row `z` at lane `j`. -/
def hrt (z : Fin 512 → EReal) (j : Fin 512) : EReal := rt 64 (part z (hOf j))
def hy (z : Fin 512 → EReal) (j : Fin 512) : EReal := z j * hrt z j
def hback (z d : Fin 512 → EReal) (j : Fin 512) : EReal := back 64 (part z (hOf j)) (part d (hOf j)) (oOf j)

def qd (g : ℕ) (j : Fin 512) : EReal := A.dq g j * eighth
def dzq (g : ℕ) (j : Fin 512) : EReal := hback (A.zq g) (fun j => qd A g j * A.gq j) j
def dzk (g : ℕ) (j : Fin 512) : EReal := hback (A.zk g) (fun j => A.dk g j * A.gk j) j

/-- The six column blocks of the gradient of `z`, and its lane `l`. -/
def dzc (g : ℕ) (p : ℕ) (j : Fin 512) : EReal :=
  match p with
  | 0 => dyc A g j * cv A g j
  | 1 => du A g j * A.zx g j
  | 2 => du A g j * A.zc g j
  | 3 => dzq A g j
  | 4 => dzk A g j
  | _ => A.dv g j
def dz (g : ℕ) (l : Fin 3072) : EReal := dzc A g (l.val / 512) ⟨l.val % 512, Nat.mod_lt _ (by decide)⟩

/-- The normed input. -/
def h (g : ℕ) (k : Fin 1024) : EReal := A.x g k * rt 1024 (A.x g) * A.gx k

/-- One row's share of the gradients summed over the rows. -/
def tw (g : ℕ) (k : Fin 3) (j : Fin 512) : EReal := dcv A g j * us A (2 - k.val) g j
def tn (g : ℕ) (j : Fin 512) : EReal := A.dy g j * (y A g j * yr A g)
def tq (g : ℕ) (j : Fin 512) : EReal := qd A g j * hy (A.zq g) j
def tk (g : ℕ) (j : Fin 512) : EReal := A.dk g j * hy (A.zk g) j
def tg (g : ℕ) (k : Fin 1024) (l : Fin 3072) : EReal := h A g k * dz A g l

/-- The sum over all rows of a share. -/
def total (f : ℕ → EReal) : EReal := ∑ g ∈ Finset.range 8192, f g

/-- The sum over the last `n` tiles of 512 rows. -/
def tiles (f : ℕ → EReal) (n : ℕ) : EReal := ∑ t ∈ Finset.range n, ∑ r ∈ Finset.range 512, f (512 * (15 - t) + r)

theorem tiles_zero (f : ℕ → EReal) : tiles f 0 = 0 := rfl
theorem tiles_succ (f : ℕ → EReal) (n : ℕ) : tiles f (n + 1) = tiles f n + ∑ r : Fin 512, f (512 * (15 - n) + r.val) := by
  unfold tiles; rw [Finset.sum_range_succ, Finset.sum_range (fun r => f (512 * (15 - n) + r))]

theorem sum_range_mul (f : ℕ → EReal) (n : ℕ) :
    ∑ t ∈ Finset.range n, ∑ r ∈ Finset.range 512, f (512 * t + r) = ∑ g ∈ Finset.range (512 * n), f g := by
  induction n with
  | zero => rfl
  | succ n ih => rw [Finset.sum_range_succ, ih, Nat.mul_succ, Finset.sum_range_add]

theorem tiles_all (f : ℕ → EReal) : tiles f 16 = total f := by
  unfold tiles total
  rw [show (8192 : ℕ) = 512 * 16 from rfl, ← sum_range_mul]
  exact Finset.sum_range_reflect (fun t => ∑ r ∈ Finset.range 512, f (512 * t + r)) 16

/-- The mean over a head by the matrix of 64ths. -/
def ind (k j : Fin 512) : EReal := if hOf k = hOf j then (((1 / 64 : ℝ)) : EReal) else 0

theorem sum_lanes (f : Fin 512 → EReal) : ∑ k, f k = ∑ p, ∑ o, f (lane p o) := by
  rw [← Fintype.sum_prod_type' (fun p o => f (lane p o))]
  symm
  exact Fintype.sum_equiv ⟨fun q : Fin 8 × Fin 64 => lane q.1 q.2, fun j => (hOf j, oOf j), fun q => by
      refine Prod.ext (Fin.ext ?_) (Fin.ext ?_)
      · show (64 * q.1.val + q.2.val) / 64 = q.1.val; omega
      · show (64 * q.1.val + q.2.val) % 64 = q.2.val; omega, fun j => lane_eq j⟩ _ _ fun _ => rfl

theorem hOf_lane (p : Fin 8) (o : Fin 64) : hOf (lane p o) = p := Fin.ext (by show (64 * p.val + o.val) / 64 = p.val; omega)

theorem head_mean (f : Fin 512 → EReal) (j : Fin 512) : ∑ k, f k * ind k j = Ideal.div (∑ o, f (lane (hOf j) o)) (64 : ℝ) := by
  rw [sum_lanes, Finset.sum_eq_single (hOf j), Ideal.div_coe (by norm_num), mul_comm _ (((1 / 64 : ℝ)) : EReal),
    real_mul_sum _ _ (by norm_num)]
  · exact Finset.sum_congr rfl fun o _ => by rw [ind, if_pos (hOf_lane _ _)]; exact mul_comm _ _
  · intro p _ hp
    exact Finset.sum_eq_zero fun o _ => by rw [ind, if_neg (by rw [hOf_lane]; exact hp), mul_zero]
  · exact fun hn => absurd (Finset.mem_univ _) hn

/-- A head norm's parts by the matrix of 64ths. -/
theorem hrt_ind (z : Fin 512 → EReal) (j : Fin 512) : Ideal.rsqrt ((∑ k, z k * z k * ind k j) + eps) = hrt z j := by
  rw [head_mean (fun k => z k * z k) j]; rfl

theorem hback_ind (z d : Fin 512 → EReal) (j : Fin 512) :
    hrt z j * (d j - hy z j * ∑ k, d k * hy z k * ind k j) = hback z d j := by
  rw [head_mean (fun k => d k * hy z k) j]
  unfold hback back
  have e : ∀ f : Fin 512 → EReal, part f (hOf j) (oOf j) = f j := fun f => congrArg f (lane_eq j)
  rw [e, e]
  have e2 : ∀ o, hy z (lane (hOf j) o) = part z (hOf j) o * rt 64 (part z (hOf j)) := fun o => by
    unfold hy hrt; rw [hOf_lane]; rfl
  simp only [e2]
  rfl

end Cert.Mix
-- ==== Proof.Mix.Pays.lean ====
module

public import proofs.«01_k».proof.Proof.Mix.Step
public import proofs.«01_k».proof.Proof.Mix.Spec
public import Idealize.ShloMosaic.Lib.Pointwise

@[expose] public section

set_option maxRecDepth 16384

noncomputable section

namespace Cert.KernelIdeal.Mix

open Cert.KernelIdeal Cert.KernelIdeal.Gen
open Idealize.ShloMosaic
open VecWindow (window put)

/-! The payloads of a grid point, read at an index over the extended reals. -/

local notation "V" s => FVec Ideal s FTy.f32

variable (r j : Fin 512) (v5 v10 v26 v28 v54 v53 v64 v70 : FVec Ideal S512x512 .f32) (v51 : FVec Ideal S512x1 .f32)
  (a0 a1 a2 a3 a4 : FVec Ideal S1x512 .f32)

theorem pay13_at : k0_pay13 (F := Ideal) v5 v10 (ix2 r j) = v5 (ix2 r j) * v10 (ix2 r j) := by pointwise [k0_pay13, k0_pay11, k0_pay12]

theorem pay18_at : k0_pay18 (F := Ideal) v10 v26 v28 a0 a1 a2 a3 (ix2 r j)
    = a0 (ix2 0 j) * v28 (ix2 r j) + a1 (ix2 0 j) * v26 (ix2 r j) + a2 (ix2 0 j) * v10 (ix2 r j) + a3 (ix2 0 j) := by
  pointwise [k0_pay18]

/-- The divisors as reals. -/
theorem lit512 : Ideal.ofBits .f32 0x44000000#32 = ((512 : ℝ) : EReal) := by
  simp [Ideal.ofBits, Ideal.ieee, -EReal.coe_mul]; norm_num
theorem lit1024 : Ideal.ofBits .f32 0x44800000#32 = ((1024 : ℝ) : EReal) := by
  simp [Ideal.ofBits, Ideal.ieee, -EReal.coe_mul]; norm_num

theorem pay19_at : k0_pay19 (F := Ideal) v5 v10 v26 v28 a0 a1 a2 a3 (ix2 r j) = v5 (ix2 r j) * k0_pay18 (F := Ideal) v10 v26 v28 a0 a1 a2 a3 (ix2 r j) := by
  pointwise [k0_pay19]

theorem pay20_at : k0_pay20 (F := Ideal) v5 v10 v26 v28 a0 a1 a2 a3 (ix2 r 0)
    = Cert.Mix.rt 512 (fun j => k0_pay19 (F := Ideal) v5 v10 v26 v28 a0 a1 a2 a3 (ix2 r j)) := by
  pointwise [k0_pay20]
  rw [lit512]; rfl

theorem pay21_at : k0_pay21 (F := Ideal) v5 v10 v26 v28 a0 a1 a2 a3 (ix2 r j)
    = k0_pay19 (F := Ideal) v5 v10 v26 v28 a0 a1 a2 a3 (ix2 r j) * k0_pay20 (F := Ideal) v5 v10 v26 v28 a0 a1 a2 a3 (ix2 r 0) := by
  pointwise [k0_pay21]

theorem pay22_at : k0_pay22 (F := Ideal) v5 v10 v26 v28 a0 a1 a2 a3 v54 a4 (ix2 0 j)
    = a4 (ix2 0 j) + ∑ r, v54 (ix2 r j) * k0_pay21 (F := Ideal) v5 v10 v26 v28 a0 a1 a2 a3 (ix2 r j) := by
  pointwise [k0_pay22]

theorem pay23_at : k0_pay23 (F := Ideal) v54 a0 (ix2 r j) = v54 (ix2 r j) * a0 (ix2 0 j) := by
  pointwise [k0_pay23]

theorem pay24_at : k0_pay24 (F := Ideal) v5 v10 v26 v28 a0 a1 a2 a3 v54 a4 (ix2 r j)
    = Ideal.div (∑ k, k0_pay23 (F := Ideal) v54 a4 (ix2 r k) * k0_pay21 (F := Ideal) v5 v10 v26 v28 a0 a1 a2 a3 (ix2 r k)) ((512 : ℝ) : EReal) := by
  pointwise [k0_pay24]
  rw [lit512]

theorem pay25_at : k0_pay25 (F := Ideal) v51 v53 v64 v70 (ix2 r j) = v51 (ix2 r 0) * (v64 (ix2 r j) - v53 (ix2 r j) * v70 (ix2 r j)) := by
  pointwise [k0_pay25]

theorem pay26_at : k0_pay26 (F := Ideal) v5 v51 v53 v64 v70 (ix2 r j) = k0_pay25 (F := Ideal) v51 v53 v64 v70 (ix2 r j) * v5 (ix2 r j) := by
  pointwise [k0_pay26]

theorem pay27_at : k0_pay27 (F := Ideal) v5 v51 v53 v64 v70 a0 (ix2 0 j) = a0 (ix2 0 j) + ∑ r, k0_pay26 (F := Ideal) v5 v51 v53 v64 v70 (ix2 r j) := by
  pointwise [k0_pay27]
theorem pay28_at : k0_pay28 (F := Ideal) v5 v28 v51 v53 v64 v70 a0 (ix2 0 j)
    = a0 (ix2 0 j) + ∑ r, k0_pay26 (F := Ideal) v5 v51 v53 v64 v70 (ix2 r j) * v28 (ix2 r j) := by
  pointwise [k0_pay28]
theorem pay29_at : k0_pay29 (F := Ideal) v5 v28 v51 v53 v64 v70 a0 (ix2 0 j)
    = a0 (ix2 0 j) + ∑ r, k0_pay26 (F := Ideal) v5 v51 v53 v64 v70 (ix2 r j) * v28 (ix2 r j) := by
  pointwise [k0_pay29]
theorem pay30_at : k0_pay30 (F := Ideal) v5 v28 v51 v53 v64 v70 a0 (ix2 0 j)
    = a0 (ix2 0 j) + ∑ r, k0_pay26 (F := Ideal) v5 v51 v53 v64 v70 (ix2 r j) * v28 (ix2 r j) := by
  pointwise [k0_pay30]

/-! The rotated tiles: rows one and two up in the buffer with the rows before, one and two down in the one with the rows
after. -/

theorem pay16_at (b : FVec Ideal S520x512 .f32) : k0_pay16 (F := Ideal) b (ix2 r j) = b (ix2 ⟨7 + r.val, by omega⟩ j) := by
  pointwise [k0_pay16]
  exact congrArg (fun x => b (ix2 x j)) (Fin.ext (by show (8 + r.val + 520 - 1) % 520 = 7 + r.val; omega))
theorem pay17_at (b : FVec Ideal S520x512 .f32) : k0_pay17 (F := Ideal) b (ix2 r j) = b (ix2 ⟨6 + r.val, by omega⟩ j) := by
  pointwise [k0_pay17]
  exact congrArg (fun x => b (ix2 x j)) (Fin.ext (by show (8 + r.val + 520 - 2) % 520 = 6 + r.val; omega))
theorem pay32_at (b : FVec Ideal S520x512 .f32) : k0_pay32 (F := Ideal) a0 a1 a2 v5 b (ix2 r j)
    = a2 (ix2 0 j) * v5 (ix2 r j) + a1 (ix2 0 j) * b (ix2 ⟨r.val + 1, by omega⟩ j) + a0 (ix2 0 j) * b (ix2 ⟨r.val + 2, by omega⟩ j) := by
  pointwise [k0_pay32]
  have e1 : (r.val + 520 - 519) % 520 = r.val + 1 := by omega
  have e2 : (r.val + 520 - 518) % 520 = r.val + 2 := by omega
  simp only [e1, e2]

theorem pay14_at (i : grid0.Coords) (h : Fin 8) (p q : FVec Ideal S8x512 .f32) : k0_pay14 (F := Ideal) i p q (ix2 h j)
    = if (i 0).val < 15 then p (ix2 h j) * q (ix2 h j) else 0 := by
  pointwise [k0_pay14]
  have h : ∀ t : Fin 16, Scalar.cmpi .slt (BitVec.ofNat 32 t.val) 15#32 = if t.val < 15 then 1#1 else 0#1 := by decide
  rw [h (i 0)]
  split_ifs <;> rfl

theorem pay34_at : k0_pay34 (F := Ideal) v5 v10 (ix2 r j) = v10 (ix2 r j) * v5 (ix2 r j) := by pointwise [k0_pay34]
theorem pay35_at (b : FVec Ideal S520x512 .f32) : k0_pay35 (F := Ideal) v5 a0 a1 a2 v10 b (ix2 r j) = k0_pay32 (F := Ideal) a0 a1 a2 v10 b (ix2 r j) * v5 (ix2 r j) := by
  pointwise [k0_pay35]
theorem pay36_at (b : FVec Ideal S520x512 .f32) : k0_pay36 (F := Ideal) v5 a0 a1 a2 v10 b (ix2 r j) = k0_pay32 (F := Ideal) a0 a1 a2 v10 b (ix2 r j) * v5 (ix2 r j) := by
  pointwise [k0_pay36]
theorem pay51_at : k0_pay51 (F := Ideal) v5 (ix2 r j) = v5 (ix2 r j) := by pointwise [k0_pay51]

section Heads

variable (gm : FVec Ideal S512x512 .bf16) (hg : ∀ k j, gm (ix2 k j) = Cert.Mix.ind k j)
include hg

/-- The queries' norm: root, normed value, gain's gradient, backward pass. -/
theorem pay40_at : k0_pay40 (F := Ideal) (k0_pay38 (F := Ideal) v5 gm) (k0_pay39 (F := Ideal)) (ix2 r j) = Cert.Mix.hrt (fun j => v5 (ix2 r j)) j := by
  pointwise [k0_pay40, k0_pay38, k0_pay37, k0_pay39]
  simp only [hg]
  exact Cert.Mix.hrt_ind (fun j => v5 (ix2 r j)) j

omit hg in
theorem pay41_at : k0_pay41 (F := Ideal) (k0_pay37 (F := Ideal) v5) (k0_pay38 (F := Ideal) v5 gm) (k0_pay39 (F := Ideal)) (ix2 r j)
    = v5 (ix2 r j) * k0_pay40 (F := Ideal) (k0_pay38 (F := Ideal) v5 gm) (k0_pay39 (F := Ideal)) (ix2 r j) := by
  pointwise [k0_pay41, k0_pay37]

theorem pay41_at' : k0_pay41 (F := Ideal) (k0_pay37 (F := Ideal) v5) (k0_pay38 (F := Ideal) v5 gm) (k0_pay39 (F := Ideal)) (ix2 r j) = Cert.Mix.hy (fun j => v5 (ix2 r j)) j := by
  rw [pay41_at, pay40_at r j v5 gm hg]; rfl

theorem pay43_at : k0_pay43 (F := Ideal) (k0_pay37 (F := Ideal) v5) (k0_pay38 (F := Ideal) v5 gm) (k0_pay39 (F := Ideal)) v10 a0 (ix2 0 j)
    = a0 (ix2 0 j) + ∑ r, v10 (ix2 r j) * Cert.Mix.eighth * Cert.Mix.hy (fun j => v5 (ix2 r j)) j := by
  simp only [← pay41_at' _ j v5 gm hg]
  pointwise [k0_pay43, k0_pay42]
  rfl

theorem pay44_at : k0_pay44 (F := Ideal) (k0_pay37 (F := Ideal) v5) (k0_pay38 (F := Ideal) v5 gm) (k0_pay39 (F := Ideal)) v10 a0 gm (ix2 r j)
    = Cert.Mix.hback (fun j => v5 (ix2 r j)) (fun j => v10 (ix2 r j) * Cert.Mix.eighth * a0 (ix2 0 j)) j := by
  rw [← Cert.Mix.hback_ind]
  simp only [← pay41_at' r _ v5 gm hg, ← pay40_at r _ v5 gm hg, ← hg]
  pointwise [k0_pay44, k0_pay42]
  rfl

/-- The keys' norm. -/
theorem pay46_at : k0_pay46 (F := Ideal) v5 gm (ix2 r j) = Cert.Mix.hrt (fun j => v5 (ix2 r j)) j := by
  pointwise [k0_pay46, k0_pay45]
  simp only [hg]
  exact Cert.Mix.hrt_ind (fun j => v5 (ix2 r j)) j

theorem pay47_at : k0_pay47 (F := Ideal) v5 gm (ix2 r j) = Cert.Mix.hy (fun j => v5 (ix2 r j)) j := by
  unfold Cert.Mix.hy
  rw [← pay46_at r j v5 gm hg]
  pointwise [k0_pay47, k0_pay45]

theorem pay49_at : k0_pay49 (F := Ideal) (k0_pay47 (F := Ideal) v5 gm) v10 a0 (ix2 0 j)
    = a0 (ix2 0 j) + ∑ r, v10 (ix2 r j) * Cert.Mix.hy (fun j => v5 (ix2 r j)) j := by
  simp only [← pay47_at _ j v5 gm hg]
  pointwise [k0_pay49, k0_pay48]

theorem pay50_at : k0_pay50 (F := Ideal) (k0_pay46 (F := Ideal) v5 gm) (k0_pay47 (F := Ideal) v5 gm) v10 a0 gm (ix2 r j)
    = Cert.Mix.hback (fun j => v5 (ix2 r j)) (fun j => v10 (ix2 r j) * a0 (ix2 0 j)) j := by
  rw [← Cert.Mix.hback_ind]
  simp only [← pay47_at r _ v5 gm hg, ← pay46_at r _ v5 gm hg, ← hg]
  pointwise [k0_pay50, k0_pay48]

end Heads

/-! The normed input and the product's slabs. -/

theorem pay54_at (x : FVec Ideal S512x1024 .f32) (g : FVec Ideal S1x1024 .f32) (k : Fin 1024) :
    k0_pay54 (F := Ideal) x (k0_pay52 (F := Ideal) x) (k0_pay53 (F := Ideal)) g (ix2 r k) = x (ix2 r k) * Cert.Mix.rt 1024 (fun k => x (ix2 r k)) * g (ix2 0 k) := by
  pointwise [k0_pay54, k0_pay52, k0_pay53]
  rw [lit1024]; rfl

variable (x : FVec Ideal S512x1024 .f32) (g : FVec Ideal S1x1024 .f32) (acc : FVec Ideal S1024x768 .f32) (d : FVec Ideal S512x768 .bf16)
  (k : Fin 1024) (l : Fin 768)

theorem pay1_at (h : FVec Ideal S512x1024 .bf16) : k0_pay1 (F := Ideal) h acc d (ix2 k l) = acc (ix2 k l) + ∑ r, h (ix2 r k) * d (ix2 r l) := by
  pointwise [k0_pay1]
theorem pay55_at : k0_pay55 (F := Ideal) x (k0_pay52 (F := Ideal) x) (k0_pay53 (F := Ideal)) g acc d (ix2 k l)
    = acc (ix2 k l) + ∑ r, k0_pay54 (F := Ideal) x (k0_pay52 (F := Ideal) x) (k0_pay53 (F := Ideal)) g (ix2 r k) * d (ix2 r l) := by
  pointwise [k0_pay55]
theorem pay56_at : k0_pay56 (F := Ideal) x (k0_pay52 (F := Ideal) x) (k0_pay53 (F := Ideal)) g acc d (ix2 k l)
    = acc (ix2 k l) + ∑ r, k0_pay54 (F := Ideal) x (k0_pay52 (F := Ideal) x) (k0_pay53 (F := Ideal)) g (ix2 r k) * d (ix2 r l) := by
  pointwise [k0_pay56]
theorem pay57_at : k0_pay57 (F := Ideal) x (k0_pay52 (F := Ideal) x) (k0_pay53 (F := Ideal)) g acc d (ix2 k l)
    = acc (ix2 k l) + ∑ r, k0_pay54 (F := Ideal) x (k0_pay52 (F := Ideal) x) (k0_pay53 (F := Ideal)) g (ix2 r k) * d (ix2 r l) := by
  pointwise [k0_pay57]

end Cert.KernelIdeal.Mix
-- ==== Proof.Mix.Tile.lean ====
module

public import proofs.«01_k».proof.Proof.Mix.Pays

@[expose] public section

set_option maxRecDepth 16384

noncomputable section

namespace Cert.KernelIdeal.Mix

open Cert.KernelIdeal Cert.KernelIdeal.Gen
open Idealize.ShloMosaic
open VecWindow (window put)
open Cert.Mix (Arr)

/-- The blocks of a grid point hold the rows of tile `T`, the eight rows before it, and the weights. -/
structure IsTile (A : Arr) (b : Blk Ideal) (T : ℕ) : Prop where
  x : ∀ (r : Fin 512) (k : Fin 1024), b.x0 (ix2 r k) = A.x (512 * T + r.val) k
  zb : ∀ r j : Fin 512, b.x1 (ix2 r ⟨j.val, by omega⟩) = A.zb (512 * T + r.val) j
  zc : ∀ r j : Fin 512, b.x1 (ix2 r ⟨512 + j.val, by omega⟩) = A.zc (512 * T + r.val) j
  zx : ∀ r j : Fin 512, b.x1 (ix2 r ⟨1024 + j.val, by omega⟩) = A.zx (512 * T + r.val) j
  hc : ∀ (q : Fin 8) (j : Fin 512), 1 ≤ T → b.x2 (ix2 q ⟨512 + j.val, by omega⟩) = A.zc (512 * T + q.val - 8) j
  hx : ∀ (q : Fin 8) (j : Fin 512), 1 ≤ T → b.x2 (ix2 q ⟨1024 + j.val, by omega⟩) = A.zx (512 * T + q.val - 8) j
  zq : ∀ r j : Fin 512, b.x3 (ix2 r ⟨j.val, by omega⟩) = A.zq (512 * T + r.val) j
  zk : ∀ r j : Fin 512, b.x3 (ix2 r ⟨512 + j.val, by omega⟩) = A.zk (512 * T + r.val) j
  dy : ∀ r j : Fin 512, b.x4 (ix2 r j) = A.dy (512 * T + r.val) j
  dq : ∀ r j : Fin 512, b.x5 (ix2 r j) = A.dq (512 * T + r.val) j
  dk : ∀ r j : Fin 512, b.x6 (ix2 r j) = A.dk (512 * T + r.val) j
  dv : ∀ r j : Fin 512, b.x7 (ix2 r j) = A.dv (512 * T + r.val) j
  w : ∀ (k : Fin 3) (j : Fin 512), b.x8 (ix2 k j) = A.w k j
  bias : ∀ j : Fin 512, b.x9 (ix2 0 j) = A.b j
  go : ∀ j : Fin 512, b.x10 (ix2 0 j) = A.go j
  gx : ∀ k : Fin 1024, b.x11 (ix2 0 k) = A.gx k
  gm : ∀ k j : Fin 512, b.x12 (ix2 k j) = Cert.Mix.ind k j
  gq : ∀ j : Fin 512, b.x13 (ix2 0 j) = A.gq j
  gk : ∀ j : Fin 512, b.x14 (ix2 0 j) = A.gk j

/-- A window read at an index. -/
theorem window_at {α : Type} {m n : ℕ} (x : (⟨2, ![m, n]⟩ : Shape).Idx → α) (off size : Fin 2 → ℕ)
    (inb : ∀ a : Fin 2, off a + size a ≤ (![m, n] : Fin 2 → ℕ) a) (y : (a : Fin 2) → Fin (size a)) (z : (⟨2, ![m, n]⟩ : Shape).Idx)
    (h0 : (z 0).val = off 0 + (y 0).val) (h1 : (z 1).val = off 1 + (y 1).val) :
    window (s := ⟨2, ![m, n]⟩) x off size inb y = x z := by
  refine congrArg x (funext fun a => Fin.ext ?_)
  revert a
  exact Fin.forall_fin_two.mpr ⟨by rw [h0]; show off 0 + 1 * (y 0).val = _; omega, by rw [h1]; show off 1 + 1 * (y 1).val = _; omega⟩

section Tile

variable {A : Arr} {b : Blk Ideal} {T : ℕ} (ht : IsTile A b T) (r j : Fin 512)
include ht

theorem zb_at : zb b (ix2 r j) = A.zb (512 * T + r.val) j :=
  (window_at b.x1 ![0, 0] S512x512.size _ (ix2 r j) (ix2 r ⟨j.val, by omega⟩) (Nat.zero_add _).symm (Nat.zero_add _).symm).trans (ht.zb r j)
theorem zc_at : zc b (ix2 r j) = A.zc (512 * T + r.val) j :=
  (window_at b.x1 ![0, 512] S512x512.size _ (ix2 r j) (ix2 r ⟨512 + j.val, by omega⟩) (Nat.zero_add _).symm rfl).trans (ht.zc r j)
theorem zx_at : zx b (ix2 r j) = A.zx (512 * T + r.val) j :=
  (window_at b.x1 ![0, 1024] S512x512.size _ (ix2 r j) (ix2 r ⟨1024 + j.val, by omega⟩) (Nat.zero_add _).symm rfl).trans (ht.zx r j)
theorem zq_at : zq b (ix2 r j) = A.zq (512 * T + r.val) j :=
  (window_at b.x3 ![0, 0] S512x512.size _ (ix2 r j) (ix2 r ⟨j.val, by omega⟩) (Nat.zero_add _).symm (Nat.zero_add _).symm).trans (ht.zq r j)
theorem zk_at : zk b (ix2 r j) = A.zk (512 * T + r.val) j :=
  (window_at b.x3 ![0, 512] S512x512.size _ (ix2 r j) (ix2 r ⟨512 + j.val, by omega⟩) (Nat.zero_add _).symm rfl).trans (ht.zk r j)
theorem w0_at : w0 b (ix2 0 j) = A.w 0 j :=
  (window_at b.x8 ![0, 0] S1x512.size _ (ix2 0 j) (ix2 0 j) rfl (Nat.zero_add _).symm).trans (ht.w 0 j)
theorem w1_at : w1 b (ix2 0 j) = A.w 1 j :=
  (window_at b.x8 ![1, 0] S1x512.size _ (ix2 0 j) (ix2 1 j) rfl (Nat.zero_add _).symm).trans (ht.w 1 j)
theorem w2_at : w2 b (ix2 0 j) = A.w 2 j :=
  (window_at b.x8 ![2, 0] S1x512.size _ (ix2 0 j) (ix2 2 j) rfl (Nat.zero_add _).symm).trans (ht.w 2 j)

theorem u0_at : u0 b (ix2 r j) = Cert.Mix.u A (512 * T + r.val) j := by
  unfold u0; rw [pay13_at, zc_at ht, zx_at ht]; rfl

variable (i : grid0.Coords) (hi : (i 0).val = 15 - T) (hT : T ≤ 15)
include hi

/-- The tile under the rows before it: the rows from eight above on, zero above the first. -/
theorem ubuf_at (q : Fin 520) : ubuf i b (ix2 q j) = if 512 * T + q.val < 8 then 0 else Cert.Mix.u A (512 * T + q.val - 8) j := by
  unfold ubuf rows8
  by_cases h8 : q.val < 8
  · refine (dif_pos (show ((ix2 q j : S520x512.Idx) 0).val < 8 from h8)).trans ?_
    refine (pay14_at j i ⟨q.val, h8⟩ _ _).trans ?_
    have hw1 := window_at b.x2 ![0, 512] S8x512.size inb_S8x1536_S8x512_0_512 (ix2 ⟨q.val, h8⟩ j) (ix2 ⟨q.val, h8⟩ ⟨512 + j.val, by omega⟩) (Nat.zero_add _).symm rfl
    have hw2 := window_at b.x2 ![0, 1024] S8x512.size inb_S8x1536_S8x512_0_1024 (ix2 ⟨q.val, h8⟩ j) (ix2 ⟨q.val, h8⟩ ⟨1024 + j.val, by omega⟩) (Nat.zero_add _).symm rfl
    by_cases hT0 : T = 0
    · rw [if_neg (by omega), if_pos (by omega)]
    · rw [if_pos (by omega), if_neg (by omega)]
      refine (congrArg₂ (· * ·) (hw1.trans (ht.hc ⟨q.val, h8⟩ j (by omega))) (hw2.trans (ht.hx ⟨q.val, h8⟩ j (by omega)))).trans ?_
      rfl
  · refine (dif_neg (show ¬ ((ix2 q j : S520x512.Idx) 0).val < 8 from h8)).trans ?_
    rw [if_neg (by omega)]
    have e : 512 * T + q.val - 8 = 512 * T + (q.val - 8) := by omega
    rw [e]
    have hq := q.isLt
    refine Eq.trans ?_ (u0_at ht ⟨q.val - 8, by omega⟩ j)
    pointwise [k0_pay15]
    rfl

theorem u1_at : u1 i b (ix2 r j) = Cert.Mix.us A 1 (512 * T + r.val) j := by
  unfold u1 Cert.Mix.us
  rw [pay16_at, ubuf_at ht j i hi]
  have e : 512 * T + (7 + r.val) - 8 = 512 * T + r.val - 1 := by omega
  simp only [e]
  by_cases h : 512 * T + r.val < 1
  · rw [if_pos h, if_pos (by omega)]
  · rw [if_neg h, if_neg (by omega)]

theorem u2_at : u2 i b (ix2 r j) = Cert.Mix.us A 2 (512 * T + r.val) j := by
  unfold u2 Cert.Mix.us
  rw [pay17_at, ubuf_at ht j i hi]
  have e : 512 * T + (6 + r.val) - 8 = 512 * T + r.val - 2 := by omega
  simp only [e]
  by_cases h : 512 * T + r.val < 2
  · rw [if_pos h, if_pos (by omega)]
  · rw [if_neg h, if_neg (by omega)]

theorem cv_at : cv i b (ix2 r j) = Cert.Mix.cv A (512 * T + r.val) j := by
  unfold cv
  rw [pay18_at, w0_at ht, w1_at ht, w2_at ht, u0_at ht, u1_at ht r j i hi, u2_at ht r j i hi, ht.bias]
  rfl

theorem y_at : k0_pay19 (k0_pay10 (zb b)) (u0 b) (u1 i b) (u2 i b) (w0 b) (w1 b) (w2 b) b.x9 (ix2 r j)
    = Cert.Mix.y A (512 * T + r.val) j := by
  have e : k0_pay10 (zb b) (ix2 r j) = zb b (ix2 r j) := by pointwise [k0_pay10]
  rw [pay19_at, e, zb_at ht]
  exact congrArg _ (cv_at ht r j i hi)

theorem rr_at : rr i b (ix2 r 0) = Cert.Mix.yr A (512 * T + r.val) := by
  unfold rr Cert.Mix.yr
  rw [pay20_at]
  exact congrArg _ (funext fun j => y_at ht r j i hi)

theorem yh_at : yh i b (ix2 r j) = Cert.Mix.y A (512 * T + r.val) j * Cert.Mix.yr A (512 * T + r.val) := by
  unfold yh
  rw [pay21_at]
  exact congrArg₂ _ (y_at ht r j i hi) (rr_at ht r i hi)

omit hi in
theorem dxh_at : dxh b (ix2 r j) = Cert.Mix.yd A (512 * T + r.val) j := by
  unfold dxh
  rw [pay23_at, ht.dy, ht.go]; rfl

theorem mn_at : mn i b (ix2 r j) = Ideal.div (∑ k, Cert.Mix.yd A (512 * T + r.val) k
    * (Cert.Mix.y A (512 * T + r.val) k * Cert.Mix.yr A (512 * T + r.val))) ((512 : ℝ) : EReal) := by
  unfold mn
  rw [pay24_at]
  exact congrArg (fun s => Ideal.div s ((512 : ℝ) : EReal)) (Finset.sum_congr rfl fun k _ =>
    congrArg₂ _ (dxh_at ht r k) (yh_at ht r k i hi))

theorem dyc_at : dyc i b (ix2 r j) = Cert.Mix.dyc A (512 * T + r.val) j := by
  unfold dyc
  rw [pay25_at, rr_at ht r i hi, dxh_at ht, yh_at ht r j i hi, mn_at ht r j i hi]
  rfl

include hT

theorem dcv_at : dcv i b (ix2 r j) = Cert.Mix.dcv A (512 * T + r.val) j := by
  have e : k0_pay10 (zb b) (ix2 r j) = zb b (ix2 r j) := by pointwise [k0_pay10]
  unfold dcv Cert.Mix.dcv
  rw [pay26_at, if_pos (by omega), e, zb_at ht]
  exact congrArg (· * _) (dyc_at ht r j i hi)

/-- The rows from the tile's first on, the eight rows after the tile taken from `h`. -/
theorem dnext_at (h : Vec Ideal S8x512 .f32) (hh : ∀ q : Fin 8, h (ix2 q j) = Cert.Mix.dcv A (512 * (T + 1) + q.val) j) (q : Fin 520) :
    dnext i b h (ix2 q j) = Cert.Mix.dcv A (512 * T + q.val) j := by
  unfold dnext rows512
  have hq := q.isLt
  by_cases h5 : q.val < 512
  · refine (dif_pos (show ((ix2 q j : S520x512.Idx) 0).val < 512 from h5)).trans ?_
    refine Eq.trans ?_ (dcv_at ht ⟨q.val, h5⟩ j i hi hT)
    pointwise [k0_pay31]
  · refine (dif_neg (show ¬ ((ix2 q j : S520x512.Idx) 0).val < 512 from h5)).trans ?_
    refine (hh ⟨q.val - 512, by omega⟩).trans ?_
    congr 1
    show 512 * (T + 1) + (q.val - 512) = _
    omega

theorem du_at (h : Vec Ideal S8x512 .f32) (hh : ∀ q : Fin 8, h (ix2 q j) = Cert.Mix.dcv A (512 * (T + 1) + q.val) j) :
    k0_pay32 (w0 b) (w1 b) (w2 b) (dcv i b) (dnext i b h) (ix2 r j) = Cert.Mix.du A (512 * T + r.val) j := by
  rw [pay32_at, w0_at ht, w1_at ht, w2_at ht, dcv_at ht r j i hi hT, dnext_at ht j i hi hT h hh, dnext_at ht j i hi hT h hh]
  rfl

/-- The tile of the gradient of `z`. -/
theorem dzH_at (h : Vec Ideal S8x512 .f32) (hh : ∀ (q : Fin 8) j, h (ix2 q j) = Cert.Mix.dcv A (512 * (T + 1) + q.val) j) (l : Fin 3072) :
    dzH i b h (ix2 r l) = Cert.Mix.dz A (512 * T + r.val) l := by
  unfold dzH cols6 Cert.Mix.dz
  show (match l.val / 512 with | 0 => _ | 1 => _ | 2 => _ | 3 => _ | 4 => _ | _ => _ : Vec Ideal S512x512 .bf16)
    (ix2 r ⟨l.val % 512, Nat.mod_lt _ (by decide)⟩) = _
  generalize (⟨l.val % 512, Nat.mod_lt _ (by decide)⟩ : Fin 512) = j
  generalize l.val / 512 = p
  have e11 : k0_pay11 (zc b) (ix2 r j) = zc b (ix2 r j) := by pointwise [k0_pay11]
  have e12 : k0_pay12 (zx b) (ix2 r j) = zx b (ix2 r j) := by pointwise [k0_pay12]
  have hq : (fun j => zq b (ix2 r j)) = A.zq (512 * T + r.val) := funext fun j => zq_at ht r j
  have hk : (fun j => zk b (ix2 r j)) = A.zk (512 * T + r.val) := funext fun j => zk_at ht r j
  match p with
  | 0 =>
    refine (pay34_at r j _ _).trans ?_
    rw [dyc_at ht r j i hi, cv_at ht r j i hi]; rfl
  | 1 =>
    refine (pay35_at r j _ _ _ _ _ _).trans ?_
    rw [du_at ht r j i hi hT h (fun q => hh q j), e12, zx_at ht]; rfl
  | 2 =>
    refine (pay36_at r j _ _ _ _ _ _).trans ?_
    rw [du_at ht r j i hi hT h (fun q => hh q j), e11, zc_at ht]; rfl
  | 3 =>
    refine (pay44_at r j _ _ _ _ ht.gm).trans ?_
    rw [hq]
    simp only [ht.dq, ht.gq]
    rfl
  | 4 =>
    refine (pay50_at r j _ _ _ _ ht.gm).trans ?_
    rw [hk]
    simp only [ht.dk, ht.gk]
    rfl
  | n + 5 =>
    refine (pay51_at r j _).trans ?_
    rw [ht.dv]; rfl

end Tile

end Cert.KernelIdeal.Mix
-- ==== Proof.Mix.State.lean ====
module

public import proofs.«01_k».proof.Proof.Mix.Tile

@[expose] public section

set_option maxRecDepth 16384

noncomputable section

namespace Cert.KernelIdeal.Mix

open Cert.KernelIdeal Cert.KernelIdeal.Gen
open Idealize.ShloMosaic
open VecWindow (window put)
open Cert.Mix (Arr tiles)

/-- The state after `n` grid points: the sums over the last `n` tiles, and the rows after the next tile. -/
structure Holds (A : Arr) (s : St Ideal) (n : ℕ) : Prop where
  dbuf : ∀ (q : Fin 8) (j : Fin 512), s.dbuf (ix2 ⟨512 + q.val, by omega⟩ j) = Cert.Mix.dcv A (512 * (16 - n) + q.val) j
  wacc : ∀ (k : Fin 1024) (l : Fin 3072), s.wacc (ix2 k l) = tiles (fun g => Cert.Mix.tg A g k l) n
  dcw : ∀ (k : Fin 3) (j : Fin 512), s.dcw (ix2 k j) = tiles (fun g => Cert.Mix.tw A g k j) n
  dcb : ∀ j : Fin 512, s.dcb (ix2 0 j) = tiles (fun g => Cert.Mix.dcv A g j) n
  dgoc : ∀ j : Fin 512, s.dgoc (ix2 0 j) = tiles (fun g => Cert.Mix.tn A g j) n
  dgq : ∀ j : Fin 512, s.dgq (ix2 0 j) = tiles (fun g => Cert.Mix.tq A g j) n
  dgk : ∀ j : Fin 512, s.dgk (ix2 0 j) = tiles (fun g => Cert.Mix.tk A g j) n

theorem rows512_hi (d : Vec Ideal S512x512 .f32) (h : Vec Ideal S8x512 .f32) (q : Fin 8) (j : Fin 512) :
    rows512 d h (ix2 ⟨512 + q.val, by omega⟩ j) = h (ix2 q j) := by
  unfold rows512
  refine (dif_neg (show ¬ 512 + q.val < 512 by omega)).trans (congrArg (fun x => h (ix2 x j)) (Fin.ext ?_))
  show 512 + q.val - 512 = q.val
  omega

theorem holds_zero (A : Arr) : Holds A (St.zero : St Ideal) 0 where
  dbuf q j := by
    refine (rows512_hi (fun _ => k0_pay4 (F := Ideal) (ix2 0 0)) (k0_pay4 (F := Ideal)) q j).trans ?_
    unfold Cert.Mix.dcv
    rw [if_neg (by omega)]
    pointwise [k0_pay4]
  wacc k l := by
    show k0_pay3 (F := Ideal) (ix2 k l) = 0
    pointwise [k0_pay3]
  dcw k j := by
    show k0_pay5 (F := Ideal) (ix2 k j) = 0
    pointwise [k0_pay5]
  dcb j := by
    show k0_pay6 (F := Ideal) (ix2 0 j) = 0
    pointwise [k0_pay6]
  dgoc j := by
    show k0_pay7 (F := Ideal) (ix2 0 j) = 0
    pointwise [k0_pay7]
  dgq j := by
    show k0_pay8 (F := Ideal) (ix2 0 j) = 0
    pointwise [k0_pay8]
  dgk j := by
    show k0_pay9 (F := Ideal) (ix2 0 j) = 0
    pointwise [k0_pay9]

section Step

variable {A : Arr} {b : Blk Ideal} {s : St Ideal} {n : ℕ} (i : grid0.Coords) (hs : Holds A s n) (hn : n < 16) (hi : (i 0).val = n)
  (ht : IsTile A b (15 - n))
include hs hn hi ht

/-- The point's tile of the gradient of `z`. -/
theorem dzB_at (r : Fin 512) (l : Fin 3072) : dzB i b s.dbuf (ix2 r l) = Cert.Mix.dz A (512 * (15 - n) + r.val) l := by
  unfold dzB
  refine dzH_at ht r i (by omega) (by omega) _ (fun q j => ?_) l
  refine (window_at s.dbuf ![512, 0] S8x512.size _ (ix2 q j) (ix2 ⟨512 + q.val, by omega⟩ j) rfl (Nat.zero_add _).symm).trans ?_
  rw [hs.dbuf]
  congr 2
  omega

theorem h_at (r : Fin 512) (k : Fin 1024) :
    k0_pay54 b.x0 (k0_pay52 b.x0) (k0_pay53 (F := Ideal)) b.x11 (ix2 r k) = Cert.Mix.h A (512 * (15 - n) + r.val) k := by
  rw [pay54_at, ht.x, ht.gx]
  simp only [ht.x]
  rfl

/-- The product's accumulator. -/
theorem wacc_at (k : Fin 1024) (l : Fin 3072) :
    waccD b s.wacc (dzB i b s.dbuf) (ix2 k l) = tiles (fun g => Cert.Mix.tg A g k l) (n + 1) := by
  rw [Cert.Mix.tiles_succ, ← hs.wacc k l]
  have hsum : ∀ (o : ℕ) (d : FVec Ideal S512x768 .bf16) (m : Fin 768), o + m.val = l.val →
      (∀ r : Fin 512, d (ix2 r m) = dzB i b s.dbuf (ix2 r l)) →
      ∑ r : Fin 512, k0_pay54 b.x0 (k0_pay52 b.x0) (k0_pay53 (F := Ideal)) b.x11 (ix2 r k) * d (ix2 r m)
        = ∑ r : Fin 512, Cert.Mix.tg A (512 * (15 - n) + r.val) k l := fun o d m hm hd =>
    Finset.sum_congr rfl fun r _ => by rw [h_at i hs hn hi ht, hd, dzB_at i hs hn hi ht]; rfl
  unfold waccD cols4
  have hl := l.isLt
  have hm : l.val % 768 < 768 := Nat.mod_lt _ (by decide)
  rcases (by omega : l.val / 768 = 0 ∨ l.val / 768 = 1 ∨ l.val / 768 = 2 ∨ l.val / 768 = 3) with h | h | h | h
  · show (match l.val / 768 with | 0 => _ | 1 => _ | 2 => _ | _ => _ : Vec Ideal S1024x768 .f32) (ix2 k ⟨l.val % 768, hm⟩) = _
    rw [h]
    refine (pay55_at _ _ _ _ k ⟨l.val % 768, hm⟩).trans (congrArg₂ (· + ·) ?_ (hsum 0 _ ⟨l.val % 768, hm⟩ ?_ fun r => ?_))
    · exact window_at s.wacc ![0, 0] S1024x768.size _ (ix2 k ⟨l.val % 768, hm⟩) (ix2 k l) (Nat.zero_add _).symm (by show l.val = 0 + l.val % 768; omega)
    · show 0 + l.val % 768 = l.val; omega
    · exact window_at (dzB i b s.dbuf) ![0, 0] S512x768.size _ (ix2 r ⟨l.val % 768, hm⟩) (ix2 r l) (Nat.zero_add _).symm (by show l.val = 0 + l.val % 768; omega)
  · show (match l.val / 768 with | 0 => _ | 1 => _ | 2 => _ | _ => _ : Vec Ideal S1024x768 .f32) (ix2 k ⟨l.val % 768, hm⟩) = _
    rw [h]
    refine (pay56_at _ _ _ _ k ⟨l.val % 768, hm⟩).trans (congrArg₂ (· + ·) ?_ (hsum 768 _ ⟨l.val % 768, hm⟩ ?_ fun r => ?_))
    · exact window_at s.wacc ![0, 768] S1024x768.size _ (ix2 k ⟨l.val % 768, hm⟩) (ix2 k l) (Nat.zero_add _).symm (by show l.val = 768 + l.val % 768; omega)
    · show 768 + l.val % 768 = l.val; omega
    · exact window_at (dzB i b s.dbuf) ![0, 768] S512x768.size _ (ix2 r ⟨l.val % 768, hm⟩) (ix2 r l) (Nat.zero_add _).symm (by show l.val = 768 + l.val % 768; omega)
  · show (match l.val / 768 with | 0 => _ | 1 => _ | 2 => _ | _ => _ : Vec Ideal S1024x768 .f32) (ix2 k ⟨l.val % 768, hm⟩) = _
    rw [h]
    refine (pay57_at _ _ _ _ k ⟨l.val % 768, hm⟩).trans (congrArg₂ (· + ·) ?_ (hsum 1536 _ ⟨l.val % 768, hm⟩ ?_ fun r => ?_))
    · exact window_at s.wacc ![0, 1536] S1024x768.size _ (ix2 k ⟨l.val % 768, hm⟩) (ix2 k l) (Nat.zero_add _).symm (by show l.val = 1536 + l.val % 768; omega)
    · show 1536 + l.val % 768 = l.val; omega
    · exact window_at (dzB i b s.dbuf) ![0, 1536] S512x768.size _ (ix2 r ⟨l.val % 768, hm⟩) (ix2 r l) (Nat.zero_add _).symm (by show l.val = 1536 + l.val % 768; omega)
  · show (match l.val / 768 with | 0 => _ | 1 => _ | 2 => _ | _ => _ : Vec Ideal S1024x768 .f32) (ix2 k ⟨l.val % 768, hm⟩) = _
    rw [h]
    refine (pay1_at _ _ k ⟨l.val % 768, hm⟩ _).trans (congrArg₂ (· + ·) ?_ (hsum 2304 _ ⟨l.val % 768, hm⟩ ?_ fun r => ?_))
    · exact window_at s.wacc ![0, 2304] S1024x768.size _ (ix2 k ⟨l.val % 768, hm⟩) (ix2 k l) (Nat.zero_add _).symm (by show l.val = 2304 + l.val % 768; omega)
    · show 2304 + l.val % 768 = l.val; omega
    · exact window_at (dzB i b s.dbuf) ![0, 2304] S512x768.size _ (ix2 r ⟨l.val % 768, hm⟩) (ix2 r l) (Nat.zero_add _).symm (by show l.val = 2304 + l.val % 768; omega)

/-- One grid point takes the state after `n` points to the state after one more. -/
theorem holds_step : Holds A (step i b s) (n + 1) := by
  have hT : 15 - n ≤ 15 := by omega
  have hI : (i 0).val = 15 - (15 - n) := by omega
  refine ⟨fun q j => ?_, fun k l => wacc_at i hs hn hi ht k l, fun k j => ?_, fun j => ?_, fun j => ?_, fun j => ?_, fun j => ?_⟩
  · refine (rows512_hi _ _ q j).trans ?_
    have e1 : k0_pay33 (window (k0_pay31 (dcv i b)) ![0, 0] S8x512.size (fun a => by fin_cases a <;> decide)) (ix2 q j)
        = k0_pay31 (dcv i b) (ix2 ⟨q.val, by omega⟩ j) := by
      refine Eq.trans ?_ (window_at (k0_pay31 (dcv i b)) ![0, 0] S8x512.size (fun a => by fin_cases a <;> decide) (ix2 q j) (ix2 ⟨q.val, by omega⟩ j)
        (Nat.zero_add _).symm (Nat.zero_add _).symm)
      pointwise [k0_pay33]
    have e2 : k0_pay31 (dcv i b) (ix2 ⟨q.val, by omega⟩ j) = dcv i b (ix2 ⟨q.val, by omega⟩ j) := by pointwise [k0_pay31]
    refine (e1.trans (e2.trans (dcv_at ht ⟨q.val, by omega⟩ j i hI hT))).trans ?_
    congr 2
    omega
  · rw [Cert.Mix.tiles_succ, ← hs.dcw k j]
    match k with
    | 0 =>
      refine (pay28_at j _ _ _ _ _ _ _).trans (congrArg₂ (· + ·) ?_ (Finset.sum_congr rfl fun r _ => ?_))
      · exact window_at s.dcw ![0, 0] S1x512.size _ (ix2 0 j) (ix2 0 j) rfl (Nat.zero_add _).symm
      · exact congrArg₂ (· * ·) (dcv_at ht r j i hI hT) (u2_at ht r j i hI)
    | 1 =>
      refine (pay29_at j _ _ _ _ _ _ _).trans (congrArg₂ (· + ·) ?_ (Finset.sum_congr rfl fun r _ => ?_))
      · exact window_at s.dcw ![1, 0] S1x512.size _ (ix2 0 j) (ix2 1 j) rfl (Nat.zero_add _).symm
      · exact congrArg₂ (· * ·) (dcv_at ht r j i hI hT) (u1_at ht r j i hI)
    | 2 =>
      refine (pay30_at j _ _ _ _ _ _ _).trans (congrArg₂ (· + ·) ?_ (Finset.sum_congr rfl fun r _ => ?_))
      · exact window_at s.dcw ![2, 0] S1x512.size _ (ix2 0 j) (ix2 2 j) rfl (Nat.zero_add _).symm
      · exact congrArg₂ (· * ·) (dcv_at ht r j i hI hT) (u0_at ht r j)
  · rw [Cert.Mix.tiles_succ, ← hs.dcb j]
    refine (pay27_at j _ _ _ _ _ _).trans (congrArg₂ (· + ·) rfl (Finset.sum_congr rfl fun r _ => ?_))
    exact dcv_at ht r j i hI hT
  · rw [Cert.Mix.tiles_succ, ← hs.dgoc j]
    refine (pay22_at j _ _ _ _ _ _ _ _ _ _).trans (congrArg₂ (· + ·) rfl (Finset.sum_congr rfl fun r _ => ?_))
    exact congrArg₂ (· * ·) (ht.dy r j) (yh_at ht r j i hI)
  · rw [Cert.Mix.tiles_succ, ← hs.dgq j]
    refine (pay43_at j _ _ _ _ ht.gm).trans (congrArg₂ (· + ·) rfl (Finset.sum_congr rfl fun r _ => ?_))
    rw [ht.dq, show (fun j => zq b (ix2 r j)) = A.zq (512 * (15 - n) + r.val) from funext fun j => zq_at ht r j]
    rfl
  · rw [Cert.Mix.tiles_succ, ← hs.dgk j]
    refine (pay49_at j _ _ _ _ ht.gm).trans (congrArg₂ (· + ·) rfl (Finset.sum_congr rfl fun r _ => ?_))
    rw [ht.dk, show (fun j => zk b (ix2 r j)) = A.zk (512 * (15 - n) + r.val) from funext fun j => zk_at ht r j]
    rfl

end Step

end Cert.KernelIdeal.Mix
-- ==== Proof.Mix.Arrays.lean ====
module

public import proofs.«01_k».proof.Proof.Mix.Spec
public import Idealize.ShloMosaic.Lib.Pointwise.Index

@[expose] public section

noncomputable section

namespace Cert.Mix

open Idealize.ShloMosaic

/-- A row of an array of 8192 rows, zero outside. -/
def rowOf {n : ℕ} (f : (⟨2, ![8192, n]⟩ : Shape).Idx → EReal) (g : ℕ) (l : Fin n) : EReal :=
  if h : g < 8192 then f (ix2 ⟨g, h⟩ l) else 0

theorem rowOf_val {n : ℕ} (f : (⟨2, ![8192, n]⟩ : Shape).Idx → EReal) (g : Fin 8192) (l : Fin n) : rowOf f g.val l = f (ix2 g l) :=
  dif_pos g.isLt

/-- The rows of the arrays the programs hold: the layer's input and its gain, `z`, the convolution's weights, the gains of
the queries, keys and convolution, and the four cotangents. -/
def ofArrays (x : (⟨2, ![8192, 1024]⟩ : Shape).Idx → EReal) (gx : (⟨2, ![1, 1024]⟩ : Shape).Idx → EReal)
    (z : (⟨2, ![8192, 3072]⟩ : Shape).Idx → EReal) (w : (⟨2, ![3, 512]⟩ : Shape).Idx → EReal)
    (b : (⟨2, ![1, 512]⟩ : Shape).Idx → EReal) (gq gk : (⟨2, ![1, 64]⟩ : Shape).Idx → EReal)
    (go : (⟨2, ![1, 512]⟩ : Shape).Idx → EReal) (dy dq dk dv : (⟨2, ![8192, 512]⟩ : Shape).Idx → EReal) : Arr where
  zb g j := rowOf z g ⟨j.val, by omega⟩
  zc g j := rowOf z g ⟨512 + j.val, by omega⟩
  zx g j := rowOf z g ⟨1024 + j.val, by omega⟩
  zq g j := rowOf z g ⟨1536 + j.val, by omega⟩
  zk g j := rowOf z g ⟨2048 + j.val, by omega⟩
  dy g j := rowOf dy g j
  dq g j := rowOf dq g j
  dk g j := rowOf dk g j
  dv g j := rowOf dv g j
  x g k := rowOf x g k
  w k j := w (ix2 k j)
  b j := b (ix2 0 j)
  go j := go (ix2 0 j)
  gq j := gq (ix2 0 (oOf j))
  gk j := gk (ix2 0 (oOf j))
  gx k := gx (ix2 0 k)

/-- The eight results as arrays. -/
def oDz (A : Arr) : (⟨2, ![8192, 3072]⟩ : Shape).Idx → EReal := fun i => dz A (i 0).val (i 1)
def oDcw (A : Arr) : (⟨2, ![3, 512]⟩ : Shape).Idx → EReal := fun i => total fun g => tw A g (i 0) (i 1)
def oDcb (A : Arr) : (⟨2, ![1, 512]⟩ : Shape).Idx → EReal := fun i => total fun g => dcv A g (i 1)
def oDgoc (A : Arr) : (⟨2, ![1, 512]⟩ : Shape).Idx → EReal := fun i => total fun g => tn A g (i 1)
def oDgq (A : Arr) : (⟨2, ![1, 512]⟩ : Shape).Idx → EReal := fun i => total fun g => tq A g (i 1)
def oDgk (A : Arr) : (⟨2, ![1, 512]⟩ : Shape).Idx → EReal := fun i => total fun g => tk A g (i 1)
def oGw (A : Arr) : (⟨2, ![1024, 3072]⟩ : Shape).Idx → EReal := fun i => total fun g => tg A g (i 0) (i 1)

/-- Two arrays that agree at every row and lane. -/
theorem ext2 {n0 n1 : ℕ} {X Y : (⟨2, ![n0, n1]⟩ : Shape).Idx → EReal} (h : ∀ g l, X (ix2 g l) = Y (ix2 g l)) : X = Y :=
  funext fun i => by rw [eq_ix2 i]; exact h _ _

theorem ext_row {n1 : ℕ} {X Y : (⟨2, ![1, n1]⟩ : Shape).Idx → EReal} (h : ∀ l, X (ix2 0 l) = Y (ix2 0 l)) : X = Y :=
  ext2 fun g l => by rw [Subsingleton.elim g 0]; exact h l

theorem total_eq (f : ℕ → EReal) : total f = ∑ g : Fin 8192, f g.val := Finset.sum_range f

end Cert.Mix
-- ==== Proof.Mix.Host.lean ====
module

public import proofs.«01_k».proof.Proof.Mix.Frame
public import proofs.«01_k».proof.Proof.Mix.Arrays
public import proofs.«01_k».proof.Proof.Gen.ReferenceIdeal.Read
public import Idealize.ShloMosaic.Lib.Pointwise

@[expose] public section

set_option maxRecDepth 16384

noncomputable section

namespace Cert.KernelIdeal.Mix

open Cert.KernelIdeal Cert.KernelIdeal.Gen
open Idealize.ShloMosaic Idealize.ShloMosaic.TcCoe

variable (m : (ℓ : Loc nD τ sig) → Buf (Elt Ideal) ℓ) (c : Dev nD)

/-- `z`, by the reference's lines. -/
def zz : (⟨2, ![8192, 3072]⟩ : Shape).Idx → EReal :=
  Cert.ReferenceIdeal.Read.val_main_v18 (F := Ideal) (m ((c : Thread nD τ).loc main_arg0)) (m ((c : Thread nD τ).loc main_arg1)) (m ((c : Thread nD τ).loc main_arg2))

theorem V28 : V m c main_v28 = extractStridedSlice S8192x1536 ![0, 0] (zz m c) slices_S8192x3072_S8192x1536_0_0 := by
  dsimp only [V, hostOps0, hostOps0_1, hostOps0_2, List.flatten, List.append, List.cons_append, List.nil_append, List.append_nil]
  after_results
  rfl

theorem V29 : V m c main_v29 = extractStridedSlice S8192x1536 ![0, 1536] (zz m c) slices_S8192x3072_S8192x1536_0_1536 := by
  dsimp only [V, hostOps0, hostOps0_1, hostOps0_2, List.flatten, List.append, List.cons_append, List.nil_append, List.append_nil]
  after_results
  rfl

theorem V24 (j : Fin 512) : V m c main_v24 (ix2 0 j) = m ((c : Thread nD τ).loc main_arg5) (ix2 0 (Cert.Mix.oOf j)) := by
  dsimp only [V, hostOps0, hostOps0_1, hostOps0_2, List.flatten, List.append, List.cons_append, List.nil_append, List.append_nil]
  after_results
  pointwise
  rfl
theorem V27 (j : Fin 512) : V m c main_v27 (ix2 0 j) = m ((c : Thread nD τ).loc main_arg6) (ix2 0 (Cert.Mix.oOf j)) := by
  dsimp only [V, hostOps0, hostOps0_1, hostOps0_2, List.flatten, List.append, List.cons_append, List.nil_append, List.append_nil]
  after_results
  pointwise
  rfl
theorem V21 (k j : Fin 512) : V m c main_v21 (ix2 k j) = Cert.Mix.ind k j := by
  dsimp only [V, hostOps0, hostOps0_1, hostOps0_2, List.flatten, List.append, List.cons_append, List.nil_append, List.append_nil]
  after_results
  simp only [StableHlo.TRef.ofBuf_toBuf, StableHlo.TRef.ofBuf, StableHlo.TRef.toBuf, cast_eq]
  pointwise
  have hk : k.val / 64 < 8 := by omega
  have hj : j.val / 64 < 8 := by omega
  have e : Ideal.ofBits FTy.f32 1015021568#32 = (((1 / 64 : ℝ)) : EReal) := by
    simp [Ideal.ofBits, Ideal.ieee, -EReal.coe_mul]; norm_num
  have h0 : ∀ a b : Fin 8, (FloatOps.uitofp (F := Ideal) FTy.f32
      (IntOp.cmpi CmpIPredicate.eq (IntOp.addi (BitVec.ofNat 32 a.val) 0#32) (BitVec.ofNat 32 b.val)) : EReal) =
      if a = b then 1 else 0 := by
    intro a b
    by_cases h : a = b
    · subst h; simp [FloatOps.uitofp, IntOp.cmpi, IntOp.addi]
    · have : BitVec.ofNat 32 a.val ≠ BitVec.ofNat 32 b.val := by
        revert h; revert a b; decide
      simp [FloatOps.uitofp, IntOp.cmpi, IntOp.addi, h, this]
  rw [e, h0 ⟨_, hk⟩ ⟨_, hj⟩]
  show (if Cert.Mix.hOf k = Cert.Mix.hOf j then (1 : EReal) else 0) * _ = if Cert.Mix.hOf k = Cert.Mix.hOf j then _ else 0
  split <;> simp

end Cert.KernelIdeal.Mix
-- ==== Proof.Mix.Blocks.lean ====
module

public import proofs.«01_k».proof.Proof.Mix.State
public import proofs.«01_k».proof.Proof.Mix.Host

@[expose] public section

set_option maxRecDepth 16384

noncomputable section

namespace Cert.KernelIdeal.Mix

open Cert.KernelIdeal Cert.KernelIdeal.Gen
open Idealize.ShloMosaic Idealize.ShloMosaic.TcCoe

theorem coords_val : ∀ t : Fin 16, (grid0.coords t 0).val = t.val := by decide
theorem same_at {n0 n1 : ℕ} (X : (⟨2, ![n0, n1]⟩ : Shape).Idx → EReal) (z z' : (⟨2, ![n0, n1]⟩ : Shape).Idx)
    (h0 : (z 0).val = (z' 0).val) (h1 : (z 1).val = (z' 1).val) : X z = X z' :=
  congrArg X (funext fun a => Fin.ext (by revert a; exact Fin.forall_fin_two.mpr ⟨h0, h1⟩))

theorem map0 : ∀ t : Fin 16, cc0_transform_0 (grid0.coords t) = ![15 - t.val, 0] := by decide
theorem map1 : ∀ t : Fin 16, cc0_transform_1 (grid0.coords t) = ![15 - t.val, 0] := by decide
theorem map2 : ∀ t : Fin 16, cc0_transform_2 (grid0.coords t) = ![64 * (15 - t.val) - 1, 0] := by decide
theorem map3 : ∀ t : Fin 16, cc0_transform_3 (grid0.coords t) = ![15 - t.val, 0] := by decide
theorem map4 : ∀ t : Fin 16, cc0_transform_4 (grid0.coords t) = ![15 - t.val, 0] := by decide
theorem map5 : ∀ t : Fin 16, cc0_transform_5 (grid0.coords t) = ![15 - t.val, 0] := by decide
theorem map6 : ∀ t : Fin 16, cc0_transform_6 (grid0.coords t) = ![15 - t.val, 0] := by decide
theorem map7 : ∀ t : Fin 16, cc0_transform_7 (grid0.coords t) = ![15 - t.val, 0] := by decide
theorem map8 : ∀ t : Fin 16, cc0_transform_8 (grid0.coords t) = ![0, 0] := by decide
theorem map9 : ∀ t : Fin 16, cc0_transform_9 (grid0.coords t) = ![0, 0] := by decide
theorem map10 : ∀ t : Fin 16, cc0_transform_10 (grid0.coords t) = ![0, 0] := by decide
theorem map11 : ∀ t : Fin 16, cc0_transform_11 (grid0.coords t) = ![0, 0] := by decide
theorem map12 : ∀ t : Fin 16, cc0_transform_12 (grid0.coords t) = ![0, 0] := by decide
theorem map13 : ∀ t : Fin 16, cc0_transform_13 (grid0.coords t) = ![0, 0] := by decide
theorem map14 : ∀ t : Fin 16, cc0_transform_14 (grid0.coords t) = ![0, 0] := by decide

variable (m : (ℓ : Loc nD τ sig) → Buf (Elt Ideal) ℓ) (c : Dev nD) (t : Fin 16)

theorem b0_at (r : Fin 512) (k : Fin 1024) : (blk m c t).x0 (ix2 r k) = V m c main_arg0 (ix2 ⟨512 * (15 - t.val) + r.val, by omega⟩ k) := by
  refine same_at (V m c main_arg0) _ (ix2 ⟨512 * (15 - t.val) + r.val, by omega⟩ k) ?_ ?_
  · show cc0_transform_0 (grid0.coords t) 0 * 512 + 1 * r.val = 512 * (15 - t.val) + r.val
    rw [map0 t]; show (15 - t.val) * 512 + 1 * r.val = _; omega
  · show cc0_transform_0 (grid0.coords t) 1 * 1024 + 1 * k.val = k.val
    rw [map0 t]; show 0 * 1024 + 1 * k.val = _; omega

theorem b1_at (r : Fin 512) (k : Fin 1536) : (blk m c t).x1 (ix2 r k) = V m c main_v28 (ix2 ⟨512 * (15 - t.val) + r.val, by omega⟩ k) := by
  refine same_at (V m c main_v28) _ (ix2 ⟨512 * (15 - t.val) + r.val, by omega⟩ k) ?_ ?_
  · show cc0_transform_1 (grid0.coords t) 0 * 512 + 1 * r.val = 512 * (15 - t.val) + r.val
    rw [map1 t]; show (15 - t.val) * 512 + 1 * r.val = _; omega
  · show cc0_transform_1 (grid0.coords t) 1 * 1536 + 1 * k.val = k.val
    rw [map1 t]; show 0 * 1536 + 1 * k.val = _; omega

theorem b2_at (r : Fin 8) (k : Fin 1536) : (blk m c t).x2 (ix2 r k) = V m c main_v28 (ix2 ⟨8 * (64 * (15 - t.val) - 1) + r.val, by omega⟩ k) := by
  refine same_at (V m c main_v28) _ (ix2 ⟨8 * (64 * (15 - t.val) - 1) + r.val, by omega⟩ k) ?_ ?_
  · show cc0_transform_2 (grid0.coords t) 0 * 8 + 1 * r.val = 8 * (64 * (15 - t.val) - 1) + r.val
    rw [map2 t]; show (64 * (15 - t.val) - 1) * 8 + 1 * r.val = _; omega
  · show cc0_transform_2 (grid0.coords t) 1 * 1536 + 1 * k.val = k.val
    rw [map2 t]; show 0 * 1536 + 1 * k.val = _; omega

theorem b3_at (r : Fin 512) (k : Fin 1536) : (blk m c t).x3 (ix2 r k) = V m c main_v29 (ix2 ⟨512 * (15 - t.val) + r.val, by omega⟩ k) := by
  refine same_at (V m c main_v29) _ (ix2 ⟨512 * (15 - t.val) + r.val, by omega⟩ k) ?_ ?_
  · show cc0_transform_3 (grid0.coords t) 0 * 512 + 1 * r.val = 512 * (15 - t.val) + r.val
    rw [map3 t]; show (15 - t.val) * 512 + 1 * r.val = _; omega
  · show cc0_transform_3 (grid0.coords t) 1 * 1536 + 1 * k.val = k.val
    rw [map3 t]; show 0 * 1536 + 1 * k.val = _; omega

theorem b4_at (r : Fin 512) (k : Fin 512) : (blk m c t).x4 (ix2 r k) = V m c main_arg8 (ix2 ⟨512 * (15 - t.val) + r.val, by omega⟩ k) := by
  refine same_at (V m c main_arg8) _ (ix2 ⟨512 * (15 - t.val) + r.val, by omega⟩ k) ?_ ?_
  · show cc0_transform_4 (grid0.coords t) 0 * 512 + 1 * r.val = 512 * (15 - t.val) + r.val
    rw [map4 t]; show (15 - t.val) * 512 + 1 * r.val = _; omega
  · show cc0_transform_4 (grid0.coords t) 1 * 512 + 1 * k.val = k.val
    rw [map4 t]; show 0 * 512 + 1 * k.val = _; omega

theorem b5_at (r : Fin 512) (k : Fin 512) : (blk m c t).x5 (ix2 r k) = V m c main_arg9 (ix2 ⟨512 * (15 - t.val) + r.val, by omega⟩ k) := by
  refine same_at (V m c main_arg9) _ (ix2 ⟨512 * (15 - t.val) + r.val, by omega⟩ k) ?_ ?_
  · show cc0_transform_5 (grid0.coords t) 0 * 512 + 1 * r.val = 512 * (15 - t.val) + r.val
    rw [map5 t]; show (15 - t.val) * 512 + 1 * r.val = _; omega
  · show cc0_transform_5 (grid0.coords t) 1 * 512 + 1 * k.val = k.val
    rw [map5 t]; show 0 * 512 + 1 * k.val = _; omega

theorem b6_at (r : Fin 512) (k : Fin 512) : (blk m c t).x6 (ix2 r k) = V m c main_arg10 (ix2 ⟨512 * (15 - t.val) + r.val, by omega⟩ k) := by
  refine same_at (V m c main_arg10) _ (ix2 ⟨512 * (15 - t.val) + r.val, by omega⟩ k) ?_ ?_
  · show cc0_transform_6 (grid0.coords t) 0 * 512 + 1 * r.val = 512 * (15 - t.val) + r.val
    rw [map6 t]; show (15 - t.val) * 512 + 1 * r.val = _; omega
  · show cc0_transform_6 (grid0.coords t) 1 * 512 + 1 * k.val = k.val
    rw [map6 t]; show 0 * 512 + 1 * k.val = _; omega

theorem b7_at (r : Fin 512) (k : Fin 512) : (blk m c t).x7 (ix2 r k) = V m c main_arg11 (ix2 ⟨512 * (15 - t.val) + r.val, by omega⟩ k) := by
  refine same_at (V m c main_arg11) _ (ix2 ⟨512 * (15 - t.val) + r.val, by omega⟩ k) ?_ ?_
  · show cc0_transform_7 (grid0.coords t) 0 * 512 + 1 * r.val = 512 * (15 - t.val) + r.val
    rw [map7 t]; show (15 - t.val) * 512 + 1 * r.val = _; omega
  · show cc0_transform_7 (grid0.coords t) 1 * 512 + 1 * k.val = k.val
    rw [map7 t]; show 0 * 512 + 1 * k.val = _; omega

theorem b8_at (r : Fin 3) (k : Fin 512) : (blk m c t).x8 (ix2 r k) = V m c main_arg3 (ix2 r k) := by
  refine same_at (V m c main_arg3) _ (ix2 r k) ?_ ?_
  · show cc0_transform_8 (grid0.coords t) 0 * 3 + 1 * r.val = r.val
    rw [map8 t]; show 0 * 3 + 1 * r.val = _; omega
  · show cc0_transform_8 (grid0.coords t) 1 * 512 + 1 * k.val = k.val
    rw [map8 t]; show 0 * 512 + 1 * k.val = _; omega

theorem b9_at (r : Fin 1) (k : Fin 512) : (blk m c t).x9 (ix2 r k) = V m c main_arg4 (ix2 r k) := by
  refine same_at (V m c main_arg4) _ (ix2 r k) ?_ ?_
  · show cc0_transform_9 (grid0.coords t) 0 * 1 + 1 * r.val = r.val
    rw [map9 t]; show 0 * 1 + 1 * r.val = _; omega
  · show cc0_transform_9 (grid0.coords t) 1 * 512 + 1 * k.val = k.val
    rw [map9 t]; show 0 * 512 + 1 * k.val = _; omega

theorem b10_at (r : Fin 1) (k : Fin 512) : (blk m c t).x10 (ix2 r k) = V m c main_arg7 (ix2 r k) := by
  refine same_at (V m c main_arg7) _ (ix2 r k) ?_ ?_
  · show cc0_transform_10 (grid0.coords t) 0 * 1 + 1 * r.val = r.val
    rw [map10 t]; show 0 * 1 + 1 * r.val = _; omega
  · show cc0_transform_10 (grid0.coords t) 1 * 512 + 1 * k.val = k.val
    rw [map10 t]; show 0 * 512 + 1 * k.val = _; omega

theorem b11_at (r : Fin 1) (k : Fin 1024) : (blk m c t).x11 (ix2 r k) = V m c main_arg1 (ix2 r k) := by
  refine same_at (V m c main_arg1) _ (ix2 r k) ?_ ?_
  · show cc0_transform_11 (grid0.coords t) 0 * 1 + 1 * r.val = r.val
    rw [map11 t]; show 0 * 1 + 1 * r.val = _; omega
  · show cc0_transform_11 (grid0.coords t) 1 * 1024 + 1 * k.val = k.val
    rw [map11 t]; show 0 * 1024 + 1 * k.val = _; omega

theorem b12_at (r : Fin 512) (k : Fin 512) : (blk m c t).x12 (ix2 r k) = V m c main_v21 (ix2 r k) := by
  refine same_at (V m c main_v21) _ (ix2 r k) ?_ ?_
  · show cc0_transform_12 (grid0.coords t) 0 * 512 + 1 * r.val = r.val
    rw [map12 t]; show 0 * 512 + 1 * r.val = _; omega
  · show cc0_transform_12 (grid0.coords t) 1 * 512 + 1 * k.val = k.val
    rw [map12 t]; show 0 * 512 + 1 * k.val = _; omega

theorem b13_at (r : Fin 1) (k : Fin 512) : (blk m c t).x13 (ix2 r k) = V m c main_v24 (ix2 r k) := by
  refine same_at (V m c main_v24) _ (ix2 r k) ?_ ?_
  · show cc0_transform_13 (grid0.coords t) 0 * 1 + 1 * r.val = r.val
    rw [map13 t]; show 0 * 1 + 1 * r.val = _; omega
  · show cc0_transform_13 (grid0.coords t) 1 * 512 + 1 * k.val = k.val
    rw [map13 t]; show 0 * 512 + 1 * k.val = _; omega

theorem b14_at (r : Fin 1) (k : Fin 512) : (blk m c t).x14 (ix2 r k) = V m c main_v27 (ix2 r k) := by
  refine same_at (V m c main_v27) _ (ix2 r k) ?_ ?_
  · show cc0_transform_14 (grid0.coords t) 0 * 1 + 1 * r.val = r.val
    rw [map14 t]; show 0 * 1 + 1 * r.val = _; omega
  · show cc0_transform_14 (grid0.coords t) 1 * 512 + 1 * k.val = k.val
    rw [map14 t]; show 0 * 512 + 1 * k.val = _; omega

/-- What the programs hold on a device, as rows. -/
def arr : Cert.Mix.Arr :=
  Cert.Mix.ofArrays (m ((c : Thread nD τ).loc main_arg0)) (m ((c : Thread nD τ).loc main_arg1)) (zz m c) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))

theorem z28_at (g : Fin 8192) (k : Fin 1536) : V m c main_v28 (ix2 g k) = zz m c (ix2 g ⟨k.val, by omega⟩) := by
  rw [V28]; pointwise
theorem z29_at (g : Fin 8192) (k : Fin 1536) : V m c main_v29 (ix2 g k) = zz m c (ix2 g ⟨1536 + k.val, by omega⟩) := by
  rw [V29]; pointwise

open Cert.Mix in
theorem arrRow_eq {n : ℕ} (X : (⟨2, ![8192, n]⟩ : Shape).Idx → EReal) (g : Fin 8192) (g' : ℕ) (h : g.val = g') (l l' : Fin n) (hl : l.val = l'.val) :
    X (ix2 g l) = rowOf X g' l' := by
  subst h; rw [rowOf_val, Fin.ext hl]

theorem isTile : IsTile (arr m c) (blk m c t) (15 - t.val) where
  x r k := by rw [b0_at, V_main_arg0]; exact arrRow_eq (m ((c : Thread nD τ).loc main_arg0)) _ _ rfl _ _ rfl
  dy r k := by rw [b4_at, V_main_arg8]; exact arrRow_eq (m ((c : Thread nD τ).loc main_arg8)) _ _ rfl _ _ rfl
  dq r k := by rw [b5_at, V_main_arg9]; exact arrRow_eq (m ((c : Thread nD τ).loc main_arg9)) _ _ rfl _ _ rfl
  dk r k := by rw [b6_at, V_main_arg10]; exact arrRow_eq (m ((c : Thread nD τ).loc main_arg10)) _ _ rfl _ _ rfl
  dv r k := by rw [b7_at, V_main_arg11]; exact arrRow_eq (m ((c : Thread nD τ).loc main_arg11)) _ _ rfl _ _ rfl
  zb r j := by rw [b1_at, z28_at]; exact arrRow_eq (zz m c) _ _ rfl _ _ (by first | rfl | (show _ + (_ + _) = _ + _; omega))
  zc r j := by rw [b1_at, z28_at]; exact arrRow_eq (zz m c) _ _ rfl _ _ (by first | rfl | (show _ + (_ + _) = _ + _; omega))
  zx r j := by rw [b1_at, z28_at]; exact arrRow_eq (zz m c) _ _ rfl _ _ (by first | rfl | (show _ + (_ + _) = _ + _; omega))
  zq r j := by rw [b3_at, z29_at]; exact arrRow_eq (zz m c) _ _ rfl _ _ (by first | rfl | (show _ + (_ + _) = _ + _; omega))
  zk r j := by rw [b3_at, z29_at]; exact arrRow_eq (zz m c) _ _ rfl _ _ (by first | rfl | (show _ + (_ + _) = _ + _; omega))
  hc q j h := by rw [b2_at, z28_at]; exact arrRow_eq (zz m c) _ _ (by show 8 * (64 * (15 - t.val) - 1) + q.val = _; omega) _ _ rfl
  hx q j h := by rw [b2_at, z28_at]; exact arrRow_eq (zz m c) _ _ (by show 8 * (64 * (15 - t.val) - 1) + q.val = _; omega) _ _ rfl
  w k j := by rw [b8_at, V_main_arg3]; rfl
  bias j := by rw [b9_at, V_main_arg4]; rfl
  go j := by rw [b10_at, V_main_arg7]; rfl
  gx j := by rw [b11_at, V_main_arg1]; rfl
  gm k j := by rw [b12_at, V21]
  gq j := by rw [b13_at, V24]; rfl
  gk j := by rw [b14_at, V27]; rfl

theorem holds : ∀ n ≤ 16, Holds (arr m c) (stAt m c n) n
  | 0, _ => by rw [stAt_zero]; exact holds_zero _
  | n + 1, h => by
    rw [stAt_succ m c ⟨n, h⟩]
    exact holds_step _ (holds n (by omega)) (by omega) (coords_val ⟨n, h⟩) (isTile m c ⟨n, h⟩)

theorem dzAt_at (r : Fin 512) (l : Fin 3072) : dzAt m c t (ix2 r l) = Cert.Mix.dz (arr m c) (512 * (15 - t.val) + r.val) l :=
  dzB_at _ (holds m c t.val (by omega)) t.isLt (coords_val t) (isTile m c t) r l

end Cert.KernelIdeal.Mix
-- ==== Proof.Mix.Out.lean ====
module

public import proofs.«01_k».proof.Proof.Mix.Blocks
public import Idealize.ShloMosaic.Lib.Pipeline.ValueKit.Geometry

@[expose] public section

set_option maxRecDepth 16384

noncomputable section

namespace Cert.KernelIdeal.Mix

open Cert.KernelIdeal Cert.KernelIdeal.Gen
open Idealize.ShloMosaic Idealize.ShloMosaic.TcCoe
open Cert.Mix (oDz oDcw oDcb oDgoc oDgq oDgk oGw ext2 ext_row)

variable (m : (ℓ : Loc nD τ sig) → Buf (Elt Ideal) ℓ) (c : Dev nD)

theorem dz_out : (dats m 0 c).arrAt 15 cfg0.N = oDz (arr m c) := by
  refine (dats m 0 c).arrAt_eq_of_covers 15 (oDz (arr m c)) (by decide +kernel) fun t hf y => ?_
  rw [after_15]
  have e := dzAt_at m c t (y 0) (y 1)
  rw [← eq_ix2 (n0 := 512) (n1 := 3072) y] at e
  refine e.trans ?_
  show _ = Cert.Mix.dz (arr m c) (cc0_transform_15 (grid0.coords t) 0 * 512 + 1 * (y 0).val)
    ⟨cc0_transform_15 (grid0.coords t) 1 * 3072 + 1 * (y 1).val, _⟩
  have h : ∀ t : Fin 16, cc0_transform_15 (grid0.coords t) = ![15 - t.val, 0] := by decide
  refine congr (congrArg _ ?_) (Fin.ext ?_)
  · rw [h t]; show _ = (15 - t.val) * 512 + 1 * (y 0).val; omega
  · show _ = cc0_transform_15 (grid0.coords t) 1 * 3072 + 1 * (y 1).val
    rw [h t]; show _ = 0 * 3072 + 1 * (y 1).val; omega

theorem dcw_out : (dats m 0 c).arrAt 16 cfg0.N = oDcw (arr m c) := by
  refine (dats m 0 c).arrAt_eq_of_after_last 16 (⟨15, by decide⟩ : Fin cfg0.N) (by decide +kernel) (oDcw (arr m c)) fun (j : (⟨2, ![3, 512]⟩ : Shape).Idx) => ?_
  rw [after_16]
  have e := (holds m c 16 le_rfl).dcw (j 0) (j 1)
  rw [← eq_ix2 (n0 := 3) (n1 := 512) j, Cert.Mix.tiles_all] at e
  exact e

theorem dcb_out : (dats m 0 c).arrAt 17 cfg0.N = oDcb (arr m c) := by
  refine (dats m 0 c).arrAt_eq_of_after_last 17 (⟨15, by decide⟩ : Fin cfg0.N) (by decide +kernel) (oDcb (arr m c)) fun (j : (⟨2, ![1, 512]⟩ : Shape).Idx) => ?_
  rw [after_17]
  have e := (holds m c 16 le_rfl).dcb (j 1)
  rw [show (0 : Fin 1) = j 0 from Subsingleton.elim _ _, ← eq_ix2 (n0 := 1) (n1 := 512) j, Cert.Mix.tiles_all] at e
  exact e

theorem dgoc_out : (dats m 0 c).arrAt 18 cfg0.N = oDgoc (arr m c) := by
  refine (dats m 0 c).arrAt_eq_of_after_last 18 (⟨15, by decide⟩ : Fin cfg0.N) (by decide +kernel) (oDgoc (arr m c)) fun (j : (⟨2, ![1, 512]⟩ : Shape).Idx) => ?_
  rw [after_18]
  have e := (holds m c 16 le_rfl).dgoc (j 1)
  rw [show (0 : Fin 1) = j 0 from Subsingleton.elim _ _, ← eq_ix2 (n0 := 1) (n1 := 512) j, Cert.Mix.tiles_all] at e
  exact e

theorem dgq_out : (dats m 0 c).arrAt 19 cfg0.N = oDgq (arr m c) := by
  refine (dats m 0 c).arrAt_eq_of_after_last 19 (⟨15, by decide⟩ : Fin cfg0.N) (by decide +kernel) (oDgq (arr m c)) fun (j : (⟨2, ![1, 512]⟩ : Shape).Idx) => ?_
  rw [after_19]
  have e := (holds m c 16 le_rfl).dgq (j 1)
  rw [show (0 : Fin 1) = j 0 from Subsingleton.elim _ _, ← eq_ix2 (n0 := 1) (n1 := 512) j, Cert.Mix.tiles_all] at e
  exact e

theorem dgk_out : (dats m 0 c).arrAt 20 cfg0.N = oDgk (arr m c) := by
  refine (dats m 0 c).arrAt_eq_of_after_last 20 (⟨15, by decide⟩ : Fin cfg0.N) (by decide +kernel) (oDgk (arr m c)) fun (j : (⟨2, ![1, 512]⟩ : Shape).Idx) => ?_
  rw [after_20]
  have e := (holds m c 16 le_rfl).dgk (j 1)
  rw [show (0 : Fin 1) = j 0 from Subsingleton.elim _ _, ← eq_ix2 (n0 := 1) (n1 := 512) j, Cert.Mix.tiles_all] at e
  exact e

theorem gw_out : gw m c = oGw (arr m c) :=
  ext2 fun k l => ((holds m c 16 le_rfl).wacc k l).trans (Cert.Mix.tiles_all _)
theorem gw16_out : k0_pay2 (gw m c) = oGw (arr m c) := by
  rw [gw_out]; exact ext2 fun k l => by pointwise [k0_pay2]

end Cert.KernelIdeal.Mix
-- ==== Proof.Mix.Ref.lean ====
module

public import proofs.«01_k».proof.Proof.Mix.Arrays
public import proofs.«01_k».proof.Proof.Gen.ReferenceIdeal.Read
public import Idealize.ShloMosaic.Lib.Pointwise

@[expose] public section

set_option maxRecDepth 16384

noncomputable section

namespace Cert.ReferenceIdeal.Mix

open Cert.ReferenceIdeal Cert.ReferenceIdeal.Read
open Idealize.ShloMosaic Idealize.ShloMosaic.TcCoe
open Cert.Mix

/-- The reference's arguments. -/
structure Args where
  x0 : (⟨S8192x1024, .f32⟩ : BufTy).Contents (Elt Ideal)
  x1 : (⟨S1x1024, .f32⟩ : BufTy).Contents (Elt Ideal)
  x2 : (⟨S1024x3072, .f32⟩ : BufTy).Contents (Elt Ideal)
  x3 : (⟨S3x512, .f32⟩ : BufTy).Contents (Elt Ideal)
  x4 : (⟨S1x512, .f32⟩ : BufTy).Contents (Elt Ideal)
  x5 : (⟨S1x64, .f32⟩ : BufTy).Contents (Elt Ideal)
  x6 : (⟨S1x64, .f32⟩ : BufTy).Contents (Elt Ideal)
  x7 : (⟨S1x512, .f32⟩ : BufTy).Contents (Elt Ideal)
  x8 : (⟨S8192x512, .f32⟩ : BufTy).Contents (Elt Ideal)
  x9 : (⟨S8192x512, .f32⟩ : BufTy).Contents (Elt Ideal)
  x10 : (⟨S8192x512, .f32⟩ : BufTy).Contents (Elt Ideal)
  x11 : (⟨S8192x512, .f32⟩ : BufTy).Contents (Elt Ideal)

variable (a : Args)

/-- Its arguments as rows. -/
def A : Arr := ofArrays a.x0 a.x1 (val_main_v18 (F := Ideal) a.x0 a.x1 a.x2) a.x3 a.x4 a.x5 a.x6 a.x7 a.x8 a.x9 a.x10 a.x11

theorem lit0 : Ideal.ofBits .f32 0x00000000#32 = 0 := by
  simp [Ideal.ofBits, Ideal.ieee]
theorem lit512 : Ideal.ofBits .f32 0x44000000#32 = ((512 : ℝ) : EReal) := by
  simp [Ideal.ofBits, Ideal.ieee, -EReal.coe_mul]; norm_num
theorem lit1024 : Ideal.ofBits .f32 0x44800000#32 = ((1024 : ℝ) : EReal) := by
  simp [Ideal.ofBits, Ideal.ieee, -EReal.coe_mul]; norm_num
theorem lit64 : Ideal.ofBits .f32 0x42800000#32 = ((64 : ℝ) : EReal) := by
  simp [Ideal.ofBits, Ideal.ieee, -EReal.coe_mul]; norm_num
theorem litHalf : Ideal.ofBits .f32 0xBF000000#32 = ((-1 / 2 : ℝ) : EReal) := by
  simp [Ideal.ofBits, Ideal.ieee, -EReal.coe_mul]; norm_num

variable (g : Fin 8192) (j : Fin 512)

theorem row_dy : a.x8 (ix2 g j) = (A a).dy g j := (rowOf_val a.x8 g j).symm
theorem row_dq : a.x9 (ix2 g j) = (A a).dq g j := (rowOf_val a.x9 g j).symm
theorem row_dk : a.x10 (ix2 g j) = (A a).dk g j := (rowOf_val a.x10 g j).symm
theorem row_dv : a.x11 (ix2 g j) = (A a).dv g j := (rowOf_val a.x11 g j).symm
theorem row_x (k : Fin 1024) : a.x0 (ix2 g k) = (A a).x g k := (rowOf_val a.x0 g k).symm
theorem v19_at : (val_main_v19 (F := Ideal) a.x0 a.x1 a.x2) (ix2 g j) = (A a).zb g j := by
  pointwise [val_main_v19]
  exact (rowOf_val (val_main_v18 (F := Ideal) a.x0 a.x1 a.x2) g _).symm
theorem v20_at : (val_main_v20 (F := Ideal) a.x0 a.x1 a.x2) (ix2 g j) = (A a).zc g j := by
  pointwise [val_main_v20]
  exact (rowOf_val (val_main_v18 (F := Ideal) a.x0 a.x1 a.x2) g _).symm
theorem v21_at : (val_main_v21 (F := Ideal) a.x0 a.x1 a.x2) (ix2 g j) = (A a).zx g j := by
  pointwise [val_main_v21]
  exact (rowOf_val (val_main_v18 (F := Ideal) a.x0 a.x1 a.x2) g _).symm
theorem v22_at : (val_main_v22 (F := Ideal) a.x0 a.x1 a.x2) (ix2 g j) = (A a).zq g j := by
  pointwise [val_main_v22]
  exact (rowOf_val (val_main_v18 (F := Ideal) a.x0 a.x1 a.x2) g _).symm
theorem v23_at : (val_main_v23 (F := Ideal) a.x0 a.x1 a.x2) (ix2 g j) = (A a).zk g j := by
  pointwise [val_main_v23]
  exact (rowOf_val (val_main_v18 (F := Ideal) a.x0 a.x1 a.x2) g _).symm
theorem v25_at : (val_main_v25 (F := Ideal) a.x0 a.x1 a.x2) (ix2 g j) = u (A a) g j := by
  pointwise [val_main_v25]
  rw [v20_at, v21_at]; rfl
theorem v29_at : (val_main_v29 (F := Ideal) a.x0 a.x1 a.x2) (ix2 g j) = us (A a) 2 g j := by
  pointwise [val_main_v29, val_main_v27, val_main_v26, val_main_cst_2]
  show _ = if _ then _ else _
  split
  · rfl
  · exact v25_at a ⟨g.val - 2, by omega⟩ j
theorem v35_at : (val_main_v35 (F := Ideal) a.x0 a.x1 a.x2) (ix2 g j) = us (A a) 1 g j := by
  pointwise [val_main_v35, val_main_v27, val_main_v26, val_main_cst_2]
  show _ = if _ then _ else _
  by_cases h : g.val < 1
  · rw [dif_pos (by omega), if_pos h]
  · rw [dif_neg (by omega), if_neg h]
    have e : (⟨1 + g.val - 2, by omega⟩ : Fin 8192) = ⟨g.val - 1, by omega⟩ := Fin.ext (by show 1 + g.val - 2 = g.val - 1; omega)
    rw [e]; exact v25_at a ⟨g.val - 1, by omega⟩ j
theorem v42_at : (val_main_v42 (F := Ideal) a.x0 a.x1 a.x2) (ix2 g j) = us (A a) 0 g j := by
  pointwise [val_main_v42, val_main_v27, val_main_v26, val_main_cst_2]
  exact v25_at a g j
theorem v50_at : (val_main_v50 (F := Ideal) a.x0 a.x1 a.x2 a.x3 a.x4) (ix2 g j) = cv (A a) g j := by
  pointwise [val_main_v50, val_main_v49, val_main_v48, val_main_v47, val_main_v46, val_main_v45, val_main_v44, val_main_v43, val_main_v41, val_main_v40, val_main_v39, val_main_v38, val_main_v37, val_main_v36, val_main_v34, val_main_v33, val_main_v32, val_main_v31, val_main_v30]
  rw [v29_at, v35_at, v42_at, mul_comm (us _ _ _ _), mul_comm (us _ 1 _ _), mul_comm (us _ 0 _ _)]; rfl
theorem v51_at : (val_main_v51 (F := Ideal) a.x0 a.x1 a.x2 a.x3 a.x4) (ix2 g j) = y (A a) g j := by
  pointwise [val_main_v51]
  rw [v19_at, v50_at]; rfl
theorem v92_at : (val_main_v92 (F := Ideal) a.x0 a.x1 a.x2 a.x3 a.x4) (ix2 g 0) = ms 512 (y (A a) g) := by
  pointwise [val_main_v92, val_main_v91, val_main_v90, val_main_v89, val_main_v88, val_main_v87, val_main_v86, val_main_cst_12, val_main_cst_13, val_main_cst_14]
  simp only [v51_at, lit512]; rfl
theorem v93_at : (val_main_v93 (F := Ideal) a.x0 a.x1 a.x2 a.x3 a.x4) (ix2 g 0) = yr (A a) g := by
  pointwise [val_main_v93]
  rw [v92_at]; rfl
theorem v98_at : (val_main_v98 (F := Ideal) a.x0 a.x1 a.x2 a.x3 a.x4) (ix2 g j) = y (A a) g j * yr (A a) g := by
  pointwise [val_main_v98, val_main_v97]
  rw [v51_at, v93_at]
theorem v111_at : (val_main_v111 (F := Ideal) a.x0 a.x1 a.x2 a.x3 a.x4 a.x8) (ix2 0 j) = total fun g => tn (A a) g j := by
  pointwise [val_main_v111, val_main_v110, val_main_v109, val_main_cst_18]
  rw [total_eq]; exact Finset.sum_congr rfl fun g _ => by rw [v98_at, row_dy, mul_comm]; rfl
theorem v113_at : (val_main_v113 (F := Ideal) a.x7 a.x8) (ix2 g j) = yd (A a) g j := by
  pointwise [val_main_v113, val_main_v112]
  rw [row_dy]; rfl
theorem v122_at : (val_main_v122 (F := Ideal) a.x0 a.x1 a.x2 a.x3 a.x4 a.x7 a.x8) (ix1 g) = coef 512 (y (A a) g) (yd (A a) g) := by
  pointwise [val_main_v122, val_main_v121, val_main_v120, val_main_v119, val_main_v116, val_main_v115, val_main_v114, val_main_v96, val_main_v95, val_main_v94, val_main_cst_15, val_main_cst_19, val_main_cst_20, val_main_cst_21]
  simp only [Fin.sum_univ_one, v51_at, v113_at, v92_at, v93_at, lit512, litHalf]; rfl
theorem v127_at : (val_main_v127 (F := Ideal) a.x0 a.x1 a.x2 a.x3 a.x4 a.x7 a.x8) (ix2 g j) = dyc (A a) g j := by
  pointwise [val_main_v127, val_main_v126, val_main_v125, val_main_v124, val_main_v123, val_main_v118, val_main_v117]
  rw [v51_at, v93_at, v113_at, v122_at]
  exact (back_eq 512 (y (A a) g) (yd (A a) g) j (by norm_num)).symm

end Cert.ReferenceIdeal.Mix
-- ==== Proof.Mix.RefHeads.lean ====
module

public import proofs.«01_k».proof.Proof.Mix.Arrays
public import proofs.«01_k».proof.Proof.Gen.ReferenceIdeal.Read
public import Idealize.ShloMosaic.Lib.Pointwise
public import proofs.«01_k».proof.Proof.Mix.Ref

@[expose] public section

set_option maxRecDepth 16384

noncomputable section

namespace Cert.ReferenceIdeal.Mix

open Cert.ReferenceIdeal Cert.ReferenceIdeal.Read
open Idealize.ShloMosaic Idealize.ShloMosaic.TcCoe
open Cert.Mix

variable (a : Args) (g : Fin 8192) (j : Fin 512) (p : Fin 8) (o : Fin 64)

theorem oOf_lane : oOf (lane p o) = o := Fin.ext (by show (64 * p.val + o.val) % 64 = o.val; omega)

/-- A row's heads. -/
theorem head_val {x : (⟨2, ![8192, 512]⟩ : Shape).Idx → EReal} {f : ℕ → Fin 512 → EReal} (h : ∀ g j, x (ix2 g j) = f (g : Fin 8192).val j) (l : Fin 512)
    (hl : l.val = 64 * p.val + o.val) : x (ix2 g l) = part (f g) p o := by
  rw [h, show l = lane p o from Fin.ext hl]; rfl

theorem v52_at : (val_main_v52 (F := Ideal) a.x0 a.x1 a.x2) (ix3 g p o) = part ((A a).zq g) p o := by
  pointwise [val_main_v52]
  exact head_val g p o (f := (A a).zq) (v22_at a) _ (by show p.val * 64 + o.val = 64 * p.val + o.val; omega)
theorem v59_at : (val_main_v59 (F := Ideal) a.x0 a.x1 a.x2) (ix3 g p 0) = ms 64 (part ((A a).zq g) p) := by
  pointwise [val_main_v59, val_main_v58, val_main_v57, val_main_v56, val_main_v55, val_main_v54, val_main_v53, val_main_cst_4, val_main_cst_5, val_main_cst_6]
  simp only [v52_at, lit64]; rfl
theorem v60_at : (val_main_v60 (F := Ideal) a.x0 a.x1 a.x2) (ix3 g p 0) = rt 64 (part ((A a).zq g) p) := by
  pointwise [val_main_v60]
  rw [v59_at]; rfl
theorem v65_at : (val_main_v65 (F := Ideal) a.x0 a.x1 a.x2) (ix3 g p o) = hy ((A a).zq g) (lane p o) := by
  pointwise [val_main_v65, val_main_v64]
  rw [v52_at, v60_at]; unfold hy hrt; rw [hOf_lane]; rfl
theorem v108_at : (val_main_v108 (F := Ideal) a.x9) (ix3 g p o) = qd (A a) g (lane p o) := by
  pointwise [val_main_v108, val_main_v107, val_main_v106, val_main_cst_17]
  rw [head_val g p o (f := (A a).dq) (row_dq a) _ (by show p.val * 64 + o.val = 64 * p.val + o.val; omega)]; rfl
/-- The cotangent of the normed queries. -/
def dq (g : ℕ) : Fin 512 → EReal := fun j => qd (A a) g j * (A a).gq j
theorem v153_at : (val_main_v153 (F := Ideal) a.x5 a.x9) (ix3 g p o) = part (dq a g) p o := by
  pointwise [val_main_v153, val_main_v152, val_main_v66, val_main_v14, val_main_v13, val_main_v12]
  rw [v108_at]
  show _ = _ * a.x5 (ix2 0 (oOf (lane p o)))
  rw [oOf_lane]
theorem v163_at : (val_main_v163 (F := Ideal) a.x0 a.x1 a.x2 a.x5 a.x9) (ix2 g p) = coef 64 (part ((A a).zq g) p) (part (dq a g) p) := by
  pointwise [val_main_v163, val_main_v162, val_main_v161, val_main_v160, val_main_v157, val_main_v156, val_main_v155, val_main_v63, val_main_v62, val_main_v61, val_main_cst_7, val_main_cst_29, val_main_cst_30, val_main_cst_31]
  simp only [Fin.sum_univ_one, v52_at, v153_at, v59_at, v60_at, lit64, litHalf]; rfl
theorem v168_at : (val_main_v168 (F := Ideal) a.x0 a.x1 a.x2 a.x5 a.x9) (ix3 g p o) = back 64 (part ((A a).zq g) p) (part (dq a g) p) o := by
  pointwise [val_main_v168, val_main_v167, val_main_v166, val_main_v165, val_main_v164, val_main_v159, val_main_v158]
  rw [v52_at, v153_at, v60_at, v163_at]
  exact (back_eq 64 (part ((A a).zq g) p) (part (dq a g) p) o (by norm_num)).symm
theorem v169_at : (val_main_v169 (F := Ideal) a.x0 a.x1 a.x2 a.x5 a.x9) (ix2 g j) = dzq (A a) g j := by
  pointwise [val_main_v169]
  exact v168_at a g (hOf j) (oOf j)
theorem v154_at : (val_main_v154 (F := Ideal) a.x0 a.x1 a.x2 a.x9) (ix2 p o) = total fun g => tq (A a) g (lane p o) := by
  pointwise [val_main_v154, val_main_v151, val_main_v150, val_main_v149, val_main_cst_27, val_main_cst_28]
  simp only [Fin.sum_univ_one]
  rw [total_eq]; exact Finset.sum_congr rfl fun g _ => by rw [v65_at, v108_at, mul_comm]; rfl
theorem v213_at : (val_main_v213 (F := Ideal) a.x0 a.x1 a.x2 a.x9) (ix2 0 j) = total fun g => tq (A a) g j := by
  pointwise [val_main_v213]
  refine (v154_at a (hOf j) (oOf j)).trans ?_
  rw [lane_eq]

theorem v69_at : (val_main_v69 (F := Ideal) a.x0 a.x1 a.x2) (ix3 g p o) = part ((A a).zk g) p o := by
  pointwise [val_main_v69]
  exact head_val g p o (f := (A a).zk) (v23_at a) _ (by show p.val * 64 + o.val = 64 * p.val + o.val; omega)
theorem v76_at : (val_main_v76 (F := Ideal) a.x0 a.x1 a.x2) (ix3 g p 0) = ms 64 (part ((A a).zk g) p) := by
  pointwise [val_main_v76, val_main_v75, val_main_v74, val_main_v73, val_main_v72, val_main_v71, val_main_v70, val_main_cst_8, val_main_cst_9, val_main_cst_10]
  simp only [v69_at, lit64]; rfl
theorem v77_at : (val_main_v77 (F := Ideal) a.x0 a.x1 a.x2) (ix3 g p 0) = rt 64 (part ((A a).zk g) p) := by
  pointwise [val_main_v77]
  rw [v76_at]; rfl
theorem v82_at : (val_main_v82 (F := Ideal) a.x0 a.x1 a.x2) (ix3 g p o) = hy ((A a).zk g) (lane p o) := by
  pointwise [val_main_v82, val_main_v81]
  rw [v69_at, v77_at]; unfold hy hrt; rw [hOf_lane]; rfl
theorem v105_at : (val_main_v105 (F := Ideal) a.x10) (ix3 g p o) = (A a).dk g (lane p o) := by
  pointwise [val_main_v105]
  exact head_val g p o (f := (A a).dk) (row_dk a) _ (by show p.val * 64 + o.val = 64 * p.val + o.val; omega)
/-- The cotangent of the normed keys. -/
def dk (g : ℕ) : Fin 512 → EReal := fun j => (A a).dk g j * (A a).gk j
theorem v132_at : (val_main_v132 (F := Ideal) a.x6 a.x10) (ix3 g p o) = part (dk a g) p o := by
  pointwise [val_main_v132, val_main_v131, val_main_v83, val_main_v17, val_main_v16, val_main_v15]
  rw [v105_at]
  show _ = _ * a.x6 (ix2 0 (oOf (lane p o)))
  rw [oOf_lane]
theorem v142_at : (val_main_v142 (F := Ideal) a.x0 a.x1 a.x2 a.x6 a.x10) (ix2 g p) = coef 64 (part ((A a).zk g) p) (part (dk a g) p) := by
  pointwise [val_main_v142, val_main_v141, val_main_v140, val_main_v139, val_main_v136, val_main_v135, val_main_v134, val_main_v80, val_main_v79, val_main_v78, val_main_cst_11, val_main_cst_24, val_main_cst_25, val_main_cst_26]
  simp only [Fin.sum_univ_one, v69_at, v132_at, v76_at, v77_at, lit64, litHalf]; rfl
theorem v147_at : (val_main_v147 (F := Ideal) a.x0 a.x1 a.x2 a.x6 a.x10) (ix3 g p o) = back 64 (part ((A a).zk g) p) (part (dk a g) p) o := by
  pointwise [val_main_v147, val_main_v146, val_main_v145, val_main_v144, val_main_v143, val_main_v138, val_main_v137]
  rw [v69_at, v132_at, v77_at, v142_at]
  exact (back_eq 64 (part ((A a).zk g) p) (part (dk a g) p) o (by norm_num)).symm
theorem v148_at : (val_main_v148 (F := Ideal) a.x0 a.x1 a.x2 a.x6 a.x10) (ix2 g j) = dzk (A a) g j := by
  pointwise [val_main_v148]
  exact v147_at a g (hOf j) (oOf j)
theorem v133_at : (val_main_v133 (F := Ideal) a.x0 a.x1 a.x2 a.x10) (ix2 p o) = total fun g => tk (A a) g (lane p o) := by
  pointwise [val_main_v133, val_main_v130, val_main_v129, val_main_v128, val_main_cst_22, val_main_cst_23]
  simp only [Fin.sum_univ_one]
  rw [total_eq]; exact Finset.sum_congr rfl fun g _ => by rw [v82_at, v105_at, mul_comm]; rfl
theorem v214_at : (val_main_v214 (F := Ideal) a.x0 a.x1 a.x2 a.x10) (ix2 0 j) = total fun g => tk (A a) g j := by
  pointwise [val_main_v214]
  refine (v133_at a (hOf j) (oOf j)).trans ?_
  rw [lane_eq]

end Cert.ReferenceIdeal.Mix
-- ==== Proof.Mix.RefTail.lean ====
module

public import proofs.«01_k».proof.Proof.Mix.Arrays
public import proofs.«01_k».proof.Proof.Gen.ReferenceIdeal.Read
public import Idealize.ShloMosaic.Lib.Pointwise
public import proofs.«01_k».proof.Proof.Mix.RefHeads

@[expose] public section

set_option maxRecDepth 16384

noncomputable section

namespace Cert.ReferenceIdeal.Mix

open Cert.ReferenceIdeal Cert.ReferenceIdeal.Read
open Idealize.ShloMosaic Idealize.ShloMosaic.TcCoe
open Cert.Mix

variable (a : Args) (g : Fin 8192) (j : Fin 512)

theorem dcv_lt : dcv (A a) g j = dyc (A a) g j * (A a).zb g j := if_pos g.isLt
theorem dcv_ge (g : ℕ) (h : ¬ g < 8192) : dcv (A a) g j = 0 := if_neg h

theorem dz_block (g : ℕ) (p : ℕ) (l : Fin 3072) (j : Fin 512) (hl : l.val = 512 * p + j.val) : dz (A a) g l = dzc (A a) g p j := by
  unfold dz
  rw [show l.val / 512 = p by omega]
  exact congrArg _ (Fin.ext (by show l.val % 512 = j.val; omega))

theorem v170_at : (val_main_v170 (F := Ideal) a.x0 a.x1 a.x2 a.x3 a.x4 a.x7 a.x8) (ix2 g j) = dcv (A a) g j := by
  pointwise [val_main_v170]
  rw [v19_at, v127_at, dcv_lt, mul_comm]
theorem v171_at : (val_main_v171 (F := Ideal) a.x0 a.x1 a.x2 a.x3 a.x4 a.x7 a.x8) (ix2 g j) = dyc (A a) g j * cv (A a) g j := by
  pointwise [val_main_v171]
  rw [v127_at, v50_at]
theorem v173_at : (val_main_v173 (F := Ideal) a.x0 a.x1 a.x2 a.x3 a.x4 a.x7 a.x8) (ix2 0 j) = total fun g => dcv (A a) g j := by
  pointwise [val_main_v173, val_main_v172, val_main_cst_32]
  rw [total_eq]; exact Finset.sum_congr rfl fun g _ => v170_at a g j
theorem v179_at : (val_main_v179 (F := Ideal) a.x0 a.x1 a.x2 a.x3 a.x4 a.x7 a.x8) (ix1 j) = total fun g => tw (A a) g 2 j := by
  pointwise [val_main_v179, val_main_v176, val_main_v175, val_main_v174, val_main_cst_33, val_main_cst_34]
  simp only [Fin.sum_univ_one]
  rw [total_eq]; exact Finset.sum_congr rfl fun g _ => by rw [v42_at, v170_at, mul_comm]; rfl
theorem v188_at : (val_main_v188 (F := Ideal) a.x0 a.x1 a.x2 a.x3 a.x4 a.x7 a.x8) (ix1 j) = total fun g => tw (A a) g 1 j := by
  pointwise [val_main_v188, val_main_v185, val_main_v184, val_main_v183, val_main_cst_37, val_main_cst_38]
  simp only [Fin.sum_univ_one]
  rw [total_eq]; exact Finset.sum_congr rfl fun g _ => by rw [v35_at, v170_at, mul_comm]; rfl
theorem v199_at : (val_main_v199 (F := Ideal) a.x0 a.x1 a.x2 a.x3 a.x4 a.x7 a.x8) (ix1 j) = total fun g => tw (A a) g 0 j := by
  pointwise [val_main_v199, val_main_v196, val_main_v195, val_main_v194, val_main_cst_41, val_main_cst_42]
  simp only [Fin.sum_univ_one]
  rw [total_eq]; exact Finset.sum_congr rfl fun g _ => by rw [v29_at, v170_at, mul_comm]; rfl
theorem v202_at (k : Fin 3) : (val_main_v202 (F := Ideal) a.x0 a.x1 a.x2 a.x3 a.x4 a.x7 a.x8) (ix2 k j) = total fun g => tw (A a) g k j := by
  pointwise [val_main_v202, val_main_v201, val_main_v200, val_main_v191, val_main_v190, val_main_v189, val_main_v181, val_main_v180, val_main_cst_35, val_main_cst_39, val_main_cst_43]
  rw [v179_at, v188_at, v199_at]
  fin_cases k <;> simp
theorem v206_at : (val_main_v206 (F := Ideal) a.x0 a.x1 a.x2 a.x3 a.x4 a.x7 a.x8) (ix2 g j) = du (A a) g j := by
  pointwise [val_main_v206, val_main_v204, val_main_v203, val_main_v193, val_main_v192, val_main_v182, val_main_cst_36, val_main_cst_40, val_main_cst_44, val_main_v178, val_main_v177, val_main_v45, val_main_v44, val_main_v43, val_main_v187, val_main_v186, val_main_v38, val_main_v37, val_main_v36, val_main_v198, val_main_v197, val_main_v32, val_main_v31, val_main_v30]
  have e1 : (if h : 1 ≤ 2 + g.val ∧ 2 + g.val - 1 < 8192 then (val_main_v170 (F := Ideal) a.x0 a.x1 a.x2 a.x3 a.x4 a.x7 a.x8) (ix2 ⟨2 + g.val - 1, h.2⟩ j) * a.x3 (ix2 1 j) else 0)
      = (A a).w 1 j * dcv (A a) (g.val + 1) j := by
    by_cases h : g.val + 1 < 8192
    · rw [dif_pos (by omega), v170_at, mul_comm]
      exact congrArg (fun n => a.x3 (ix2 1 j) * dcv (A a) n j) (show 2 + g.val - 1 = g.val + 1 by omega)
    · rw [dif_neg (by omega), dcv_ge a j _ h, mul_zero]
  have e0 : (if h : 2 + g.val < 8192 then (val_main_v170 (F := Ideal) a.x0 a.x1 a.x2 a.x3 a.x4 a.x7 a.x8) (ix2 ⟨2 + g.val, h⟩ j) * a.x3 (ix2 0 j) else 0)
      = (A a).w 0 j * dcv (A a) (g.val + 2) j := by
    by_cases h : g.val + 2 < 8192
    · rw [dif_pos (by omega), v170_at, mul_comm]
      exact congrArg (fun n => a.x3 (ix2 0 j) * dcv (A a) n j) (show 2 + g.val = g.val + 2 by omega)
    · rw [dif_neg (by omega), dcv_ge a j _ h, mul_zero]
  rw [e1, e0, v170_at, mul_comm]; rfl
theorem v207_at : (val_main_v207 (F := Ideal) a.x0 a.x1 a.x2 a.x3 a.x4 a.x7 a.x8) (ix2 g j) = du (A a) g j * (A a).zc g j := by
  pointwise [val_main_v207]
  rw [v206_at, v20_at, mul_comm]
theorem v208_at : (val_main_v208 (F := Ideal) a.x0 a.x1 a.x2 a.x3 a.x4 a.x7 a.x8) (ix2 g j) = du (A a) g j * (A a).zx g j := by
  pointwise [val_main_v208]
  rw [v206_at, v21_at]
theorem v209_at (l : Fin 3072) : (val_main_v209 (F := Ideal) a.x0 a.x1 a.x2 a.x3 a.x4 a.x5 a.x6 a.x7 a.x8 a.x9 a.x10 a.x11) (ix2 g l) = dz (A a) g l := by
  pointwise [val_main_v209]
  split
  · rw [v171_at]; exact (dz_block a g 0 l _ (by show l.val = 512 * 0 + l.val; omega)).symm
  split
  · rw [v208_at]; exact (dz_block a g 1 l _ (by show l.val = 512 * 1 + (l.val - 512); omega)).symm
  split
  · rw [v207_at]; exact (dz_block a g 2 l _ (by show l.val = 512 * 2 + (l.val - 512 - 512); omega)).symm
  split
  · rw [v169_at]; exact (dz_block a g 3 l _ (by show l.val = 512 * 3 + (l.val - 512 - 512 - 512); omega)).symm
  split
  · rw [v148_at]; exact (dz_block a g 4 l _ (by show l.val = 512 * 4 + (l.val - 512 - 512 - 512 - 512); omega)).symm
  · rw [row_dv]; exact (dz_block a g 5 l _ (by show l.val = 512 * 5 + (l.val - 512 - 512 - 512 - 512 - 512); omega)).symm
theorem v212_at (l : Fin 3072) : (val_main_v212 (F := Ideal) a.x0 a.x1 a.x2 a.x3 a.x4 a.x5 a.x6 a.x7 a.x8 a.x9 a.x10 a.x11) (ix2 g l) = dz (A a) g l := by
  pointwise [val_main_v212]
  exact v209_at a g l
theorem v11_at (k : Fin 1024) : (val_main_v11 (F := Ideal) a.x0 a.x1) (ix2 g k) = h (A a) g k := by
  pointwise [val_main_v11, val_main_v10, val_main_v9, val_main_v8, val_main_v7, val_main_v6, val_main_v5, val_main_v4, val_main_v3, val_main_v2, val_main_v1, val_main_v0, val_main_cst, val_main_cst_0, val_main_cst_1]
  simp only [row_x, lit1024]; rfl
theorem v211_at (k : Fin 1024) (l : Fin 3072) : (val_main_v211 (F := Ideal) a.x0 a.x1 a.x2 a.x3 a.x4 a.x5 a.x6 a.x7 a.x8 a.x9 a.x10 a.x11) (ix2 k l) = total fun g => tg (A a) g k l := by
  pointwise [val_main_v211, val_main_v210]
  rw [total_eq]; exact Finset.sum_congr rfl fun g _ => by rw [v209_at, v11_at, mul_comm]; rfl
theorem v215_at (k : Fin 1024) (l : Fin 3072) : (val_main_v215 (F := Ideal) a.x0 a.x1 a.x2 a.x3 a.x4 a.x5 a.x6 a.x7 a.x8 a.x9 a.x10 a.x11) (ix2 k l) = total fun g => tg (A a) g k l := by
  pointwise [val_main_v215]
  exact v211_at a k l

end Cert.ReferenceIdeal.Mix
-- ==== Proof.Mix.Value.lean ====
module

public import proofs.«01_k».proof.Proof.Mix.Out
public import proofs.«01_k».proof.Proof.Mix.RefTail
public import proofs.«01_k».proof.Defs
public import proofs.«01_k».proof.Proof.Gen.ReferenceIdeal.Run

@[expose] public section

set_option maxRecDepth 16384

noncomputable section

namespace Cert.KernelIdeal.Mix

open Cert.KernelIdeal Cert.KernelIdeal.Gen
open Idealize.ShloMosaic Idealize.ShloMosaic.TcCoe
open Cert.Mix (oDz oDcw oDcb oDgoc oDgq oDgk oGw ext2 ext_row)

section Kernel

variable (m : (ℓ : Loc nD τ sig) → Buf (Elt Ideal) ℓ) (ρ : Dev nD → PrngReg)

/-- What the kernel leaves in its eight results. -/
theorem outs : θ_run defs (onTc (τ := τ) (main (F := Ideal))) ⟨m, fun _ => 0, ρ⟩ (fun r => ∀ c : Dev nD,
      r.2.mem ((c.tc : Thread nD τ).loc main_v30_0) = oDz (arr m c)
      ∧ r.2.mem ((c.tc : Thread nD τ).loc main_v30_1) = oDcw (arr m c)
      ∧ r.2.mem ((c.tc : Thread nD τ).loc main_v30_2) = oDcb (arr m c)
      ∧ r.2.mem ((c.tc : Thread nD τ).loc main_v30_3) = oDgoc (arr m c)
      ∧ r.2.mem ((c.tc : Thread nD τ).loc main_v30_4) = oDgq (arr m c)
      ∧ r.2.mem ((c.tc : Thread nD τ).loc main_v30_5) = oDgk (arr m c)
      ∧ r.2.mem ((c.tc : Thread nD τ).loc main_v30_6) = oGw (arr m c)
      ∧ r.2.mem ((c.tc : Thread nD τ).loc main_v30_7) = oGw (arr m c)) :=
  (θ_run defs _ _).mono (fun r h c => ⟨
    ((h.1.toR c).1 15).trans (dz_out m c),
    ((h.1.toR c).1 16).trans (dcw_out m c),
    ((h.1.toR c).1 17).trans (dcb_out m c),
    ((h.1.toR c).1 18).trans (dgoc_out m c),
    ((h.1.toR c).1 19).trans (dgq_out m c),
    ((h.1.toR c).1 20).trans (dgk_out m c),
    (h.1.written c (b := main_v30_6) (by decide)).trans ((endAt_6 m c).trans (gw_out m c)),
    (h.1.written c (b := main_v30_7) (by decide)).trans ((endAt_7 m c).trans (gw16_out m c))⟩) (run m ρ)

end Kernel

section Reference

variable (a : Cert.ReferenceIdeal.Mix.Args)

open Cert.ReferenceIdeal.Mix Cert.ReferenceIdeal.Read

theorem ref_v212 : (val_main_v212 (F := Ideal) a.x0 a.x1 a.x2 a.x3 a.x4 a.x5 a.x6 a.x7 a.x8 a.x9 a.x10 a.x11) = oDz (A a) :=
  ext2 fun g l => v212_at a g l
theorem ref_v202 : (val_main_v202 (F := Ideal) a.x0 a.x1 a.x2 a.x3 a.x4 a.x7 a.x8) = oDcw (A a) :=
  ext2 fun k j => v202_at a j k
theorem ref_v173 : (val_main_v173 (F := Ideal) a.x0 a.x1 a.x2 a.x3 a.x4 a.x7 a.x8) = oDcb (A a) :=
  ext_row fun j => v173_at a j
theorem ref_v111 : (val_main_v111 (F := Ideal) a.x0 a.x1 a.x2 a.x3 a.x4 a.x8) = oDgoc (A a) :=
  ext_row fun j => v111_at a j
theorem ref_v213 : (val_main_v213 (F := Ideal) a.x0 a.x1 a.x2 a.x9) = oDgq (A a) :=
  ext_row fun j => v213_at a j
theorem ref_v214 : (val_main_v214 (F := Ideal) a.x0 a.x1 a.x2 a.x10) = oDgk (A a) :=
  ext_row fun j => v214_at a j
theorem ref_v211 : (val_main_v211 (F := Ideal) a.x0 a.x1 a.x2 a.x3 a.x4 a.x5 a.x6 a.x7 a.x8 a.x9 a.x10 a.x11) = oGw (A a) :=
  ext2 fun k l => v211_at a k l
theorem ref_v215 : (val_main_v215 (F := Ideal) a.x0 a.x1 a.x2 a.x3 a.x4 a.x5 a.x6 a.x7 a.x8 a.x9 a.x10 a.x11) = oGw (A a) :=
  ext2 fun k l => v215_at a k l

end Reference

/-- The arguments the reference is launched with. -/
def argsOf (m' : (ℓ : Loc Cert.ReferenceIdeal.nD Cert.ReferenceIdeal.τ Cert.ReferenceIdeal.sig) → Buf (Elt Ideal) ℓ) (c : Dev Cert.ReferenceIdeal.nD) :
    Cert.ReferenceIdeal.Mix.Args :=
  ⟨m' ((c.tc : Thread Cert.ReferenceIdeal.nD Cert.ReferenceIdeal.τ).loc Cert.ReferenceIdeal.main_arg0),
    m' ((c.tc : Thread Cert.ReferenceIdeal.nD Cert.ReferenceIdeal.τ).loc Cert.ReferenceIdeal.main_arg1),
    m' ((c.tc : Thread Cert.ReferenceIdeal.nD Cert.ReferenceIdeal.τ).loc Cert.ReferenceIdeal.main_arg2),
    m' ((c.tc : Thread Cert.ReferenceIdeal.nD Cert.ReferenceIdeal.τ).loc Cert.ReferenceIdeal.main_arg3),
    m' ((c.tc : Thread Cert.ReferenceIdeal.nD Cert.ReferenceIdeal.τ).loc Cert.ReferenceIdeal.main_arg4),
    m' ((c.tc : Thread Cert.ReferenceIdeal.nD Cert.ReferenceIdeal.τ).loc Cert.ReferenceIdeal.main_arg5),
    m' ((c.tc : Thread Cert.ReferenceIdeal.nD Cert.ReferenceIdeal.τ).loc Cert.ReferenceIdeal.main_arg6),
    m' ((c.tc : Thread Cert.ReferenceIdeal.nD Cert.ReferenceIdeal.τ).loc Cert.ReferenceIdeal.main_arg7),
    m' ((c.tc : Thread Cert.ReferenceIdeal.nD Cert.ReferenceIdeal.τ).loc Cert.ReferenceIdeal.main_arg8),
    m' ((c.tc : Thread Cert.ReferenceIdeal.nD Cert.ReferenceIdeal.τ).loc Cert.ReferenceIdeal.main_arg9),
    m' ((c.tc : Thread Cert.ReferenceIdeal.nD Cert.ReferenceIdeal.τ).loc Cert.ReferenceIdeal.main_arg10),
    m' ((c.tc : Thread Cert.ReferenceIdeal.nD Cert.ReferenceIdeal.τ).loc Cert.ReferenceIdeal.main_arg11)⟩

theorem algebraic : Cert.algebraic_KernelIdeal_ReferenceIdeal (hKernelIdeal := Cert.KernelIdeal.Gen.facts) (hReferenceIdeal := Cert.ReferenceIdeal.Gen.facts) := by
  intro m g m' g' _ hm
  have hA : ∀ c : Dev nD, Cert.ReferenceIdeal.Mix.A (argsOf m' c) = arr m c := fun c => by
    obtain ⟨h0, h1, h2, h3, h4, h5, h6, h7, h8, h9, h10, h11⟩ := hm c
    unfold argsOf Cert.ReferenceIdeal.Mix.A arr zz
    rw [h0, h1, h2, h3, h4, h5, h6, h7, h8, h9, h10, h11]
  refine ⟨fun c => oDz (arr m c), fun c => oDcw (arr m c), fun c => oDcb (arr m c), fun c => oDgoc (arr m c), fun c => oDgq (arr m c),
    fun c => oDgk (arr m c), fun c => oGw (arr m c), fun c => oGw (arr m c), ?_, ?_⟩
  · refine (θ_run _ _ _).mono (fun r h c => ?_) (Idealize.ShloMosaic.θ_run_and (outs m g) (frame m g))
    obtain ⟨o0, o1, o2, o3, o4, o5, o6, o7⟩ := h.1 c
    exact ⟨o0, o1, o2, o3, o4, o5, o6, o7, h.2.1 c⟩
  · refine (θ_run _ _ _).mono (fun r h c => ?_) (Cert.ReferenceIdeal.Value.run (F := Ideal) m' g')
    obtain ⟨o0, o1, o2, o3, o4, o5, o6, o7, hr⟩ := h c
    refine ⟨o0.trans ?_, o1.trans ?_, o2.trans ?_, o3.trans ?_, o4.trans ?_, o5.trans ?_, o6.trans ?_, o7.trans ?_, hr⟩
    · exact (Cert.ReferenceIdeal.Read.val_main_v212_eq _).trans ((ref_v212 (argsOf m' c)).trans (congrArg oDz (hA c)))
    · exact (Cert.ReferenceIdeal.Read.val_main_v202_eq _).trans ((ref_v202 (argsOf m' c)).trans (congrArg oDcw (hA c)))
    · exact (Cert.ReferenceIdeal.Read.val_main_v173_eq _).trans ((ref_v173 (argsOf m' c)).trans (congrArg oDcb (hA c)))
    · exact (Cert.ReferenceIdeal.Read.val_main_v111_eq _).trans ((ref_v111 (argsOf m' c)).trans (congrArg oDgoc (hA c)))
    · exact (Cert.ReferenceIdeal.Read.val_main_v213_eq _).trans ((ref_v213 (argsOf m' c)).trans (congrArg oDgq (hA c)))
    · exact (Cert.ReferenceIdeal.Read.val_main_v214_eq _).trans ((ref_v214 (argsOf m' c)).trans (congrArg oDgk (hA c)))
    · exact (Cert.ReferenceIdeal.Read.val_main_v211_eq _).trans ((ref_v211 (argsOf m' c)).trans (congrArg oGw (hA c)))
    · exact (Cert.ReferenceIdeal.Read.val_main_v215_eq _).trans ((ref_v215 (argsOf m' c)).trans (congrArg oGw (hA c)))

end Cert.KernelIdeal.Mix
-- ==== Proof.Grad.Basic.lean ====
module

public import proofs.«01_k».proof.Proof.Mix.Arrays
public import Idealize.ShloMosaic.Lib.Pointwise

@[expose] public section

noncomputable section

namespace Cert.Grad

open Idealize.ShloMosaic
open Cert.Mix (rowOf rowOf_val total rt ms back backR coef eps)

/-! What the kernels of the backward pass share: their constants as reals, and sums over all
    rows walked in sixteen tiles of 512. -/

theorem lit0 : Ideal.ofBits .f32 0x00000000#32 = 0 := by simp [Ideal.ofBits, Ideal.ieee]
theorem lit512 : Ideal.ofBits .f32 0x44000000#32 = ((512 : ℝ) : EReal) := by
  simp [Ideal.ofBits, Ideal.ieee, -EReal.coe_mul]; norm_num
theorem lit1024 : Ideal.ofBits .f32 0x44800000#32 = ((1024 : ℝ) : EReal) := by
  simp [Ideal.ofBits, Ideal.ieee, -EReal.coe_mul]; norm_num
theorem litHalf : Ideal.ofBits .f32 0xBF000000#32 = ((-1 / 2 : ℝ) : EReal) := by
  simp [Ideal.ofBits, Ideal.ieee, -EReal.coe_mul]; norm_num

/-- An array read at two indices with the same coordinates. -/
theorem same_at {α : Type} {n0 n1 : ℕ} (X : (⟨2, ![n0, n1]⟩ : Shape).Idx → α) (z z' : (⟨2, ![n0, n1]⟩ : Shape).Idx)
    (h0 : (z 0).val = (z' 0).val) (h1 : (z 1).val = (z' 1).val) : X z = X z' :=
  congrArg X (funext fun a => Fin.ext (by revert a; exact Fin.forall_fin_two.mpr ⟨h0, h1⟩))

theorem same_at3 {α : Type} {n0 n1 n2 : ℕ} (X : (⟨3, ![n0, n1, n2]⟩ : Shape).Idx → α) (z z' : (⟨3, ![n0, n1, n2]⟩ : Shape).Idx)
    (h0 : (z 0).val = (z' 0).val) (h1 : (z 1).val = (z' 1).val) (h2 : (z 2).val = (z' 2).val) : X z = X z' :=
  congrArg X (funext fun a => Fin.ext (by revert a; exact Fin.forall_fin_succ.mpr ⟨h0, Fin.forall_fin_two.mpr ⟨h1, h2⟩⟩))

/-- The rows of tile `t` summed. -/
def tile (f : ℕ → EReal) (t : ℕ) : EReal := ∑ r : Fin 512, f (512 * t + r.val)

/-- A sum over `a * b` lanes, `b` at a time. -/
theorem sum_split {n : ℕ} (a b : ℕ) (h : n = a * b) (f : Fin n → EReal) :
    ∑ l, f l = ∑ s : Fin a, ∑ q : Fin b, f ⟨b * s.val + q.val, by
      have := s.isLt; have := q.isLt; subst h; nlinarith⟩ := by
  subst h
  rw [← finProdFinEquiv.sum_comp, Fintype.sum_prod_type]
  exact Finset.sum_congr rfl fun s _ => Finset.sum_congr rfl fun q _ =>
    congrArg f (Fin.ext (Nat.add_comm _ _))

theorem tiles_total (f : ℕ → EReal) : ∑ t ∈ Finset.range 16, tile f t = total f := by
  rw [Cert.Mix.total_eq, sum_split 16 512 rfl (fun g : Fin 8192 => f g.val), Finset.sum_range]
  rfl

end Cert.Grad
-- ==== Proof.Ffn.Spec.lean ====
module

public import proofs.«01_k».proof.Proof.Mix.Arrays

@[expose] public section

noncomputable section

namespace Cert.Ffn

open Idealize.ShloMosaic
open Cert.Mix (rowOf total rt back)

/-! The backward pass of the feed-forward's products, its norm, the output projection and the
    attention's output norm, by rows. -/

/-- What it reads: the layer's middle value, the attention's output, three weights, two gains, the
    cotangents of the gate's and the up projection's products and of the layer's middle value. -/
structure Arr where
  x1 : (⟨2, ![8192, 1024]⟩ : Shape).Idx → EReal
  ya : (⟨2, ![8192, 512]⟩ : Shape).Idx → EReal
  wo : (⟨2, ![1024, 1024]⟩ : Shape).Idx → EReal
  goa : (⟨2, ![1, 512]⟩ : Shape).Idx → EReal
  gf : (⟨2, ![1, 1024]⟩ : Shape).Idx → EReal
  wg : (⟨2, ![1024, 2816]⟩ : Shape).Idx → EReal
  wu : (⟨2, ![1024, 2816]⟩ : Shape).Idx → EReal
  dg : (⟨2, ![8192, 2816]⟩ : Shape).Idx → EReal
  du : (⟨2, ![8192, 2816]⟩ : Shape).Idx → EReal
  dx2 : (⟨2, ![8192, 1024]⟩ : Shape).Idx → EReal

variable (a : Arr) (g : ℕ)

/-- The second half of a row of 1024. -/
def hi (j : Fin 512) : Fin 1024 := ⟨512 + j.val, by omega⟩
def lo (j : Fin 512) : Fin 1024 := ⟨j.val, by omega⟩

def dh (k : Fin 1024) : EReal := (∑ l, rowOf a.du g l * a.wu (ix2 k l)) + ∑ l, rowOf a.dg g l * a.wg (ix2 k l)
def dx1 (k : Fin 1024) : EReal := rowOf a.dx2 g k + back 1024 (rowOf a.x1 g) (fun k => dh a g k * a.gf (ix2 0 k)) k
def dy (j : Fin 1024) : EReal := ∑ k, dx1 a g k * a.wo (ix2 j k)
def dya (j : Fin 512) : EReal := back 512 (rowOf a.ya g) (fun j => dy a g (hi j) * a.goa (ix2 0 j)) j
def tf (k : Fin 1024) : EReal := dh a g k * (rowOf a.x1 g k * rt 1024 (rowOf a.x1 g))
def ta (j : Fin 512) : EReal := dy a g (hi j) * (rowOf a.ya g j * rt 512 (rowOf a.ya g))

def oDx1 : (⟨2, ![8192, 1024]⟩ : Shape).Idx → EReal := fun i => dx1 a (i 0).val (i 1)
def oDycn : (⟨2, ![8192, 512]⟩ : Shape).Idx → EReal := fun i => dy a (i 0).val (lo (i 1))
def oDya : (⟨2, ![8192, 512]⟩ : Shape).Idx → EReal := fun i => dya a (i 0).val (i 1)
def oDgf : (⟨2, ![1, 1024]⟩ : Shape).Idx → EReal := fun i => total fun g => tf a g (i 1)
def oDgoa : (⟨2, ![1, 512]⟩ : Shape).Idx → EReal := fun i => total fun g => ta a g (i 1)

end Cert.Ffn
-- ==== Proof.Ffn.Pays.lean ====
module

public import proofs.«01_k».proof.Proof.Grad.Basic
public import proofs.«01_k».proof.Proof.Ffn.Spec
public import proofs.«01_k».proof.Proof.Gen.Kernel2Ideal.Value

@[expose] public section

set_option maxRecDepth 16384

noncomputable section

namespace Cert.Kernel2Ideal.Ffn

open Cert.Kernel2Ideal Cert.Kernel2Ideal.Gen
open Idealize.ShloMosaic Idealize.ShloMosaic.TcCoe
open Cert.Mix (rowOf rowOf_val ms rt back total ext2 ext_row)
open Cert.Grad Cert.Ffn

/-! The payloads of a grid point, read at an index: `d` is what the four products give, `x` the
    tile's rows of the layer's middle value, `u` its rows of the attention's output. -/

variable (r j : Fin 512) (k : Fin 1024)
  (d x e : FVec Ideal S512x1024 .f32) (acc gf : FVec Ideal S1x1024 .f32) (w : FVec Ideal S1024x1024 .bf16)
  (b u : FVec Ideal S512x512 .f32) (acc5 ga : FVec Ideal S1x512 .f32)

theorem pay10_at : k0_pay10 (F := Ideal) (k0_pay9 (F := Ideal) x) (ix2 r 0) = rt 1024 fun k => x (ix2 r k) := by
  pointwise [k0_pay10, k0_pay9, k0_pay8]
  rw [lit1024]; rfl

theorem pay11_at : k0_pay11 (F := Ideal) (k0_pay8 (F := Ideal) x) (k0_pay9 (F := Ideal) x) (ix2 r k)
    = x (ix2 r k) * rt 1024 fun k => x (ix2 r k) := by
  pointwise [k0_pay11, k0_pay8]
  rw [pay10_at]

theorem pay12_at : k0_pay12 (F := Ideal) d (k0_pay8 (F := Ideal) x) (k0_pay9 (F := Ideal) x) acc (ix2 0 k)
    = acc (ix2 0 k) + ∑ r, d (ix2 r k) * (x (ix2 r k) * rt 1024 fun k => x (ix2 r k)) := by
  pointwise [k0_pay12]
  simp only [pay11_at]

theorem pay13_at : k0_pay13 (F := Ideal) d (k0_pay8 (F := Ideal) x) (k0_pay9 (F := Ideal) x) e gf (ix2 r k)
    = e (ix2 r k) + back 1024 (fun k => x (ix2 r k)) (fun k => d (ix2 r k) * gf (ix2 0 k)) k := by
  pointwise [k0_pay13]
  simp only [pay11_at, pay10_at, lit1024]
  rfl

theorem pay14_at : k0_pay14 (F := Ideal) d (k0_pay8 (F := Ideal) x) (k0_pay9 (F := Ideal) x) e gf w (ix2 r k)
    = ∑ l, k0_pay13 (F := Ideal) d (k0_pay8 (F := Ideal) x) (k0_pay9 (F := Ideal) x) e gf (ix2 r l) * w (ix2 k l) := by
  pointwise [k0_pay14]

theorem pay15_at : k0_pay15 (F := Ideal) d (k0_pay8 (F := Ideal) x) (k0_pay9 (F := Ideal) x) e gf w (ix2 r j)
    = k0_pay14 (F := Ideal) d (k0_pay8 (F := Ideal) x) (k0_pay9 (F := Ideal) x) e gf w (ix2 r (lo j)) := by
  pointwise [k0_pay15]
  rfl

theorem pay16_at : k0_pay16 (F := Ideal) d (k0_pay8 (F := Ideal) x) (k0_pay9 (F := Ideal) x) e gf w (ix2 r j)
    = k0_pay14 (F := Ideal) d (k0_pay8 (F := Ideal) x) (k0_pay9 (F := Ideal) x) e gf w (ix2 r (hi j)) := by
  pointwise [k0_pay16]
  rfl

theorem pay1_at : k0_pay1 (F := Ideal) u (ix2 r 0) = rt 512 fun k => u (ix2 r k) := by
  pointwise [k0_pay1]
  rw [lit512]; rfl

theorem pay2_at : k0_pay2 (F := Ideal) u (ix2 r j) = u (ix2 r j) * rt 512 fun k => u (ix2 r k) := by
  pointwise [k0_pay2]
  rw [pay1_at]

theorem pay3_at : k0_pay3 (F := Ideal) b u acc5 (ix2 0 j)
    = acc5 (ix2 0 j) + ∑ r, b (ix2 r j) * (u (ix2 r j) * rt 512 fun k => u (ix2 r k)) := by
  pointwise [k0_pay3]
  simp only [pay2_at]

theorem pay4_at : k0_pay4 (F := Ideal) b u ga (ix2 r j)
    = back 512 (fun k => u (ix2 r k)) (fun k => b (ix2 r k) * ga (ix2 0 k)) j := by
  pointwise [k0_pay4]
  simp only [pay2_at, pay1_at, lit512]
  rfl

theorem pay5_at : k0_pay5 (F := Ideal) (ix2 0 k) = 0 := by
  pointwise [k0_pay5]

theorem pay6_at : k0_pay6 (F := Ideal) (ix2 0 j) = 0 := by
  pointwise [k0_pay6]

theorem pay7_at (a0 a1 a2 a3 : FVec Ideal S512x1408 .bf16) (b0 b1 b2 b3 : FVec Ideal S1408x1024 .bf16) :
    k0_pay7 (F := Ideal) a0 b0 a1 b1 a2 b2 a3 b3 (ix2 r k)
    = (∑ l, a0 (ix2 r l) * b0 (ix2 l k)) + (∑ l, a1 (ix2 r l) * b1 (ix2 l k)) + (∑ l, a2 (ix2 r l) * b2 (ix2 l k))
      + ∑ l, a3 (ix2 r l) * b3 (ix2 l k) := by
  pointwise [k0_pay7]

end Cert.Kernel2Ideal.Ffn
-- ==== Proof.Ffn.Ref.lean ====
module

public import proofs.«01_k».proof.Proof.Grad.Basic
public import proofs.«01_k».proof.Proof.Ffn.Spec
public import proofs.«01_k».proof.Proof.Gen.Reference2Ideal.Read

@[expose] public section

set_option maxRecDepth 16384

noncomputable section

namespace Cert.Reference2Ideal.Ffn

open Cert.Reference2Ideal Cert.Reference2Ideal.Read
open Idealize.ShloMosaic Idealize.ShloMosaic.TcCoe
open Cert.Mix (rowOf rowOf_val ms rt coef backR back_eq total total_eq ext2 ext_row)
open Cert.Grad Cert.Ffn

/-- The reference's arguments. -/
structure Args where
  x0 : (⟨S8192x1024, .f32⟩ : BufTy).Contents (Elt Ideal)
  x1 : (⟨S8192x512, .f32⟩ : BufTy).Contents (Elt Ideal)
  x2 : (⟨S8192x512, .f32⟩ : BufTy).Contents (Elt Ideal)
  x3 : (⟨S1024x1024, .f32⟩ : BufTy).Contents (Elt Ideal)
  x4 : (⟨S1x512, .f32⟩ : BufTy).Contents (Elt Ideal)
  x5 : (⟨S1x1024, .f32⟩ : BufTy).Contents (Elt Ideal)
  x6 : (⟨S1024x2816, .f32⟩ : BufTy).Contents (Elt Ideal)
  x7 : (⟨S1024x2816, .f32⟩ : BufTy).Contents (Elt Ideal)
  x8 : (⟨S8192x2816, .bf16⟩ : BufTy).Contents (Elt Ideal)
  x9 : (⟨S8192x2816, .bf16⟩ : BufTy).Contents (Elt Ideal)
  x10 : (⟨S8192x1024, .f32⟩ : BufTy).Contents (Elt Ideal)

variable (a : Args) (g : Fin 8192) (k : Fin 1024) (j : Fin 512)

/-- The layer's middle value, by the reference's own lines. -/
abbrev mid : (⟨S8192x1024, .f32⟩ : BufTy).Contents (Elt Ideal) := val_main_v17 (F := Ideal) a.x0 a.x1 a.x2 a.x3 a.x4

def A : Arr := ⟨mid a, a.x2, a.x3, a.x4, a.x5, a.x6, a.x7, a.x8, a.x9, a.x10⟩

theorem row_x {n : ℕ} (X : (⟨2, ![8192, n]⟩ : Shape).Idx → EReal) (k : Fin n) : X (ix2 g k) = rowOf X g k := (rowOf_val X g k).symm

theorem v6_at : val_main_v6 (F := Ideal) a.x2 (ix2 g 0) = ms 512 (rowOf a.x2 g) := by
  pointwise [val_main_v6, val_main_v5, val_main_v4, val_main_v3, val_main_v2, val_main_v1, val_main_v0, val_main_cst, val_main_cst_0, val_main_cst_1]
  rw [lit512]
  simp only [row_x g a.x2]; rfl

theorem v7_at : val_main_v7 (F := Ideal) a.x2 (ix2 g 0) = rt 512 (rowOf a.x2 g) := by
  pointwise [val_main_v7]
  rw [v6_at]; rfl

theorem v10_at : val_main_v10 (F := Ideal) a.x2 (ix2 g 0)
    = ((-1 / 2 : ℝ) : EReal) * Ideal.div (rt 512 (rowOf a.x2 g)) (ms 512 (rowOf a.x2 g)) := by
  pointwise [val_main_v10, val_main_v9, val_main_v8, val_main_cst_2]
  rw [v6_at, v7_at, litHalf]

theorem v12_at : val_main_v12 (F := Ideal) a.x2 (ix2 g j) = rowOf a.x2 g j * rt 512 (rowOf a.x2 g) := by
  pointwise [val_main_v12, val_main_v11]
  rw [v7_at, row_x g a.x2]

theorem v24_at : val_main_v24 (F := Ideal) a.x0 a.x1 a.x2 a.x3 a.x4 (ix2 g 0) = ms 1024 (rowOf (mid a) g) := by
  pointwise [val_main_v24, val_main_v23, val_main_v22, val_main_v21, val_main_v20, val_main_v19, val_main_v18, val_main_cst_3, val_main_cst_4, val_main_cst_5]
  rw [lit1024]
  simp only [row_x g (val_main_v17 (F := Ideal) a.x0 a.x1 a.x2 a.x3 a.x4)]; rfl

theorem v25_at : val_main_v25 (F := Ideal) a.x0 a.x1 a.x2 a.x3 a.x4 (ix2 g 0) = rt 1024 (rowOf (mid a) g) := by
  pointwise [val_main_v25]
  rw [v24_at]; rfl

theorem v28_at : val_main_v28 (F := Ideal) a.x0 a.x1 a.x2 a.x3 a.x4 (ix2 g 0)
    = ((-1 / 2 : ℝ) : EReal) * Ideal.div (rt 1024 (rowOf (mid a) g)) (ms 1024 (rowOf (mid a) g)) := by
  pointwise [val_main_v28, val_main_v27, val_main_v26, val_main_cst_6]
  rw [v24_at, v25_at, litHalf]

theorem v30_at : val_main_v30 (F := Ideal) a.x0 a.x1 a.x2 a.x3 a.x4 (ix2 g k) = rowOf (mid a) g k * rt 1024 (rowOf (mid a) g) := by
  pointwise [val_main_v30, val_main_v29]
  rw [v25_at, row_x g (val_main_v17 (F := Ideal) a.x0 a.x1 a.x2 a.x3 a.x4)]

theorem v39_at : val_main_v39 (F := Ideal) a.x6 a.x7 a.x8 a.x9 (ix2 g k) = dh (A a) g k := by
  pointwise [val_main_v39, val_main_v38, val_main_v37, val_main_v36, val_main_v35]
  simp only [row_x g a.x8, row_x g a.x9]
  rfl

theorem v42_at : val_main_v42 (F := Ideal) a.x0 a.x1 a.x2 a.x3 a.x4 a.x6 a.x7 a.x8 a.x9 (ix2 0 k) = oDgf (A a) (ix2 0 k) := by
  pointwise [val_main_v42, val_main_v41, val_main_v40, val_main_cst_7]
  simp only [v30_at, v39_at]
  show _ = total fun g => tf (A a) g k
  rw [total_eq]
  exact Finset.sum_congr rfl fun g _ => mul_comm _ _

theorem v44_at : val_main_v44 (F := Ideal) a.x5 a.x6 a.x7 a.x8 a.x9 (ix2 g k) = dh (A a) g k * a.x5 (ix2 0 k) := by
  pointwise [val_main_v44, val_main_v43]
  rw [v39_at]

theorem v54_at : val_main_v54 (F := Ideal) a.x0 a.x1 a.x2 a.x3 a.x4 a.x5 a.x6 a.x7 a.x8 a.x9 (ix1 g)
    = coef 1024 (rowOf (mid a) g) fun k => dh (A a) g k * a.x5 (ix2 0 k) := by
  pointwise [val_main_v54, val_main_v53, val_main_v52, val_main_v51, val_main_v47, val_main_v46, val_main_v45, val_main_cst_8,
    val_main_cst_9, val_main_cst_10]
  simp only [Fin.sum_univ_one, v28_at, v44_at, row_x g (val_main_v17 (F := Ideal) a.x0 a.x1 a.x2 a.x3 a.x4), lit1024]
  rfl

theorem v59_at : val_main_v59 (F := Ideal) a.x0 a.x1 a.x2 a.x3 a.x4 a.x5 a.x6 a.x7 a.x8 a.x9 a.x10 (ix2 g k) = dx1 (A a) g k := by
  unfold dx1
  rw [back_eq _ _ _ _ (by norm_num : (0 : ℝ) < 1024)]
  pointwise [val_main_v59, val_main_v58, val_main_v57, val_main_v56, val_main_v55, val_main_v50, val_main_v49, val_main_v48]
  simp only [v54_at, v44_at, v25_at, row_x g (val_main_v17 (F := Ideal) a.x0 a.x1 a.x2 a.x3 a.x4), row_x g a.x10, backR, add_assoc]
  rfl

theorem v61_at : val_main_v61 (F := Ideal) a.x0 a.x1 a.x2 a.x3 a.x4 a.x5 a.x6 a.x7 a.x8 a.x9 a.x10 (ix2 g k) = dy (A a) g k := by
  pointwise [val_main_v61, val_main_v60]
  simp only [v59_at]
  rfl

theorem v62_at : val_main_v62 (F := Ideal) a.x0 a.x1 a.x2 a.x3 a.x4 a.x5 a.x6 a.x7 a.x8 a.x9 a.x10 (ix2 g j) = dy (A a) g (lo j) := by
  rw [← v61_at]
  pointwise [val_main_v62]
  rfl

theorem v63_at : val_main_v63 (F := Ideal) a.x0 a.x1 a.x2 a.x3 a.x4 a.x5 a.x6 a.x7 a.x8 a.x9 a.x10 (ix2 g j) = dy (A a) g (hi j) := by
  rw [← v61_at]
  pointwise [val_main_v63]
  rfl

theorem v66_at : val_main_v66 (F := Ideal) a.x0 a.x1 a.x2 a.x3 a.x4 a.x5 a.x6 a.x7 a.x8 a.x9 a.x10 (ix2 0 j) = oDgoa (A a) (ix2 0 j) := by
  pointwise [val_main_v66, val_main_v65, val_main_v64, val_main_cst_11]
  simp only [v12_at, v63_at]
  show _ = total fun g => ta (A a) g j
  rw [total_eq]
  exact Finset.sum_congr rfl fun g _ => mul_comm _ _

theorem v68_at : val_main_v68 (F := Ideal) a.x0 a.x1 a.x2 a.x3 a.x4 a.x5 a.x6 a.x7 a.x8 a.x9 a.x10 (ix2 g j)
    = dy (A a) g (hi j) * a.x4 (ix2 0 j) := by
  pointwise [val_main_v68, val_main_v67]
  rw [v63_at]

theorem v77_at : val_main_v77 (F := Ideal) a.x0 a.x1 a.x2 a.x3 a.x4 a.x5 a.x6 a.x7 a.x8 a.x9 a.x10 (ix1 g)
    = coef 512 (rowOf a.x2 g) fun j => dy (A a) g (hi j) * a.x4 (ix2 0 j) := by
  pointwise [val_main_v77, val_main_v76, val_main_v75, val_main_v74, val_main_v71, val_main_v70, val_main_v69, val_main_cst_12,
    val_main_cst_13, val_main_cst_14]
  simp only [Fin.sum_univ_one, v10_at, v68_at, row_x g a.x2, lit512]
  rfl

theorem v82_at : val_main_v82 (F := Ideal) a.x0 a.x1 a.x2 a.x3 a.x4 a.x5 a.x6 a.x7 a.x8 a.x9 a.x10 (ix2 g j) = dya (A a) g j := by
  unfold dya
  rw [back_eq _ _ _ _ (by norm_num : (0 : ℝ) < 512)]
  pointwise [val_main_v82, val_main_v81, val_main_v80, val_main_v79, val_main_v78, val_main_v73, val_main_v72]
  simp only [v77_at, v68_at, v7_at, row_x g a.x2, backR]
  rfl

theorem dx1_eq : val_main_v59 (F := Ideal) a.x0 a.x1 a.x2 a.x3 a.x4 a.x5 a.x6 a.x7 a.x8 a.x9 a.x10 = oDx1 (A a) := ext2 fun g k => v59_at a g k
theorem dycn_eq : val_main_v62 (F := Ideal) a.x0 a.x1 a.x2 a.x3 a.x4 a.x5 a.x6 a.x7 a.x8 a.x9 a.x10 = oDycn (A a) := ext2 fun g j => v62_at a g j
theorem dya_eq : val_main_v82 (F := Ideal) a.x0 a.x1 a.x2 a.x3 a.x4 a.x5 a.x6 a.x7 a.x8 a.x9 a.x10 = oDya (A a) := ext2 fun g j => v82_at a g j
theorem dgf_eq : val_main_v42 (F := Ideal) a.x0 a.x1 a.x2 a.x3 a.x4 a.x6 a.x7 a.x8 a.x9 = oDgf (A a) := ext_row fun k => v42_at a k
theorem dgoa_eq : val_main_v66 (F := Ideal) a.x0 a.x1 a.x2 a.x3 a.x4 a.x5 a.x6 a.x7 a.x8 a.x9 a.x10 = oDgoa (A a) := ext_row fun j => v66_at a j

end Cert.Reference2Ideal.Ffn
-- ==== Proof.Ffn.Point.lean ====
module

public import proofs.«01_k».proof.Proof.Ffn.Pays
public import proofs.«01_k».proof.Proof.Ffn.Ref
public import Idealize.ShloMosaic.Lib.Pipeline.ValueKit

@[expose] public section

set_option maxRecDepth 16384

noncomputable section

namespace Cert.Kernel2Ideal.Ffn

open Cert.Kernel2Ideal Cert.Kernel2Ideal.Gen
open Idealize.ShloMosaic Idealize.ShloMosaic.TcCoe
open Cert.Mix (rowOf rowOf_val ms rt back total ext2 ext_row)
open Cert.Grad Cert.Ffn

variable (m : (ℓ : Loc nD τ sig) → Buf (Elt Ideal) ℓ) (c : Dev nD) (t : Fin cfg0.N)

theorem map0 : ∀ t : Fin cfg0.N, win0_0.index t = ![t.val, 0] := by decide +kernel
theorem map1 : ∀ t : Fin cfg0.N, win0_1.index t = ![t.val, 0] := by decide +kernel
theorem map2 : ∀ t : Fin cfg0.N, win0_2.index t = ![t.val, 0] := by decide +kernel
theorem map3 : ∀ t : Fin cfg0.N, win0_3.index t = ![t.val, 0] := by decide +kernel
theorem map4 : ∀ t : Fin cfg0.N, win0_4.index t = ![t.val, 0] := by decide +kernel
theorem map5 : ∀ t : Fin cfg0.N, win0_5.index t = ![0, 0] := by decide +kernel
theorem map6 : ∀ t : Fin cfg0.N, win0_6.index t = ![0, 0] := by decide +kernel
theorem map7 : ∀ t : Fin cfg0.N, win0_7.index t = ![0, 0] := by decide +kernel
theorem map8 : ∀ t : Fin cfg0.N, win0_8.index t = ![0, 0] := by decide +kernel
theorem map9 : ∀ t : Fin cfg0.N, win0_9.index t = ![0, 0] := by decide +kernel

/-- The arguments' arrays. -/
def args : Cert.Reference2Ideal.Ffn.Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7), m ((c : Thread nD τ).loc main_arg8),
    m ((c : Thread nD τ).loc main_arg9), m ((c : Thread nD τ).loc main_arg10)⟩

abbrev arr : Arr := Cert.Reference2Ideal.Ffn.A (args m c)

theorem lt16 : t.val < 16 := t.isLt

/-- A tile's row among all rows. -/
theorem row_lt (r : Fin 512) : 512 * t.val + r.val < 8192 := by have := lt16 t; omega

theorem row_at {n : ℕ} (X : (⟨2, ![8192, n]⟩ : Shape).Idx → EReal) (r : Fin 512) (l : Fin n) :
    rowOf X (512 * t.val + r.val) l = X (ix2 ⟨512 * t.val + r.val, row_lt t r⟩ l) :=
  rowOf_val X ⟨512 * t.val + r.val, row_lt t r⟩ l

theorem b0_at (r : Fin 512) (l : Fin 2816) : iblk m c 0 t (ix2 r l) = rowOf (arr m c).dg (512 * t.val + r.val) l := by
  rw [row_at]
  refine (same_at (V m c main_arg8) _ (ix2 ⟨512 * t.val + r.val, row_lt t r⟩ l) ?_ ?_).trans (congrFun (V_main_arg8 m c) _) <;>
    blk_simp [map0] <;> (show _ = 512 * t.val + r.val; omega)

theorem b1_at (r : Fin 512) (l : Fin 2816) : iblk m c 1 t (ix2 r l) = rowOf (arr m c).du (512 * t.val + r.val) l := by
  rw [row_at]
  refine (same_at (V m c main_arg9) _ (ix2 ⟨512 * t.val + r.val, row_lt t r⟩ l) ?_ ?_).trans (congrFun (V_main_arg9 m c) _) <;>
    blk_simp [map1] <;> (show _ = 512 * t.val + r.val; omega)

theorem b2_at (r : Fin 512) (k : Fin 1024) : iblk m c 2 t (ix2 r k) = rowOf (arr m c).dx2 (512 * t.val + r.val) k := by
  rw [row_at]
  refine (same_at (V m c main_arg10) _ (ix2 ⟨512 * t.val + r.val, row_lt t r⟩ k) ?_ ?_).trans (congrFun (V_main_arg10 m c) _) <;>
    blk_simp [map2] <;> (show _ = 512 * t.val + r.val; omega)

/-- The layer's middle value, computed on the host by the reference's lines. -/
theorem V14 : V m c main_v14 = (arr m c).x1 := by
  dsimp only [V, hostOps0]
  after_results
  rfl

theorem b3_at (r : Fin 512) (k : Fin 1024) : iblk m c 3 t (ix2 r k) = rowOf (arr m c).x1 (512 * t.val + r.val) k := by
  rw [row_at]
  refine (same_at (V m c main_v14) _ (ix2 ⟨512 * t.val + r.val, row_lt t r⟩ k) ?_ ?_).trans (congrFun (V14 m c) _) <;>
    blk_simp [map3] <;> (show _ = 512 * t.val + r.val; omega)

theorem b4_at (r : Fin 512) (k : Fin 512) : iblk m c 4 t (ix2 r k) = rowOf (arr m c).ya (512 * t.val + r.val) k := by
  rw [row_at]
  refine (same_at (V m c main_arg2) _ (ix2 ⟨512 * t.val + r.val, row_lt t r⟩ k) ?_ ?_).trans (congrFun (V_main_arg2 m c) _) <;>
    blk_simp [map4] <;> (show _ = 512 * t.val + r.val; omega)

/-- The weights, turned and rounded on the host. -/
theorem b5_at (l : Fin 2816) (k : Fin 1024) : iblk m c 5 t (ix2 l k) = (arr m c).wg (ix2 k l) := by
  refine (same_at (V m c main_v16) _ (ix2 l k) ?_ ?_).trans ?_
  · blk_simp [map5]
  · blk_simp [map5]
  · dsimp only [V, hostOps0]
    after_results
    pointwise
    rfl

theorem b6_at (l : Fin 2816) (k : Fin 1024) : iblk m c 6 t (ix2 l k) = (arr m c).wu (ix2 k l) := by
  refine (same_at (V m c main_v18) _ (ix2 l k) ?_ ?_).trans ?_
  · blk_simp [map6]
  · blk_simp [map6]
  · dsimp only [V, hostOps0]
    after_results
    pointwise
    rfl

theorem b7_at (j k : Fin 1024) : iblk m c 7 t (ix2 j k) = (arr m c).wo (ix2 j k) := by
  refine (same_at (V m c main_v19) _ (ix2 j k) ?_ ?_).trans ?_
  · blk_simp [map7]
  · blk_simp [map7]
  · dsimp only [V, hostOps0]
    after_results
    pointwise
    rfl

theorem b8_at (k : Fin 1024) : iblk m c 8 t (ix2 0 k) = (arr m c).gf (ix2 0 k) := by
  refine (same_at (V m c main_arg5) _ (ix2 0 k) ?_ ?_).trans (congrFun (V_main_arg5 m c) _) <;> blk_simp [map8]

theorem b9_at (k : Fin 512) : iblk m c 9 t (ix2 0 k) = (arr m c).goa (ix2 0 k) := by
  refine (same_at (V m c main_arg4) _ (ix2 0 k) ?_ ?_).trans (congrFun (V_main_arg4 m c) _) <;> blk_simp [map9]

/-- A slice of a tile's lanes, and the rows of the turned weights it meets. -/
theorem ld_lanes (X : S512x2816.Idx → Elt Ideal .bf16) (s : Fin 2) (n : ℕ) (hn : n = 1408 * s.val) (inb) (r : Fin 512) (l : Fin 1408) :
    View.ld (Val := Elt Ideal) (e' := .bf16) X (Rect.unit ![0, n] ![512, 1408] inb) (ix2 r l) = X (ix2 r ⟨1408 * s.val + l.val, by omega⟩) := by
  subst hn
  exact same_at (n0 := 512) (n1 := 2816) X _ _ (show 0 + 1 * r.val = r.val by omega)
    (show 1408 * s.val + 1 * l.val = 1408 * s.val + l.val by omega)

theorem ld_rows (X : S2816x1024.Idx → Elt Ideal .bf16) (s : Fin 2) (n : ℕ) (hn : n = 1408 * s.val) (inb) (l : Fin 1408) (k : Fin 1024) :
    View.ld (Val := Elt Ideal) (e' := .bf16) X (Rect.unit ![n, 0] ![1408, 1024] inb) (ix2 l k) = X (ix2 ⟨1408 * s.val + l.val, by omega⟩ k) := by
  subst hn
  exact same_at (n0 := 2816) (n1 := 1024) X _ _ (show 1408 * s.val + 1 * l.val = 1408 * s.val + l.val by omega)
    (show 0 + 1 * k.val = k.val by omega)

/-- The four products of a tile together. -/
def slabs : FVec Ideal S512x1024 .f32 :=
  k0_pay7 (F := Ideal) (View.ld (iblk m c 0 t) (Rect.unit ![0, 0] ![512, 1408] inb_S512x2816_S512x1408_0_0))
    (View.ld (iblk m c 5 t) (Rect.unit ![0, 0] ![1408, 1024] inb_S2816x1024_S1408x1024_0_0))
    (View.ld (iblk m c 1 t) (Rect.unit ![0, 0] ![512, 1408] inb_S512x2816_S512x1408_0_0))
    (View.ld (iblk m c 6 t) (Rect.unit ![0, 0] ![1408, 1024] inb_S2816x1024_S1408x1024_0_0))
    (View.ld (iblk m c 0 t) (Rect.unit ![0, 1408] ![512, 1408] inb_S512x2816_S512x1408_0_1408))
    (View.ld (iblk m c 5 t) (Rect.unit ![1408, 0] ![1408, 1024] inb_S2816x1024_S1408x1024_1408_0))
    (View.ld (iblk m c 1 t) (Rect.unit ![0, 1408] ![512, 1408] inb_S512x2816_S512x1408_0_1408))
    (View.ld (iblk m c 6 t) (Rect.unit ![1408, 0] ![1408, 1024] inb_S2816x1024_S1408x1024_1408_0))

theorem slabs_at (r : Fin 512) (k : Fin 1024) : slabs m c t (ix2 r k) = dh (arr m c) (512 * t.val + r.val) k := by
  unfold slabs
  rw [pay7_at]
  unfold dh
  rw [sum_split 2 1408 rfl, sum_split 2 1408 rfl (fun l => rowOf (arr m c).dg _ l * _), Fin.sum_univ_two, Fin.sum_univ_two,
    add_comm (_ + _) (_ + _), ← add_add_add_comm, ← add_assoc]
  have p : ∀ {n : ℕ} {u u' v v' : Fin n → EReal}, (∀ q, u q = u' q) → (∀ q, v q = v' q) → ∑ q, u q * v q = ∑ q, u' q * v' q :=
    fun hu hv => Finset.sum_congr rfl fun q _ => congr (congrArg _ (hu q)) (hv q)
  refine congr (congrArg _ (congr (congrArg _ (congr (congrArg _ (p (fun q => ?_) fun q => ?_)) (p (fun q => ?_) fun q => ?_)))
    (p (fun q => ?_) fun q => ?_))) (p (fun q => ?_) fun q => ?_)
  · exact (ld_lanes (iblk m c 0 t) 0 0 rfl _ r q).trans (b0_at m c t r _)
  · exact (ld_rows (iblk m c 5 t) 0 0 rfl _ q k).trans (b5_at m c t _ k)
  · exact (ld_lanes (iblk m c 1 t) 0 0 rfl _ r q).trans (b1_at m c t r _)
  · exact (ld_rows (iblk m c 6 t) 0 0 rfl _ q k).trans (b6_at m c t _ k)
  · exact (ld_lanes (iblk m c 0 t) 1 1408 rfl _ r q).trans (b0_at m c t r _)
  · exact (ld_rows (iblk m c 5 t) 1 1408 rfl _ q k).trans (b5_at m c t _ k)
  · exact (ld_lanes (iblk m c 1 t) 1 1408 rfl _ r q).trans (b1_at m c t r _)
  · exact (ld_rows (iblk m c 6 t) 1 1408 rfl _ q k).trans (b6_at m c t _ k)

/-- The tile's rows of the layer's middle value's gradient, and of the joined heads' gradient. -/
def px : FVec Ideal S512x1024 .f32 :=
  k0_pay13 (F := Ideal) (slabs m c t) (k0_pay8 (F := Ideal) (iblk m c 3 t)) (k0_pay9 (F := Ideal) (iblk m c 3 t)) (iblk m c 2 t) (iblk m c 8 t)
def pl : FVec Ideal S512x512 .f32 :=
  k0_pay15 (F := Ideal) (slabs m c t) (k0_pay8 (F := Ideal) (iblk m c 3 t)) (k0_pay9 (F := Ideal) (iblk m c 3 t)) (iblk m c 2 t) (iblk m c 8 t) (iblk m c 7 t)
def ph : FVec Ideal S512x512 .f32 :=
  k0_pay16 (F := Ideal) (slabs m c t) (k0_pay8 (F := Ideal) (iblk m c 3 t)) (k0_pay9 (F := Ideal) (iblk m c 3 t)) (iblk m c 2 t) (iblk m c 8 t) (iblk m c 7 t)

theorem px_at (r : Fin 512) (k : Fin 1024) : px m c t (ix2 r k) = dx1 (arr m c) (512 * t.val + r.val) k := by
  unfold px
  rw [pay13_at]
  simp only [slabs_at, b2_at, b3_at, b8_at]
  rfl

theorem pl_at (r j : Fin 512) : pl m c t (ix2 r j) = dy (arr m c) (512 * t.val + r.val) (lo j) := by
  unfold pl
  rw [pay15_at, pay14_at]
  exact Finset.sum_congr rfl fun l _ => congr (congrArg _ (px_at m c t r l)) (b7_at m c t _ l)

theorem ph_at (r j : Fin 512) : ph m c t (ix2 r j) = dy (arr m c) (512 * t.val + r.val) (hi j) := by
  unfold ph
  rw [pay16_at, pay14_at]
  exact Finset.sum_congr rfl fun l _ => congr (congrArg _ (px_at m c t r l)) (b7_at m c t _ l)

/-- What the three tiled results hold after a grid point, in either case. -/
theorem tiled : (outsAt0 m c t.val t.isLt).1 = px m c t ∧ (outsAt0 m c t.val t.isLt).2.1 = pl m c t
    ∧ (outsAt0 m c t.val t.isLt).2.2.1 = k0_pay4 (F := Ideal) (ph m c t) (iblk m c 4 t) (iblk m c 9 t) := by
  by_cases h : t.val % 16 = 0
  · rw [outsAt0_A m c t h]; frame_out; exact ⟨rfl, rfl, rfl⟩
  · rw [outsAt0_B m c t h]; frame_out; exact ⟨rfl, rfl, rfl⟩

theorem dya_point (r j : Fin 512) : (outsAt0 m c t.val t.isLt).2.2.1 (ix2 r j) = dya (arr m c) (512 * t.val + r.val) j := by
  rw [(tiled m c t).2.2, pay4_at]
  simp only [ph_at, b4_at, b9_at]
  rfl

theorem dgf_step (acc : FVec Ideal S1x1024 .f32) (k : Fin 1024) :
    k0_pay12 (F := Ideal) (slabs m c t) (k0_pay8 (F := Ideal) (iblk m c 3 t)) (k0_pay9 (F := Ideal) (iblk m c 3 t)) acc (ix2 0 k)
    = acc (ix2 0 k) + tile (fun g => tf (arr m c) g k) t.val := by
  rw [pay12_at]
  simp only [slabs_at, b3_at]
  rfl

theorem dgoa_step (acc : FVec Ideal S1x512 .f32) (j : Fin 512) :
    k0_pay3 (F := Ideal) (ph m c t) (iblk m c 4 t) acc (ix2 0 j)
    = acc (ix2 0 j) + tile (fun g => ta (arr m c) g j) t.val := by
  rw [pay3_at]
  simp only [ph_at, b4_at]
  rfl

theorem dgf_point (k : Fin 1024) : (outsAt0 m c t.val t.isLt).2.2.2.1 (ix2 0 k)
    = ∑ s ∈ Finset.range (t.val + 1), tile (fun g => tf (arr m c) g k) s := by
  have := Pipeline.eq_sum_of_reset_step_apply_single (fun n h (k : Fin 1024) => (outsAt0 m c n h).2.2.2.1 (ix2 0 k)) 16 (fun _ => 0)
    (fun s k => tile (fun g => tf (arr m c) g k) s)
    (fun t h k => by rw [outsAt0_A m c t h]; frame_out; exact (dgf_step m c t _ k).trans (congrArg (· + _) (pay5_at k)))
    (fun t h k => by rw [outsAt0_B m c t h]; frame_out; exact dgf_step m c t _ k) (by decide) t k
  exact this.trans (zero_add _)

theorem dgoa_point (j : Fin 512) : (outsAt0 m c t.val t.isLt).2.2.2.2 (ix2 0 j)
    = ∑ s ∈ Finset.range (t.val + 1), tile (fun g => ta (arr m c) g j) s := by
  have := Pipeline.eq_sum_of_reset_step_apply_single (fun n h (k : Fin 512) => (outsAt0 m c n h).2.2.2.2 (ix2 0 k)) 16 (fun _ => 0)
    (fun s k => tile (fun g => ta (arr m c) g k) s)
    (fun t h k => by rw [outsAt0_A m c t h]; frame_out; exact (dgoa_step m c t _ k).trans (congrArg (· + _) (pay6_at k)))
    (fun t h k => by rw [outsAt0_B m c t h]; frame_out; exact dgoa_step m c t _ k) (by decide) t j
  exact this.trans (zero_add _)

end Cert.Kernel2Ideal.Ffn
-- ==== Proof.Ffn.Value.lean ====
module

public import proofs.«01_k».proof.Proof.Ffn.Point
public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import Idealize.ShloMosaic.Lib.Pipeline.ValueKit.Geometry

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem
open Cert.Grad Cert.Ffn

section Arrays

variable (m : (ℓ : Loc nD τ sig) → Buf (Elt Ideal) ℓ) (c : Dev nD)

/-- An array whose entries a tile's contents match row by row. -/
theorem of_rows {n : ℕ} (G : (⟨2, ![8192, n]⟩ : Shape).Idx → EReal) (t : Fin cfg0.N) (X : (⟨2, ![512, n]⟩ : Shape).Idx → EReal)
    (e : ∀ r k, X (ix2 r k) = G (ix2 ⟨512 * t.val + r.val, row_lt t r⟩ k)) (y : (⟨2, ![512, n]⟩ : Shape).Idx)
    (z : (⟨2, ![8192, n]⟩ : Shape).Idx) (h0 : (z 0).val = 512 * t.val + (y 0).val) (h1 : (z 1).val = (y 1).val) : X y = G z :=
  ((congrArg X (eq_ix2 y)).trans (e (y 0) (y 1))).trans (same_at G _ _ h0.symm h1.symm)

theorem dx1_out : (dats m 0 c).arrAt 10 cfg0.N = oDx1 (arr m c) := by
  refine (dats m 0 c).arrAt_eq_of_covers 10 (oDx1 (arr m c)) (by decide +kernel) fun t hf y => ?_
  rw [after0_10]
  refine of_rows (oDx1 (arr m c)) t _ (fun r k => (congrFun (tiled m c t).1 _).trans (px_at m c t r k)) y _ ?_ ?_ <;>
    blk_simp [(by decide +kernel : ∀ t : Fin cfg0.N, win0_10.index t = ![t.val, 0])]
  omega

theorem dycn_out : (dats m 0 c).arrAt 11 cfg0.N = oDycn (arr m c) := by
  refine (dats m 0 c).arrAt_eq_of_covers 11 (oDycn (arr m c)) (by decide +kernel) fun t hf y => ?_
  rw [after0_11]
  refine of_rows (oDycn (arr m c)) t _ (fun r k => (congrFun (tiled m c t).2.1 _).trans (pl_at m c t r k)) y _ ?_ ?_ <;>
    blk_simp [(by decide +kernel : ∀ t : Fin cfg0.N, win0_11.index t = ![t.val, 0])]
  omega

theorem dya_out : (dats m 0 c).arrAt 12 cfg0.N = oDya (arr m c) := by
  refine (dats m 0 c).arrAt_eq_of_covers 12 (oDya (arr m c)) (by decide +kernel) fun t hf y => ?_
  rw [after0_12]
  refine of_rows (oDya (arr m c)) t _ (fun r k => dya_point m c t r k) y _ ?_ ?_ <;>
    blk_simp [(by decide +kernel : ∀ t : Fin cfg0.N, win0_12.index t = ![t.val, 0])]
  omega

theorem dgf_out : (dats m 0 c).arrAt 13 cfg0.N = oDgf (arr m c) := by
  refine (dats m 0 c).arrAt_eq_of_after_last 13 (⟨15, by decide⟩ : Fin cfg0.N) (by decide +kernel) (oDgf (arr m c))
    fun (j : (⟨2, ![1, 1024]⟩ : Shape).Idx) => ?_
  rw [after0_13]
  have e := dgf_point m c ⟨15, by decide⟩ (j 1)
  rw [show (0 : Fin 1) = j 0 from Subsingleton.elim _ _, ← eq_ix2 (n0 := 1) (n1 := 1024) j] at e
  exact e.trans (tiles_total _)

theorem dgoa_out : (dats m 0 c).arrAt 14 cfg0.N = oDgoa (arr m c) := by
  refine (dats m 0 c).arrAt_eq_of_after_last 14 (⟨15, by decide⟩ : Fin cfg0.N) (by decide +kernel) (oDgoa (arr m c))
    fun (j : (⟨2, ![1, 512]⟩ : Shape).Idx) => ?_
  rw [after0_14]
  have e := dgoa_point m c ⟨15, by decide⟩ (j 1)
  rw [show (0 : Fin 1) = j 0 from Subsingleton.elim _ _, ← eq_ix2 (n0 := 1) (n1 := 512) j] at e
  exact e.trans (tiles_total _)

end Arrays

/-- The arguments the reference is launched with. -/
def argsOf (m' : (ℓ : Loc Cert.Reference2Ideal.nD Cert.Reference2Ideal.τ Cert.Reference2Ideal.sig) → Buf (Elt Ideal) ℓ) (c : Dev Cert.Reference2Ideal.nD) :
    Cert.Reference2Ideal.Ffn.Args :=
  ⟨m' ((c.tc : Thread Cert.Reference2Ideal.nD Cert.Reference2Ideal.τ).loc Cert.Reference2Ideal.main_arg0),
    m' ((c.tc : Thread Cert.Reference2Ideal.nD Cert.Reference2Ideal.τ).loc Cert.Reference2Ideal.main_arg1),
    m' ((c.tc : Thread Cert.Reference2Ideal.nD Cert.Reference2Ideal.τ).loc Cert.Reference2Ideal.main_arg2),
    m' ((c.tc : Thread Cert.Reference2Ideal.nD Cert.Reference2Ideal.τ).loc Cert.Reference2Ideal.main_arg3),
    m' ((c.tc : Thread Cert.Reference2Ideal.nD Cert.Reference2Ideal.τ).loc Cert.Reference2Ideal.main_arg4),
    m' ((c.tc : Thread Cert.Reference2Ideal.nD Cert.Reference2Ideal.τ).loc Cert.Reference2Ideal.main_arg5),
    m' ((c.tc : Thread Cert.Reference2Ideal.nD Cert.Reference2Ideal.τ).loc Cert.Reference2Ideal.main_arg6),
    m' ((c.tc : Thread Cert.Reference2Ideal.nD Cert.Reference2Ideal.τ).loc Cert.Reference2Ideal.main_arg7),
    m' ((c.tc : Thread Cert.Reference2Ideal.nD Cert.Reference2Ideal.τ).loc Cert.Reference2Ideal.main_arg8),
    m' ((c.tc : Thread Cert.Reference2Ideal.nD Cert.Reference2Ideal.τ).loc Cert.Reference2Ideal.main_arg9),
    m' ((c.tc : Thread Cert.Reference2Ideal.nD Cert.Reference2Ideal.τ).loc Cert.Reference2Ideal.main_arg10)⟩

open Cert.Reference2Ideal.Ffn Cert.Reference2Ideal.Read in
theorem algebraic : Cert.algebraic_Kernel2Ideal_Reference2Ideal (hKernel2Ideal := Cert.Kernel2Ideal.Gen.facts) (hReference2Ideal := Cert.Reference2Ideal.Gen.facts) := by
  intro m g m' g' _ hm
  have hA : ∀ c : Dev Cert.Reference2Ideal.nD, argsOf m' c = args m c := fun c => by
    obtain ⟨h0, h1, h2, h3, h4, h5, h6, h7, h8, h9, h10⟩ := hm c
    unfold argsOf args
    rw [h0, h1, h2, h3, h4, h5, h6, h7, h8, h9, h10]
  refine ⟨fun c => oDx1 (arr m c), fun c => oDycn (arr m c), fun c => oDya (arr m c), fun c => oDgf (arr m c), fun c => oDgoa (arr m c), ?_, ?_⟩
  · refine (θ_run _ _ _).mono (fun r h c => ?_) (Cert.Kernel2Ideal.Value.run_blocks (F := Ideal) m g)
    obtain ⟨o0, o1, o2, o3, o4, hr⟩ := h c
    exact ⟨o0.trans (dx1_out m c), o1.trans (dycn_out m c), o2.trans (dya_out m c), o3.trans (dgf_out m c), o4.trans (dgoa_out m c), hr⟩
  · refine (θ_run _ _ _).mono (fun r h c => ?_) (Cert.Reference2Ideal.Value.run (F := Ideal) m' g')
    obtain ⟨o0, o1, o2, o3, o4, hr⟩ := h c
    have eA : A (argsOf m' c) = arr m c := congrArg A (hA c)
    refine ⟨o0.trans ?_, o1.trans ?_, o2.trans ?_, o3.trans ?_, o4.trans ?_, hr⟩
    · exact (val_main_v59_eq _ _).trans ((dx1_eq (argsOf m' c)).trans (congrArg oDx1 eA))
    · exact (val_main_v62_eq _ _).trans ((dycn_eq (argsOf m' c)).trans (congrArg oDycn eA))
    · exact (val_main_v82_eq _ _).trans ((dya_eq (argsOf m' c)).trans (congrArg oDya eA))
    · exact (val_main_v42_eq (argsOf m' c).x0 (argsOf m' c).x1 (argsOf m' c).x2 (argsOf m' c).x3 (argsOf m' c).x4 (argsOf m' c).x6 (argsOf m' c).x7 (argsOf m' c).x8 (argsOf m' c).x9).trans ((dgf_eq (argsOf m' c)).trans (congrArg oDgf eA))
    · exact (val_main_v66_eq _ _).trans ((dgoa_eq (argsOf m' c)).trans (congrArg oDgoa eA))

theorem frame_ideal : Cert.quiescent_Kernel2Ideal (hKernel2Ideal := Cert.Kernel2Ideal.Gen.facts) := fun m ρ _ =>
  Cert.Kernel2Ideal.Gen.frame m ρ

set_option maxHeartbeats 4000000 in
/-- The kernel over bits: its text is the ideal kernel's, whose run holds over any float values. -/
theorem frame_kernel : Cert.quiescent_Kernel2 (hKernel2 := Cert.Kernel2.Gen.facts) := fun m ρ _ => by
  have bodies : @Cert.Kernel2.defs₀ Bits _ Cert.Kernel2.Gen.facts = @Cert.Kernel2Ideal.defs₀ Bits _ Cert.Kernel2Ideal.Gen.facts := by
    unfold Cert.Kernel2.defs₀ Cert.Kernel2Ideal.defs₀
    refine congrArg Defs.onTc ?_
    funext l
    match l with
    | 0 => funext a; rfl
  have e : @Cert.Kernel2.defs Bits _ Cert.Kernel2.Gen.facts = @Cert.Kernel2Ideal.defs Bits _ Cert.Kernel2Ideal.Gen.facts :=
    congrArg (Pipeline.defs (@Cert.Kernel2Ideal.pcfgs Bits Cert.Kernel2Ideal.Gen.facts)) bodies
  rw [e]
  exact (θ_run Cert.Kernel2Ideal.defs _ _).mono (fun _ h => h) (Cert.Kernel2Ideal.Gen.frame (F := Bits) m ρ)

theorem frame_reference : Cert.quiescent_Reference2Ideal (hReference2Ideal := Cert.Reference2Ideal.Gen.facts) := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

end Cert.Kernel2Ideal.Ffn
-- ==== Proof.In.Spec.lean ====
module

public import proofs.«01_k».proof.Proof.Mix.Arrays

@[expose] public section

noncomputable section

namespace Cert.In

open Idealize.ShloMosaic
open Cert.Mix (rowOf total rt back)

/-! The gradient of the mixer's input norm and of the layer's input. -/

variable (x : (⟨2, ![8192, 1024]⟩ : Shape).Idx → EReal) (gm : (⟨2, ![1, 1024]⟩ : Shape).Idx → EReal)
  (w : (⟨2, ![1024, 3072]⟩ : Shape).Idx → EReal) (dx1 : (⟨2, ![8192, 1024]⟩ : Shape).Idx → EReal)
  (dz : (⟨2, ![8192, 3072]⟩ : Shape).Idx → EReal) (g : ℕ)

/-- The normed row's cotangent: `dz` times the transposed weights. -/
def dh (k : Fin 1024) : EReal := ∑ l, rowOf dz g l * w (ix2 k l)

/-- The layer's input's gradient, by rows. -/
def gx (k : Fin 1024) : EReal := rowOf dx1 g k + back 1024 (rowOf x g) (fun k => dh w dz g k * gm (ix2 0 k)) k

/-- What a row adds to the gains' gradient. -/
def dg (k : Fin 1024) : EReal := dh w dz g k * (rowOf x g k * rt 1024 (rowOf x g))

def oGx : (⟨2, ![8192, 1024]⟩ : Shape).Idx → EReal := fun i => gx x gm w dx1 dz (i 0).val (i 1)
def oDg : (⟨2, ![1, 1024]⟩ : Shape).Idx → EReal := fun i => total fun g => dg x w dz g (i 1)

end Cert.In
-- ==== Proof.In.Pays.lean ====
module

public import proofs.«01_k».proof.Proof.Grad.Basic
public import proofs.«01_k».proof.Proof.In.Spec
public import proofs.«01_k».proof.Proof.Gen.Kernel3Ideal.Value

@[expose] public section

set_option maxRecDepth 16384

noncomputable section

namespace Cert.Kernel3Ideal.In

open Cert.Kernel3Ideal Cert.Kernel3Ideal.Gen
open Idealize.ShloMosaic Idealize.ShloMosaic.TcCoe
open Cert.Mix (rowOf rowOf_val ms rt back total ext2 ext_row)
open Cert.Grad Cert.In

variable (r : Fin 512) (k : Fin 1024)
  (v23 v24 v42 : FVec Ideal S512x1024 .f32) (v27 : FVec Ideal S512x1 .f32) (v35 v43 : FVec Ideal S1x1024 .f32)

theorem pay1_at : k0_pay1 (F := Ideal) (k0_pay7 (F := Ideal) v24) (ix2 r 0) = rt 1024 fun k => v24 (ix2 r k) := by
  pointwise [k0_pay1, k0_pay7]
  rw [lit1024]; rfl

theorem pay2_at : k0_pay2 (F := Ideal) v24 (k0_pay7 (F := Ideal) v24) (ix2 r k)
    = v24 (ix2 r k) * rt 1024 fun k => v24 (ix2 r k) := by
  pointwise [k0_pay2]
  rw [pay1_at]

theorem pay3_at : k0_pay3 (F := Ideal) v23 v24 (k0_pay7 (F := Ideal) v24) v35 (ix2 0 k)
    = v35 (ix2 0 k) + ∑ r, v23 (ix2 r k) * (v24 (ix2 r k) * rt 1024 fun k => v24 (ix2 r k)) := by
  pointwise [k0_pay3]
  simp only [pay2_at]

theorem pay4_at : k0_pay4 (F := Ideal) v23 v24 (k0_pay7 (F := Ideal) v24) v42 v43 (ix2 r k)
    = v42 (ix2 r k) + back 1024 (fun k => v24 (ix2 r k)) (fun k => v23 (ix2 r k) * v43 (ix2 0 k)) k := by
  pointwise [k0_pay4]
  simp only [pay2_at, pay1_at, lit1024]
  rfl

theorem pay5_at : k0_pay5 (F := Ideal) (ix2 0 k) = 0 := by
  pointwise [k0_pay5]

theorem pay6_at (a0 a1 a2 a3 : FVec Ideal S512x768 .bf16) (b0 b1 b2 b3 : FVec Ideal S1x1024x768 .bf16) :
    k0_pay6 (F := Ideal) a0 b0 a1 b1 a2 b2 a3 b3 (ix2 r k)
    = (∑ l, a0 (ix2 r l) * b0 (ix3 0 k l)) + (∑ l, a1 (ix2 r l) * b1 (ix3 0 k l)) + (∑ l, a2 (ix2 r l) * b2 (ix3 0 k l))
      + ∑ l, a3 (ix2 r l) * b3 (ix3 0 k l) := by
  pointwise [k0_pay6]

end Cert.Kernel3Ideal.In
-- ==== Proof.In.Point.lean ====
module

public import proofs.«01_k».proof.Proof.In.Pays
public import Idealize.ShloMosaic.Lib.Pipeline.ValueKit

@[expose] public section

set_option maxRecDepth 16384

noncomputable section

namespace Cert.Kernel3Ideal.In

open Cert.Kernel3Ideal Cert.Kernel3Ideal.Gen
open Idealize.ShloMosaic Idealize.ShloMosaic.TcCoe
open Cert.Mix (rowOf rowOf_val ms rt back total ext2 ext_row)
open Cert.Grad Cert.In

variable (m : (ℓ : Loc nD τ sig) → Buf (Elt Ideal) ℓ) (c : Dev nD) (t : Fin cfg0.N)

theorem map0 : ∀ t : Fin cfg0.N, win0_0.index t = ![t.val, 0] := by decide +kernel
theorem map1 : ∀ t : Fin cfg0.N, win0_1.index t = ![t.val, 0] := by decide +kernel
theorem map2 : ∀ t : Fin cfg0.N, win0_2.index t = ![t.val, 0] := by decide +kernel
theorem map3 : ∀ t : Fin cfg0.N, win0_3.index t = ![0, 0, 0] := by decide +kernel
theorem map4 : ∀ t : Fin cfg0.N, win0_4.index t = ![0, 0] := by decide +kernel

/-- The arguments' arrays. -/
abbrev aX := m ((c : Thread nD τ).loc main_arg0)
abbrev aG := m ((c : Thread nD τ).loc main_arg1)
abbrev aW := m ((c : Thread nD τ).loc main_arg2)
abbrev aD := m ((c : Thread nD τ).loc main_arg3)
abbrev aZ := m ((c : Thread nD τ).loc main_arg4)

theorem lt16 : t.val < 16 := t.isLt

/-- A tile's row among all rows. -/
theorem row_lt (r : Fin 512) : 512 * t.val + r.val < 8192 := by have := lt16 t; omega

theorem row_at {n : ℕ} (X : (⟨2, ![8192, n]⟩ : Shape).Idx → EReal) (r : Fin 512) (l : Fin n) :
    rowOf X (512 * t.val + r.val) l = X (ix2 ⟨512 * t.val + r.val, row_lt t r⟩ l) :=
  rowOf_val X ⟨512 * t.val + r.val, row_lt t r⟩ l

theorem b0_at (r : Fin 512) (k : Fin 1024) : iblk m c 0 t (ix2 r k) = rowOf (aX m c) (512 * t.val + r.val) k := by
  rw [row_at]
  refine (same_at (V m c main_arg0) _ (ix2 ⟨512 * t.val + r.val, row_lt t r⟩ k) ?_ ?_).trans (congrFun (V_main_arg0 m c) _) <;>
    blk_simp [map0] <;> (show _ = 512 * t.val + r.val; omega)

theorem b1_at (r : Fin 512) (k : Fin 1024) : iblk m c 1 t (ix2 r k) = rowOf (aD m c) (512 * t.val + r.val) k := by
  rw [row_at]
  refine (same_at (V m c main_arg3) _ (ix2 ⟨512 * t.val + r.val, row_lt t r⟩ k) ?_ ?_).trans (congrFun (V_main_arg3 m c) _) <;>
    blk_simp [map1] <;> (show _ = 512 * t.val + r.val; omega)

theorem b4_at (k : Fin 1024) : iblk m c 4 t (ix2 0 k) = aG m c (ix2 0 k) := by
  refine (same_at (V m c main_arg1) _ (ix2 0 k) ?_ ?_).trans (congrFun (V_main_arg1 m c) _) <;> blk_simp [map4]

theorem b2_at (r : Fin 512) (l : Fin 3072) : iblk m c 2 t (ix2 r l) = rowOf (aZ m c) (512 * t.val + r.val) l := by
  rw [row_at]
  refine (same_at (V m c main_arg4) _ (ix2 ⟨512 * t.val + r.val, row_lt t r⟩ l) ?_ ?_).trans (congrFun (V_main_arg4 m c) _) <;>
    blk_simp [map2] <;> (show _ = 512 * t.val + r.val; omega)

/-- The weights' slabs, cut on the host. -/
theorem w4_at (s : Fin 4) (k : Fin 1024) (l : Fin 768) :
    V m c main_v2 (ix3 s k l) = aW m c (ix2 k ⟨768 * s.val + l.val, by omega⟩) := by
  dsimp only [V, hostOps0]
  after_results
  pointwise
  exact same_at (aW m c) _ _ rfl (show s.val * 768 + l.val = 768 * s.val + l.val by omega)

theorem b3_at (s : Fin 4) (k : Fin 1024) (l : Fin 768) :
    iblk m c 3 t (ix3 s k l) = aW m c (ix2 k ⟨768 * s.val + l.val, by omega⟩) := by
  rw [← w4_at]
  refine same_at3 (V m c main_v2) _ _ ?_ ?_ ?_ <;> blk_simp [map3]

/-- A slice of `dz`'s lanes, and the slab of the weights it meets. -/
theorem b2_ld (s : Fin 4) (n : ℕ) (hn : n = 768 * s.val) (inb) (r : Fin 512) (l : Fin 768) :
    View.ld (iblk m c 2 t) (Rect.unit ![0, n] ![512, 768] inb) (ix2 r l)
    = rowOf (aZ m c) (512 * t.val + r.val) ⟨768 * s.val + l.val, by omega⟩ := by
  subst hn
  rw [← b2_at]
  exact same_at (n0 := 512) (n1 := 3072) (iblk m c 2 t) _ _ (show 0 + 1 * r.val = r.val by omega)
    (show 768 * s.val + 1 * l.val = 768 * s.val + l.val by omega)

theorem b3_ld (s : Fin 4) (n : ℕ) (hn : n = s.val) (inb) (k : Fin 1024) (l : Fin 768) :
    View.ld (iblk m c 3 t) (Rect.unit ![n, 0, 0] ![1, 1024, 768] inb) (ix3 0 k l)
    = aW m c (ix2 k ⟨768 * s.val + l.val, by omega⟩) := by
  subst hn
  rw [← b3_at m c t]
  exact same_at3 (n0 := 4) (n1 := 1024) (n2 := 768) (iblk m c 3 t) _ _ (show s.val + 1 * 0 = s.val by omega)
    (show 0 + 1 * k.val = k.val by omega) (show 0 + 1 * l.val = l.val by omega)

/-- The four products of a tile together. -/
def slabs : FVec Ideal S512x1024 .f32 :=
  k0_pay6 (F := Ideal) (View.ld (iblk m c 2 t) (Rect.unit ![0, 0] ![512, 768] inb_S512x3072_S512x768_0_0))
    (View.ld (iblk m c 3 t) (Rect.unit ![0, 0, 0] ![1, 1024, 768] inb_S4x1024x768_S1x1024x768_0_0_0))
    (View.ld (iblk m c 2 t) (Rect.unit ![0, 768] ![512, 768] inb_S512x3072_S512x768_0_768))
    (View.ld (iblk m c 3 t) (Rect.unit ![1, 0, 0] ![1, 1024, 768] inb_S4x1024x768_S1x1024x768_1_0_0))
    (View.ld (iblk m c 2 t) (Rect.unit ![0, 1536] ![512, 768] inb_S512x3072_S512x768_0_1536))
    (View.ld (iblk m c 3 t) (Rect.unit ![2, 0, 0] ![1, 1024, 768] inb_S4x1024x768_S1x1024x768_2_0_0))
    (View.ld (iblk m c 2 t) (Rect.unit ![0, 2304] ![512, 768] inb_S512x3072_S512x768_0_2304))
    (View.ld (iblk m c 3 t) (Rect.unit ![3, 0, 0] ![1, 1024, 768] inb_S4x1024x768_S1x1024x768_3_0_0))

theorem slabs_at (r : Fin 512) (k : Fin 1024) : slabs m c t (ix2 r k) = dh (aW m c) (aZ m c) (512 * t.val + r.val) k := by
  unfold slabs
  rw [pay6_at]
  simp only [b2_ld m c t 0 0 rfl, b2_ld m c t 1 768 rfl, b2_ld m c t 2 1536 rfl, b2_ld m c t 3 2304 rfl,
    b3_ld m c t 0 0 rfl, b3_ld m c t 1 1 rfl, b3_ld m c t 2 2 rfl, b3_ld m c t 3 3 rfl]
  unfold dh
  rw [sum_split 4 768 rfl, Fin.sum_univ_four]

theorem gx_point (r : Fin 512) (k : Fin 1024) : (outsAt0 m c t.val t.isLt).1 (ix2 r k)
    = gx (aX m c) (aG m c) (aW m c) (aD m c) (aZ m c) (512 * t.val + r.val) k := by
  have e : (outsAt0 m c t.val t.isLt).1 = k0_pay4 (F := Ideal) (slabs m c t) (iblk m c 0 t) (k0_pay7 (F := Ideal) (iblk m c 0 t))
      (iblk m c 1 t) (iblk m c 4 t) := by
    by_cases h : t.val % 16 = 0
    · rw [outsAt0_A m c t h]; frame_out; rfl
    · rw [outsAt0_B m c t h]; frame_out; rfl
  rw [e, pay4_at]
  simp only [slabs_at, b0_at, b1_at, b4_at]
  rfl

theorem dg_point (k : Fin 1024) : (outsAt0 m c t.val t.isLt).2 (ix2 0 k)
    = ∑ s ∈ Finset.range (t.val + 1), tile (fun g => dg (aX m c) (aW m c) (aZ m c) g k) s := by
  have e : ∀ (t : Fin cfg0.N) (acc : FVec Ideal S1x1024 .f32) (k : Fin 1024),
      k0_pay3 (F := Ideal) (slabs m c t) (iblk m c 0 t) (k0_pay7 (F := Ideal) (iblk m c 0 t)) acc (ix2 0 k)
      = acc (ix2 0 k) + tile (fun g => dg (aX m c) (aW m c) (aZ m c) g k) t.val := fun t acc k => by
    rw [pay3_at]
    simp only [slabs_at, b0_at]
    rfl
  have := Pipeline.eq_sum_of_reset_step_apply_single (fun n h (k : Fin 1024) => (outsAt0 m c n h).2 (ix2 0 k)) 16 (fun _ => 0)
    (fun s k => tile (fun g => dg (aX m c) (aW m c) (aZ m c) g k) s)
    (fun t h k => by rw [outsAt0_A m c t h]; frame_out; exact (e t _ k).trans (congrArg (· + _) (pay5_at k)))
    (fun t h k => by rw [outsAt0_B m c t h]; frame_out; exact e t _ k) (by decide) t k
  exact this.trans (zero_add _)

end Cert.Kernel3Ideal.In
-- ==== Proof.In.Ref.lean ====
module

public import proofs.«01_k».proof.Proof.Grad.Basic
public import proofs.«01_k».proof.Proof.In.Spec
public import proofs.«01_k».proof.Proof.Gen.Reference3Ideal.Read

@[expose] public section

set_option maxRecDepth 16384

noncomputable section

namespace Cert.Reference3Ideal.In

open Cert.Reference3Ideal Cert.Reference3Ideal.Read
open Idealize.ShloMosaic Idealize.ShloMosaic.TcCoe
open Cert.Mix (rowOf rowOf_val ms rt coef backR back_eq total total_eq ext2 ext_row)
open Cert.Grad Cert.In

variable (x0 : (⟨S8192x1024, .f32⟩ : BufTy).Contents (Elt Ideal)) (x1 : (⟨S1x1024, .f32⟩ : BufTy).Contents (Elt Ideal))
  (x2 : (⟨S1024x3072, .f32⟩ : BufTy).Contents (Elt Ideal)) (x3 : (⟨S8192x1024, .f32⟩ : BufTy).Contents (Elt Ideal))
  (x4 : (⟨S8192x3072, .bf16⟩ : BufTy).Contents (Elt Ideal)) (g : Fin 8192) (k : Fin 1024)

theorem row_x (k : Fin 1024) : x0 (ix2 g k) = rowOf x0 g k := (rowOf_val x0 g k).symm

theorem v6_at : val_main_v6 (F := Ideal) x0 (ix2 g 0) = ms 1024 (rowOf x0 g) := by
  pointwise [val_main_v6, val_main_v5, val_main_v4, val_main_v3, val_main_v2, val_main_v1, val_main_v0, val_main_cst, val_main_cst_0, val_main_cst_1]
  rw [lit1024]
  simp only [row_x x0]; rfl

theorem v7_at : val_main_v7 (F := Ideal) x0 (ix2 g 0) = rt 1024 (rowOf x0 g) := by
  pointwise [val_main_v7]
  rw [v6_at]; rfl

theorem v10_at : val_main_v10 (F := Ideal) x0 (ix2 g 0)
    = ((-1 / 2 : ℝ) : EReal) * Ideal.div (rt 1024 (rowOf x0 g)) (ms 1024 (rowOf x0 g)) := by
  pointwise [val_main_v10, val_main_v9, val_main_v8, val_main_cst_2]
  rw [v6_at, v7_at, litHalf]

theorem v12_at : val_main_v12 (F := Ideal) x0 (ix2 g k) = rowOf x0 g k * rt 1024 (rowOf x0 g) := by
  pointwise [val_main_v12, val_main_v11]
  rw [v7_at, row_x x0]

theorem v17_at : val_main_v17 (F := Ideal) x2 x4 (ix2 g k) = dh x2 x4 g k := by
  pointwise [val_main_v17, val_main_v16]
  simp only [dh, rowOf_val]

theorem v20_at : val_main_v20 (F := Ideal) x0 x2 x4 (ix2 0 k) = oDg x0 x2 x4 (ix2 0 k) := by
  pointwise [val_main_v20, val_main_v19, val_main_v18, val_main_cst_3]
  simp only [v12_at, v17_at]
  show _ = total fun g => dg x0 x2 x4 g k
  rw [total_eq]
  exact Finset.sum_congr rfl fun g _ => mul_comm _ _

theorem v22_at : val_main_v22 (F := Ideal) x1 x2 x4 (ix2 g k) = dh x2 x4 g k * x1 (ix2 0 k) := by
  pointwise [val_main_v22, val_main_v21]
  rw [v17_at]

theorem v32_at : val_main_v32 (F := Ideal) x0 x1 x2 x4 (ix1 g)
    = coef 1024 (rowOf x0 g) fun k => dh x2 x4 g k * x1 (ix2 0 k) := by
  pointwise [val_main_v32, val_main_v31, val_main_v30, val_main_v29, val_main_v25, val_main_v24, val_main_v23, val_main_cst_4,
    val_main_cst_5, val_main_cst_6]
  simp only [Fin.sum_univ_one, v10_at, v22_at, row_x x0, lit1024]
  rfl

theorem v37_at : val_main_v37 (F := Ideal) x0 x1 x2 x3 x4 (ix2 g k) = gx x0 x1 x2 x3 x4 g k := by
  unfold gx
  rw [back_eq _ _ _ _ (by norm_num : (0 : ℝ) < 1024)]
  pointwise [val_main_v37, val_main_v36, val_main_v35, val_main_v34, val_main_v33, val_main_v28, val_main_v27, val_main_v26]
  simp only [v32_at, v22_at, v7_at, row_x x0, row_x x3, backR, add_assoc]

theorem gx_eq : val_main_v37 (F := Ideal) x0 x1 x2 x3 x4 = oGx x0 x1 x2 x3 x4 := ext2 fun g k => v37_at x0 x1 x2 x3 x4 g k

theorem dg_eq : val_main_v20 (F := Ideal) x0 x2 x4 = oDg x0 x2 x4 := ext_row fun k => v20_at x0 x2 x4 k

end Cert.Reference3Ideal.In
-- ==== Proof.In.Value.lean ====
module

public import proofs.«01_k».proof.Proof.In.Point
public import proofs.«01_k».proof.Proof.In.Ref
public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import Idealize.ShloMosaic.Lib.Pipeline.ValueKit.Geometry

@[expose] public section

set_option maxRecDepth 16384

noncomputable section

namespace Cert.Kernel3Ideal.In

open Cert.Kernel3Ideal Cert.Kernel3Ideal.Gen
open Idealize.ShloMosaic Idealize.ShloMosaic.TcCoe Idealize.SL.Sem
open Cert.Grad Cert.In

section Arrays

variable (m : (ℓ : Loc nD τ sig) → Buf (Elt Ideal) ℓ) (c : Dev nD)

theorem gx_out : (dats m 0 c).arrAt 5 cfg0.N = oGx (aX m c) (aG m c) (aW m c) (aD m c) (aZ m c) := by
  refine (dats m 0 c).arrAt_eq_of_covers 5 (oGx (aX m c) (aG m c) (aW m c) (aD m c) (aZ m c)) (by decide +kernel) fun t hf y => ?_
  rw [after0_5]
  have e := gx_point m c t (y 0) (y 1)
  rw [← eq_ix2 (n0 := 512) (n1 := 1024) y] at e
  refine e.trans (same_at (oGx (aX m c) (aG m c) (aW m c) (aD m c) (aZ m c)) (ix2 ⟨512 * t.val + (y 0).val, row_lt t (y 0)⟩ (y 1)) _ ?_ ?_) <;>
    blk_simp [(by decide +kernel : ∀ t : Fin cfg0.N, win0_5.index t = ![t.val, 0])]
  show 512 * t.val + (y 0).val = _
  omega

theorem dg_out : (dats m 0 c).arrAt 6 cfg0.N = oDg (aX m c) (aW m c) (aZ m c) := by
  refine (dats m 0 c).arrAt_eq_of_after_last 6 (⟨15, by decide⟩ : Fin cfg0.N) (by decide +kernel) (oDg (aX m c) (aW m c) (aZ m c))
    fun (j : (⟨2, ![1, 1024]⟩ : Shape).Idx) => ?_
  rw [after0_6]
  have e := dg_point m c ⟨15, by decide⟩ (j 1)
  rw [show (0 : Fin 1) = j 0 from Subsingleton.elim _ _, ← eq_ix2 (n0 := 1) (n1 := 1024) j] at e
  exact e.trans (tiles_total _)

end Arrays

theorem algebraic : Cert.algebraic_Kernel3Ideal_Reference3Ideal (hKernel3Ideal := Cert.Kernel3Ideal.Gen.facts) (hReference3Ideal := Cert.Reference3Ideal.Gen.facts) := by
  intro m g m' g' _ hm
  refine ⟨fun c => oGx (aX m c) (aG m c) (aW m c) (aD m c) (aZ m c), fun c => oDg (aX m c) (aW m c) (aZ m c), ?_, ?_⟩
  · refine (θ_run _ _ _).mono (fun r h c => ?_) (Cert.Kernel3Ideal.Value.run_blocks (F := Ideal) m g)
    obtain ⟨o0, o1, hr⟩ := h c
    exact ⟨o0.trans (gx_out m c), o1.trans (dg_out m c), hr⟩
  · refine (θ_run _ _ _).mono (fun r h c => ?_) (Cert.Reference3Ideal.Value.run (F := Ideal) m' g')
    obtain ⟨o0, o1, hr⟩ := h c
    obtain ⟨h0, h1, h2, h3, h4⟩ := hm c
    refine ⟨o0.trans ((Cert.Reference3Ideal.Read.val_main_v37_eq _ _).trans ((Cert.Reference3Ideal.In.gx_eq _ _ _ _ _).trans ?_)),
      o1.trans ((Cert.Reference3Ideal.Read.val_main_v20_eq _ _ _).trans ((Cert.Reference3Ideal.In.dg_eq _ _ _).trans ?_)), hr⟩
    · rw [h0, h1, h2, h3, h4]
    · rw [h0, h2, h4]

theorem frame_ideal : Cert.quiescent_Kernel3Ideal (hKernel3Ideal := Cert.Kernel3Ideal.Gen.facts) := fun m ρ _ =>
  Cert.Kernel3Ideal.Gen.frame m ρ

/-- The kernel over bits: its text is the ideal kernel's, whose run holds over any float values. -/
theorem frame_kernel : Cert.quiescent_Kernel3 (hKernel3 := Cert.Kernel3.Gen.facts) := fun m ρ _ => by
  have bodies : @Cert.Kernel3.defs₀ Bits _ Cert.Kernel3.Gen.facts = @Cert.Kernel3Ideal.defs₀ Bits _ Cert.Kernel3Ideal.Gen.facts := by
    unfold Cert.Kernel3.defs₀ Cert.Kernel3Ideal.defs₀
    refine congrArg Defs.onTc ?_
    funext l
    match l with
    | 0 => funext a; rfl
  have e : @Cert.Kernel3.defs Bits _ Cert.Kernel3.Gen.facts = @Cert.Kernel3Ideal.defs Bits _ Cert.Kernel3Ideal.Gen.facts :=
    congrArg (Pipeline.defs (@Cert.Kernel3Ideal.pcfgs Bits Cert.Kernel3Ideal.Gen.facts)) bodies
  rw [e]
  exact (θ_run Cert.Kernel3Ideal.defs _ _).mono (fun _ h => h) (Cert.Kernel3Ideal.Gen.frame (F := Bits) m ρ)

theorem frame_reference : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

end Cert.Kernel3Ideal.In
-- ==== Proof.Wg.Basic.lean ====
module

public import proofs.«01_k».proof.Proof.Grad.Basic

@[expose] public section

noncomputable section

namespace Cert.Wg

open Idealize.ShloMosaic
open Cert.Mix (rowOf rowOf_val total total_eq)
open Cert.Grad

/-! The gradient of a weight: the product of a transposed array with another one, over all rows,
    walked in eight tiles of 1024. -/

variable {p q : ℕ} (a : (⟨2, ![8192, p]⟩ : Shape).Idx → EReal) (b : (⟨2, ![8192, q]⟩ : Shape).Idx → EReal)

/-- What a row adds. -/
def term (i : Fin p) (j : Fin q) (g : ℕ) : EReal := rowOf a g i * rowOf b g j

/-- The gradient. -/
def prod : (⟨2, ![p, q]⟩ : Shape).Idx → EReal := fun y => total (term a b (y 0) (y 1))

/-- The rows of tile `t`, 1024 of them, summed. -/
def tile8 (f : ℕ → EReal) (t : ℕ) : EReal := ∑ r : Fin 1024, f (1024 * t + r.val)

theorem tiles8_total (f : ℕ → EReal) : ∑ t ∈ Finset.range 8, tile8 f t = total f := by
  rw [total_eq, sum_split 8 1024 rfl (fun g : Fin 8192 => f g.val), Finset.sum_range]
  rfl

theorem prod_at (i : Fin p) (j : Fin q) : prod a b (ix2 i j) = ∑ g : Fin 8192, a (ix2 g i) * b (ix2 g j) := by
  show total (term a b i j) = _
  rw [total_eq]
  exact Finset.sum_congr rfl fun g _ => by rw [term, rowOf_val, rowOf_val]

/-- A row of a tile of 1024 among all rows. -/
theorem row8_at {n : ℕ} (X : (⟨2, ![8192, n]⟩ : Shape).Idx → EReal) {t : ℕ} (ht : t < 8) (r : Fin 1024) (l : Fin n) :
    rowOf X (1024 * t + r.val) l = X (ix2 ⟨1024 * t + r.val, by omega⟩ l) :=
  rowOf_val X ⟨1024 * t + r.val, by omega⟩ l

end Cert.Wg
-- ==== Proof.Wg.Gate.lean ====
module

public import proofs.«01_k».proof.Proof.Wg.Basic
public import proofs.«01_k».proof.Defs
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ValueKit.Geometry

@[expose] public section

set_option maxRecDepth 16384

noncomputable section

namespace Cert.Kernel4Ideal.Wg

open Cert.Kernel4Ideal Cert.Kernel4Ideal.Gen
open Idealize.ShloMosaic Idealize.ShloMosaic.TcCoe Idealize.SL.Sem
open Cert.Mix (rowOf ext2)
open Cert.Grad Cert.Wg

section Point

variable (m : (ℓ : Loc nD τ sig) → Buf (Elt Ideal) ℓ) (c : Dev nD) (t : Fin cfg0.N)

/-- The two arrays of the product. -/
abbrev fA : (⟨2, ![8192, 2816]⟩ : Shape).Idx → EReal := V m c main_arg3
abbrev fB : (⟨2, ![8192, 1024]⟩ : Shape).Idx → EReal := V m c main_v12

theorem map0 : ∀ t : Fin cfg0.N, win0_0.index t = ![t.val, 0] := by decide +kernel
theorem map1 : ∀ t : Fin cfg0.N, win0_1.index t = ![t.val, 0] := by decide +kernel

theorem a_at (r : Fin 1024) (l : Fin 2816) : iblk m c 0 t (ix2 r l) = rowOf (fA m c) (1024 * t.val + r.val) l := by
  rw [row8_at _ t.isLt]
  refine same_at (fA m c) _ _ ?_ ?_ <;> blk_simp [map0] <;> (show _ = 1024 * t.val + r.val; omega)

theorem b_at (r : Fin 1024) (l : Fin 1024) : iblk m c 1 t (ix2 r l) = rowOf (fB m c) (1024 * t.val + r.val) l := by
  rw [row8_at _ t.isLt]
  refine same_at (fB m c) _ _ ?_ ?_ <;> blk_simp [map1] <;> (show _ = 1024 * t.val + r.val; omega)

theorem step (acc : FVec Ideal S2816x1024 .f32) (y : Fin 2816 × Fin 1024) :
    k0_pay2 (F := Ideal) acc (iblk m c 0 t) (iblk m c 1 t) (ix2 y.1 y.2)
    = acc (ix2 y.1 y.2) + tile8 (term (fA m c) (fB m c) y.1 y.2) t.val := by
  pointwise [k0_pay2]
  simp only [a_at, b_at]
  rfl

theorem zero_at (y : Fin 2816 × Fin 1024) : k0_pay1 (F := Ideal) (ix2 y.1 y.2) = 0 := by
  pointwise [k0_pay1]

theorem acc_point (y : Fin 2816 × Fin 1024) : (outsAt0 m c t.val t.isLt).1 (ix2 y.1 y.2)
    = ∑ s ∈ Finset.range (t.val + 1), tile8 (term (fA m c) (fB m c) y.1 y.2) s := by
  have := Pipeline.eq_sum_of_reset_step_apply_single (fun n h (y : Fin 2816 × Fin 1024) => (outsAt0 m c n h).1 (ix2 y.1 y.2)) 8
    (fun _ => 0) (fun s y => tile8 (term (fA m c) (fB m c) y.1 y.2) s)
    (fun t h y => by
      rw [outsAt0_A m c t h (by omega)]; frame_out
      exact (step m c t _ y).trans (congrArg (· + _) (zero_at y)))
    (fun t h y => by
      by_cases h1 : t.val % 8 = 7
      · rw [outsAt0_C m c t h h1]; frame_out; exact step m c t _ y
      · rw [outsAt0_B m c t h h1]; frame_out; exact step m c t _ y) (by decide) t y
  exact this.trans (zero_add _)

theorem acc_last (y : (⟨2, ![2816, 1024]⟩ : Shape).Idx) : (outsAt0 m c 7 (by decide)).1 y = prod (fA m c) (fB m c) y := by
  have e := acc_point m c ⟨7, by decide⟩ (y 0, y 1)
  rw [← eq_ix2 (n0 := 2816) (n1 := 1024) y] at e
  exact e.trans (tiles8_total _)

theorem cast_eq (v : FVec Ideal S2816x1024 .f32) : k0_pay3 (F := Ideal) v = v := ext2 fun i j => by
  pointwise [k0_pay3]

theorem both_last : (outsAt0 m c 7 (by decide)).2 = (outsAt0 m c 7 (by decide)).1 := by
  rw [outsAt0_C m c ⟨7, by decide⟩ (by decide) (by decide)]
  frame_out
  exact cast_eq _

theorem out2 : (dats m 0 c).arrAt 2 cfg0.N = prod (fA m c) (fB m c) := by
  refine (dats m 0 c).arrAt_eq_of_after_last 2 (⟨7, by decide⟩ : Fin cfg0.N) (by decide +kernel) (prod (fA m c) (fB m c))
    fun (j : (⟨2, ![2816, 1024]⟩ : Shape).Idx) => ?_
  rw [after0_2]
  exact acc_last m c j

theorem out3 : (dats m 0 c).arrAt 3 cfg0.N = prod (fA m c) (fB m c) := by
  refine (dats m 0 c).arrAt_eq_of_after_last 3 (⟨7, by decide⟩ : Fin cfg0.N) (by decide +kernel) (prod (fA m c) (fB m c))
    fun (j : (⟨2, ![2816, 1024]⟩ : Shape).Idx) => ?_
  rw [after0_3]
  exact (congrFun (both_last m c) j).trans (acc_last m c j)

end Point

section Host

open Cert.Reference4Ideal.Read

variable (m : (ℓ : Loc nD τ sig) → Buf (Elt Ideal) ℓ) (c : Dev nD)

/-- The normed rows, made on the host, are the reference's. -/
theorem fB_eq : fB m c = val_main_v11 (F := Ideal) (m ((c : Thread nD τ).loc main_arg0)) (m ((c : Thread nD τ).loc main_arg1)) := by
  dsimp only [fB, V, hostOps0]
  after_results
  rfl

theorem fA_eq : fA m c = m ((c : Thread nD τ).loc main_arg3) := V_main_arg3 m c

variable (x0 : (⟨Cert.Reference4Ideal.S8192x1024, .f32⟩ : BufTy).Contents (Elt Ideal)) (x1 : (⟨Cert.Reference4Ideal.S1x1024, .f32⟩ : BufTy).Contents (Elt Ideal))
  (x3 : (⟨Cert.Reference4Ideal.S8192x2816, .bf16⟩ : BufTy).Contents (Elt Ideal))

theorem ref_at (i : Fin 2816) (j : Fin 1024) : val_main_v14 (F := Ideal) x0 x1 x3 (ix2 i j) = prod x3 (val_main_v11 (F := Ideal) x0 x1) (ix2 i j) := by
  rw [prod_at]
  pointwise [val_main_v14, val_main_v13]

theorem ref16 : val_main_v16 (F := Ideal) x0 x1 x3 = prod x3 (val_main_v11 (F := Ideal) x0 x1) := ext2 fun i j => by
  rw [← ref_at]
  pointwise [val_main_v16, val_main_v15]

theorem ref18 : val_main_v18 (F := Ideal) x0 x1 x3 = prod x3 (val_main_v11 (F := Ideal) x0 x1) := ext2 fun i j => by
  rw [← ref_at]
  pointwise [val_main_v18, val_main_v17, val_main_v15]

end Host

theorem algebraic : Cert.algebraic_Kernel4Ideal_Reference4Ideal (hKernel4Ideal := Cert.Kernel4Ideal.Gen.facts) (hReference4Ideal := Cert.Reference4Ideal.Gen.facts) := by
  intro m g m' g' _ hm
  refine ⟨fun c => prod (fA m c) (fB m c), fun c => prod (fA m c) (fB m c), ?_, ?_⟩
  · refine (θ_run _ _ _).mono (fun r h c => ?_) (Cert.Kernel4Ideal.Value.run_blocks (F := Ideal) m g)
    obtain ⟨o0, o1, hr⟩ := h c
    exact ⟨o0.trans (out2 m c), o1.trans (out3 m c), hr⟩
  · refine (θ_run _ _ _).mono (fun r h c => ?_) (Cert.Reference4Ideal.Value.run (F := Ideal) m' g')
    obtain ⟨o0, o1, hr⟩ := h c
    obtain ⟨h0, h1, h2, h3⟩ := hm c
    refine ⟨o0.trans ((Cert.Reference4Ideal.Read.val_main_v16_eq _ _ _).trans ((ref16 _ _ _).trans ?_)),
      o1.trans ((Cert.Reference4Ideal.Read.val_main_v18_eq _ _ _).trans ((ref18 _ _ _).trans ?_)), hr⟩
    all_goals show _ = prod (fA m c) (fB m c)
    all_goals rw [fA_eq, fB_eq, h0, h1, h3]

theorem frame_ideal : Cert.quiescent_Kernel4Ideal (hKernel4Ideal := Cert.Kernel4Ideal.Gen.facts) := fun m ρ _ =>
  Cert.Kernel4Ideal.Gen.frame m ρ

set_option maxHeartbeats 4000000 in
/-- The kernel over bits: its text is the ideal kernel's, whose run holds over any float values. -/
theorem frame_kernel : Cert.quiescent_Kernel4 (hKernel4 := Cert.Kernel4.Gen.facts) := fun m ρ _ => by
  have bodies : @Cert.Kernel4.defs₀ Bits _ Cert.Kernel4.Gen.facts = @Cert.Kernel4Ideal.defs₀ Bits _ Cert.Kernel4Ideal.Gen.facts := by
    unfold Cert.Kernel4.defs₀ Cert.Kernel4Ideal.defs₀
    refine congrArg Defs.onTc ?_
    funext l
    match l with
    | 0 => funext a; rfl
  have e : @Cert.Kernel4.defs Bits _ Cert.Kernel4.Gen.facts = @Cert.Kernel4Ideal.defs Bits _ Cert.Kernel4Ideal.Gen.facts :=
    congrArg (Pipeline.defs (@Cert.Kernel4Ideal.pcfgs Bits Cert.Kernel4Ideal.Gen.facts)) bodies
  rw [e]
  exact (θ_run Cert.Kernel4Ideal.defs _ _).mono (fun _ h => h) (Cert.Kernel4Ideal.Gen.frame (F := Bits) m ρ)

theorem frame_reference : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)

end Cert.Kernel4Ideal.Wg
-- ==== Proof.Wg.Down.lean ====
module

public import proofs.«01_k».proof.Proof.Wg.Basic
public import proofs.«01_k».proof.Defs
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Pipeline.ValueKit
public import Idealize.ShloMosaic.Lib.Pipeline.ValueKit.Geometry

@[expose] public section

set_option maxRecDepth 16384

noncomputable section

namespace Cert.Kernel5Ideal.Wg

open Cert.Kernel5Ideal Cert.Kernel5Ideal.Gen
open Idealize.ShloMosaic Idealize.ShloMosaic.TcCoe Idealize.SL.Sem
open Cert.Mix (rowOf ext2)
open Cert.Grad Cert.Wg

section Point

variable (m : (ℓ : Loc nD τ sig) → Buf (Elt Ideal) ℓ) (c : Dev nD) (t : Fin cfg0.N)

/-- The two arrays of the product. -/
abbrev fA : (⟨2, ![8192, 2816]⟩ : Shape).Idx → EReal := V m c main_v2
abbrev fB : (⟨2, ![8192, 1024]⟩ : Shape).Idx → EReal := V m c main_arg3

theorem map0 : ∀ t : Fin cfg0.N, win0_0.index t = ![t.val, 0] := by decide +kernel
theorem map1 : ∀ t : Fin cfg0.N, win0_1.index t = ![t.val, 0] := by decide +kernel

theorem a_at (r : Fin 1024) (l : Fin 2816) : iblk m c 0 t (ix2 r l) = rowOf (fA m c) (1024 * t.val + r.val) l := by
  rw [row8_at _ t.isLt]
  refine same_at (fA m c) _ _ ?_ ?_ <;> blk_simp [map0] <;> (show _ = 1024 * t.val + r.val; omega)

theorem b_at (r : Fin 1024) (l : Fin 1024) : iblk m c 1 t (ix2 r l) = rowOf (fB m c) (1024 * t.val + r.val) l := by
  rw [row8_at _ t.isLt]
  refine same_at (fB m c) _ _ ?_ ?_ <;> blk_simp [map1] <;> (show _ = 1024 * t.val + r.val; omega)

theorem step (acc : FVec Ideal S2816x1024 .f32) (y : Fin 2816 × Fin 1024) :
    k0_pay2 (F := Ideal) acc (iblk m c 0 t) (iblk m c 1 t) (ix2 y.1 y.2)
    = acc (ix2 y.1 y.2) + tile8 (term (fA m c) (fB m c) y.1 y.2) t.val := by
  pointwise [k0_pay2]
  simp only [a_at, b_at]
  rfl

theorem zero_at (y : Fin 2816 × Fin 1024) : k0_pay1 (F := Ideal) (ix2 y.1 y.2) = 0 := by
  pointwise [k0_pay1]

theorem acc_point (y : Fin 2816 × Fin 1024) : (outsAt0 m c t.val t.isLt).1 (ix2 y.1 y.2)
    = ∑ s ∈ Finset.range (t.val + 1), tile8 (term (fA m c) (fB m c) y.1 y.2) s := by
  have := Pipeline.eq_sum_of_reset_step_apply_single (fun n h (y : Fin 2816 × Fin 1024) => (outsAt0 m c n h).1 (ix2 y.1 y.2)) 8
    (fun _ => 0) (fun s y => tile8 (term (fA m c) (fB m c) y.1 y.2) s)
    (fun t h y => by
      rw [outsAt0_A m c t h (by omega)]; frame_out
      exact (step m c t _ y).trans (congrArg (· + _) (zero_at y)))
    (fun t h y => by
      by_cases h1 : t.val % 8 = 7
      · rw [outsAt0_C m c t h h1]; frame_out; exact step m c t _ y
      · rw [outsAt0_B m c t h h1]; frame_out; exact step m c t _ y) (by decide) t y
  exact this.trans (zero_add _)

theorem acc_last (y : (⟨2, ![2816, 1024]⟩ : Shape).Idx) : (outsAt0 m c 7 (by decide)).1 y = prod (fA m c) (fB m c) y := by
  have e := acc_point m c ⟨7, by decide⟩ (y 0, y 1)
  rw [← eq_ix2 (n0 := 2816) (n1 := 1024) y] at e
  exact e.trans (tiles8_total _)

theorem cast_eq (v : FVec Ideal S2816x1024 .f32) : k0_pay3 (F := Ideal) v = v := ext2 fun i j => by
  pointwise [k0_pay3]

theorem both_last : (outsAt0 m c 7 (by decide)).2 = (outsAt0 m c 7 (by decide)).1 := by
  rw [outsAt0_C m c ⟨7, by decide⟩ (by decide) (by decide)]
  frame_out
  exact cast_eq _

theorem out2 : (dats m 0 c).arrAt 2 cfg0.N = prod (fA m c) (fB m c) := by
  refine (dats m 0 c).arrAt_eq_of_after_last 2 (⟨7, by decide⟩ : Fin cfg0.N) (by decide +kernel) (prod (fA m c) (fB m c))
    fun (j : (⟨2, ![2816, 1024]⟩ : Shape).Idx) => ?_
  rw [after0_2]
  exact acc_last m c j

theorem out3 : (dats m 0 c).arrAt 3 cfg0.N = prod (fA m c) (fB m c) := by
  refine (dats m 0 c).arrAt_eq_of_after_last 3 (⟨7, by decide⟩ : Fin cfg0.N) (by decide +kernel) (prod (fA m c) (fB m c))
    fun (j : (⟨2, ![2816, 1024]⟩ : Shape).Idx) => ?_
  rw [after0_3]
  exact (congrFun (both_last m c) j).trans (acc_last m c j)

end Point

section Host

open Cert.Reference5Ideal.Read

variable (m : (ℓ : Loc nD τ sig) → Buf (Elt Ideal) ℓ) (c : Dev nD)

/-- The gated product, made on the host, is the reference's. -/
theorem fA_eq : fA m c = val_main_v1 (F := Ideal) (m ((c : Thread nD τ).loc main_arg0)) (m ((c : Thread nD τ).loc main_arg1)) := by
  dsimp only [fA, V]
  simp only [hostOps0, hostOps0_1, List.flatten_cons, List.flatten_nil, List.append_nil, List.cons_append, List.nil_append]
  after_results
  rfl

theorem fB_eq : fB m c = m ((c : Thread nD τ).loc main_arg3) := V_main_arg3 m c

variable (x0 x1 : (⟨Cert.Reference5Ideal.S8192x2816, .f32⟩ : BufTy).Contents (Elt Ideal))
  (x3 : (⟨Cert.Reference5Ideal.S8192x1024, .f32⟩ : BufTy).Contents (Elt Ideal))

theorem ref4 : val_main_v4 (F := Ideal) x0 x1 x3 = prod (val_main_v1 (F := Ideal) x0 x1) x3 := ext2 fun i j => by
  rw [prod_at]
  pointwise [val_main_v4, val_main_v3]
  exact Finset.sum_congr rfl fun _ _ => mul_comm _ _

theorem ref5 : val_main_v5 (F := Ideal) x0 x1 x3 = prod (val_main_v1 (F := Ideal) x0 x1) x3 := ext2 fun i j => by
  rw [← ref4]
  rfl

end Host

theorem algebraic : Cert.algebraic_Kernel5Ideal_Reference5Ideal (hKernel5Ideal := Cert.Kernel5Ideal.Gen.facts) (hReference5Ideal := Cert.Reference5Ideal.Gen.facts) := by
  intro m g m' g' _ hm
  refine ⟨fun c => prod (fA m c) (fB m c), fun c => prod (fA m c) (fB m c), ?_, ?_⟩
  · refine (θ_run _ _ _).mono (fun r h c => ?_) (Cert.Kernel5Ideal.Value.run_blocks (F := Ideal) m g)
    obtain ⟨o0, o1, hr⟩ := h c
    exact ⟨o0.trans (out2 m c), o1.trans (out3 m c), hr⟩
  · refine (θ_run _ _ _).mono (fun r h c => ?_) (Cert.Reference5Ideal.Value.run (F := Ideal) m' g')
    obtain ⟨o0, o1, hr⟩ := h c
    obtain ⟨h0, h1, h2, h3⟩ := hm c
    refine ⟨o0.trans ((Cert.Reference5Ideal.Read.val_main_v4_eq _ _ _).trans ((ref4 _ _ _).trans ?_)),
      o1.trans ((Cert.Reference5Ideal.Read.val_main_v5_eq _ _ _).trans ((ref5 _ _ _).trans ?_)), hr⟩
    all_goals show _ = prod (fA m c) (fB m c)
    all_goals rw [fA_eq, fB_eq, h0, h1, h3]

theorem frame_ideal : Cert.quiescent_Kernel5Ideal (hKernel5Ideal := Cert.Kernel5Ideal.Gen.facts) := fun m ρ _ =>
  Cert.Kernel5Ideal.Gen.frame m ρ

set_option maxHeartbeats 4000000 in
/-- The kernel over bits: its text is the ideal kernel's, whose run holds over any float values. -/
theorem frame_kernel : Cert.quiescent_Kernel5 (hKernel5 := Cert.Kernel5.Gen.facts) := fun m ρ _ => by
  have bodies : @Cert.Kernel5.defs₀ Bits _ Cert.Kernel5.Gen.facts = @Cert.Kernel5Ideal.defs₀ Bits _ Cert.Kernel5Ideal.Gen.facts := by
    unfold Cert.Kernel5.defs₀ Cert.Kernel5Ideal.defs₀
    refine congrArg Defs.onTc ?_
    funext l
    match l with
    | 0 => funext a; rfl
  have e : @Cert.Kernel5.defs Bits _ Cert.Kernel5.Gen.facts = @Cert.Kernel5Ideal.defs Bits _ Cert.Kernel5Ideal.Gen.facts :=
    congrArg (Pipeline.defs (@Cert.Kernel5Ideal.pcfgs Bits Cert.Kernel5Ideal.Gen.facts)) bodies
  rw [e]
  exact (θ_run Cert.Kernel5Ideal.defs _ _).mono (fun _ h => h) (Cert.Kernel5Ideal.Gen.frame (F := Bits) m ρ)

theorem frame_reference : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

end Cert.Kernel5Ideal.Wg
-- ==== Proof.Tail.Spec.lean ====
module

public import proofs.«01_k».proof.Proof.Mix.Arrays

@[expose] public section

noncomputable section

namespace Cert.Tail

open Idealize.ShloMosaic
open Cert.Mix (rowOf total rt back)

/-! The end of the layer, forward and back, by rows: the down projection, its norm, the gated
    per-layer embedding and the error's mean square. -/

/-- What it reads: the layer's middle value, the feed-forward's activation, the embedding's rows, the
    target, three weights and the norm's gain. -/
structure Arr where
  x1 : (⟨2, ![8192, 1024]⟩ : Shape).Idx → EReal
  act : (⟨2, ![8192, 2816]⟩ : Shape).Idx → EReal
  p : (⟨2, ![8192, 256]⟩ : Shape).Idx → EReal
  tg : (⟨2, ![8192, 1024]⟩ : Shape).Idx → EReal
  wd : (⟨2, ![2816, 1024]⟩ : Shape).Idx → EReal
  wg : (⟨2, ![1024, 1024]⟩ : Shape).Idx → EReal
  wp : (⟨2, ![256, 1024]⟩ : Shape).Idx → EReal
  gn : (⟨2, ![1, 1024]⟩ : Shape).Idx → EReal

variable (a : Arr) (g : ℕ) (k : Fin 1024)

def x2 : EReal := rowOf a.x1 g k + ∑ l, rowOf a.act g l * a.wd (ix2 l k)
def xh : EReal := x2 a g k * rt 1024 (x2 a g)
def h : EReal := xh a g k * a.gn (ix2 0 k)
/-- The gate, the projected embedding, and the error. -/
def sg : EReal := Ideal.logistic (∑ l, h a g l * a.wg (ix2 l k))
def pp : EReal := ∑ l, rowOf a.p g l * a.wp (ix2 l k)
def err : EReal := x2 a g k + sg a g k * pp a g k - rowOf a.tg g k
/-- The cotangents, from the error's back to the norm's. -/
def dx3 : EReal := err a g k * ((1 / 1024 : ℝ) : EReal)
def dpp : EReal := dx3 a g k * sg a g k
def ds : EReal := dx3 a g k * pp a g k * (sg a g k * (1 - sg a g k))
def dh : EReal := ∑ l, ds a g l * a.wg (ix2 k l)
def dx2 : EReal := dx3 a g k + back 1024 (x2 a g) (fun k => dh a g k * a.gn (ix2 0 k)) k
/-- A row's share of the gain's gradient, and of the loss. -/
def tn : EReal := dh a g k * xh a g k
def sq : EReal := err a g k * err a g k
def loss : EReal := (∑ k, total fun g => sq a g k) * ((1 / 2048 : ℝ) : EReal)

def oDx2 : (⟨2, ![8192, 1024]⟩ : Shape).Idx → EReal := fun i => dx2 a (i 0).val (i 1)
def oH : (⟨2, ![8192, 1024]⟩ : Shape).Idx → EReal := fun i => h a (i 0).val (i 1)
def oDs : (⟨2, ![8192, 1024]⟩ : Shape).Idx → EReal := fun i => ds a (i 0).val (i 1)
def oDpp : (⟨2, ![8192, 1024]⟩ : Shape).Idx → EReal := fun i => dpp a (i 0).val (i 1)
def oDgn : (⟨2, ![1, 1024]⟩ : Shape).Idx → EReal := fun i => total fun g => tn a g (i 1)
def oLoss : (⟨2, ![1, 128]⟩ : Shape).Idx → EReal := fun _ => loss a

end Cert.Tail
-- ==== Proof.Tail.Ref.lean ====
module

public import proofs.«01_k».proof.Proof.Grad.Basic
public import proofs.«01_k».proof.Proof.Tail.Spec
public import proofs.«01_k».proof.Proof.Gen.Reference6Ideal.Read

@[expose] public section

set_option maxRecDepth 16384

noncomputable section

namespace Cert.Tail

open Idealize.ShloMosaic

theorem lit2 : Ideal.ofBits .f32 0x40000000#32 = ((2 : ℝ) : EReal) := by
  simp [Ideal.ofBits, Ideal.ieee, -EReal.coe_mul]; norm_num
theorem litPosHalf : Ideal.ofBits .f32 0x3F000000#32 = ((1 / 2 : ℝ) : EReal) := by
  simp [Ideal.ofBits, Ideal.ieee, -EReal.coe_mul]; norm_num
theorem litK : Ideal.ofBits .f32 0x3A800000#32 = ((1 / 1024 : ℝ) : EReal) := by
  simp [Ideal.ofBits, Ideal.ieee, -EReal.coe_mul]; norm_num
theorem lit2K : Ideal.ofBits .f32 0x3A000000#32 = ((1 / 2048 : ℝ) : EReal) := by
  simp [Ideal.ofBits, Ideal.ieee, -EReal.coe_mul]; norm_num

end Cert.Tail

namespace Cert.Reference6Ideal.Tail

open Cert.Reference6Ideal Cert.Reference6Ideal.Read
open Idealize.ShloMosaic Idealize.ShloMosaic.TcCoe
open Cert.Mix (rowOf rowOf_val ms rt coef backR back_eq total total_eq ext2 ext_row real_mul_sum)
open Cert.Grad Cert.Tail

/-- The reference's arguments. -/
structure Args where
  x0 : (⟨S8192x1024, .f32⟩ : BufTy).Contents (Elt Ideal)
  x1 : (⟨S8192x2816, .bf16⟩ : BufTy).Contents (Elt Ideal)
  x2 : (⟨S8192x256, .f32⟩ : BufTy).Contents (Elt Ideal)
  x3 : (⟨S8192x1024, .f32⟩ : BufTy).Contents (Elt Ideal)
  x4 : (⟨S2816x1024, .f32⟩ : BufTy).Contents (Elt Ideal)
  x5 : (⟨S1024x1024, .f32⟩ : BufTy).Contents (Elt Ideal)
  x6 : (⟨S256x1024, .f32⟩ : BufTy).Contents (Elt Ideal)
  x7 : (⟨S1x1024, .f32⟩ : BufTy).Contents (Elt Ideal)

variable (a : Args) (g : Fin 8192) (k : Fin 1024)

def A : Arr := ⟨a.x0, a.x1, a.x2, a.x3, a.x4, a.x5, a.x6, a.x7⟩

theorem row_x {n : ℕ} (X : (⟨2, ![8192, n]⟩ : Shape).Idx → EReal) (k : Fin n) : X (ix2 g k) = rowOf X g k := (rowOf_val X g k).symm

theorem v2_at : val_main_v2 (F := Ideal) a.x0 a.x1 a.x4 (ix2 g k) = x2 (A a) g k := by
  pointwise [val_main_v2, val_main_v1, val_main_v0]
  simp only [row_x g a.x0, row_x g a.x1]
  rfl

theorem v9_at : val_main_v9 (F := Ideal) a.x0 a.x1 a.x4 (ix2 g 0) = ms 1024 (x2 (A a) g) := by
  pointwise [val_main_v9, val_main_v8, val_main_v7, val_main_v6, val_main_v5, val_main_v4, val_main_v3, val_main_cst, val_main_cst_0, val_main_cst_1]
  rw [lit1024]
  simp only [v2_at]; rfl

theorem v10_at : val_main_v10 (F := Ideal) a.x0 a.x1 a.x4 (ix2 g 0) = rt 1024 (x2 (A a) g) := by
  pointwise [val_main_v10]
  rw [v9_at]; rfl

theorem v13_at : val_main_v13 (F := Ideal) a.x0 a.x1 a.x4 (ix2 g 0)
    = ((-1 / 2 : ℝ) : EReal) * Ideal.div (rt 1024 (x2 (A a) g)) (ms 1024 (x2 (A a) g)) := by
  pointwise [val_main_v13, val_main_v12, val_main_v11, val_main_cst_2]
  rw [v9_at, v10_at, litHalf]

theorem v15_at : val_main_v15 (F := Ideal) a.x0 a.x1 a.x4 (ix2 g k) = xh (A a) g k := by
  pointwise [val_main_v15, val_main_v14]
  rw [v10_at, v2_at]; rfl

theorem v17_at : val_main_v17 (F := Ideal) a.x0 a.x1 a.x4 a.x7 (ix2 g k) = h (A a) g k := by
  pointwise [val_main_v17, val_main_v16]
  rw [v15_at]; rfl

theorem v25_at : val_main_v25 (F := Ideal) a.x0 a.x1 a.x4 a.x5 a.x7 (ix2 g k) = sg (A a) g k := by
  pointwise [val_main_v25, val_main_v24, val_main_v23, val_main_v22, val_main_v21, val_main_v20, val_main_v18, val_main_cst_3, val_main_cst_4]
  simp only [v17_at]
  rfl

theorem v28_at : val_main_v28 (F := Ideal) a.x0 a.x1 a.x4 a.x5 a.x7 (ix2 g k) = sg (A a) g k * (1 - sg (A a) g k) := by
  pointwise [val_main_v28, val_main_v27, val_main_v26, val_main_cst_5]
  rw [v25_at]

theorem v19_at : val_main_v19 (F := Ideal) a.x2 a.x6 (ix2 g k) = pp (A a) g k := by
  pointwise [val_main_v19]
  simp only [row_x g a.x2]
  rfl

theorem v31_at : val_main_v31 (F := Ideal) a.x0 a.x1 a.x2 a.x3 a.x4 a.x5 a.x6 a.x7 (ix2 g k) = err (A a) g k := by
  pointwise [val_main_v31, val_main_v30, val_main_v29]
  rw [v2_at, v25_at, v19_at, row_x g a.x3]
  rfl

theorem v45_at : val_main_v45 (F := Ideal) a.x0 a.x1 a.x2 a.x3 a.x4 a.x5 a.x6 a.x7 (ix2 g k) = dx3 (A a) g k := by
  pointwise [val_main_v45, val_main_v44, val_main_v43, val_main_v42, val_main_v41, val_main_v40, val_main_v34, val_main_v33,
    val_main_cst_6, val_main_cst_11, val_main_cst_12, val_main_cst_13]
  rw [v31_at, lit2, lit1024, litPosHalf, Ideal.div_coe (by norm_num), ← mul_assoc, ← EReal.coe_mul, ← EReal.coe_mul, mul_comm]
  unfold dx3
  norm_num

theorem v46_at : val_main_v46 (F := Ideal) a.x0 a.x1 a.x2 a.x3 a.x4 a.x5 a.x6 a.x7 (ix2 g k) = dpp (A a) g k := by
  pointwise [val_main_v46]
  rw [v45_at, v25_at, mul_comm]; rfl

theorem v48_at : val_main_v48 (F := Ideal) a.x0 a.x1 a.x2 a.x3 a.x4 a.x5 a.x6 a.x7 (ix2 g k) = ds (A a) g k := by
  pointwise [val_main_v48, val_main_v47]
  rw [v45_at, v28_at, v19_at]; rfl

theorem v49_at : val_main_v49 (F := Ideal) a.x0 a.x1 a.x2 a.x3 a.x4 a.x5 a.x6 a.x7 (ix2 g k) = dh (A a) g k := by
  pointwise [val_main_v49]
  simp only [v48_at]
  rfl

theorem v52_at : val_main_v52 (F := Ideal) a.x0 a.x1 a.x2 a.x3 a.x4 a.x5 a.x6 a.x7 (ix2 0 k) = oDgn (A a) (ix2 0 k) := by
  pointwise [val_main_v52, val_main_v51, val_main_v50, val_main_cst_14]
  simp only [v15_at, v49_at]
  show _ = total fun g => tn (A a) g k
  rw [total_eq]
  exact Finset.sum_congr rfl fun g _ => mul_comm _ _

theorem v54_at : val_main_v54 (F := Ideal) a.x0 a.x1 a.x2 a.x3 a.x4 a.x5 a.x6 a.x7 (ix2 g k) = dh (A a) g k * a.x7 (ix2 0 k) := by
  pointwise [val_main_v54, val_main_v53]
  rw [v49_at]

theorem v63_at : val_main_v63 (F := Ideal) a.x0 a.x1 a.x2 a.x3 a.x4 a.x5 a.x6 a.x7 (ix1 g)
    = coef 1024 (x2 (A a) g) fun k => dh (A a) g k * a.x7 (ix2 0 k) := by
  pointwise [val_main_v63, val_main_v62, val_main_v61, val_main_v60, val_main_v57, val_main_v56, val_main_v55, val_main_cst_15,
    val_main_cst_16, val_main_cst_17]
  simp only [Fin.sum_univ_one, v13_at, v54_at, v2_at, lit1024]
  rfl

theorem v69_at : val_main_v69 (F := Ideal) a.x0 a.x1 a.x2 a.x3 a.x4 a.x5 a.x6 a.x7 (ix2 g k) = dx2 (A a) g k := by
  unfold dx2
  rw [back_eq _ _ _ _ (by norm_num : (0 : ℝ) < 1024)]
  pointwise [val_main_v69, val_main_v68, val_main_v67, val_main_v66, val_main_v65, val_main_v64, val_main_v59, val_main_v58]
  simp only [v63_at, v54_at, v10_at, v2_at, v45_at, backR]
  rfl

/-- The loss: the reference halves the rows' mean squares' sum. -/
theorem v73_at (j : Fin 128) : val_main_v73 (F := Ideal) a.x0 a.x1 a.x2 a.x3 a.x4 a.x5 a.x6 a.x7 (ix2 0 j) = loss (A a) := by
  pointwise [val_main_v73, val_main_v39, val_main_v38, val_main_v37, val_main_v36, val_main_v35, val_main_v32, val_main_cst_7,
    val_main_cst_8, val_main_cst_9, val_main_cst_10]
  simp only [v31_at, lit1024, litPosHalf, Ideal.div_coe (show (1024 : ℝ) ≠ 0 by norm_num)]
  unfold loss
  simp only [total_eq]
  rw [Finset.sum_comm, mul_comm (∑ g, _) ((1 / 2048 : ℝ) : EReal), real_mul_sum _ _ (by norm_num), real_mul_sum _ _ (by norm_num)]
  refine Finset.sum_congr rfl fun g _ => ?_
  rw [mul_comm _ ((1 / 1024 : ℝ) : EReal), ← mul_assoc, ← EReal.coe_mul]
  norm_num
  rfl

theorem dx2_eq : val_main_v69 (F := Ideal) a.x0 a.x1 a.x2 a.x3 a.x4 a.x5 a.x6 a.x7 = oDx2 (A a) := ext2 fun g k => v69_at a g k
theorem h_eq : val_main_v70 (F := Ideal) a.x0 a.x1 a.x4 a.x7 = oH (A a) :=
  ext2 fun g k => by pointwise [val_main_v70]; exact v17_at a g k
theorem ds_eq : val_main_v71 (F := Ideal) a.x0 a.x1 a.x2 a.x3 a.x4 a.x5 a.x6 a.x7 = oDs (A a) :=
  ext2 fun g k => by pointwise [val_main_v71]; exact v48_at a g k
theorem dpp_eq : val_main_v72 (F := Ideal) a.x0 a.x1 a.x2 a.x3 a.x4 a.x5 a.x6 a.x7 = oDpp (A a) :=
  ext2 fun g k => by pointwise [val_main_v72]; exact v46_at a g k
theorem dgn_eq : val_main_v52 (F := Ideal) a.x0 a.x1 a.x2 a.x3 a.x4 a.x5 a.x6 a.x7 = oDgn (A a) := ext_row fun k => v52_at a k
theorem loss_eq : val_main_v73 (F := Ideal) a.x0 a.x1 a.x2 a.x3 a.x4 a.x5 a.x6 a.x7 = oLoss (A a) := ext_row fun k => v73_at a k

end Cert.Reference6Ideal.Tail
-- ==== Proof.Tail.Pays.lean ====
module

public import proofs.«01_k».proof.Proof.Tail.Ref
public import proofs.«01_k».proof.Proof.Gen.Kernel6Ideal.Value

@[expose] public section

set_option maxRecDepth 16384

noncomputable section

namespace Cert.Kernel6Ideal.Tail

open Cert.Kernel6Ideal Cert.Kernel6Ideal.Gen
open Idealize.ShloMosaic Idealize.ShloMosaic.TcCoe
open Cert.Mix (rowOf rowOf_val ms rt back total ext2 ext_row)
open Cert.Grad Cert.Tail

/-! The payloads of a grid point, read at an index. -/

variable (r : Fin 512) (k : Fin 1024)

section Norm

variable (x : FVec Ideal S512x1024 .f32) (a0 a1 : FVec Ideal S512x1408 .bf16) (b0 b1 : FVec Ideal S1408x1024 .bf16)
  (gn acc : FVec Ideal S1x1024 .f32) (w : FVec Ideal S1024x1024 .bf16)

theorem pay3_at : k0_pay3 (F := Ideal) x a0 b0 a1 b1 (ix2 r k)
    = x (ix2 r k) + (∑ l, a0 (ix2 r l) * b0 (ix2 l k)) + ∑ l, a1 (ix2 r l) * b1 (ix2 l k) := by
  pointwise [k0_pay3]

theorem pay4_at : k0_pay4 (F := Ideal) x a0 b0 a1 b1 (ix2 r 0) = rt 1024 fun k => k0_pay3 (F := Ideal) x a0 b0 a1 b1 (ix2 r k) := by
  pointwise [k0_pay4]
  rw [lit1024]; rfl

theorem pay5_at : k0_pay5 (F := Ideal) x a0 b0 a1 b1 (ix2 r k)
    = k0_pay3 (F := Ideal) x a0 b0 a1 b1 (ix2 r k) * rt 1024 fun k => k0_pay3 (F := Ideal) x a0 b0 a1 b1 (ix2 r k) := by
  pointwise [k0_pay5]
  rw [pay4_at]

theorem pay6_at : k0_pay6 (F := Ideal) x a0 b0 a1 b1 gn (ix2 r k) = k0_pay5 (F := Ideal) x a0 b0 a1 b1 (ix2 r k) * gn (ix2 0 k) := by
  pointwise [k0_pay6]

theorem pay7_at : k0_pay7 (F := Ideal) x a0 b0 a1 b1 gn w (ix2 r k)
    = Ideal.logistic (∑ l, k0_pay6 (F := Ideal) x a0 b0 a1 b1 gn (ix2 r l) * w (ix2 l k)) := by
  pointwise [k0_pay7]

end Norm

section Head

variable (q : FVec Ideal S512x256 .f32) (s0 s1 s2 s3 : FVec Ideal S1x256x256 .bf16) (x sg tg pp d xh : FVec Ideal S512x1024 .f32)
  (acc gn : FVec Ideal S1x1024 .f32) (w : FVec Ideal S1024x1024 .bf16) (rs : FVec Ideal S512x1 .f32)

/-- The four slabs' products side by side are the product with the slabs side by side. -/
theorem pay8_at (wp : (⟨2, ![256, 1024]⟩ : Shape).Idx → EReal)
    (h0 : ∀ l j : Fin 256, s0 (ix3 0 l j) = wp (ix2 l ⟨256 * 0 + j.val, by omega⟩))
    (h1 : ∀ l j : Fin 256, s1 (ix3 0 l j) = wp (ix2 l ⟨256 * 1 + j.val, by omega⟩))
    (h2 : ∀ l j : Fin 256, s2 (ix3 0 l j) = wp (ix2 l ⟨256 * 2 + j.val, by omega⟩))
    (h3 : ∀ l j : Fin 256, s3 (ix3 0 l j) = wp (ix2 l ⟨256 * 3 + j.val, by omega⟩)) :
    k0_pay8 (F := Ideal) q s0 s1 s2 s3 (ix2 r k) = ∑ l, q (ix2 r l) * wp (ix2 l k) := by
  pointwise [k0_pay8]
  simp only [h0, h1, h2, h3]
  split_ifs <;> refine Finset.sum_congr rfl fun l _ => congrArg (_ * ·) (same_at wp _ _ rfl ?_) <;> simp only [ix2] <;> (show _ = k.val; omega)

theorem pay9_at : k0_pay9 (F := Ideal) x sg q s0 s1 s2 s3 tg (ix2 r k)
    = x (ix2 r k) + sg (ix2 r k) * k0_pay8 (F := Ideal) q s0 s1 s2 s3 (ix2 r k) - tg (ix2 r k) := by
  pointwise [k0_pay9]

theorem pay10_at : k0_pay10 (F := Ideal) x sg q s0 s1 s2 s3 tg acc (ix2 0 k)
    = acc (ix2 0 k) + ∑ r, k0_pay9 (F := Ideal) x sg q s0 s1 s2 s3 tg (ix2 r k) * k0_pay9 (F := Ideal) x sg q s0 s1 s2 s3 tg (ix2 r k) := by
  pointwise [k0_pay10]

theorem pay11_at : k0_pay11 (F := Ideal) x sg q s0 s1 s2 s3 tg (ix2 r k)
    = k0_pay9 (F := Ideal) x sg q s0 s1 s2 s3 tg (ix2 r k) * ((1 / 1024 : ℝ) : EReal) := by
  pointwise [k0_pay11]
  rw [litK]

theorem pay12_at : k0_pay12 (F := Ideal) x sg q s0 s1 s2 s3 tg (ix2 r k)
    = k0_pay11 (F := Ideal) x sg q s0 s1 s2 s3 tg (ix2 r k) * sg (ix2 r k) := by
  pointwise [k0_pay12]

theorem pay13_at : k0_pay13 (F := Ideal) sg pp d (ix2 r k)
    = d (ix2 r k) * pp (ix2 r k) * (sg (ix2 r k) * (1 - sg (ix2 r k))) := by
  pointwise [k0_pay13]

theorem pay14_at : k0_pay14 (F := Ideal) sg pp d w (ix2 r k) = ∑ l, k0_pay13 (F := Ideal) sg pp d (ix2 r l) * w (ix2 k l) := by
  pointwise [k0_pay14]

theorem pay15_at : k0_pay15 (F := Ideal) xh sg pp d w acc (ix2 0 k)
    = acc (ix2 0 k) + ∑ r, k0_pay14 (F := Ideal) sg pp d w (ix2 r k) * xh (ix2 r k) := by
  pointwise [k0_pay15]

theorem pay16_at (x : Fin 1024 → EReal) (hr : rs (ix2 r 0) = rt 1024 x) (hx : ∀ k, xh (ix2 r k) = x k * rt 1024 x) :
    k0_pay16 (F := Ideal) rs xh sg pp d w gn (ix2 r k)
    = d (ix2 r k) + back 1024 x (fun k => k0_pay14 (F := Ideal) sg pp d w (ix2 r k) * gn (ix2 0 k)) k := by
  pointwise [k0_pay16]
  simp only [hr, hx, lit1024]
  rfl

theorem pay1_at : k0_pay1 (F := Ideal) (ix2 0 k) = 0 := by
  pointwise [k0_pay1]

theorem pay2_at : k0_pay2 (F := Ideal) (ix2 0 k) = 0 := by
  pointwise [k0_pay2]

theorem pay17_at (j : Fin 128) : k0_pay17 (F := Ideal) acc (ix2 0 j) = (∑ k, acc (ix2 0 k)) * ((1 / 2048 : ℝ) : EReal) := by
  pointwise [k0_pay17]
  rw [lit2K, Fin.sum_univ_one]

end Head

end Cert.Kernel6Ideal.Tail
-- ==== Proof.Tail.Point.lean ====
module

public import proofs.«01_k».proof.Proof.Tail.Pays
public import Idealize.ShloMosaic.Lib.Pipeline.ValueKit

@[expose] public section

set_option maxRecDepth 16384

noncomputable section

namespace Cert.Kernel6Ideal.Tail

open Cert.Kernel6Ideal Cert.Kernel6Ideal.Gen
open Idealize.ShloMosaic Idealize.ShloMosaic.TcCoe
open Cert.Mix (rowOf rowOf_val ms rt back total ext2 ext_row)
open Cert.Grad Cert.Tail

variable (m : (ℓ : Loc nD τ sig) → Buf (Elt Ideal) ℓ) (c : Dev nD) (t : Fin cfg0.N)

theorem map0 : ∀ t : Fin cfg0.N, win0_0.index t = ![t.val, 0] := by decide +kernel
theorem map1 : ∀ t : Fin cfg0.N, win0_1.index t = ![t.val, 0] := by decide +kernel
theorem map2 : ∀ t : Fin cfg0.N, win0_2.index t = ![t.val, 0] := by decide +kernel
theorem map3 : ∀ t : Fin cfg0.N, win0_3.index t = ![t.val, 0] := by decide +kernel
theorem map4 : ∀ t : Fin cfg0.N, win0_4.index t = ![0, 0] := by decide +kernel
theorem map5 : ∀ t : Fin cfg0.N, win0_5.index t = ![0, 0] := by decide +kernel
theorem map6 : ∀ t : Fin cfg0.N, win0_6.index t = ![0, 0, 0] := by decide +kernel
theorem map7 : ∀ t : Fin cfg0.N, win0_7.index t = ![0, 0] := by decide +kernel

/-- The arguments' arrays. -/
def args : Cert.Reference6Ideal.Tail.Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7)⟩

abbrev arr : Arr := Cert.Reference6Ideal.Tail.A (args m c)

theorem lt16 : t.val < 16 := t.isLt

/-- A tile's row among all rows. -/
theorem row_lt (r : Fin 512) : 512 * t.val + r.val < 8192 := by have := lt16 t; omega

theorem row_at {n : ℕ} (X : (⟨2, ![8192, n]⟩ : Shape).Idx → EReal) (r : Fin 512) (l : Fin n) :
    rowOf X (512 * t.val + r.val) l = X (ix2 ⟨512 * t.val + r.val, row_lt t r⟩ l) :=
  rowOf_val X ⟨512 * t.val + r.val, row_lt t r⟩ l

theorem b0_at (r : Fin 512) (k : Fin 1024) : iblk m c 0 t (ix2 r k) = rowOf (arr m c).x1 (512 * t.val + r.val) k := by
  rw [row_at]
  refine (same_at (V m c main_arg0) _ (ix2 ⟨512 * t.val + r.val, row_lt t r⟩ k) ?_ ?_).trans (congrFun (V_main_arg0 m c) _) <;>
    blk_simp [map0] <;> (show _ = 512 * t.val + r.val; omega)

theorem b1_at (r : Fin 512) (k : Fin 2816) : iblk m c 1 t (ix2 r k) = rowOf (arr m c).act (512 * t.val + r.val) k := by
  rw [row_at]
  refine (same_at (V m c main_arg1) _ (ix2 ⟨512 * t.val + r.val, row_lt t r⟩ k) ?_ ?_).trans (congrFun (V_main_arg1 m c) _) <;>
    blk_simp [map1] <;> (show _ = 512 * t.val + r.val; omega)

theorem b2_at (r : Fin 512) (k : Fin 256) : iblk m c 2 t (ix2 r k) = rowOf (arr m c).p (512 * t.val + r.val) k := by
  rw [row_at]
  refine (same_at (V m c main_arg2) _ (ix2 ⟨512 * t.val + r.val, row_lt t r⟩ k) ?_ ?_).trans (congrFun (V_main_arg2 m c) _) <;>
    blk_simp [map2] <;> (show _ = 512 * t.val + r.val; omega)

theorem b3_at (r : Fin 512) (k : Fin 1024) : iblk m c 3 t (ix2 r k) = rowOf (arr m c).tg (512 * t.val + r.val) k := by
  rw [row_at]
  refine (same_at (V m c main_arg3) _ (ix2 ⟨512 * t.val + r.val, row_lt t r⟩ k) ?_ ?_).trans (congrFun (V_main_arg3 m c) _) <;>
    blk_simp [map3] <;> (show _ = 512 * t.val + r.val; omega)

/-- The weights, rounded on the host; the embedding's projection also cut into four slabs. -/
theorem b4_at (l : Fin 2816) (k : Fin 1024) : iblk m c 4 t (ix2 l k) = (arr m c).wd (ix2 l k) := by
  refine (same_at (V m c main_v3) _ (ix2 l k) ?_ ?_).trans ?_
  · blk_simp [map4]
  · blk_simp [map4]
  · dsimp only [V, hostOps0]
    after_results
    pointwise
    rfl

theorem b5_at (l : Fin 1024) (k : Fin 1024) : iblk m c 5 t (ix2 l k) = (arr m c).wg (ix2 l k) := by
  refine (same_at (V m c main_v4) _ (ix2 l k) ?_ ?_).trans ?_
  · blk_simp [map5]
  · blk_simp [map5]
  · dsimp only [V, hostOps0]
    after_results
    pointwise
    rfl

theorem w4_at (s : Fin 4) (l j : Fin 256) :
    V m c main_v2 (ix3 s l j) = (arr m c).wp (ix2 l ⟨256 * s.val + j.val, by omega⟩) := by
  dsimp only [V, hostOps0]
  after_results
  pointwise
  exact same_at (arr m c).wp _ _ rfl (show s.val * 256 + j.val = 256 * s.val + j.val by omega)

theorem b6_at (s : Fin 4) (l j : Fin 256) : iblk m c 6 t (ix3 s l j) = (arr m c).wp (ix2 l ⟨256 * s.val + j.val, by omega⟩) := by
  rw [← w4_at]
  refine same_at3 (V m c main_v2) _ _ ?_ ?_ ?_ <;> blk_simp [map6]

theorem b6_ld (s : Fin 4) (n : ℕ) (hn : n = s.val) (inb) (l j : Fin 256) :
    View.ld (iblk m c 6 t) (Rect.unit ![n, 0, 0] ![1, 256, 256] inb) (ix3 0 l j)
    = (arr m c).wp (ix2 l ⟨256 * s.val + j.val, by omega⟩) := by
  subst hn
  rw [← b6_at m c t]
  exact same_at3 (n0 := 4) (n1 := 256) (n2 := 256) (iblk m c 6 t) _ _ (show s.val + 1 * 0 = s.val by omega)
    (show 0 + 1 * l.val = l.val by omega) (show 0 + 1 * j.val = j.val by omega)

theorem b7_at (k : Fin 1024) : iblk m c 7 t (ix2 0 k) = (arr m c).gn (ix2 0 k) := by
  refine (same_at (V m c main_arg7) _ (ix2 0 k) ?_ ?_).trans (congrFun (V_main_arg7 m c) _) <;> blk_simp [map7]

/-- A slice of a tile's lanes, and the rows of the down projection it meets. -/
theorem ld_lanes (s : Fin 2) (n : ℕ) (hn : n = 1408 * s.val) (inb) (r : Fin 512) (l : Fin 1408) :
    View.ld (iblk m c 1 t) (Rect.unit ![0, n] ![512, 1408] inb) (ix2 r l)
    = rowOf (arr m c).act (512 * t.val + r.val) ⟨1408 * s.val + l.val, by omega⟩ := by
  subst hn
  rw [← b1_at]
  exact same_at (n0 := 512) (n1 := 2816) (iblk m c 1 t) _ _ (show 0 + 1 * r.val = r.val by omega)
    (show 1408 * s.val + 1 * l.val = 1408 * s.val + l.val by omega)

theorem ld_rows (s : Fin 2) (n : ℕ) (hn : n = 1408 * s.val) (inb) (l : Fin 1408) (k : Fin 1024) :
    View.ld (iblk m c 4 t) (Rect.unit ![n, 0] ![1408, 1024] inb) (ix2 l k) = (arr m c).wd (ix2 ⟨1408 * s.val + l.val, by omega⟩ k) := by
  subst hn
  rw [← b4_at m c t]
  exact same_at (n0 := 2816) (n1 := 1024) (iblk m c 4 t) _ _ (show 1408 * s.val + 1 * l.val = 1408 * s.val + l.val by omega)
    (show 0 + 1 * k.val = k.val by omega)

/-- What a tile reads of the activation and of the down projection, and of the embedding's projection. -/
def a0 : FVec Ideal S512x1408 .bf16 := View.ld (iblk m c 1 t) (Rect.unit ![0, 0] ![512, 1408] inb_S512x2816_S512x1408_0_0)
def a1 : FVec Ideal S512x1408 .bf16 := View.ld (iblk m c 1 t) (Rect.unit ![0, 1408] ![512, 1408] inb_S512x2816_S512x1408_0_1408)
def d0 : FVec Ideal S1408x1024 .bf16 := View.ld (iblk m c 4 t) (Rect.unit ![0, 0] ![1408, 1024] inb_S2816x1024_S1408x1024_0_0)
def d1 : FVec Ideal S1408x1024 .bf16 := View.ld (iblk m c 4 t) (Rect.unit ![1408, 0] ![1408, 1024] inb_S2816x1024_S1408x1024_1408_0)
def s0 : FVec Ideal S1x256x256 .bf16 := View.ld (iblk m c 6 t) (Rect.unit ![0, 0, 0] ![1, 256, 256] inb_S4x256x256_S1x256x256_0_0_0)
def s1 : FVec Ideal S1x256x256 .bf16 := View.ld (iblk m c 6 t) (Rect.unit ![1, 0, 0] ![1, 256, 256] inb_S4x256x256_S1x256x256_1_0_0)
def s2 : FVec Ideal S1x256x256 .bf16 := View.ld (iblk m c 6 t) (Rect.unit ![2, 0, 0] ![1, 256, 256] inb_S4x256x256_S1x256x256_2_0_0)
def s3 : FVec Ideal S1x256x256 .bf16 := View.ld (iblk m c 6 t) (Rect.unit ![3, 0, 0] ![1, 256, 256] inb_S4x256x256_S1x256x256_3_0_0)

/-- A tile's values, by the body's own steps. -/
def vx : FVec Ideal S512x1024 .f32 := k0_pay3 (F := Ideal) (iblk m c 0 t) (a0 m c t) (d0 m c t) (a1 m c t) (d1 m c t)
def vr : FVec Ideal S512x1 .f32 := k0_pay4 (F := Ideal) (iblk m c 0 t) (a0 m c t) (d0 m c t) (a1 m c t) (d1 m c t)
def vn : FVec Ideal S512x1024 .f32 := k0_pay5 (F := Ideal) (iblk m c 0 t) (a0 m c t) (d0 m c t) (a1 m c t) (d1 m c t)
def vh : FVec Ideal S512x1024 .bf16 := k0_pay6 (F := Ideal) (iblk m c 0 t) (a0 m c t) (d0 m c t) (a1 m c t) (d1 m c t) (iblk m c 7 t)
def vs : FVec Ideal S512x1024 .f32 :=
  k0_pay7 (F := Ideal) (iblk m c 0 t) (a0 m c t) (d0 m c t) (a1 m c t) (d1 m c t) (iblk m c 7 t) (iblk m c 5 t)
def vp : FVec Ideal S512x1024 .f32 := k0_pay8 (F := Ideal) (iblk m c 2 t) (s0 m c t) (s1 m c t) (s2 m c t) (s3 m c t)
def vd : FVec Ideal S512x1024 .f32 :=
  k0_pay11 (F := Ideal) (vx m c t) (vs m c t) (iblk m c 2 t) (s0 m c t) (s1 m c t) (s2 m c t) (s3 m c t) (iblk m c 3 t)

section At

variable (r : Fin 512) (k : Fin 1024)

theorem vx_at : vx m c t (ix2 r k) = x2 (arr m c) (512 * t.val + r.val) k := by
  unfold vx
  rw [pay3_at, b0_at]
  unfold x2
  rw [sum_split 2 1408 rfl, Fin.sum_univ_two, ← add_assoc]
  have p : ∀ {n : ℕ} {u u' v v' : Fin n → EReal}, (∀ q, u q = u' q) → (∀ q, v q = v' q) → ∑ q, u q * v q = ∑ q, u' q * v' q :=
    fun hu hv => Finset.sum_congr rfl fun q _ => congr (congrArg _ (hu q)) (hv q)
  exact congr (congrArg _ (congrArg _ (p (fun q => ld_lanes m c t 0 0 rfl _ r q) fun q => ld_rows m c t 0 0 rfl _ q k)))
    (p (fun q => ld_lanes m c t 1 1408 rfl _ r q) fun q => ld_rows m c t 1 1408 rfl _ q k)

theorem vx_row : (fun k => vx m c t (ix2 r k)) = x2 (arr m c) (512 * t.val + r.val) := funext fun k => vx_at m c t r k

theorem vr_at : vr m c t (ix2 r 0) = rt 1024 (x2 (arr m c) (512 * t.val + r.val)) := by
  rw [← vx_row]; exact pay4_at r _ _ _ _ _

theorem vn_at : vn m c t (ix2 r k) = xh (arr m c) (512 * t.val + r.val) k := by
  unfold xh
  rw [← vx_at, ← vx_row]; exact pay5_at r k _ _ _ _ _

theorem vh_at : vh m c t (ix2 r k) = h (arr m c) (512 * t.val + r.val) k :=
  (pay6_at r k _ _ _ _ _ _).trans (congr (congrArg _ (vn_at m c t r k)) (b7_at m c t k))

theorem vs_at : vs m c t (ix2 r k) = sg (arr m c) (512 * t.val + r.val) k :=
  (pay7_at r k _ _ _ _ _ _ _).trans (congrArg _ (Finset.sum_congr rfl fun l _ => congr (congrArg _ (vh_at m c t r l)) (b5_at m c t l k)))

theorem vp_at : vp m c t (ix2 r k) = pp (arr m c) (512 * t.val + r.val) k := by
  refine (pay8_at r k _ _ _ _ _ (arr m c).wp (b6_ld m c t 0 0 rfl _) (b6_ld m c t 1 1 rfl _) (b6_ld m c t 2 2 rfl _)
    (b6_ld m c t 3 3 rfl _)).trans ?_
  simp only [b2_at]
  rfl

theorem err_at : k0_pay9 (F := Ideal) (vx m c t) (vs m c t) (iblk m c 2 t) (s0 m c t) (s1 m c t) (s2 m c t) (s3 m c t) (iblk m c 3 t) (ix2 r k)
    = err (arr m c) (512 * t.val + r.val) k := by
  rw [pay9_at, vx_at, vs_at, b3_at]
  exact congrArg (_ + _ * · - _) (vp_at m c t r k)

theorem vd_at : vd m c t (ix2 r k) = dx3 (arr m c) (512 * t.val + r.val) k :=
  (pay11_at r k _ _ _ _ _ _ _ _).trans (congrArg (· * _) (err_at m c t r k))

theorem dpp_at : k0_pay12 (F := Ideal) (vx m c t) (vs m c t) (iblk m c 2 t) (s0 m c t) (s1 m c t) (s2 m c t) (s3 m c t) (iblk m c 3 t) (ix2 r k)
    = dpp (arr m c) (512 * t.val + r.val) k :=
  (pay12_at r k _ _ _ _ _ _ _ _).trans (congr (congrArg _ (vd_at m c t r k)) (vs_at m c t r k))

theorem ds_at : k0_pay13 (F := Ideal) (vs m c t) (vp m c t) (vd m c t) (ix2 r k) = ds (arr m c) (512 * t.val + r.val) k := by
  rw [pay13_at, vd_at, vp_at, vs_at]; rfl

theorem dh_at : k0_pay14 (F := Ideal) (vs m c t) (vp m c t) (vd m c t) (iblk m c 5 t) (ix2 r k) = dh (arr m c) (512 * t.val + r.val) k := by
  rw [pay14_at]
  exact Finset.sum_congr rfl fun l _ => congr (congrArg _ (ds_at m c t r l)) (b5_at m c t k l)

theorem dx2_at : k0_pay16 (F := Ideal) (vr m c t) (vn m c t) (vs m c t) (vp m c t) (vd m c t) (iblk m c 5 t) (iblk m c 7 t) (ix2 r k)
    = dx2 (arr m c) (512 * t.val + r.val) k := by
  rw [pay16_at r k _ _ _ _ _ _ _ (x2 (arr m c) (512 * t.val + r.val)) (vr_at m c t r) (vn_at m c t r)]
  simp only [vd_at, dh_at, b7_at]
  rfl

end At

/-- What the four tiled results hold after a grid point, in each case. -/
theorem tiled : (outsAt0 m c t.val t.isLt).1
      = k0_pay16 (F := Ideal) (vr m c t) (vn m c t) (vs m c t) (vp m c t) (vd m c t) (iblk m c 5 t) (iblk m c 7 t)
    ∧ (outsAt0 m c t.val t.isLt).2.1 = vh m c t
    ∧ (outsAt0 m c t.val t.isLt).2.2.1 = k0_pay13 (F := Ideal) (vs m c t) (vp m c t) (vd m c t)
    ∧ (outsAt0 m c t.val t.isLt).2.2.2.1
      = k0_pay12 (F := Ideal) (vx m c t) (vs m c t) (iblk m c 2 t) (s0 m c t) (s1 m c t) (s2 m c t) (s3 m c t) (iblk m c 3 t) := by
  by_cases h : t.val % 16 = 0
  · rw [outsAt0_A m c t h (by omega)]; frame_out; exact ⟨rfl, rfl, rfl, rfl⟩
  · by_cases h' : t.val % 16 = 15
    · rw [outsAt0_C m c t h h']; frame_out; exact ⟨rfl, rfl, rfl, rfl⟩
    · rw [outsAt0_B m c t h h']; frame_out; exact ⟨rfl, rfl, rfl, rfl⟩

theorem dgn_step (acc : FVec Ideal S1x1024 .f32) (k : Fin 1024) :
    k0_pay15 (F := Ideal) (vn m c t) (vs m c t) (vp m c t) (vd m c t) (iblk m c 5 t) acc (ix2 0 k)
    = acc (ix2 0 k) + tile (fun g => tn (arr m c) g k) t.val := by
  rw [pay15_at]
  simp only [dh_at, vn_at]
  rfl

theorem sq_step (acc : FVec Ideal S1x1024 .f32) (k : Fin 1024) :
    k0_pay10 (F := Ideal) (vx m c t) (vs m c t) (iblk m c 2 t) (s0 m c t) (s1 m c t) (s2 m c t) (s3 m c t) (iblk m c 3 t) acc (ix2 0 k)
    = acc (ix2 0 k) + tile (fun g => sq (arr m c) g k) t.val := by
  rw [pay10_at]
  simp only [err_at]
  rfl

theorem dgn_point (k : Fin 1024) : (outsAt0 m c t.val t.isLt).2.2.2.2.1 (ix2 0 k)
    = ∑ s ∈ Finset.range (t.val + 1), tile (fun g => tn (arr m c) g k) s := by
  have := Pipeline.eq_sum_of_reset_step_apply_single (fun n h (k : Fin 1024) => (outsAt0 m c n h).2.2.2.2.1 (ix2 0 k)) 16 (fun _ => 0)
    (fun s k => tile (fun g => tn (arr m c) g k) s)
    (fun t h k => by rw [outsAt0_A m c t h (by omega)]; frame_out; exact (dgn_step m c t _ k).trans (congrArg (· + _) (pay1_at k)))
    (fun t h k => by
      by_cases h' : t.val % 16 = 15
      · rw [outsAt0_C m c t h h']; frame_out; exact dgn_step m c t _ k
      · rw [outsAt0_B m c t h h']; frame_out; exact dgn_step m c t _ k) (by decide) t k
  exact this.trans (zero_add _)

theorem sq_point (k : Fin 1024) : (outsAt0 m c t.val t.isLt).2.2.2.2.2.2 (ix2 0 k)
    = ∑ s ∈ Finset.range (t.val + 1), tile (fun g => sq (arr m c) g k) s := by
  have := Pipeline.eq_sum_of_reset_step_apply_single (fun n h (k : Fin 1024) => (outsAt0 m c n h).2.2.2.2.2.2 (ix2 0 k)) 16 (fun _ => 0)
    (fun s k => tile (fun g => sq (arr m c) g k) s)
    (fun t h k => by rw [outsAt0_A m c t h (by omega)]; frame_out; exact (sq_step m c t _ k).trans (congrArg (· + _) (pay2_at k)))
    (fun t h k => by
      by_cases h' : t.val % 16 = 15
      · rw [outsAt0_C m c t h h']; frame_out; exact (sq_step m c t _ k).trans (congrArg (· + _) (congrFun (Memref.IsWhole.read_unread (Memref.isWhole_whole cc0_scratch0) _) _))
      · rw [outsAt0_B m c t h h']; frame_out; exact (sq_step m c t _ k).trans (congrArg (· + _) (congrFun (Memref.IsWhole.read_unread (Memref.isWhole_whole cc0_scratch0) _) _))) (by decide) t k
  exact this.trans (zero_add _)

/-- At the last point the loss is made from what the carried sums then hold. -/
theorem loss_point (h : t.val % 16 = 15) (j : Fin 128) : (outsAt0 m c t.val t.isLt).2.2.2.2.2.1 (ix2 0 j)
    = (∑ k, ∑ s ∈ Finset.range (t.val + 1), tile (fun g => sq (arr m c) g k) s) * ((1 / 2048 : ℝ) : EReal) := by
  have e : (outsAt0 m c t.val t.isLt).2.2.2.2.2.1 = k0_pay17 (F := Ideal) (outsAt0 m c t.val t.isLt).2.2.2.2.2.2 := by
    rw [outsAt0_C m c t (by omega) h]; frame_out
  rw [e, pay17_at]
  simp only [sq_point]

end Cert.Kernel6Ideal.Tail
-- ==== Proof.Tail.Value.lean ====
module

public import proofs.«01_k».proof.Proof.Tail.Point
public import proofs.«01_k».proof.Defs
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import Idealize.ShloMosaic.Lib.Pipeline.ValueKit.Geometry

@[expose] public section

set_option maxRecDepth 16384

noncomputable section

namespace Cert.Kernel6Ideal.Tail

open Cert.Kernel6Ideal Cert.Kernel6Ideal.Gen
open Idealize.ShloMosaic Idealize.ShloMosaic.TcCoe Idealize.SL.Sem
open Cert.Grad Cert.Tail

section Arrays

variable (m : (ℓ : Loc nD τ sig) → Buf (Elt Ideal) ℓ) (c : Dev nD)

/-- An array whose entries a tile's contents match row by row. -/
theorem of_rows {n : ℕ} (G : (⟨2, ![8192, n]⟩ : Shape).Idx → EReal) (t : Fin cfg0.N) (X : (⟨2, ![512, n]⟩ : Shape).Idx → EReal)
    (e : ∀ r k, X (ix2 r k) = G (ix2 ⟨512 * t.val + r.val, row_lt t r⟩ k)) (y : (⟨2, ![512, n]⟩ : Shape).Idx)
    (z : (⟨2, ![8192, n]⟩ : Shape).Idx) (h0 : (z 0).val = 512 * t.val + (y 0).val) (h1 : (z 1).val = (y 1).val) : X y = G z :=
  ((congrArg X (eq_ix2 y)).trans (e (y 0) (y 1))).trans (same_at G _ _ h0.symm h1.symm)

theorem dx2_out : (dats m 0 c).arrAt 8 cfg0.N = oDx2 (arr m c) := by
  refine (dats m 0 c).arrAt_eq_of_covers 8 (oDx2 (arr m c)) (by decide +kernel) fun t hf y => ?_
  rw [after0_8]
  refine of_rows (oDx2 (arr m c)) t _ (fun r k => (congrFun (tiled m c t).1 _).trans (dx2_at m c t r k)) y _ ?_ ?_ <;>
    blk_simp [(by decide +kernel : ∀ t : Fin cfg0.N, win0_8.index t = ![t.val, 0])]
  omega

theorem h_out : (dats m 0 c).arrAt 9 cfg0.N = oH (arr m c) := by
  refine (dats m 0 c).arrAt_eq_of_covers 9 (oH (arr m c)) (by decide +kernel) fun t hf y => ?_
  rw [after0_9]
  refine of_rows (oH (arr m c)) t _ (fun r k => (congrFun (tiled m c t).2.1 _).trans (vh_at m c t r k)) y _ ?_ ?_ <;>
    blk_simp [(by decide +kernel : ∀ t : Fin cfg0.N, win0_9.index t = ![t.val, 0])]
  omega

theorem ds_out : (dats m 0 c).arrAt 10 cfg0.N = oDs (arr m c) := by
  refine (dats m 0 c).arrAt_eq_of_covers 10 (oDs (arr m c)) (by decide +kernel) fun t hf y => ?_
  rw [after0_10]
  refine of_rows (oDs (arr m c)) t _ (fun r k => (congrFun (tiled m c t).2.2.1 _).trans (ds_at m c t r k)) y _ ?_ ?_ <;>
    blk_simp [(by decide +kernel : ∀ t : Fin cfg0.N, win0_10.index t = ![t.val, 0])]
  omega

theorem dpp_out : (dats m 0 c).arrAt 11 cfg0.N = oDpp (arr m c) := by
  refine (dats m 0 c).arrAt_eq_of_covers 11 (oDpp (arr m c)) (by decide +kernel) fun t hf y => ?_
  rw [after0_11]
  refine of_rows (oDpp (arr m c)) t _ (fun r k => (congrFun (tiled m c t).2.2.2 _).trans (dpp_at m c t r k)) y _ ?_ ?_ <;>
    blk_simp [(by decide +kernel : ∀ t : Fin cfg0.N, win0_11.index t = ![t.val, 0])]
  omega

theorem dgn_out : (dats m 0 c).arrAt 12 cfg0.N = oDgn (arr m c) := by
  refine (dats m 0 c).arrAt_eq_of_after_last 12 (⟨15, by decide⟩ : Fin cfg0.N) (by decide +kernel) (oDgn (arr m c))
    fun (j : (⟨2, ![1, 1024]⟩ : Shape).Idx) => ?_
  rw [after0_12]
  have e := dgn_point m c ⟨15, by decide⟩ (j 1)
  rw [show (0 : Fin 1) = j 0 from Subsingleton.elim _ _, ← eq_ix2 (n0 := 1) (n1 := 1024) j] at e
  exact e.trans (tiles_total _)

theorem loss_out : (dats m 0 c).arrAt 13 cfg0.N = oLoss (arr m c) := by
  refine (dats m 0 c).arrAt_eq_of_after_last 13 (⟨15, by decide⟩ : Fin cfg0.N) (by decide +kernel) (oLoss (arr m c))
    fun (j : (⟨2, ![1, 128]⟩ : Shape).Idx) => ?_
  rw [after0_13]
  have e := loss_point m c ⟨15, by decide⟩ rfl (j 1)
  rw [show (0 : Fin 1) = j 0 from Subsingleton.elim _ _, ← eq_ix2 (n0 := 1) (n1 := 128) j] at e
  exact e.trans (congrArg (· * _) (Finset.sum_congr rfl fun k _ => tiles_total _))

end Arrays

/-- The arguments the reference is launched with. -/
def argsOf (m' : (ℓ : Loc Cert.Reference6Ideal.nD Cert.Reference6Ideal.τ Cert.Reference6Ideal.sig) → Buf (Elt Ideal) ℓ) (c : Dev Cert.Reference6Ideal.nD) :
    Cert.Reference6Ideal.Tail.Args :=
  ⟨m' ((c.tc : Thread Cert.Reference6Ideal.nD Cert.Reference6Ideal.τ).loc Cert.Reference6Ideal.main_arg0), m' ((c.tc : Thread Cert.Reference6Ideal.nD Cert.Reference6Ideal.τ).loc Cert.Reference6Ideal.main_arg1), m' ((c.tc : Thread Cert.Reference6Ideal.nD Cert.Reference6Ideal.τ).loc Cert.Reference6Ideal.main_arg2), m' ((c.tc : Thread Cert.Reference6Ideal.nD Cert.Reference6Ideal.τ).loc Cert.Reference6Ideal.main_arg3), m' ((c.tc : Thread Cert.Reference6Ideal.nD Cert.Reference6Ideal.τ).loc Cert.Reference6Ideal.main_arg4), m' ((c.tc : Thread Cert.Reference6Ideal.nD Cert.Reference6Ideal.τ).loc Cert.Reference6Ideal.main_arg5), m' ((c.tc : Thread Cert.Reference6Ideal.nD Cert.Reference6Ideal.τ).loc Cert.Reference6Ideal.main_arg6), m' ((c.tc : Thread Cert.Reference6Ideal.nD Cert.Reference6Ideal.τ).loc Cert.Reference6Ideal.main_arg7)⟩

open Cert.Reference6Ideal.Tail Cert.Reference6Ideal.Read in
theorem algebraic : Cert.algebraic_Kernel6Ideal_Reference6Ideal (hKernel6Ideal := Cert.Kernel6Ideal.Gen.facts) (hReference6Ideal := Cert.Reference6Ideal.Gen.facts) := by
  intro m g m' g' _ hm
  have hA : ∀ c : Dev Cert.Reference6Ideal.nD, argsOf m' c = args m c := fun c => by
    obtain ⟨h0, h1, h2, h3, h4, h5, h6, h7⟩ := hm c
    unfold argsOf args
    rw [h0, h1, h2, h3, h4, h5, h6, h7]
  refine ⟨fun c => oDx2 (arr m c), fun c => oH (arr m c), fun c => oDs (arr m c), fun c => oDpp (arr m c), fun c => oDgn (arr m c),
    fun c => oLoss (arr m c), ?_, ?_⟩
  · refine (θ_run _ _ _).mono (fun r h c => ?_) (Cert.Kernel6Ideal.Value.run_blocks (F := Ideal) m g)
    obtain ⟨o0, o1, o2, o3, o4, o5, hr⟩ := h c
    exact ⟨o0.trans (dx2_out m c), o1.trans (h_out m c), o2.trans (ds_out m c), o3.trans (dpp_out m c), o4.trans (dgn_out m c),
      o5.trans (loss_out m c), hr⟩
  · refine (θ_run _ _ _).mono (fun r h c => ?_) (Cert.Reference6Ideal.Value.run (F := Ideal) m' g')
    obtain ⟨o0, o1, o2, o3, o4, o5, hr⟩ := h c
    have eA : A (argsOf m' c) = arr m c := congrArg A (hA c)
    refine ⟨o0.trans ?_, o1.trans ?_, o2.trans ?_, o3.trans ?_, o4.trans ?_, o5.trans ?_, hr⟩
    · exact (val_main_v69_eq _ _).trans ((dx2_eq (argsOf m' c)).trans (congrArg oDx2 eA))
    · exact (val_main_v70_eq _ _ _ _).trans ((h_eq (argsOf m' c)).trans (congrArg oH eA))
    · exact (val_main_v71_eq _ _).trans ((ds_eq (argsOf m' c)).trans (congrArg oDs eA))
    · exact (val_main_v72_eq _ _ _ _ _ _ _ _).trans ((dpp_eq (argsOf m' c)).trans (congrArg oDpp eA))
    · exact (val_main_v52_eq _ _).trans ((dgn_eq (argsOf m' c)).trans (congrArg oDgn eA))
    · exact (val_main_v73_eq _ _).trans ((loss_eq (argsOf m' c)).trans (congrArg oLoss eA))

theorem frame_ideal : Cert.quiescent_Kernel6Ideal (hKernel6Ideal := Cert.Kernel6Ideal.Gen.facts) := fun m ρ _ =>
  Cert.Kernel6Ideal.Gen.frame m ρ

set_option maxHeartbeats 4000000 in
/-- The kernel over bits: its text is the ideal kernel's, whose run holds over any float values. -/
theorem frame_kernel : Cert.quiescent_Kernel6 (hKernel6 := Cert.Kernel6.Gen.facts) := fun m ρ _ => by
  have bodies : @Cert.Kernel6.defs₀ Bits _ Cert.Kernel6.Gen.facts = @Cert.Kernel6Ideal.defs₀ Bits _ Cert.Kernel6Ideal.Gen.facts := by
    unfold Cert.Kernel6.defs₀ Cert.Kernel6Ideal.defs₀
    refine congrArg Defs.onTc ?_
    funext l
    match l with
    | 0 => funext a; rfl
  have e : @Cert.Kernel6.defs Bits _ Cert.Kernel6.Gen.facts = @Cert.Kernel6Ideal.defs Bits _ Cert.Kernel6Ideal.Gen.facts :=
    congrArg (Pipeline.defs (@Cert.Kernel6Ideal.pcfgs Bits Cert.Kernel6Ideal.Gen.facts)) bodies
  rw [e]
  exact (θ_run Cert.Kernel6Ideal.defs _ _).mono (fun _ h => h) (Cert.Kernel6Ideal.Gen.frame (F := Bits) m ρ)

theorem frame_reference : Cert.quiescent_Reference6Ideal (hReference6Ideal := Cert.Reference6Ideal.Gen.facts) := fun m ρ _ =>
  (θ_run Cert.Reference6Ideal.defs _ _).mono (fun r h => ⟨fun c => (h c).2.2.2.2.2.2, sem_eq_zero_of_no_sems (by decide) r.2⟩)
    (Cert.Reference6Ideal.Value.run (F := Ideal) m ρ)

end Cert.Kernel6Ideal.Tail
-- ==== Proof.Back.Spec.lean ====
module

public import proofs.«01_k».proof.Proof.Mix.Arrays

@[expose] public section

noncomputable section

namespace Cert.Back

open Idealize.ShloMosaic
open Cert.Mix (rowOf rowOf_val total)

/-! The feed-forward's convolution and activation going backward, by rows. -/

/-- What it reads: the gate's projection before its convolution, the other projection, the convolution's taps and
    bias, the down projection, and the cotangent of the residual stream. -/
structure Arr where
  gp : (⟨2, ![8192, 2816]⟩ : Shape).Idx → EReal
  up : (⟨2, ![8192, 2816]⟩ : Shape).Idx → EReal
  w : (⟨2, ![3, 2816]⟩ : Shape).Idx → EReal
  b : (⟨2, ![1, 2816]⟩ : Shape).Idx → EReal
  wd : (⟨2, ![2816, 1024]⟩ : Shape).Idx → EReal
  dx : (⟨2, ![8192, 1024]⟩ : Shape).Idx → EReal

/-- An extended real that is a real. -/
def IsReal (x : EReal) : Prop := ∃ r : ℝ, x = r

/-- The three arrays whose entries must be real. -/
structure Fin3 (a : Arr) : Prop where
  up : ∀ g j, IsReal (a.up (ix2 g j))
  wd : ∀ j k, IsReal (a.wd (ix2 j k))
  dx : ∀ g k, IsReal (a.dx (ix2 g k))

variable (a : Arr) (g : ℕ) (j : Fin 2816)

/-- The projection moved down by `s` rows, zero above; the gate and its logistic. -/
def sh (s : ℕ) : EReal := if s ≤ g then rowOf a.gp (g - s) j else 0
def gate : EReal := a.w (ix2 0 j) * sh a g j 2 + a.w (ix2 1 j) * sh a g j 1 + a.w (ix2 2 j) * rowOf a.gp g j + a.b (ix2 0 j)
def sg : EReal := Ideal.logistic (gate a g j)
/-- The cotangents of the activation and of the gate, the latter zero beyond the last row. -/
def da : EReal := ∑ k, rowOf a.dx g k * a.wd (ix2 j k)
def au : EReal := da a g j * rowOf a.up g j
def dg : EReal := if g < 8192 then au a g j * (sg a g j * (1 + gate a g j * (1 - sg a g j))) else 0
/-- The gradients: of the two projections, of the taps and of the bias. -/
def dgp : EReal := a.w (ix2 2 j) * dg a g j + a.w (ix2 1 j) * dg a (g + 1) j + a.w (ix2 0 j) * dg a (g + 2) j
def dup : EReal := da a g j * (gate a g j * sg a g j)
def tw (s : ℕ) : EReal := dg a (g + s) j * rowOf a.gp g j

def oGp : (⟨2, ![8192, 2816]⟩ : Shape).Idx → EReal := fun i => dgp a (i 0).val (i 1)
def oUp : (⟨2, ![8192, 2816]⟩ : Shape).Idx → EReal := fun i => dup a (i 0).val (i 1)
def oW : (⟨2, ![3, 2816]⟩ : Shape).Idx → EReal := fun i => total fun g => tw a g (i 1) (2 - (i 0).val)
def oB : (⟨2, ![1, 2816]⟩ : Shape).Idx → EReal := fun i => total fun g => dg a g (i 1)

theorem dg_lt (h : g < 8192) : dg a g j = au a g j * (sg a g j * (1 + gate a g j * (1 - sg a g j))) := if_pos h

theorem dg_ge (h : ¬ g < 8192) : dg a g j = 0 := if_neg h

/-- A sum of products of rows with rows moved up is that with the others moved down. -/
theorem total_shift (D P : ℕ → EReal) (s : ℕ) (hs : s ≤ 8192) (hD : ∀ n, 8192 ≤ n → D n = 0) :
    total (fun n => D (n + s) * P n) = total fun n => (if s ≤ n then P (n - s) else 0) * D n := by
  unfold total
  obtain ⟨k, hk⟩ := Nat.exists_eq_add_of_le hs
  rw [hk, Finset.sum_range_add (fun n => (if s ≤ n then P (n - s) else 0) * D n), Nat.add_comm s k,
    Finset.sum_range_add (fun n => D (n + s) * P n), add_comm (∑ n ∈ Finset.range s, _)]
  refine congrArg₂ (· + ·) (Finset.sum_congr rfl fun n _ => ?_)
    ((Finset.sum_eq_zero fun n _ => ?_).trans (Finset.sum_eq_zero fun n hn => ?_).symm)
  · rw [if_pos (by omega), Nat.add_sub_cancel_left, mul_comm, Nat.add_comm n s]
  · rw [hD _ (by omega), zero_mul]
  · rw [if_neg (by have := Finset.mem_range.mp hn; omega), zero_mul]

theorem oW_eq (s : ℕ) (hs : s ≤ 8192) : total (fun g => tw a g j s) = total fun g => sh a g j s * dg a g j :=
  total_shift (fun n => dg a n j) (fun n => rowOf a.gp n j) s hs fun n h => if_neg (by omega)

/-! The activation's derivative: the product rule's two terms are the factored form where the cotangent is real. -/

theorem IsReal.mul {x y : EReal} (hx : IsReal x) (hy : IsReal y) : IsReal (x * y) := by
  obtain ⟨r, rfl⟩ := hx
  obtain ⟨q, rfl⟩ := hy
  exact ⟨r * q, (EReal.coe_mul r q).symm⟩

theorem IsReal.sum {n : ℕ} (f : Fin n → EReal) (h : ∀ k, IsReal (f k)) : IsReal (∑ k, f k) :=
  Finset.sum_induction _ IsReal (fun _ _ hx hy => by
    obtain ⟨r, rfl⟩ := hx
    obtain ⟨q, rfl⟩ := hy
    exact ⟨r + q, (EReal.coe_add r q).symm⟩) ⟨0, rfl⟩ fun k _ => h k

theorem au_real (h : Fin3 a) (hg : g < 8192) : IsReal (au a g j) := by
  have e : ∀ {n : ℕ} (X : (⟨2, ![8192, n]⟩ : Shape).Idx → EReal) (k : Fin n), rowOf X g k = X (ix2 ⟨g, hg⟩ k) := fun X k => rowOf_val X ⟨g, hg⟩ k
  unfold au da
  refine IsReal.mul (IsReal.sum _ fun k => ?_) ?_
  · rw [e]; exact (h.dx _ _).mul (h.wd _ _)
  · rw [e]; exact h.up _ _

theorem silu_rule (x c : EReal) (hc : IsReal c) :
    c * Ideal.logistic x + x * c * (Ideal.logistic x * (1 - Ideal.logistic x))
    = c * (Ideal.logistic x * (1 + x * (1 - Ideal.logistic x))) := by
  obtain ⟨r, rfl⟩ := hc
  have e1 : (1 : EReal) - 1 = 0 := EReal.sub_self (by decide) (by decide)
  induction x with
  | bot => simp
  | top => simp [e1]
  | coe x =>
    rw [Ideal.logistic_coe]
    norm_cast
    push_cast
    norm_cast
    ring

end Cert.Back
-- ==== Proof.Back.Pays.lean ====
module

public import proofs.«01_k».proof.Proof.Grad.Basic
public import proofs.«01_k».proof.Proof.Back.Spec
public import proofs.«01_k».proof.Proof.Gen.Kernel7Ideal.Value

@[expose] public section

set_option maxRecDepth 16384

noncomputable section

namespace Cert.Kernel7Ideal.Back

open Cert.Kernel7Ideal Cert.Kernel7Ideal.Gen
open Idealize.ShloMosaic Idealize.ShloMosaic.TcCoe
open Cert.Grad

/-! The payloads of a grid point, read at an index. -/

variable (r : Fin 512) (j : Fin 1408) (x : FVec Ideal S512x1024 .f32) (h : FVec Ideal S512x1024 .bf16) (g p u : FVec Ideal S512x1408 .bf16)
  (w : FVec Ideal S1408x1024 .bf16) (q v s c1 c2 : FVec Ideal S512x1408 .f32) (b : FVec Ideal S520x1408 .f32)
  (f0 f1 f2 acc acc2 : FVec Ideal S1x1408 .f32)

/-- A tile's cotangents of the activation and of the gate. -/
def mm : EReal := ∑ l, x (ix2 r l) * w (ix2 j l)
def grad : EReal := mm r j x w * u (ix2 r j) * (Ideal.logistic (g (ix2 r j)) * (1 + g (ix2 r j) * (1 - Ideal.logistic (g (ix2 r j)))))

theorem rot1 : (r.val + 520 - 519) % 520 = 1 + r.val := by omega
theorem rot2 : (r.val + 520 - 518) % 520 = 2 + r.val := by omega

theorem pay7_at (l : Fin 1024) : k0_pay7 (F := Ideal) x (ix2 r l) = x (ix2 r l) := by pointwise [k0_pay7]
theorem pay8_at : k0_pay8 (F := Ideal) g (ix2 r j) = g (ix2 r j) := by pointwise [k0_pay8]
theorem pay9_at : k0_pay9 (F := Ideal) g (ix2 r j) = g (ix2 r j) := by pointwise [k0_pay9]
theorem pay10_at : k0_pay10 (F := Ideal) g (ix2 r j) = Ideal.logistic (g (ix2 r j)) := by
  pointwise [k0_pay10]
  rw [pay8_at]
theorem pay11_at : k0_pay11 (F := Ideal) x w (ix2 r j) = mm r j x w := by
  pointwise [k0_pay11]
  simp only [pay7_at]
  rfl
theorem pay12_at : k0_pay12 (F := Ideal) x g w (ix2 r j) = mm r j x w * (g (ix2 r j) * Ideal.logistic (g (ix2 r j))) := by
  pointwise [k0_pay12]
  rw [pay11_at, pay8_at, pay10_at]
theorem pay13_at : k0_pay13 (F := Ideal) x g w u (ix2 r j) = grad r j x g u w := by
  pointwise [k0_pay13]
  rw [pay11_at, pay8_at, pay10_at]
  rfl
theorem pay14_at : k0_pay14 (F := Ideal) v (ix2 r j) = v (ix2 r j) := by pointwise [k0_pay14]
theorem pay15_at : k0_pay15 (F := Ideal) b (ix2 r j) = b (ix2 ⟨1 + r.val, by omega⟩ j) := by
  pointwise [k0_pay15]
  simp only [rot1]
theorem pay16_at : k0_pay16 (F := Ideal) b (ix2 r j) = b (ix2 ⟨2 + r.val, by omega⟩ j) := by
  pointwise [k0_pay16]
  simp only [rot2]
theorem pay17_at : k0_pay17 (F := Ideal) v acc (ix2 0 j) = acc (ix2 0 j) + ∑ r, v (ix2 r j) := by pointwise [k0_pay17]
theorem pay18_at : k0_pay18 (F := Ideal) q b acc (ix2 0 j) = acc (ix2 0 j) + ∑ r, k0_pay16 (F := Ideal) b (ix2 r j) * q (ix2 r j) := by
  pointwise [k0_pay18]
theorem pay19_at : k0_pay19 (F := Ideal) q b acc (ix2 0 j) = acc (ix2 0 j) + ∑ r, k0_pay15 (F := Ideal) b (ix2 r j) * q (ix2 r j) := by
  pointwise [k0_pay19]
theorem pay22_at : k0_pay22 (F := Ideal) (k0_pay20 (F := Ideal) acc) (k0_pay21 (F := Ideal) q v) (ix2 0 j) = acc (ix2 0 j) + ∑ r, v (ix2 r j) * q (ix2 r j) := by
  pointwise [k0_pay22, k0_pay20, k0_pay21]
theorem pay23_at : k0_pay23 (F := Ideal) f0 f1 f2 v c1 c2 (ix2 r j)
    = f2 (ix2 0 j) * v (ix2 r j) + f1 (ix2 0 j) * c1 (ix2 r j) + f0 (ix2 0 j) * c2 (ix2 r j) := by pointwise [k0_pay23]

theorem pay24_at : k0_pay24 (F := Ideal) g (ix2 r j) = g (ix2 r j) := by pointwise [k0_pay24]
theorem pay25_at : k0_pay25 (F := Ideal) g (ix2 r j) = g (ix2 r j) := by pointwise [k0_pay25]
theorem pay26_at : k0_pay26 (F := Ideal) g (ix2 r j) = Ideal.logistic (g (ix2 r j)) := by
  pointwise [k0_pay26]
  rw [pay24_at]
theorem pay27_at : k0_pay27 (F := Ideal) (k0_pay7 (F := Ideal) x) w (ix2 r j) = mm r j x w := by
  pointwise [k0_pay27]
  simp only [pay7_at]
  rfl
theorem pay28_at : k0_pay28 (F := Ideal) (k0_pay7 (F := Ideal) x) g w (ix2 r j) = mm r j x w * (g (ix2 r j) * Ideal.logistic (g (ix2 r j))) := by
  pointwise [k0_pay28]
  rw [pay27_at, pay24_at, pay26_at]
theorem pay31_at : k0_pay31 (F := Ideal) (k0_pay24 (F := Ideal) g) (k0_pay26 (F := Ideal) g) (k0_pay29 (F := Ideal) (k0_pay7 (F := Ideal) x) w u)
    (k0_pay30 (F := Ideal) g) (ix2 r j) = grad r j x g u w := by
  pointwise [k0_pay31, k0_pay29, k0_pay30]
  rw [pay27_at, pay24_at, pay26_at]
  rfl
theorem pay32_at : k0_pay32 (F := Ideal) q v s c1 (ix2 r j) = k0_pay31 (F := Ideal) q v s c1 (ix2 r j) := by pointwise [k0_pay32]
theorem pay33_at : k0_pay33 (F := Ideal) b (ix2 r j) = b (ix2 ⟨1 + r.val, by omega⟩ j) := by
  pointwise [k0_pay33]
  simp only [rot1]
theorem pay34_at : k0_pay34 (F := Ideal) b (ix2 r j) = b (ix2 ⟨2 + r.val, by omega⟩ j) := by
  pointwise [k0_pay34]
  simp only [rot2]
theorem pay35_at : k0_pay35 (F := Ideal) q v s c1 acc (ix2 0 j) = acc (ix2 0 j) + ∑ r, k0_pay31 (F := Ideal) q v s c1 (ix2 r j) := by
  pointwise [k0_pay35]
theorem pay36_at : k0_pay36 (F := Ideal) q b acc (ix2 0 j) = acc (ix2 0 j) + ∑ r, k0_pay34 (F := Ideal) b (ix2 r j) * q (ix2 r j) := by
  pointwise [k0_pay36]
theorem pay37_at : k0_pay37 (F := Ideal) q b acc (ix2 0 j) = acc (ix2 0 j) + ∑ r, k0_pay33 (F := Ideal) b (ix2 r j) * q (ix2 r j) := by
  pointwise [k0_pay37]
theorem pay1_at : k0_pay1 (F := Ideal) q v acc (ix2 0 j) = acc (ix2 0 j) + ∑ r, v (ix2 r j) * q (ix2 r j) := by pointwise [k0_pay1]
theorem pay2_at : k0_pay2 (F := Ideal) f0 f1 f2 v c1 c2 (ix2 r j)
    = f2 (ix2 0 j) * v (ix2 r j) + f1 (ix2 0 j) * c1 (ix2 r j) + f0 (ix2 0 j) * c2 (ix2 r j) := by pointwise [k0_pay2]

theorem pay3_at (d : FVec Ideal S8x2816 .f32) (i : Fin 8) (l : Fin 2816) : k0_pay3 (F := Ideal) d (ix2 i l) = d (ix2 i l) := by pointwise [k0_pay3]
theorem pay4_at (i : Fin 8) (l : Fin 2816) : k0_pay4 (F := Ideal) (ix2 i l) = 0 := by pointwise [k0_pay4]
theorem pay5_at (i : Fin 3) (l : Fin 2816) : k0_pay5 (F := Ideal) (ix2 i l) = 0 := by pointwise [k0_pay5]
theorem pay6_at (l : Fin 2816) : k0_pay6 (F := Ideal) (ix2 0 l) = 0 := by pointwise [k0_pay6]

end Cert.Kernel7Ideal.Back
-- ==== Proof.Back.Ref.lean ====
module

public import proofs.«01_k».proof.Proof.Grad.Basic
public import proofs.«01_k».proof.Proof.Back.Spec
public import proofs.«01_k».proof.Proof.Gen.Reference7Ideal.Read

@[expose] public section

set_option maxRecDepth 16384

noncomputable section

namespace Cert.Reference7Ideal.Back

open Cert.Reference7Ideal Cert.Reference7Ideal.Read
open Idealize.ShloMosaic Idealize.ShloMosaic.TcCoe
open Cert.Mix (rowOf rowOf_val total total_eq)
open Cert.Grad Cert.Back

/-- The reference's arguments. -/
structure Args where
  x0 : (⟨S8192x2816, .f32⟩ : BufTy).Contents (Elt Ideal)
  x1 : (⟨S8192x2816, .f32⟩ : BufTy).Contents (Elt Ideal)
  x2 : (⟨S3x2816, .f32⟩ : BufTy).Contents (Elt Ideal)
  x3 : (⟨S1x2816, .f32⟩ : BufTy).Contents (Elt Ideal)
  x4 : (⟨S2816x1024, .f32⟩ : BufTy).Contents (Elt Ideal)
  x5 : (⟨S8192x1024, .f32⟩ : BufTy).Contents (Elt Ideal)

variable (a : Args) (g : Fin 8192) (j : Fin 2816)

def A : Arr := ⟨a.x0, a.x1, a.x2, a.x3, a.x4, a.x5⟩

theorem row_x {n : ℕ} (X : (⟨2, ![8192, n]⟩ : Shape).Idx → EReal) (k : Fin n) : X (ix2 g k) = rowOf X g k := (rowOf_val X g k).symm

/-- The padded projection at row `i`, two rows of zeros in front. -/
theorem v1_at (i : Fin 8194) : val_main_v1 (F := Ideal) a.x0 (ix2 i j) = if 2 ≤ i.val then rowOf a.x0 (i.val - 2) j else 0 := by
  pointwise [val_main_v1, val_main_v0, val_main_cst]
  by_cases h : i.val < 2
  · refine Eq.trans ?_ (if_neg (by omega)).symm
    rw [dif_pos h]
  · refine Eq.trans ?_ (if_pos (by omega)).symm
    rw [dif_neg h]
    exact row_x ⟨i.val - 2, by omega⟩ a.x0 j

theorem v3_at : val_main_v3 (F := Ideal) a.x0 (ix2 g j) = sh (A a) g j 2 := by
  pointwise [val_main_v3]
  rw [v1_at]
  rfl
theorem v9_at : val_main_v9 (F := Ideal) a.x0 (ix2 g j) = sh (A a) g j 1 := by
  pointwise [val_main_v9]
  rw [v1_at]
  unfold sh
  rw [show 1 + g.val - 2 = g.val - 1 by omega]
  by_cases e : 1 ≤ g.val
  · rw [if_pos (show 2 ≤ 1 + g.val by omega), if_pos e]
    rfl
  · rw [if_neg (show ¬2 ≤ 1 + g.val by omega), if_neg e]
theorem v16_at : val_main_v16 (F := Ideal) a.x0 (ix2 g j) = rowOf (A a).gp g j := by
  pointwise [val_main_v16]
  rw [v1_at, if_pos (show 2 ≤ 2 + g.val by omega), Nat.add_sub_cancel_left]
  rfl

theorem v24_at : val_main_v24 (F := Ideal) a.x0 a.x2 a.x3 (ix2 g j) = gate (A a) g j := by
  pointwise [val_main_v24, val_main_v23, val_main_v22, val_main_v21, val_main_v20, val_main_v19, val_main_v18, val_main_v17,
    val_main_v15, val_main_v14, val_main_v13, val_main_v12, val_main_v11, val_main_v10, val_main_v8, val_main_v7, val_main_v6,
    val_main_v5, val_main_v4]
  rw [v3_at, v9_at, v16_at, mul_comm _ (a.x2 _), mul_comm _ (a.x2 _), mul_comm _ (a.x2 _)]
  rfl

theorem v25_2_at : val_main_v25_2 (F := Ideal) a.x0 a.x2 a.x3 (ix2 g j) = sg (A a) g j := by
  pointwise [val_main_v25_2, val_main_call0_v4, val_main_call0_v3, val_main_call0_v2, val_main_call0_v1,
    val_main_call0_v0, val_main_call0_cst, val_main_call0_cst_0]
  rw [v24_at]
  rfl

theorem v28_at : val_main_v28 (F := Ideal) a.x4 a.x5 (ix2 g j) = da (A a) g j := by
  pointwise [val_main_v28]
  simp only [row_x g a.x5]
  rfl

theorem v29_at : val_main_v29 (F := Ideal) a.x0 a.x2 a.x3 a.x4 a.x5 (ix2 g j) = dup (A a) g j := by
  pointwise [val_main_v29, val_main_v25_0]
  rw [v24_at, v25_2_at, v28_at, mul_comm]
  rfl

theorem v30_at : val_main_v30 (F := Ideal) a.x1 a.x4 a.x5 (ix2 g j) = au (A a) g j := by
  pointwise [val_main_v30]
  rw [v28_at, row_x g a.x1]
  rfl

variable (hr : Fin3 (A a))
include hr

theorem v31_at : val_main_v31 (F := Ideal) a.x0 a.x1 a.x2 a.x3 a.x4 a.x5 (ix2 g j) = dg (A a) g j := by
  pointwise [val_main_v31, val_main_call1_v2, val_main_call1_v1, val_main_call1_v0, val_main_v25_1, val_main_call0_v7,
    val_main_call0_v6, val_main_call0_cst_1]
  rw [v30_at, v25_2_at, v24_at]
  exact (silu_rule (gate (A a) g j) (au (A a) g j) (au_real (A a) g j hr g.isLt)).trans (dg_lt (A a) g j g.isLt).symm

theorem v33_at : val_main_v33 (F := Ideal) a.x0 a.x1 a.x2 a.x3 a.x4 a.x5 (ix2 0 j) = total fun g => dg (A a) g j := by
  pointwise [val_main_v33, val_main_v32, val_main_cst_1]
  rw [total_eq]
  exact Finset.sum_congr rfl fun g _ => v31_at a g j hr

theorem v39_at : val_main_v39 (F := Ideal) a.x0 a.x1 a.x2 a.x3 a.x4 a.x5 (ix1 j) = total fun g => tw (A a) g j 0 := by
  pointwise [val_main_v39, val_main_v36, val_main_v35, val_main_v34, val_main_cst_2, val_main_cst_3]
  simp only [Fin.sum_univ_one]
  rw [total_eq]
  exact Finset.sum_congr rfl fun g _ => by rw [v16_at, v31_at a g j hr, mul_comm]; rfl
theorem v48_at : val_main_v48 (F := Ideal) a.x0 a.x1 a.x2 a.x3 a.x4 a.x5 (ix1 j) = total fun g => tw (A a) g j 1 := by
  pointwise [val_main_v48, val_main_v45, val_main_v44, val_main_v43, val_main_cst_6, val_main_cst_7]
  simp only [Fin.sum_univ_one]
  rw [oW_eq _ _ _ (by norm_num), total_eq]
  exact Finset.sum_congr rfl fun g _ => by rw [v9_at, v31_at a g j hr]
theorem v59_at : val_main_v59 (F := Ideal) a.x0 a.x1 a.x2 a.x3 a.x4 a.x5 (ix1 j) = total fun g => tw (A a) g j 2 := by
  pointwise [val_main_v59, val_main_v56, val_main_v55, val_main_v54, val_main_cst_10, val_main_cst_11]
  simp only [Fin.sum_univ_one]
  rw [oW_eq _ _ _ (by norm_num), total_eq]
  exact Finset.sum_congr rfl fun g _ => by rw [v3_at, v31_at a g j hr]
theorem v62_at (k : Fin 3) : val_main_v62 (F := Ideal) a.x0 a.x1 a.x2 a.x3 a.x4 a.x5 (ix2 k j)
    = total fun g => tw (A a) g j (2 - k.val) := by
  pointwise [val_main_v62, val_main_v61, val_main_v60, val_main_v51, val_main_v50, val_main_v49, val_main_v41, val_main_v40,
    val_main_cst_4, val_main_cst_8, val_main_cst_12]
  rw [v39_at a j hr, v48_at a j hr, v59_at a j hr]
  fin_cases k <;> simp

theorem v67_at : val_main_v67 (F := Ideal) a.x0 a.x1 a.x2 a.x3 a.x4 a.x5 (ix2 g j) = dgp (A a) g j := by
  pointwise [val_main_v67, val_main_v66, val_main_v64, val_main_v63, val_main_v53, val_main_v52, val_main_v42, val_main_cst_5,
    val_main_cst_9, val_main_cst_13, val_main_v38, val_main_v37, val_main_v47, val_main_v46, val_main_v58, val_main_v57,
    val_main_v19, val_main_v18, val_main_v17, val_main_v12, val_main_v11, val_main_v10, val_main_v6, val_main_v5, val_main_v4]
  have e1 : (if h : 1 ≤ 2 + g.val ∧ 2 + g.val - 1 < 8192 then
      val_main_v31 (F := Ideal) a.x0 a.x1 a.x2 a.x3 a.x4 a.x5 (ix2 ⟨2 + g.val - 1, h.2⟩ j) * a.x2 (ix2 1 j) else 0)
      = (A a).w (ix2 1 j) * dg (A a) (g.val + 1) j := by
    by_cases h : g.val + 1 < 8192
    · rw [dif_pos (by omega), v31_at _ _ _ hr, mul_comm]
      exact congrArg (fun n => a.x2 (ix2 1 j) * dg (A a) n j) (show 2 + g.val - 1 = g.val + 1 by omega)
    · rw [dif_neg (by omega), dg_ge _ _ _ h, mul_zero]
  have e0 : (if h : 2 + g.val < 8192 then
      val_main_v31 (F := Ideal) a.x0 a.x1 a.x2 a.x3 a.x4 a.x5 (ix2 ⟨2 + g.val, h⟩ j) * a.x2 (ix2 0 j) else 0)
      = (A a).w (ix2 0 j) * dg (A a) (g.val + 2) j := by
    by_cases h : g.val + 2 < 8192
    · rw [dif_pos (by omega), v31_at _ _ _ hr, mul_comm]
      exact congrArg (fun n => a.x2 (ix2 0 j) * dg (A a) n j) (show 2 + g.val = g.val + 2 by omega)
    · rw [dif_neg (by omega), dg_ge _ _ _ h, mul_zero]
  rw [e1, e0, v31_at _ _ _ hr, mul_comm]
  rfl

omit hr in
theorem v68_at : val_main_v68 (F := Ideal) a.x0 a.x2 a.x3 a.x4 a.x5 (ix2 g j) = dup (A a) g j := by
  pointwise [val_main_v68]
  exact v29_at a g j

theorem oGp_eq : val_main_v67 (F := Ideal) a.x0 a.x1 a.x2 a.x3 a.x4 a.x5 = oGp (A a) := by
  funext i
  rw [show i = ix2 (i 0) (i 1) from by funext d; fin_cases d <;> rfl]
  exact v67_at a (i 0) (i 1) hr
omit hr in
theorem oUp_eq : val_main_v68 (F := Ideal) a.x0 a.x2 a.x3 a.x4 a.x5 = oUp (A a) := by
  funext i
  rw [show i = ix2 (i 0) (i 1) from by funext d; fin_cases d <;> rfl]
  exact v68_at a (i 0) (i 1)
theorem oTap_eq : val_main_v62 (F := Ideal) a.x0 a.x1 a.x2 a.x3 a.x4 a.x5 = oW (A a) := by
  funext i
  rw [show i = ix2 (i 0) (i 1) from by funext d; fin_cases d <;> rfl]
  exact v62_at a (i 1) hr (i 0)
theorem oB_eq : val_main_v33 (F := Ideal) a.x0 a.x1 a.x2 a.x3 a.x4 a.x5 = oB (A a) := by
  funext i
  rw [show i = ix2 0 (i 1) from by funext d; fin_cases d <;> first | rfl | exact Subsingleton.elim (α := Fin 1) _ _]
  exact v33_at a (i 1) hr

end Cert.Reference7Ideal.Back
-- ==== Proof.Grad.Pieces.lean ====
module

public import proofs.«01_k».proof.Proof.Grad.Basic
public import Idealize.ShloMosaic.Lib.Pipeline.ValueKit
public import Idealize.ShloMosaic.Lib.WritesUnit

@[expose] public section

noncomputable section

namespace Cert.Grad

open Idealize.ShloMosaic

/-! What a buffer holds that is written in rectangles, at an index inside or outside the newest one. -/

variable {Val : EltTy → Type} {e : EltTy} {n0 n1 o0 o1 m0 m1 : ℕ}

section Canon

variable [∀ e, Nonempty (Val e)]
  (inb : ∀ a, (![o0, o1] : Fin 2 → ℕ) a + (![m0, m1] : Fin 2 → ℕ) a ≤ (⟨2, ![n0, n1]⟩ : Shape).size a)
  (w : (⟨2, ![m0, m1]⟩ : Shape).Idx → Val e) (L : List (View.Piece Val (⟨2, ![n0, n1]⟩ : Shape) e)) (i : Fin n0) (j : Fin n1)

theorem canon_hit (p : Fin m0) (q : Fin m1) (hi : i.val = o0 + p.val) (hj : j.val = o1 + q.val) :
    View.canon ((⟨Rect.unit (s := ⟨2, ![n0, n1]⟩) ![o0, o1] ![m0, m1] inb, w⟩ : View.Piece Val (⟨2, ![n0, n1]⟩ : Shape) e) :: L) (ix2 i j) = w (ix2 p q) := by
  have h : ix2 i j = (Rect.unit (s := ⟨2, ![n0, n1]⟩) ![o0, o1] ![m0, m1] inb).emb (ix2 p q) :=
    funext fun a => Fin.ext (by
      revert a
      exact Fin.forall_fin_two.mpr ⟨show i.val = o0 + 1 * p.val by omega, show j.val = o1 + 1 * q.val by omega⟩)
  rw [h]
  exact View.canon_cons_emb _ _ _ _

theorem canon_miss (h : i.val < o0 ∨ o0 + m0 ≤ i.val ∨ j.val < o1 ∨ o1 + m1 ≤ j.val) :
    View.canon ((⟨Rect.unit (s := ⟨2, ![n0, n1]⟩) ![o0, o1] ![m0, m1] inb, w⟩ : View.Piece Val (⟨2, ![n0, n1]⟩ : Shape) e) :: L) (ix2 i j) = View.canon L (ix2 i j) := by
  refine View.canon_cons_of_not_mem _ _ fun hm => ?_
  have hm' : ix2 i j ∈ (Rect.unit (s := ⟨2, ![n0, n1]⟩) ![o0, o1] ![m0, m1] inb).set := hm
  have h2 := Rect.mem_set_unit.mp hm'
  have a0 : o0 ≤ i.val ∧ i.val < o0 + m0 := h2 0
  have a1 : o1 ≤ j.val ∧ j.val < o1 + m1 := h2 1
  omega

end Canon

/-- Two blocks of columns side by side. -/
theorem canon_two [∀ e, Nonempty (Val e)] {a b : ℕ}
    (inb1 : ∀ x, (![0, a] : Fin 2 → ℕ) x + (![n0, b] : Fin 2 → ℕ) x ≤ (⟨2, ![n0, n1]⟩ : Shape).size x)
    (inb0 : ∀ x, (![0, 0] : Fin 2 → ℕ) x + (![n0, a] : Fin 2 → ℕ) x ≤ (⟨2, ![n0, n1]⟩ : Shape).size x)
    (w1 : (⟨2, ![n0, b]⟩ : Shape).Idx → Val e) (w0 : (⟨2, ![n0, a]⟩ : Shape).Idx → Val e) (hn : n1 = a + b) (G : Fin n0 → Fin n1 → Val e)
    (h0 : ∀ r (j : Fin a), w0 (ix2 r j) = G r ⟨j.val, by omega⟩) (h1 : ∀ r (j : Fin b), w1 (ix2 r j) = G r ⟨a + j.val, by omega⟩)
    (r : Fin n0) (j : Fin n1) :
    View.canon [(⟨Rect.unit (s := ⟨2, ![n0, n1]⟩) ![0, a] ![n0, b] inb1, w1⟩ : View.Piece Val (⟨2, ![n0, n1]⟩ : Shape) e),
      ⟨Rect.unit (s := ⟨2, ![n0, n1]⟩) ![0, 0] ![n0, a] inb0, w0⟩] (ix2 r j) = G r j := by
  by_cases h : j.val < a
  · rw [canon_miss _ _ _ _ _ (.inr (.inr (.inl h))), canon_hit _ _ _ r j r ⟨j.val, h⟩ (Nat.zero_add _).symm (Nat.zero_add _).symm]
    exact h0 _ _
  · rw [canon_hit _ _ _ r j r ⟨j.val - a, by omega⟩ (Nat.zero_add _).symm (show j.val = a + (j.val - a) by omega), h1]
    exact congrArg (G r) (Fin.ext (show a + (j.val - a) = j.val by omega))

section Writes

variable {sig : RefSig} {κ : Kind} {sp : Space} (v : View sig κ sp (⟨2, ![n0, n1]⟩ : Shape) e) (f : v.ty.Contents Val)
  (inb : ∀ a, (![o0, o1] : Fin 2 → ℕ) a + (![m0, m1] : Fin 2 → ℕ) a ≤ (⟨2, ![n0, n1]⟩ : Shape).size a)
  (w : (⟨2, ![m0, m1]⟩ : Shape).Idx → Val e) (L : List (View.Piece Val (⟨2, ![n0, n1]⟩ : Shape) e)) (i : Fin n0) (j : Fin n1)

theorem read_hit (p : Fin m0) (q : Fin m1) (hi : i.val = o0 + p.val) (hj : j.val = o1 + q.val) :
    v.read Val (v.writes Val f ((⟨Rect.unit (s := ⟨2, ![n0, n1]⟩) ![o0, o1] ![m0, m1] inb, w⟩ : View.Piece Val (⟨2, ![n0, n1]⟩ : Shape) e) :: L)) (ix2 i j) = w (ix2 p q) :=
  View.read_writes_cons_unit_of_mem v f inb w L (ix2 i j) (ix2 p q) rfl (Fin.forall_fin_two.mpr ⟨hi, hj⟩)

theorem read_miss (h : i.val < o0 ∨ o0 + m0 ≤ i.val ∨ j.val < o1 ∨ o1 + m1 ≤ j.val) :
    v.read Val (v.writes Val f ((⟨Rect.unit (s := ⟨2, ![n0, n1]⟩) ![o0, o1] ![m0, m1] inb, w⟩ : View.Piece Val (⟨2, ![n0, n1]⟩ : Shape) e) :: L)) (ix2 i j)
    = v.read Val (v.writes Val f L) (ix2 i j) := by
  by_cases h0 : i.val < o0 ∨ o0 + m0 ≤ i.val
  · exact View.read_writes_cons_unit_of_not_mem v f inb w L (ix2 i j) rfl 0 h0
  · exact View.read_writes_cons_unit_of_not_mem v f inb w L (ix2 i j) rfl 1 (show j.val < o1 ∨ o1 + m1 ≤ j.val by omega)

end Writes

end Cert.Grad
-- ==== Proof.Back.Point.lean ====
module

public import proofs.«01_k».proof.Proof.Back.Pays
public import proofs.«01_k».proof.Proof.Back.Ref
public import proofs.«01_k».proof.Proof.Grad.Pieces
public import Idealize.ShloMosaic.Lib.Pipeline.ValueKit

@[expose] public section

set_option maxRecDepth 16384

noncomputable section

namespace Cert.Kernel7Ideal.Back

open Cert.Kernel7Ideal Cert.Kernel7Ideal.Gen
open Idealize.ShloMosaic Idealize.ShloMosaic.TcCoe
open Cert.Mix (rowOf rowOf_val)
open Cert.Grad Cert.Back

variable (m : (ℓ : Loc nD τ sig) → Buf (Elt Ideal) ℓ) (c : Dev nD) (t : Fin cfg0.N)

theorem map0 : ∀ t : Fin cfg0.N, win0_0.index t = ![15 - t.val, 0] := by decide +kernel
theorem map1 : ∀ t : Fin cfg0.N, win0_1.index t = ![15 - t.val, 0] := by decide +kernel
theorem map2 : ∀ t : Fin cfg0.N, win0_2.index t = ![15 - t.val, 0] := by decide +kernel
theorem map3 : ∀ t : Fin cfg0.N, win0_3.index t = ![15 - t.val, 0] := by decide +kernel
theorem map4 : ∀ t : Fin cfg0.N, win0_4.index t = ![0, 0] := by decide +kernel
theorem map5 : ∀ t : Fin cfg0.N, win0_5.index t = ![0, 0] := by decide +kernel

/-- The arguments' arrays. -/
def args : Cert.Reference7Ideal.Back.Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5)⟩

abbrev arr : Arr := Cert.Reference7Ideal.Back.A (args m c)

theorem lt16 : t.val < 16 := t.isLt

/-- A tile's first row among all rows: the last tile comes first. -/
abbrev base : ℕ := 512 * (15 - t.val)

theorem row_lt (r : Fin 512) : base t + r.val < 8192 := by unfold base; omega

theorem row_at {n : ℕ} (X : (⟨2, ![8192, n]⟩ : Shape).Idx → EReal) (r : Fin 512) (l : Fin n) :
    rowOf X (base t + r.val) l = X (ix2 ⟨base t + r.val, row_lt t r⟩ l) :=
  rowOf_val X ⟨base t + r.val, row_lt t r⟩ l

theorem b0_at (r : Fin 512) (l : Fin 1024) : iblk m c 0 t (ix2 r l) = rowOf (arr m c).dx (base t + r.val) l := by
  rw [row_at]
  refine (same_at (V m c main_arg5) _ (ix2 ⟨base t + r.val, row_lt t r⟩ l) ?_ ?_).trans (congrFun (V_main_arg5 m c) _) <;>
    blk_simp [map0] <;> (show _ = 512 * (15 - t.val) + r.val; omega)

/-- The gate, computed on the host by the reference's lines. -/
theorem V24_at (g : Fin 8192) (j : Fin 2816) : V m c main_v24 (ix2 g j) = gate (arr m c) g j := by
  refine Eq.trans ?_ (Cert.Reference7Ideal.Back.v24_at (args m c) g j)
  dsimp only [V, hostOps0]
  after_results
  rfl

theorem b1_at (r : Fin 512) (j : Fin 2816) : iblk m c 1 t (ix2 r j) = gate (arr m c) (base t + r.val) j := by
  refine (same_at (V m c main_v24) _ (ix2 ⟨base t + r.val, row_lt t r⟩ j) ?_ ?_).trans (V24_at m c ⟨base t + r.val, row_lt t r⟩ j) <;>
    blk_simp [map1] <;> (show _ = 512 * (15 - t.val) + r.val; omega)

theorem b2_at (r : Fin 512) (j : Fin 2816) : iblk m c 2 t (ix2 r j) = rowOf (arr m c).gp (base t + r.val) j := by
  rw [row_at]
  refine (same_at (V m c main_v25) _ (ix2 ⟨base t + r.val, row_lt t r⟩ j) ?_ ?_).trans ?_
  · blk_simp [map2]; (show _ = 512 * (15 - t.val) + r.val; omega)
  · blk_simp [map2]
  · dsimp only [V, hostOps0]
    after_results
    pointwise
    rfl

theorem b3_at (r : Fin 512) (j : Fin 2816) : iblk m c 3 t (ix2 r j) = rowOf (arr m c).up (base t + r.val) j := by
  rw [row_at]
  refine (same_at (V m c main_v26) _ (ix2 ⟨base t + r.val, row_lt t r⟩ j) ?_ ?_).trans ?_
  · blk_simp [map3]; (show _ = 512 * (15 - t.val) + r.val; omega)
  · blk_simp [map3]
  · dsimp only [V, hostOps0]
    after_results
    pointwise
    rfl

theorem b4_at (j : Fin 2816) (k : Fin 1024) : iblk m c 4 t (ix2 j k) = (arr m c).wd (ix2 j k) := by
  refine (same_at (V m c main_v27) _ (ix2 j k) ?_ ?_).trans ?_
  · blk_simp [map4]
  · blk_simp [map4]
  · dsimp only [V, hostOps0]
    after_results
    pointwise
    rfl

theorem b5_at (i : Fin 3) (j : Fin 2816) : iblk m c 5 t (ix2 i j) = (arr m c).w (ix2 i j) := by
  refine (same_at (V m c main_arg2) _ (ix2 i j) ?_ ?_).trans (congrFun (V_main_arg2 m c) _) <;> blk_simp [map5]

/-- A column of one of the two halves, among all columns. -/
def col (s : Fin 2) (j : Fin 1408) : Fin 2816 := ⟨1408 * s.val + j.val, by omega⟩

theorem ld_lanes (X : S512x2816.Idx → Elt Ideal .bf16) (s : Fin 2) (n : ℕ) (hn : n = 1408 * s.val) (inb) (r : Fin 512) (l : Fin 1408) :
    View.ld (Val := Elt Ideal) (e' := .bf16) X (Rect.unit ![0, n] ![512, 1408] inb) (ix2 r l) = X (ix2 r (col s l)) := by
  subst hn
  exact same_at (n0 := 512) (n1 := 2816) X _ _ (show 0 + 1 * r.val = r.val by omega)
    (show 1408 * s.val + 1 * l.val = 1408 * s.val + l.val by omega)

theorem ld_rows (s : Fin 2) (n : ℕ) (hn : n = 1408 * s.val) (inb) (l : Fin 1408) (k : Fin 1024) :
    View.ld (Val := Elt Ideal) (e' := .bf16) (iblk m c 4 t) (Rect.unit ![n, 0] ![1408, 1024] inb) (ix2 l k) = (arr m c).wd (ix2 (col s l) k) := by
  subst hn
  rw [← b4_at m c t]
  exact same_at (n0 := 2816) (n1 := 1024) (iblk m c 4 t) _ _ (show 1408 * s.val + 1 * l.val = 1408 * s.val + l.val by omega)
    (show 0 + 1 * k.val = k.val by omega)

theorem ld_tap (i : Fin 3) (s : Fin 2) (q n : ℕ) (hq : q = i.val) (hn : n = 1408 * s.val) (inb) (j : Fin 1408) :
    View.ld (iblk m c 5 t) (Rect.unit ![q, n] ![1, 1408] inb) (ix2 0 j) = (arr m c).w (ix2 i (col s j)) := by
  subst hq hn
  rw [← b5_at m c t]
  exact same_at (n0 := 3) (n1 := 2816) (iblk m c 5 t) _ _ (show i.val + 1 * 0 = i.val by omega)
    (show 1408 * s.val + 1 * j.val = 1408 * s.val + j.val by omega)

theorem mm_at (s : Fin 2) (n : ℕ) (hn : n = 1408 * s.val) (inb) (r : Fin 512) (j : Fin 1408) :
    mm r j (iblk m c 0 t) (View.ld (iblk m c 4 t) (Rect.unit ![n, 0] ![1408, 1024] inb)) = da (arr m c) (base t + r.val) (col s j) :=
  Finset.sum_congr rfl fun l _ => congr (congrArg _ (b0_at m c t r l)) (ld_rows m c t s n hn inb j l)

theorem dup_at (s : Fin 2) (n : ℕ) (hn : n = 1408 * s.val) (inb inb') (r : Fin 512) (j : Fin 1408) (G : FVec Ideal S512x1408 .bf16)
    (hG : G = View.ld (iblk m c 1 t) (Rect.unit ![0, n] ![512, 1408] inb')) :
    mm r j (iblk m c 0 t) (View.ld (iblk m c 4 t) (Rect.unit ![n, 0] ![1408, 1024] inb)) * (G (ix2 r j) * Ideal.logistic (G (ix2 r j)))
    = dup (arr m c) (base t + r.val) (col s j) := by
  rw [mm_at m c t s n hn, show G (ix2 r j) = _ from
    (congrFun hG _).trans ((ld_lanes (iblk m c 1 t) s n hn inb' r j).trans (b1_at m c t r _))]
  rfl

theorem grad_at (s : Fin 2) (n : ℕ) (hn : n = 1408 * s.val) (inb inb' inb'') (r : Fin 512) (j : Fin 1408) :
    grad r j (iblk m c 0 t) (View.ld (iblk m c 1 t) (Rect.unit ![0, n] ![512, 1408] inb'))
      (View.ld (iblk m c 3 t) (Rect.unit ![0, n] ![512, 1408] inb'')) (View.ld (iblk m c 4 t) (Rect.unit ![n, 0] ![1408, 1024] inb))
    = dg (arr m c) (base t + r.val) (col s j) := by
  unfold grad
  rw [mm_at m c t s n hn, show View.ld (iblk m c 1 t) (Rect.unit ![0, n] ![512, 1408] inb') (ix2 r j) = _ from
    (ld_lanes (iblk m c 1 t) s n hn inb' r j).trans (b1_at m c t r _),
    show View.ld (iblk m c 3 t) (Rect.unit ![0, n] ![512, 1408] inb'') (ix2 r j) = _ from
    (ld_lanes (iblk m c 3 t) s n hn inb'' r j).trans (b3_at m c t r _)]
  exact (dg_lt _ _ _ (row_lt t r)).symm

/-! What a tile reads, in its two halves of columns. -/

def G0 : FVec Ideal S512x1408 .bf16 := View.ld (iblk m c 1 t) (Rect.unit ![0, 0] ![512, 1408] inb_S512x2816_S512x1408_0_0)
def G1 : FVec Ideal S512x1408 .bf16 := View.ld (iblk m c 1 t) (Rect.unit ![0, 1408] ![512, 1408] inb_S512x2816_S512x1408_0_1408)
def P0 : FVec Ideal S512x1408 .bf16 := View.ld (iblk m c 2 t) (Rect.unit ![0, 0] ![512, 1408] inb_S512x2816_S512x1408_0_0)
def P1 : FVec Ideal S512x1408 .bf16 := View.ld (iblk m c 2 t) (Rect.unit ![0, 1408] ![512, 1408] inb_S512x2816_S512x1408_0_1408)
def U0 : FVec Ideal S512x1408 .bf16 := View.ld (iblk m c 3 t) (Rect.unit ![0, 0] ![512, 1408] inb_S512x2816_S512x1408_0_0)
def U1 : FVec Ideal S512x1408 .bf16 := View.ld (iblk m c 3 t) (Rect.unit ![0, 1408] ![512, 1408] inb_S512x2816_S512x1408_0_1408)
def W0 : FVec Ideal S1408x1024 .bf16 := View.ld (iblk m c 4 t) (Rect.unit ![0, 0] ![1408, 1024] inb_S2816x1024_S1408x1024_0_0)
def W1 : FVec Ideal S1408x1024 .bf16 := View.ld (iblk m c 4 t) (Rect.unit ![1408, 0] ![1408, 1024] inb_S2816x1024_S1408x1024_1408_0)
def F00 : FVec Ideal S1x1408 .f32 := View.ld (iblk m c 5 t) (Rect.unit ![0, 0] ![1, 1408] inb_S3x2816_S1x1408_0_0)
def F10 : FVec Ideal S1x1408 .f32 := View.ld (iblk m c 5 t) (Rect.unit ![1, 0] ![1, 1408] inb_S3x2816_S1x1408_1_0)
def F20 : FVec Ideal S1x1408 .f32 := View.ld (iblk m c 5 t) (Rect.unit ![2, 0] ![1, 1408] inb_S3x2816_S1x1408_2_0)
def F01 : FVec Ideal S1x1408 .f32 := View.ld (iblk m c 5 t) (Rect.unit ![0, 1408] ![1, 1408] inb_S3x2816_S1x1408_0_1408)
def F11 : FVec Ideal S1x1408 .f32 := View.ld (iblk m c 5 t) (Rect.unit ![1, 1408] ![1, 1408] inb_S3x2816_S1x1408_1_1408)
def F21 : FVec Ideal S1x1408 .f32 := View.ld (iblk m c 5 t) (Rect.unit ![2, 1408] ![1, 1408] inb_S3x2816_S1x1408_2_1408)

/-- The cotangent of the gate over the tile's rows. -/
def D0 : FVec Ideal S512x1408 .f32 := k0_pay13 (F := Ideal) (iblk m c 0 t) (G0 m c t) (W0 m c t) (U0 m c t)
def D1 : FVec Ideal S512x1408 .f32 := k0_pay31 (F := Ideal) (k0_pay24 (F := Ideal) (G1 m c t)) (k0_pay26 (F := Ideal) (G1 m c t))
  (k0_pay29 (F := Ideal) (k0_pay7 (F := Ideal) (iblk m c 0 t)) (W1 m c t) (U1 m c t)) (k0_pay30 (F := Ideal) (G1 m c t))
def E1 : FVec Ideal S512x1408 .f32 := k0_pay32 (F := Ideal) (k0_pay24 (F := Ideal) (G1 m c t)) (k0_pay26 (F := Ideal) (G1 m c t))
  (k0_pay29 (F := Ideal) (k0_pay7 (F := Ideal) (iblk m c 0 t)) (W1 m c t) (U1 m c t)) (k0_pay30 (F := Ideal) (G1 m c t))

section At

variable (r : Fin 512) (j : Fin 1408)

theorem D0_at : D0 m c t (ix2 r j) = dg (arr m c) (base t + r.val) (col 0 j) :=
  (pay13_at r j _ _ _ _).trans (grad_at m c t 0 0 rfl _ _ _ r j)
theorem D1_at : D1 m c t (ix2 r j) = dg (arr m c) (base t + r.val) (col 1 j) :=
  (pay31_at r j _ _ _ _).trans (grad_at m c t 1 1408 rfl _ _ _ r j)
theorem E1_at : E1 m c t (ix2 r j) = dg (arr m c) (base t + r.val) (col 1 j) :=
  (pay32_at r j _ _ _ _).trans (D1_at m c t r j)
theorem P0_at : k0_pay9 (F := Ideal) (P0 m c t) (ix2 r j) = rowOf (arr m c).gp (base t + r.val) (col 0 j) :=
  (pay9_at r j _).trans ((ld_lanes (iblk m c 2 t) 0 0 rfl _ r j).trans (b2_at m c t r _))
theorem P1_at : k0_pay25 (F := Ideal) (P1 m c t) (ix2 r j) = rowOf (arr m c).gp (base t + r.val) (col 1 j) :=
  (pay25_at r j _).trans ((ld_lanes (iblk m c 2 t) 1 1408 rfl _ r j).trans (b2_at m c t r _))

end At

theorem col_lt (j : Fin 1408) : (col 0 j).val < 1408 := by show 1408 * 0 + j.val < 1408; omega
theorem col_ge (j : Fin 1408) : 0 + 1408 ≤ (col 1 j).val := by show 0 + 1408 ≤ 1408 * 1 + j.val; omega
theorem col0 (j : Fin 1408) : (col 0 j).val = 0 + j.val := by show 1408 * 0 + j.val = 0 + j.val; omega
theorem col1 (j : Fin 1408) : (col 1 j).val = 1408 + j.val := by show 1408 * 1 + j.val = 1408 + j.val; omega

theorem cols (P : Fin 2816 → Prop) (h0 : ∀ j, P (col 0 j)) (h1 : ∀ j, P (col 1 j)) (l : Fin 2816) : P l := by
  by_cases h : l.val < 1408
  · have e : l = col 0 ⟨l.val, h⟩ := Fin.ext (show l.val = 1408 * 0 + l.val by omega)
    rw [e]; exact h0 _
  · have e : l = col 1 ⟨l.val - 1408, by omega⟩ := Fin.ext (show l.val = 1408 * 1 + (l.val - 1408) by omega)
    rw [e]; exact h1 _

/-! The buffer: the tile's own rows, then eight kept from the tile after it. -/

/-- The buffer's contents where pieces are written over something. -/
abbrev bufv (f : (View.whole cc0_scratch0).ty.Contents (Elt Ideal)) (K : List (View.Piece (Elt Ideal) S520x2816 .f32)) : S520x2816.Idx → Elt Ideal .f32 :=
  (View.whole cc0_scratch0).read (Elt Ideal) ((View.whole cc0_scratch0).writes (Elt Ideal) f K)

def L0 (K : List (View.Piece (Elt Ideal) S520x2816 .f32)) : List (View.Piece (Elt Ideal) S520x2816 .f32) :=
  ⟨Rect.unit ![0, 0] ![512, 1408] inb_S520x2816_S512x1408_0_0, k0_pay14 (F := Ideal) (D0 m c t)⟩ :: K

def L1 (K : List (View.Piece (Elt Ideal) S520x2816 .f32)) : List (View.Piece (Elt Ideal) S520x2816 .f32) :=
  ⟨Rect.unit ![0, 1408] ![512, 1408] inb_S520x2816_S512x1408_0_1408, E1 m c t⟩ :: L0 m c t K

theorem own0 (f : (View.whole cc0_scratch0).ty.Contents (Elt Ideal)) (K : List (View.Piece (Elt Ideal) S520x2816 .f32))
    (i : Fin 520) (j : Fin 1408) (h : i.val < 512) : bufv f (L0 m c t K) (ix2 i (col 0 j)) = dg (arr m c) (base t + i.val) (col 0 j) :=
  (read_hit (n0 := 520) (n1 := 2816) _ f _ _ K i _ ⟨i.val, h⟩ j (Nat.zero_add _).symm (col0 j)).trans
    ((pay14_at _ _ _).trans (D0_at m c t _ _))

theorem own1 (f : (View.whole cc0_scratch0).ty.Contents (Elt Ideal)) (K : List (View.Piece (Elt Ideal) S520x2816 .f32))
    (i : Fin 520) (l : Fin 2816) (h : i.val < 512) : bufv f (L1 m c t K) (ix2 i l) = dg (arr m c) (base t + i.val) l := by
  refine cols (fun l => bufv f (L1 m c t K) (ix2 i l) = dg (arr m c) (base t + i.val) l) (fun j => ?_) (fun j => ?_) l
  · exact (read_miss (n0 := 520) (n1 := 2816) _ f _ _ _ i _ (.inr (.inr (.inl (col_lt j))))).trans (own0 m c t f K i j h)
  · exact (read_hit (n0 := 520) (n1 := 2816) _ f _ _ _ i _ ⟨i.val, h⟩ j (Nat.zero_add _).symm (col1 j)).trans (E1_at m c t _ _)

section Rows

variable (f : (View.whole cc0_scratch0).ty.Contents (Elt Ideal)) (K : List (View.Piece (Elt Ideal) S520x2816 .f32))
  (hK : ∀ (i : Fin 520) (l : Fin 2816), 512 ≤ i.val → bufv f K (ix2 i l) = dg (arr m c) (base t + i.val) l)
include hK

theorem buf0 (i : Fin 520) (j : Fin 1408) : bufv f (L0 m c t K) (ix2 i (col 0 j)) = dg (arr m c) (base t + i.val) (col 0 j) := by
  by_cases h : i.val < 512
  · exact own0 m c t f K i j h
  · exact (read_miss (n0 := 520) (n1 := 2816) _ f _ _ K i _ (.inr (.inl (by omega)))).trans (hK i _ (by omega))

theorem buf1 (i : Fin 520) (l : Fin 2816) : bufv f (L1 m c t K) (ix2 i l) = dg (arr m c) (base t + i.val) l := by
  by_cases h : i.val < 512
  · exact own1 m c t f K i l h
  · refine (read_miss (n0 := 520) (n1 := 2816) _ f _ _ _ i _ (.inr (.inl (by omega)))).trans ?_
    exact (read_miss (n0 := 520) (n1 := 2816) _ f _ _ K i _ (.inr (.inl (by omega)))).trans (hK i _ (by omega))

end Rows

/-- A half of the buffer's columns. -/
theorem half (X : S520x2816.Idx → Elt Ideal .f32) (s : Fin 2) (n : ℕ) (hn : n = 1408 * s.val) (inb) (i : Fin 520) (j : Fin 1408) :
    X ((Rect.unit (s := S520x2816) ![0, n] ![520, 1408] inb).idx (ix2 i j)) = X (ix2 i (col s j)) := by
  subst hn
  exact same_at (n0 := 520) (n1 := 2816) X _ _ (show 0 + 1 * i.val = i.val by omega) (show 1408 * s.val + 1 * j.val = 1408 * s.val + j.val by omega)

theorem canon_bufv (K : List (View.Piece (Elt Ideal) S520x2816 .f32)) (y : S520x2816.Idx) :
    View.canon K y = bufv (View.whole cc0_scratch0).junk K y :=
  (View.read_writes_junk_apply_eq_canon (View.whole cc0_scratch0) y K).symm

/-- What the buffer keeps of a tile: its first eight rows. -/
theorem keep (X : S520x2816.Idx → Elt Ideal .f32)
    (hX : ∀ (i : Fin 520) (l : Fin 2816), i.val < 512 → X (ix2 i l) = dg (arr m c) (base t + i.val) l) (i : Fin 8) (l : Fin 2816) :
    k0_pay3 (F := Ideal) (fun y => X ((Rect.unit (s := S520x2816) ![0, 0] ![8, 2816] inb_S520x2816_S8x2816_0_0).idx y)) (ix2 i l)
    = dg (arr m c) (base t + i.val) l := by
  refine (pay3_at _ i l).trans ?_
  refine (same_at (n0 := 520) (n1 := 2816) X _ (ix2 ⟨i.val, by omega⟩ l)
    (show 0 + 1 * i.val = i.val by omega) (show 0 + 1 * l.val = l.val by omega)).trans ?_
  exact hX _ _ (show i.val < 512 by omega)

abbrev Z8 : List (View.Piece (Elt Ideal) S520x2816 .f32) := [⟨Rect.unit ![512, 0] ![8, 2816] inb_S520x2816_S8x2816_512_0, k0_pay4 (F := Ideal)⟩]

theorem scr_at (i : Fin 520) (l : Fin 2816) (h : 512 ≤ i.val) :
    (outsAt0 m c t.val t.isLt).2.2.2.2 (ix2 i l) = dg (arr m c) (base t + (i.val - 512)) l := by
  by_cases h0 : t.val % 16 = 0
  · rw [outsAt0_A m c t h0]; frame_out
    simp only [View.readCov_eq_canon']
    refine (canon_hit (n0 := 520) (n1 := 2816) _ _ _ i l ⟨i.val - 512, by omega⟩ l (show i.val = 512 + (i.val - 512) by omega) (Nat.zero_add _).symm).trans ?_
    first
      | exact keep m c t (View.canon (L1 m c t Z8)) (fun i l h => (canon_bufv _ _).trans (own1 m c t _ _ i l h)) ⟨i.val - 512, by omega⟩ l
      | exact keep m c t (View.canon (L1 m c t [])) (fun i l h => (canon_bufv _ _).trans (own1 m c t _ _ i l h)) ⟨i.val - 512, by omega⟩ l
  · rw [outsAt0_B m c t h0]; frame_out
    simp only [View.readCov_eq_canon']
    refine (canon_hit (n0 := 520) (n1 := 2816) _ _ _ i l ⟨i.val - 512, by omega⟩ l (show i.val = 512 + (i.val - 512) by omega) (Nat.zero_add _).symm).trans ?_
    exact keep m c t (View.canon (L1 m c t [])) (fun i l h => (canon_bufv _ _).trans (own1 m c t _ _ i l h)) ⟨i.val - 512, by omega⟩ l

end Cert.Kernel7Ideal.Back
-- ==== Proof.Back.Tile.lean ====
module

public import proofs.«01_k».proof.Proof.Back.Point

@[expose] public section

set_option maxRecDepth 16384

noncomputable section

namespace Cert.Kernel7Ideal.Back

open Cert.Kernel7Ideal Cert.Kernel7Ideal.Gen
open Idealize.ShloMosaic Idealize.ShloMosaic.TcCoe
open Cert.Mix (rowOf rowOf_val tiles tiles_all total)
open Cert.Grad Cert.Back

variable (m : (ℓ : Loc nD τ sig) → Buf (Elt Ideal) ℓ) (c : Dev nD) (t : Fin cfg0.N)

/-! The buffer as the tile reads it back, at the first grid point and at the others. -/

abbrev prev (h0 : ¬ t.val % 16 = 0) : (View.whole cc0_scratch0).ty.Contents (Elt Ideal) :=
  (Memref.isWhole_whole cc0_scratch0).unread (outsAt0 m c (t.val - 1) (by have := lt16 t; show _ < 16; omega)).2.2.2.2

def BA0 : FVec Ideal S520x1408 .f32 := fun y => View.canon (L0 m c t Z8) ((Rect.unit (s := S520x2816) ![0, 0] ![520, 1408] inb_S520x2816_S520x1408_0_0).idx y)
def BA1 : FVec Ideal S520x1408 .f32 := fun y => View.canon (L1 m c t Z8) ((Rect.unit (s := S520x2816) ![0, 1408] ![520, 1408] inb_S520x2816_S520x1408_0_1408).idx y)
def BB0 (h0 : ¬ t.val % 16 = 0) : FVec Ideal S520x1408 .f32 :=
  fun y => bufv (prev m c t h0) (L0 m c t []) ((Rect.unit (s := S520x2816) ![0, 0] ![520, 1408] inb_S520x2816_S520x1408_0_0).idx y)
def BB1 (h0 : ¬ t.val % 16 = 0) : FVec Ideal S520x1408 .f32 :=
  fun y => bufv (prev m c t h0) (L1 m c t []) ((Rect.unit (s := S520x2816) ![0, 1408] ![520, 1408] inb_S520x2816_S520x1408_0_1408).idx y)

theorem keptA (h0 : t.val % 16 = 0) (f : (View.whole cc0_scratch0).ty.Contents (Elt Ideal)) (i : Fin 520) (l : Fin 2816) (h : 512 ≤ i.val) :
    bufv f Z8 (ix2 i l) = dg (arr m c) (base t + i.val) l := by
  refine (read_hit (n0 := 520) (n1 := 2816) _ f _ _ [] i l ⟨i.val - 512, by omega⟩ l (show i.val = 512 + (i.val - 512) by omega) (Nat.zero_add _).symm).trans ?_
  refine (pay4_at _ _).trans (dg_ge _ _ _ ?_).symm
  have := lt16 t
  show ¬ 512 * (15 - t.val) + i.val < 8192
  omega

theorem keptB (h0 : ¬ t.val % 16 = 0) (i : Fin 520) (l : Fin 2816) (h : 512 ≤ i.val) :
    bufv (prev m c t h0) [] (ix2 i l) = dg (arr m c) (base t + i.val) l := by
  refine (congrFun (Memref.IsWhole.read_unread (Memref.isWhole_whole cc0_scratch0) _) _).trans ?_
  have := lt16 t
  refine (scr_at m c ⟨t.val - 1, by show _ < 16; omega⟩ i l h).trans (congrArg (fun n => dg (arr m c) n l) ?_)
  show 512 * (15 - (t.val - 1)) + (i.val - 512) = 512 * (15 - t.val) + i.val
  omega

theorem BA0_at (h0 : t.val % 16 = 0) (i : Fin 520) (j : Fin 1408) : BA0 m c t (ix2 i j) = dg (arr m c) (base t + i.val) (col 0 j) :=
  (half (View.canon (L0 m c t Z8)) 0 0 rfl _ i j).trans ((canon_bufv _ _).trans (buf0 m c t _ _ (keptA m c t h0 _) i j))
theorem BA1_at (h0 : t.val % 16 = 0) (i : Fin 520) (j : Fin 1408) : BA1 m c t (ix2 i j) = dg (arr m c) (base t + i.val) (col 1 j) :=
  (half (View.canon (L1 m c t Z8)) 1 1408 rfl _ i j).trans ((canon_bufv _ _).trans (buf1 m c t _ _ (keptA m c t h0 _) i _))
theorem BB0_at (h0 : ¬ t.val % 16 = 0) (i : Fin 520) (j : Fin 1408) : BB0 m c t h0 (ix2 i j) = dg (arr m c) (base t + i.val) (col 0 j) :=
  (half (bufv (prev m c t h0) (L0 m c t [])) 0 0 rfl _ i j).trans (buf0 m c t _ _ (keptB m c t h0) i j)
theorem BB1_at (h0 : ¬ t.val % 16 = 0) (i : Fin 520) (j : Fin 1408) : BB1 m c t h0 (ix2 i j) = dg (arr m c) (base t + i.val) (col 1 j) :=
  (half (bufv (prev m c t h0) (L1 m c t [])) 1 1408 rfl _ i j).trans (buf1 m c t _ _ (keptB m c t h0) i _)

/-! The two tiled results. -/

/-- The gradients of the two projections, each in two slabs of columns. -/
def Lg (B0 B1 : FVec Ideal S520x1408 .f32) : List (View.Piece (Elt Ideal) S512x2816 .bf16) :=
  [⟨Rect.unit ![0, 1408] ![512, 1408] inb_S512x2816_S512x1408_0_1408,
      k0_pay2 (F := Ideal) (F01 m c t) (F11 m c t) (F21 m c t) (D1 m c t) (k0_pay33 (F := Ideal) B1) (k0_pay34 (F := Ideal) B1)⟩,
    ⟨Rect.unit ![0, 0] ![512, 1408] inb_S512x2816_S512x1408_0_0,
      k0_pay23 (F := Ideal) (F00 m c t) (F10 m c t) (F20 m c t) (D0 m c t) (k0_pay15 (F := Ideal) B0) (k0_pay16 (F := Ideal) B0)⟩]
def Lu : List (View.Piece (Elt Ideal) S512x2816 .bf16) :=
  [⟨Rect.unit ![0, 1408] ![512, 1408] inb_S512x2816_S512x1408_0_1408,
      k0_pay28 (F := Ideal) (k0_pay7 (F := Ideal) (iblk m c 0 t)) (G1 m c t) (W1 m c t)⟩,
    ⟨Rect.unit ![0, 0] ![512, 1408] inb_S512x2816_S512x1408_0_0, k0_pay12 (F := Ideal) (iblk m c 0 t) (G0 m c t) (W0 m c t)⟩]

theorem lo (j : Fin 1408) : (⟨j.val, by omega⟩ : Fin 2816) = col 0 j := Fin.ext (show j.val = 1408 * 0 + j.val by omega)
theorem hi (j : Fin 1408) : (⟨1408 + j.val, by omega⟩ : Fin 2816) = col 1 j := Fin.ext (show 1408 + j.val = 1408 * 1 + j.val by omega)

theorem up_at (r : Fin 512) (l : Fin 2816) : View.canon (Lu m c t) (ix2 r l) = dup (arr m c) (base t + r.val) l :=
  canon_two (Val := Elt Ideal) (e := .bf16) (n0 := 512) (n1 := 2816) (a := 1408) (b := 1408) _ _ _ _ rfl
    (fun r l => dup (arr m c) (base t + r.val) l)
    (fun r j => ((pay12_at r j _ _ _).trans (dup_at m c t 0 0 rfl _ _ r j _ rfl)).trans (congrArg (dup (arr m c) _) (lo j).symm))
    (fun r j => ((pay28_at r j _ _ _).trans (dup_at m c t 1 1408 rfl _ _ r j _ rfl)).trans (congrArg (dup (arr m c) _) (hi j).symm)) r l

section Buffer

variable (B0 B1 : FVec Ideal S520x1408 .f32)
  (h0 : ∀ (i : Fin 520) (j : Fin 1408), B0 (ix2 i j) = dg (arr m c) (base t + i.val) (col 0 j))
  (h1 : ∀ (i : Fin 520) (j : Fin 1408), B1 (ix2 i j) = dg (arr m c) (base t + i.val) (col 1 j))

theorem moved (s : Fin 2) (B : FVec Ideal S520x1408 .f32) (hB : ∀ (i : Fin 520) (j : Fin 1408), B (ix2 i j) = dg (arr m c) (base t + i.val) (col s j))
    (r : Fin 512) (j : Fin 1408) (k : ℕ) (hk : k + r.val < 520) : B (ix2 ⟨k + r.val, hk⟩ j) = dg (arr m c) (base t + r.val + k) (col s j) :=
  (hB _ _).trans (congrArg (fun n => dg (arr m c) n (col s j)) (show base t + (k + r.val) = base t + r.val + k by omega))

include h0 h1

theorem gp_at (r : Fin 512) (l : Fin 2816) : View.canon (Lg m c t B0 B1) (ix2 r l) = dgp (arr m c) (base t + r.val) l :=
  canon_two (Val := Elt Ideal) (e := .bf16) (n0 := 512) (n1 := 2816) (a := 1408) (b := 1408) _ _ _ _ rfl
    (fun r l => dgp (arr m c) (base t + r.val) l)
    (fun r j => by
      refine Eq.trans ?_ (congrArg (dgp (arr m c) _) (lo j).symm)
      refine (pay23_at r j _ _ _ _ _ _).trans ?_
      rw [pay15_at, pay16_at, D0_at, moved m c t 0 B0 h0, moved m c t 0 B0 h0, show F00 m c t (ix2 0 j) = _ from ld_tap m c t 0 0 0 0 rfl rfl _ j,
        show F10 m c t (ix2 0 j) = _ from ld_tap m c t 1 0 1 0 rfl rfl _ j, show F20 m c t (ix2 0 j) = _ from ld_tap m c t 2 0 2 0 rfl rfl _ j]
      rfl)
    (fun r j => by
      refine Eq.trans ?_ (congrArg (dgp (arr m c) _) (hi j).symm)
      refine (pay2_at r j _ _ _ _ _ _).trans ?_
      rw [pay33_at, pay34_at, D1_at, moved m c t 1 B1 h1, moved m c t 1 B1 h1, show F01 m c t (ix2 0 j) = _ from ld_tap m c t 0 1 0 1408 rfl rfl _ j,
        show F11 m c t (ix2 0 j) = _ from ld_tap m c t 1 1 1 1408 rfl rfl _ j, show F21 m c t (ix2 0 j) = _ from ld_tap m c t 2 1 2 1408 rfl rfl _ j]
      rfl) r l

/-! The sums over the rows of a tile, added to what the two other results held. -/

theorem s18 (acc : FVec Ideal S1x1408 .f32) (j : Fin 1408) : k0_pay18 (F := Ideal) (k0_pay9 (F := Ideal) (P0 m c t)) B0 acc (ix2 0 j)
    = acc (ix2 0 j) + ∑ r : Fin 512, tw (arr m c) (base t + r.val) (col 0 j) 2 :=
  (pay18_at j _ _ _).trans (congrArg (acc (ix2 0 j) + ·) (Finset.sum_congr rfl fun r _ =>
    congr (congrArg _ ((pay16_at r j _).trans (moved m c t 0 B0 h0 r j 2 _))) (P0_at m c t r j)))
theorem s19 (acc : FVec Ideal S1x1408 .f32) (j : Fin 1408) : k0_pay19 (F := Ideal) (k0_pay9 (F := Ideal) (P0 m c t)) B0 acc (ix2 0 j)
    = acc (ix2 0 j) + ∑ r : Fin 512, tw (arr m c) (base t + r.val) (col 0 j) 1 :=
  (pay19_at j _ _ _).trans (congrArg (acc (ix2 0 j) + ·) (Finset.sum_congr rfl fun r _ =>
    congr (congrArg _ ((pay15_at r j _).trans (moved m c t 0 B0 h0 r j 1 _))) (P0_at m c t r j)))
theorem s22 (acc : FVec Ideal S1x1408 .f32) (j : Fin 1408) :
    k0_pay22 (F := Ideal) (k0_pay20 (F := Ideal) acc) (k0_pay21 (F := Ideal) (k0_pay9 (F := Ideal) (P0 m c t)) (D0 m c t)) (ix2 0 j)
    = acc (ix2 0 j) + ∑ r : Fin 512, tw (arr m c) (base t + r.val) (col 0 j) 0 :=
  (pay22_at j _ _ _).trans (congrArg (acc (ix2 0 j) + ·) (Finset.sum_congr rfl fun r _ =>
    congr (congrArg _ (D0_at m c t r j)) (P0_at m c t r j)))
theorem s36 (acc : FVec Ideal S1x1408 .f32) (j : Fin 1408) : k0_pay36 (F := Ideal) (k0_pay25 (F := Ideal) (P1 m c t)) B1 acc (ix2 0 j)
    = acc (ix2 0 j) + ∑ r : Fin 512, tw (arr m c) (base t + r.val) (col 1 j) 2 :=
  (pay36_at j _ _ _).trans (congrArg (acc (ix2 0 j) + ·) (Finset.sum_congr rfl fun r _ =>
    congr (congrArg _ ((pay34_at r j _).trans (moved m c t 1 B1 h1 r j 2 _))) (P1_at m c t r j)))
theorem s37 (acc : FVec Ideal S1x1408 .f32) (j : Fin 1408) : k0_pay37 (F := Ideal) (k0_pay25 (F := Ideal) (P1 m c t)) B1 acc (ix2 0 j)
    = acc (ix2 0 j) + ∑ r : Fin 512, tw (arr m c) (base t + r.val) (col 1 j) 1 :=
  (pay37_at j _ _ _).trans (congrArg (acc (ix2 0 j) + ·) (Finset.sum_congr rfl fun r _ =>
    congr (congrArg _ ((pay33_at r j _).trans (moved m c t 1 B1 h1 r j 1 _))) (P1_at m c t r j)))
theorem s1 (acc : FVec Ideal S1x1408 .f32) (j : Fin 1408) : k0_pay1 (F := Ideal) (k0_pay25 (F := Ideal) (P1 m c t)) (D1 m c t) acc (ix2 0 j)
    = acc (ix2 0 j) + ∑ r : Fin 512, tw (arr m c) (base t + r.val) (col 1 j) 0 :=
  (pay1_at j _ _ _).trans (congrArg (acc (ix2 0 j) + ·) (Finset.sum_congr rfl fun r _ =>
    congr (congrArg _ (D1_at m c t r j)) (P1_at m c t r j)))

omit h0 h1 in
theorem s17 (acc : FVec Ideal S1x1408 .f32) (j : Fin 1408) : k0_pay17 (F := Ideal) (D0 m c t) acc (ix2 0 j)
    = acc (ix2 0 j) + ∑ r : Fin 512, dg (arr m c) (base t + r.val) (col 0 j) :=
  (pay17_at j _ _).trans (congrArg (acc (ix2 0 j) + ·) (Finset.sum_congr rfl fun r _ => D0_at m c t r j))
omit h0 h1 in
theorem s35 (acc : FVec Ideal S1x1408 .f32) (j : Fin 1408) :
    k0_pay35 (F := Ideal) (k0_pay24 (F := Ideal) (G1 m c t)) (k0_pay26 (F := Ideal) (G1 m c t))
      (k0_pay29 (F := Ideal) (k0_pay7 (F := Ideal) (iblk m c 0 t)) (W1 m c t) (U1 m c t)) (k0_pay30 (F := Ideal) (G1 m c t)) acc (ix2 0 j)
    = acc (ix2 0 j) + ∑ r : Fin 512, dg (arr m c) (base t + r.val) (col 1 j) :=
  (pay35_at j _ _ _ _ _).trans (congrArg (acc (ix2 0 j) + ·) (Finset.sum_congr rfl fun r _ => D1_at m c t r j))

/-- The taps' gradient, written in six rows of half the columns each. -/
def six (a00 a10 a20 a01 a11 a21 : FVec Ideal S1x1408 .f32) (K : List (View.Piece (Elt Ideal) S3x2816 .f32)) : List (View.Piece (Elt Ideal) S3x2816 .f32) :=
  ⟨Rect.unit ![2, 1408] ![1, 1408] inb_S3x2816_S1x1408_2_1408, k0_pay1 (F := Ideal) (k0_pay25 (F := Ideal) (P1 m c t)) (D1 m c t) a21⟩ ::
  ⟨Rect.unit ![1, 1408] ![1, 1408] inb_S3x2816_S1x1408_1_1408, k0_pay37 (F := Ideal) (k0_pay25 (F := Ideal) (P1 m c t)) B1 a11⟩ ::
  ⟨Rect.unit ![0, 1408] ![1, 1408] inb_S3x2816_S1x1408_0_1408, k0_pay36 (F := Ideal) (k0_pay25 (F := Ideal) (P1 m c t)) B1 a01⟩ ::
  ⟨Rect.unit ![2, 0] ![1, 1408] inb_S3x2816_S1x1408_2_0,
    k0_pay22 (F := Ideal) (k0_pay20 (F := Ideal) a20) (k0_pay21 (F := Ideal) (k0_pay9 (F := Ideal) (P0 m c t)) (D0 m c t))⟩ ::
  ⟨Rect.unit ![1, 0] ![1, 1408] inb_S3x2816_S1x1408_1_0, k0_pay19 (F := Ideal) (k0_pay9 (F := Ideal) (P0 m c t)) B0 a10⟩ ::
  ⟨Rect.unit ![0, 0] ![1, 1408] inb_S3x2816_S1x1408_0_0, k0_pay18 (F := Ideal) (k0_pay9 (F := Ideal) (P0 m c t)) B0 a00⟩ :: K

end Buffer

end Cert.Kernel7Ideal.Back
-- ==== Proof.Back.Sums.lean ====
module

public import proofs.«01_k».proof.Proof.Back.Tile

@[expose] public section

set_option maxRecDepth 16384

noncomputable section

namespace Cert.Kernel7Ideal.Back

open Cert.Kernel7Ideal Cert.Kernel7Ideal.Gen
open Idealize.ShloMosaic Idealize.ShloMosaic.TcCoe
open Cert.Mix (rowOf rowOf_val tiles tiles_all total)
open Cert.Grad Cert.Back

variable (m : (ℓ : Loc nD τ sig) → Buf (Elt Ideal) ℓ) (c : Dev nD) (t : Fin cfg0.N)

section Six

variable (B0 B1 : FVec Ideal S520x1408 .f32)
  (h0 : ∀ (i : Fin 520) (j : Fin 1408), B0 (ix2 i j) = dg (arr m c) (base t + i.val) (col 0 j))
  (h1 : ∀ (i : Fin 520) (j : Fin 1408), B1 (ix2 i j) = dg (arr m c) (base t + i.val) (col 1 j))
  (a00 a10 a20 a01 a11 a21 : FVec Ideal S1x1408 .f32) (K : List (View.Piece (Elt Ideal) S3x2816 .f32)) (Z : Fin 3 → Fin 2816 → EReal)
include h0 h1

theorem six_at (z00 : ∀ j, a00 (ix2 0 j) = Z 0 (col 0 j)) (z10 : ∀ j, a10 (ix2 0 j) = Z 1 (col 0 j)) (z20 : ∀ j, a20 (ix2 0 j) = Z 2 (col 0 j))
    (z01 : ∀ j, a01 (ix2 0 j) = Z 0 (col 1 j)) (z11 : ∀ j, a11 (ix2 0 j) = Z 1 (col 1 j)) (z21 : ∀ j, a21 (ix2 0 j) = Z 2 (col 1 j))
    (i : Fin 3) (l : Fin 2816) : View.canon (six m c t B0 B1 a00 a10 a20 a01 a11 a21 K) (ix2 i l)
    = Z i l + ∑ r : Fin 512, tw (arr m c) (base t + r.val) l (2 - i.val) := by
  unfold six
  revert l
  refine cols _ (fun j => ?_) (fun j => ?_) <;> beta_reduce
  · have hl := col_lt j
    iterate 3 refine (canon_miss (Val := Elt Ideal) (e := .f32) (n0 := 3) (n1 := 2816) _ _ _ i _ (.inr (.inr (.inl hl)))).trans ?_
    match i with
    | 0 =>
      refine (canon_miss (Val := Elt Ideal) (e := .f32) (n0 := 3) (n1 := 2816) _ _ _ 0 _ (.inl (by decide))).trans ?_
      refine (canon_miss (Val := Elt Ideal) (e := .f32) (n0 := 3) (n1 := 2816) _ _ _ 0 _ (.inl (by decide))).trans ?_
      exact (canon_hit (Val := Elt Ideal) (e := .f32) (n0 := 3) (n1 := 2816) _ _ _ 0 _ 0 j rfl (col0 j)).trans ((s18 m c t B0 B1 h0 h1 _ j).trans (congrArg (· + _) (z00 j)))
    | 1 =>
      refine (canon_miss (Val := Elt Ideal) (e := .f32) (n0 := 3) (n1 := 2816) _ _ _ 1 _ (.inl (by decide))).trans ?_
      exact (canon_hit (Val := Elt Ideal) (e := .f32) (n0 := 3) (n1 := 2816) _ _ _ 1 _ 0 j rfl (col0 j)).trans ((s19 m c t B0 B1 h0 h1 _ j).trans (congrArg (· + _) (z10 j)))
    | 2 =>
      exact (canon_hit (Val := Elt Ideal) (e := .f32) (n0 := 3) (n1 := 2816) _ _ _ 2 _ 0 j rfl (col0 j)).trans ((s22 m c t B0 B1 h0 h1 _ j).trans (congrArg (· + _) (z20 j)))
  · match i with
    | 0 =>
      refine (canon_miss (Val := Elt Ideal) (e := .f32) (n0 := 3) (n1 := 2816) _ _ _ 0 _ (.inl (by decide))).trans ?_
      refine (canon_miss (Val := Elt Ideal) (e := .f32) (n0 := 3) (n1 := 2816) _ _ _ 0 _ (.inl (by decide))).trans ?_
      exact (canon_hit (Val := Elt Ideal) (e := .f32) (n0 := 3) (n1 := 2816) _ _ _ 0 _ 0 j rfl (col1 j)).trans ((s36 m c t B0 B1 h0 h1 _ j).trans (congrArg (· + _) (z01 j)))
    | 1 =>
      refine (canon_miss (Val := Elt Ideal) (e := .f32) (n0 := 3) (n1 := 2816) _ _ _ 1 _ (.inl (by decide))).trans ?_
      exact (canon_hit (Val := Elt Ideal) (e := .f32) (n0 := 3) (n1 := 2816) _ _ _ 1 _ 0 j rfl (col1 j)).trans ((s37 m c t B0 B1 h0 h1 _ j).trans (congrArg (· + _) (z11 j)))
    | 2 =>
      exact (canon_hit (Val := Elt Ideal) (e := .f32) (n0 := 3) (n1 := 2816) _ _ _ 2 _ 0 j rfl (col1 j)).trans ((s1 m c t B0 B1 h0 h1 _ j).trans (congrArg (· + _) (z21 j)))

end Six

/-- The bias's gradient, written in two halves. -/
theorem two_at (a0 a1 : FVec Ideal S1x1408 .f32) (K : List (View.Piece (Elt Ideal) S1x2816 .f32)) (Z : Fin 2816 → EReal)
    (z0 : ∀ j, a0 (ix2 0 j) = Z (col 0 j)) (z1 : ∀ j, a1 (ix2 0 j) = Z (col 1 j)) (l : Fin 2816) :
    View.canon ((⟨Rect.unit ![0, 1408] ![1, 1408] inb_S1x2816_S1x1408_0_1408,
        k0_pay35 (F := Ideal) (k0_pay24 (F := Ideal) (G1 m c t)) (k0_pay26 (F := Ideal) (G1 m c t))
          (k0_pay29 (F := Ideal) (k0_pay7 (F := Ideal) (iblk m c 0 t)) (W1 m c t) (U1 m c t)) (k0_pay30 (F := Ideal) (G1 m c t)) a1⟩
        : View.Piece (Elt Ideal) S1x2816 .f32) ::
      ⟨Rect.unit ![0, 0] ![1, 1408] inb_S1x2816_S1x1408_0_0, k0_pay17 (F := Ideal) (D0 m c t) a0⟩ :: K) (ix2 0 l)
    = Z l + ∑ r : Fin 512, dg (arr m c) (base t + r.val) l := by
  revert l
  refine cols _ (fun j => ?_) (fun j => ?_) <;> beta_reduce
  · refine (canon_miss (Val := Elt Ideal) (e := .f32) (n0 := 1) (n1 := 2816) _ _ _ 0 _ (.inr (.inr (.inl (col_lt j))))).trans ?_
    exact (canon_hit (Val := Elt Ideal) (e := .f32) (n0 := 1) (n1 := 2816) _ _ _ 0 _ 0 j rfl (col0 j)).trans ((s17 m c t _ j).trans (congrArg (· + _) (z0 j)))
  · exact (canon_hit (Val := Elt Ideal) (e := .f32) (n0 := 1) (n1 := 2816) _ _ _ 0 _ 0 j rfl (col1 j)).trans ((s35 m c t _ j).trans (congrArg (· + _) (z1 j)))

/-! What the sums are read from. -/

theorem row3 (X : S3x2816.Idx → Elt Ideal .f32) (i : Fin 3) (s : Fin 2) (q n : ℕ) (hq : q = i.val) (hn : n = 1408 * s.val) (inb) (j : Fin 1408) :
    X ((Rect.unit (s := S3x2816) ![q, n] ![1, 1408] inb).idx (ix2 0 j)) = X (ix2 i (col s j)) := by
  subst hq hn
  exact same_at (n0 := 3) (n1 := 2816) X _ _ (show i.val + 1 * 0 = i.val by omega) (show 1408 * s.val + 1 * j.val = 1408 * s.val + j.val by omega)

theorem row1 (X : S1x2816.Idx → Elt Ideal .f32) (s : Fin 2) (n : ℕ) (hn : n = 1408 * s.val) (inb) (j : Fin 1408) :
    X ((Rect.unit (s := S1x2816) ![0, n] ![1, 1408] inb).idx (ix2 0 j)) = X (ix2 0 (col s j)) := by
  subst hn
  exact same_at (n0 := 1) (n1 := 2816) X _ _ rfl (show 1408 * s.val + 1 * j.val = 1408 * s.val + j.val by omega)

theorem zero3 (i : Fin 3) (l : Fin 2816) :
    View.canon [(⟨Rect.unit ![0, 0] ![3, 2816] inb_S3x2816_S3x2816_0_0, k0_pay5 (F := Ideal)⟩ : View.Piece (Elt Ideal) S3x2816 .f32)] (ix2 i l) = 0 :=
  (canon_hit (Val := Elt Ideal) (e := .f32) (n0 := 3) (n1 := 2816) _ _ _ i l i l (Nat.zero_add _).symm (Nat.zero_add _).symm).trans (pay5_at i l)
theorem zero1 (l : Fin 2816) :
    View.canon [(⟨Rect.unit ![0, 0] ![1, 2816] inb_S1x2816_S1x2816_0_0, k0_pay6 (F := Ideal)⟩ : View.Piece (Elt Ideal) S1x2816 .f32)] (ix2 0 l) = 0 :=
  (canon_hit (Val := Elt Ideal) (e := .f32) (n0 := 1) (n1 := 2816) _ _ _ 0 l 0 l rfl (Nat.zero_add _).symm).trans (pay6_at l)

/-! What the four results hold after a grid point. -/

theorem tiled : ∃ B0 B1 : FVec Ideal S520x1408 .f32, (∀ (i : Fin 520) (j : Fin 1408), B0 (ix2 i j) = dg (arr m c) (base t + i.val) (col 0 j))
    ∧ (∀ (i : Fin 520) (j : Fin 1408), B1 (ix2 i j) = dg (arr m c) (base t + i.val) (col 1 j))
    ∧ (outsAt0 m c t.val t.isLt).1 = View.canon (Lg m c t B0 B1)
    ∧ (outsAt0 m c t.val t.isLt).2.1 = View.canon (Lu m c t) := by
  by_cases h0 : t.val % 16 = 0
  · refine ⟨BA0 m c t, BA1 m c t, BA0_at m c t h0, BA1_at m c t h0, ?_⟩
    rw [outsAt0_A m c t h0]; frame_out
    simp only [View.readCov_eq_canon']
    and_intros <;> first | trivial | rfl
  · refine ⟨BB0 m c t h0, BB1 m c t h0, BB0_at m c t h0, BB1_at m c t h0, ?_⟩
    rw [outsAt0_B m c t h0]; frame_out
    and_intros <;> first | trivial | rfl

theorem taps_A (h0 : t.val % 16 = 0) (i : Fin 3) (l : Fin 2816) : (outsAt0 m c t.val t.isLt).2.2.1 (ix2 i l)
    = 0 + ∑ r : Fin 512, tw (arr m c) (base t + r.val) l (2 - i.val) := by
  rw [outsAt0_A m c t h0]; frame_out
  simp only [View.readCov_eq_canon']
  refine six_at m c t (BA0 m c t) (BA1 m c t) (BA0_at m c t h0) (BA1_at m c t h0) _ _ _ _ _ _ _ (fun _ _ => 0) (fun j => ?_) (fun j => ?_)
    (fun j => ?_) (fun j => ?_) (fun j => ?_) (fun j => ?_) i l
  · exact (row3 (View.canon _) 0 0 0 0 rfl rfl _ j).trans (zero3 _ _)
  · refine (row3 (View.canon _) 1 0 1 0 rfl rfl _ j).trans ?_
    exact (canon_miss (Val := Elt Ideal) (e := .f32) (n0 := 3) (n1 := 2816) _ _ _ _ _ (.inr (.inl (by decide)))).trans (zero3 _ _)
  · refine (row3 (View.canon _) 2 0 2 0 rfl rfl _ j).trans ?_
    iterate 2 refine (canon_miss (Val := Elt Ideal) (e := .f32) (n0 := 3) (n1 := 2816) _ _ _ _ _ (.inr (.inl (by decide)))).trans ?_
    exact zero3 _ _
  · refine (row3 (View.canon _) 0 1 0 1408 rfl rfl _ j).trans ?_
    iterate 3 refine (canon_miss (Val := Elt Ideal) (e := .f32) (n0 := 3) (n1 := 2816) _ _ _ _ _ (.inr (.inr (.inr (col_ge j))))).trans ?_
    exact zero3 _ _
  · refine (row3 (View.canon _) 1 1 1 1408 rfl rfl _ j).trans ?_
    refine (canon_miss (Val := Elt Ideal) (e := .f32) (n0 := 3) (n1 := 2816) _ _ _ _ _ (.inr (.inl (by decide)))).trans ?_
    iterate 3 refine (canon_miss (Val := Elt Ideal) (e := .f32) (n0 := 3) (n1 := 2816) _ _ _ _ _ (.inr (.inr (.inr (col_ge j))))).trans ?_
    exact zero3 _ _
  · refine (row3 (View.canon _) 2 1 2 1408 rfl rfl _ j).trans ?_
    iterate 2 refine (canon_miss (Val := Elt Ideal) (e := .f32) (n0 := 3) (n1 := 2816) _ _ _ _ _ (.inr (.inl (by decide)))).trans ?_
    iterate 3 refine (canon_miss (Val := Elt Ideal) (e := .f32) (n0 := 3) (n1 := 2816) _ _ _ _ _ (.inr (.inr (.inr (col_ge j))))).trans ?_
    exact zero3 _ _

theorem taps_B (h0 : ¬ t.val % 16 = 0) (i : Fin 3) (l : Fin 2816) : (outsAt0 m c t.val t.isLt).2.2.1 (ix2 i l)
    = (outsAt0 m c (t.val - 1) (by have := lt16 t; show _ < 16; omega)).2.2.1 (ix2 i l)
      + ∑ r : Fin 512, tw (arr m c) (base t + r.val) l (2 - i.val) := by
  rw [outsAt0_B m c t h0]; frame_out
  refine six_at m c t (BB0 m c t h0) (BB1 m c t h0) (BB0_at m c t h0) (BB1_at m c t h0) _ _ _ _ _ _ []
    (fun i l => (outsAt0 m c (t.val - 1) (by have := lt16 t; show _ < 16; omega)).2.2.1 (ix2 i l)) (fun j => ?_) (fun j => ?_)
    (fun j => ?_) (fun j => ?_) (fun j => ?_) (fun j => ?_) i l
  · exact row3 (outsAt0 m c (t.val - 1) _).2.2.1 0 0 0 0 rfl rfl _ j
  · exact row3 (outsAt0 m c (t.val - 1) _).2.2.1 1 0 1 0 rfl rfl _ j
  · exact row3 (outsAt0 m c (t.val - 1) _).2.2.1 2 0 2 0 rfl rfl _ j
  · exact row3 (outsAt0 m c (t.val - 1) _).2.2.1 0 1 0 1408 rfl rfl _ j
  · exact row3 (outsAt0 m c (t.val - 1) _).2.2.1 1 1 1 1408 rfl rfl _ j
  · exact row3 (outsAt0 m c (t.val - 1) _).2.2.1 2 1 2 1408 rfl rfl _ j

theorem bias_A (h0 : t.val % 16 = 0) (l : Fin 2816) : (outsAt0 m c t.val t.isLt).2.2.2.1 (ix2 0 l)
    = 0 + ∑ r : Fin 512, dg (arr m c) (base t + r.val) l := by
  rw [outsAt0_A m c t h0]; frame_out
  simp only [View.readCov_eq_canon']
  refine two_at m c t _ _ _ (fun _ => 0) (fun j => ?_) (fun j => ?_) l
  · exact (row1 (View.canon _) 0 0 rfl _ j).trans (zero1 _)
  · refine (row1 (View.canon _) 1 1408 rfl _ j).trans ?_
    exact (canon_miss (Val := Elt Ideal) (e := .f32) (n0 := 1) (n1 := 2816) _ _ _ _ _ (.inr (.inr (.inr (col_ge j))))).trans (zero1 _)

theorem bias_B (h0 : ¬ t.val % 16 = 0) (l : Fin 2816) : (outsAt0 m c t.val t.isLt).2.2.2.1 (ix2 0 l)
    = (outsAt0 m c (t.val - 1) (by have := lt16 t; show _ < 16; omega)).2.2.2.1 (ix2 0 l) + ∑ r : Fin 512, dg (arr m c) (base t + r.val) l := by
  rw [outsAt0_B m c t h0]; frame_out
  refine two_at m c t _ _ [] (fun l => (outsAt0 m c (t.val - 1) (by have := lt16 t; show _ < 16; omega)).2.2.2.1 (ix2 0 l)) (fun j => ?_) (fun j => ?_) l
  · exact row1 (outsAt0 m c (t.val - 1) _).2.2.2.1 0 0 rfl _ j
  · exact row1 (outsAt0 m c (t.val - 1) _).2.2.2.1 1 1408 rfl _ j

/-- The sums over the tiles so far. -/
theorem taps_point (i : Fin 3) (l : Fin 2816) : (outsAt0 m c t.val t.isLt).2.2.1 (ix2 i l) = tiles (fun g => tw (arr m c) g l (2 - i.val)) (t.val + 1) := by
  have := Pipeline.eq_sum_of_reset_step_apply_single (fun n h (k : Fin 3 × Fin 2816) => (outsAt0 m c n h).2.2.1 (ix2 k.1 k.2)) 16 (fun _ => 0)
    (fun s k => ∑ r : Fin 512, tw (arr m c) (512 * (15 - s) + r.val) k.2 (2 - k.1.val))
    (fun t h k => taps_A m c t h k.1 k.2) (fun t h k => taps_B m c t h k.1 k.2) (by decide) t (i, l)
  refine (this.trans (zero_add _)).trans (Finset.sum_congr rfl fun s _ => ?_)
  exact (Finset.sum_range (fun r => tw (arr m c) (512 * (15 - s) + r) l (2 - i.val))).symm

theorem bias_point (l : Fin 2816) : (outsAt0 m c t.val t.isLt).2.2.2.1 (ix2 0 l) = tiles (fun g => dg (arr m c) g l) (t.val + 1) := by
  have := Pipeline.eq_sum_of_reset_step_apply_single (fun n h (k : Fin 2816) => (outsAt0 m c n h).2.2.2.1 (ix2 0 k)) 16 (fun _ => 0)
    (fun s k => ∑ r : Fin 512, dg (arr m c) (512 * (15 - s) + r.val) k)
    (fun t h k => bias_A m c t h k) (fun t h k => bias_B m c t h k) (by decide) t l
  refine (this.trans (zero_add _)).trans (Finset.sum_congr rfl fun s _ => ?_)
  exact (Finset.sum_range (fun r => dg (arr m c) (512 * (15 - s) + r) l)).symm

end Cert.Kernel7Ideal.Back
-- ==== Proof.Back.Pre.lean ====
module

public import proofs.«01_k».proof.Proof.Back.Spec
public import proofs.«01_k».proof.Pre_real_entries
public import Idealize.ShloMosaic.Lib.Pointwise

@[expose] public section

noncomputable section

namespace Cert.Back

open Idealize.ShloMosaic Idealize.ShloMosaic.TcCoe

/-! The precondition: the entries of three arrays are real. -/

theorem preFacts : Cert.Pre_real_entries.Facts where
  bcast_S_S8192x2816 := by decide
  bcast_S_S2816x1024 := by decide
  bcast_S_S8192x1024 := by decide

/-- An extended real less itself is zero only where it is a real. -/
theorem real_of (x : EReal) (h : Ideal.cmp .oeq (x - x) (Ideal.ofBits .f32 0x00000000#32) = 1#1) : IsReal x := by
  have e : x - x = 0 := by
    by_contra hne
    rw [show Ideal.ofBits .f32 0x00000000#32 = 0 by simp [Ideal.ofBits, Ideal.ieee]] at h
    simp [Ideal.cmp, hne] at h
  induction x with
  | bot => exact absurd e (by simp)
  | top => exact absurd e (by simp)
  | coe r => exact ⟨r, rfl⟩

theorem fin3 (gp up : FVec Ideal Pre_real_entries.S8192x2816 .f32) (w : FVec Ideal Pre_real_entries.S3x2816 .f32)
    (b : FVec Ideal Pre_real_entries.S1x2816 .f32) (wd : FVec Ideal Pre_real_entries.S2816x1024 .f32)
    (dx : FVec Ideal Pre_real_entries.S8192x1024 .f32)
    (h0 : (@Pre_real_entries.fn preFacts Ideal _ gp up w b wd dx).1 = fun _ => 1#1)
    (h1 : (@Pre_real_entries.fn preFacts Ideal _ gp up w b wd dx).2.1 = fun _ => 1#1)
    (h2 : (@Pre_real_entries.fn preFacts Ideal _ gp up w b wd dx).2.2 = fun _ => 1#1) : Fin3 ⟨gp, up, w, b, wd, dx⟩ where
  up g j := real_of _ (congrFun h0 (ix2 g j))
  wd j k := real_of _ (congrFun h1 (ix2 j k))
  dx g k := real_of _ (congrFun h2 (ix2 g k))

end Cert.Back
-- ==== Proof.Back.Value.lean ====
module

public import proofs.«01_k».proof.Proof.Back.Sums
public import proofs.«01_k».proof.Proof.Back.Pre
public import proofs.«01_k».proof.Defs
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import Idealize.ShloMosaic.Lib.Pipeline.ValueKit.Geometry

@[expose] public section

set_option maxRecDepth 16384

noncomputable section

namespace Cert.Kernel7Ideal.Back

open Cert.Kernel7Ideal Cert.Kernel7Ideal.Gen
open Idealize.ShloMosaic Idealize.ShloMosaic.TcCoe Idealize.SL.Sem
open Cert.Grad Cert.Back

section Arrays

variable (m : (ℓ : Loc nD τ sig) → Buf (Elt Ideal) ℓ) (c : Dev nD)

/-- An array whose entries a tile's contents match row by row. -/
theorem of_rows {n : ℕ} (G : (⟨2, ![8192, n]⟩ : Shape).Idx → EReal) (t : Fin cfg0.N) (X : (⟨2, ![512, n]⟩ : Shape).Idx → EReal)
    (e : ∀ r k, X (ix2 r k) = G (ix2 ⟨base t + r.val, row_lt t r⟩ k)) (y : (⟨2, ![512, n]⟩ : Shape).Idx)
    (z : (⟨2, ![8192, n]⟩ : Shape).Idx) (h0 : (z 0).val = base t + (y 0).val) (h1 : (z 1).val = (y 1).val) : X y = G z :=
  ((congrArg X (eq_ix2 y)).trans (e (y 0) (y 1))).trans (same_at G _ _ h0.symm h1.symm)

theorem gp_out : (dats m 0 c).arrAt 6 cfg0.N = oGp (arr m c) := by
  refine (dats m 0 c).arrAt_eq_of_covers 6 (oGp (arr m c)) (by decide +kernel) fun t hf y => ?_
  rw [after0_6]
  obtain ⟨B0, B1, h0, h1, e, -⟩ := tiled m c t
  refine of_rows (oGp (arr m c)) t _ (fun r k => (congrFun e _).trans (gp_at m c t B0 B1 h0 h1 r k)) y _ ?_ ?_ <;>
    blk_simp [(by decide +kernel : ∀ t : Fin cfg0.N, win0_6.index t = ![15 - t.val, 0])]
  show _ = 512 * (15 - t.val) + _
  omega

theorem up_out : (dats m 0 c).arrAt 7 cfg0.N = oUp (arr m c) := by
  refine (dats m 0 c).arrAt_eq_of_covers 7 (oUp (arr m c)) (by decide +kernel) fun t hf y => ?_
  rw [after0_7]
  obtain ⟨B0, B1, h0, h1, -, e⟩ := tiled m c t
  refine of_rows (oUp (arr m c)) t _ (fun r k => (congrFun e _).trans (up_at m c t r k)) y _ ?_ ?_ <;>
    blk_simp [(by decide +kernel : ∀ t : Fin cfg0.N, win0_7.index t = ![15 - t.val, 0])]
  show _ = 512 * (15 - t.val) + _
  omega

theorem taps_out : (dats m 0 c).arrAt 8 cfg0.N = oW (arr m c) := by
  refine (dats m 0 c).arrAt_eq_of_after_last 8 (⟨15, by decide⟩ : Fin cfg0.N) (by decide +kernel) (oW (arr m c))
    fun (j : (⟨2, ![3, 2816]⟩ : Shape).Idx) => ?_
  rw [after0_8]
  have e := taps_point m c ⟨15, by decide⟩ (j 0) (j 1)
  rw [← eq_ix2 (n0 := 3) (n1 := 2816) j] at e
  exact e.trans (Cert.Mix.tiles_all _)

theorem bias_out : (dats m 0 c).arrAt 9 cfg0.N = oB (arr m c) := by
  refine (dats m 0 c).arrAt_eq_of_after_last 9 (⟨15, by decide⟩ : Fin cfg0.N) (by decide +kernel) (oB (arr m c))
    fun (j : (⟨2, ![1, 2816]⟩ : Shape).Idx) => ?_
  rw [after0_9]
  have e := bias_point m c ⟨15, by decide⟩ (j 1)
  rw [show (0 : Fin 1) = j 0 from Subsingleton.elim _ _, ← eq_ix2 (n0 := 1) (n1 := 2816) j] at e
  exact e.trans (Cert.Mix.tiles_all _)

end Arrays

/-- The arguments the reference is launched with. -/
def argsOf (m' : (ℓ : Loc Cert.Reference7Ideal.nD Cert.Reference7Ideal.τ Cert.Reference7Ideal.sig) → Buf (Elt Ideal) ℓ) (c : Dev Cert.Reference7Ideal.nD) :
    Cert.Reference7Ideal.Back.Args :=
  ⟨m' ((c.tc : Thread Cert.Reference7Ideal.nD Cert.Reference7Ideal.τ).loc Cert.Reference7Ideal.main_arg0), m' ((c.tc : Thread Cert.Reference7Ideal.nD Cert.Reference7Ideal.τ).loc Cert.Reference7Ideal.main_arg1), m' ((c.tc : Thread Cert.Reference7Ideal.nD Cert.Reference7Ideal.τ).loc Cert.Reference7Ideal.main_arg2), m' ((c.tc : Thread Cert.Reference7Ideal.nD Cert.Reference7Ideal.τ).loc Cert.Reference7Ideal.main_arg3), m' ((c.tc : Thread Cert.Reference7Ideal.nD Cert.Reference7Ideal.τ).loc Cert.Reference7Ideal.main_arg4), m' ((c.tc : Thread Cert.Reference7Ideal.nD Cert.Reference7Ideal.τ).loc Cert.Reference7Ideal.main_arg5)⟩

open Cert.Reference7Ideal.Back Cert.Reference7Ideal.Read in
theorem algebraic : Cert.algebraic_Kernel7Ideal_Reference7Ideal_pre_real_entries (hKernel7Ideal := Cert.Kernel7Ideal.Gen.facts)
    (hReference7Ideal := Cert.Reference7Ideal.Gen.facts) (hPre_real_entries := Cert.Back.preFacts) := by
  intro m g m' g' hp hm
  have hA : ∀ c : Dev Cert.Reference7Ideal.nD, argsOf m' c = args m c := fun c => by
    obtain ⟨h0, h1, h2, h3, h4, h5⟩ := hm c
    unfold argsOf args
    rw [h0, h1, h2, h3, h4, h5]
  refine ⟨fun c => oGp (arr m c), fun c => oUp (arr m c), fun c => oW (arr m c), fun c => oB (arr m c), ?_, ?_⟩
  · refine (θ_run _ _ _).mono (fun r h c => ?_) (Cert.Kernel7Ideal.Value.run_blocks (F := Ideal) m g)
    obtain ⟨o0, o1, o2, o3, hr⟩ := h c
    exact ⟨o0.trans (gp_out m c), o1.trans (up_out m c), o2.trans (taps_out m c), o3.trans (bias_out m c), hr⟩
  · refine (θ_run _ _ _).mono (fun r h c => ?_) (Cert.Reference7Ideal.Value.run (F := Ideal) m' g')
    obtain ⟨o0, o1, o2, o3, hr⟩ := h c
    have eA : A (argsOf m' c) = arr m c := congrArg A (hA c)
    have hf : Fin3 (A (argsOf m' c)) := by
      rw [eA]
      obtain ⟨p0, p1, p2⟩ := hp c
      exact fin3 _ _ _ _ _ _ p0 p1 p2
    refine ⟨o0.trans ?_, o1.trans ?_, o2.trans ?_, o3.trans ?_, hr⟩
    · exact (val_main_v67_eq _ _).trans ((oGp_eq (argsOf m' c) hf).trans (congrArg oGp eA))
    · exact (val_main_v68_eq _ _).trans ((oUp_eq (argsOf m' c)).trans (congrArg oUp eA))
    · exact (val_main_v62_eq _ _).trans ((oTap_eq (argsOf m' c) hf).trans (congrArg oW eA))
    · exact (val_main_v33_eq _ _).trans ((oB_eq (argsOf m' c) hf).trans (congrArg oB eA))

theorem frame_ideal : Cert.quiescent_Kernel7Ideal (hKernel7Ideal := Cert.Kernel7Ideal.Gen.facts) := fun m ρ _ =>
  Cert.Kernel7Ideal.Gen.frame m ρ

/-- The same under the precondition, which the frame does not need. -/
theorem frame_ideal_pre : Cert.quiescent_Kernel7Ideal_pre_real_entries (hKernel7Ideal := Cert.Kernel7Ideal.Gen.facts)
    (hPre_real_entries := Cert.Back.preFacts) := fun m ρ _ => Cert.Kernel7Ideal.Gen.frame m ρ

set_option maxHeartbeats 4000000 in
/-- The kernel over bits: its text is the ideal kernel's, whose run holds over any float values. -/
theorem frame_kernel : Cert.quiescent_Kernel7 (hKernel7 := Cert.Kernel7.Gen.facts) := fun m ρ _ => by
  have bodies : @Cert.Kernel7.defs₀ Bits _ Cert.Kernel7.Gen.facts = @Cert.Kernel7Ideal.defs₀ Bits _ Cert.Kernel7Ideal.Gen.facts := by
    unfold Cert.Kernel7.defs₀ Cert.Kernel7Ideal.defs₀
    refine congrArg Defs.onTc ?_
    funext l
    match l with
    | 0 => funext a; rfl
  have e : @Cert.Kernel7.defs Bits _ Cert.Kernel7.Gen.facts = @Cert.Kernel7Ideal.defs Bits _ Cert.Kernel7Ideal.Gen.facts :=
    congrArg (Pipeline.defs (@Cert.Kernel7Ideal.pcfgs Bits Cert.Kernel7Ideal.Gen.facts)) bodies
  rw [e]
  exact (θ_run Cert.Kernel7Ideal.defs _ _).mono (fun _ h => h) (Cert.Kernel7Ideal.Gen.frame (F := Bits) m ρ)

theorem frame_reference : Cert.quiescent_Reference7Ideal (hReference7Ideal := Cert.Reference7Ideal.Gen.facts) := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

theorem frame_reference_pre : Cert.quiescent_Reference7Ideal_pre_real_entries (hReference7Ideal := Cert.Reference7Ideal.Gen.facts)
    (hPre_real_entries := Cert.Back.preFacts) := fun m ρ _ => frame_reference m ρ trivial

end Cert.Kernel7Ideal.Back
-- ==== Proof.Fwd.Spec.lean ====
module

public import proofs.«01_k».proof.Proof.Mix.Arrays

@[expose] public section

noncomputable section

namespace Cert.Fwd

open Idealize.ShloMosaic
open Cert.Mix (rowOf rt)

/-! The feed-forward's first half going forward, by rows: the mixer's two halves joined and projected
    back, the norm, the two projections up, the gate's causal convolution and its activation. -/

/-- What it reads: the layer's input, the convolution's half of the mixer, the attention's half before
    its norm, three weights, two gains, and the convolution's taps and bias. -/
structure Arr where
  x : (⟨2, ![8192, 1024]⟩ : Shape).Idx → EReal
  yc : (⟨2, ![8192, 512]⟩ : Shape).Idx → EReal
  ya : (⟨2, ![8192, 512]⟩ : Shape).Idx → EReal
  wo : (⟨2, ![1024, 1024]⟩ : Shape).Idx → EReal
  wg : (⟨2, ![1024, 2816]⟩ : Shape).Idx → EReal
  wu : (⟨2, ![1024, 2816]⟩ : Shape).Idx → EReal
  ga : (⟨2, ![1, 512]⟩ : Shape).Idx → EReal
  gf : (⟨2, ![1, 1024]⟩ : Shape).Idx → EReal
  w : (⟨2, ![3, 2816]⟩ : Shape).Idx → EReal
  b : (⟨2, ![1, 2816]⟩ : Shape).Idx → EReal

variable (a : Arr) (g : ℕ)

def yn (l : Fin 512) : EReal := rowOf a.ya g l * rt 512 (rowOf a.ya g) * a.ga (ix2 0 l)
/-- The two halves side by side, and the layer's middle value. -/
def yy (k : Fin 1024) : EReal := if h : k.val < 512 then rowOf a.yc g ⟨k.val, h⟩ else yn a g ⟨k.val - 512, by omega⟩
def x1 (k : Fin 1024) : EReal := rowOf a.x g k + ∑ l, yy a g l * a.wo (ix2 l k)
def h (k : Fin 1024) : EReal := x1 a g k * rt 1024 (x1 a g) * a.gf (ix2 0 k)
def gp (j : Fin 2816) : EReal := ∑ l, h a g l * a.wg (ix2 l j)
def up (j : Fin 2816) : EReal := ∑ l, h a g l * a.wu (ix2 l j)
/-- The gate moved down by `s` rows, zero above. -/
def sh (s : ℕ) (j : Fin 2816) : EReal := if s ≤ g then gp a (g - s) j else 0
def gate (j : Fin 2816) : EReal :=
  a.w (ix2 0 j) * sh a g 2 j + a.w (ix2 1 j) * sh a g 1 j + a.w (ix2 2 j) * gp a g j + a.b (ix2 0 j)
def act (j : Fin 2816) : EReal := gate a g j * Ideal.logistic (gate a g j) * up a g j

def oX1 : (⟨2, ![8192, 1024]⟩ : Shape).Idx → EReal := fun i => x1 a (i 0).val (i 1)
def oGp : (⟨2, ![8192, 2816]⟩ : Shape).Idx → EReal := fun i => gp a (i 0).val (i 1)
def oUp : (⟨2, ![8192, 2816]⟩ : Shape).Idx → EReal := fun i => up a (i 0).val (i 1)
def oGate : (⟨2, ![8192, 2816]⟩ : Shape).Idx → EReal := fun i => gate a (i 0).val (i 1)
def oAct : (⟨2, ![8192, 2816]⟩ : Shape).Idx → EReal := fun i => act a (i 0).val (i 1)
def oY : (⟨2, ![8192, 1024]⟩ : Shape).Idx → EReal := fun i => yy a (i 0).val (i 1)
def oH : (⟨2, ![8192, 1024]⟩ : Shape).Idx → EReal := fun i => h a (i 0).val (i 1)

end Cert.Fwd
-- ==== Proof.Fwd.Ref.lean ====
module

public import proofs.«01_k».proof.Proof.Grad.Basic
public import proofs.«01_k».proof.Proof.Fwd.Spec
public import proofs.«01_k».proof.Proof.Gen.Reference8Ideal.Read

@[expose] public section

set_option maxRecDepth 16384

noncomputable section

namespace Cert.Reference8Ideal.Fwd

open Cert.Reference8Ideal Cert.Reference8Ideal.Read
open Idealize.ShloMosaic Idealize.ShloMosaic.TcCoe
open Cert.Mix (rowOf rowOf_val ms rt ext2)
open Cert.Grad Cert.Fwd

/-- The reference's arguments. -/
structure Args where
  x0 : (⟨S8192x1024, .f32⟩ : BufTy).Contents (Elt Ideal)
  x1 : (⟨S8192x512, .bf16⟩ : BufTy).Contents (Elt Ideal)
  x2 : (⟨S8192x512, .f32⟩ : BufTy).Contents (Elt Ideal)
  x3 : (⟨S1024x1024, .f32⟩ : BufTy).Contents (Elt Ideal)
  x4 : (⟨S1024x2816, .f32⟩ : BufTy).Contents (Elt Ideal)
  x5 : (⟨S1024x2816, .f32⟩ : BufTy).Contents (Elt Ideal)
  x6 : (⟨S1x512, .f32⟩ : BufTy).Contents (Elt Ideal)
  x7 : (⟨S1x1024, .f32⟩ : BufTy).Contents (Elt Ideal)
  x8 : (⟨S3x2816, .f32⟩ : BufTy).Contents (Elt Ideal)
  x9 : (⟨S1x2816, .f32⟩ : BufTy).Contents (Elt Ideal)

variable (a : Args) (g : Fin 8192)

def A : Arr := ⟨a.x0, a.x1, a.x2, a.x3, a.x4, a.x5, a.x6, a.x7, a.x8, a.x9⟩

theorem row_x {n : ℕ} (X : (⟨2, ![8192, n]⟩ : Shape).Idx → EReal) (k : Fin n) : X (ix2 g k) = rowOf X g k := (rowOf_val X g k).symm

theorem v12_at (l : Fin 512) : val_main_v12 (F := Ideal) a.x2 a.x6 (ix2 g l) = yn (A a) g l := by
  pointwise [val_main_v12, val_main_v11, val_main_v10, val_main_v9, val_main_v8, val_main_v7, val_main_v6, val_main_v5, val_main_v4,
    val_main_v3, val_main_v2, val_main_v1, val_main_cst, val_main_cst_0, val_main_cst_1]
  simp only [lit512, row_x g a.x2]
  rfl

theorem v13_at (k : Fin 1024) : val_main_v13 (F := Ideal) a.x1 a.x2 a.x6 (ix2 g k) = yy (A a) g k := by
  pointwise [val_main_v13, val_main_v0]
  unfold yy
  split_ifs <;> first | exact row_x g a.x1 _ | exact v12_at a g _

theorem v15_at (k : Fin 1024) : val_main_v15 (F := Ideal) a.x0 a.x1 a.x2 a.x3 a.x6 (ix2 g k) = x1 (A a) g k := by
  pointwise [val_main_v15, val_main_v14]
  simp only [v13_at, row_x g a.x0]
  rfl

theorem v22_at : val_main_v22 (F := Ideal) a.x0 a.x1 a.x2 a.x3 a.x6 (ix2 g 0) = ms 1024 (x1 (A a) g) := by
  pointwise [val_main_v22, val_main_v21, val_main_v20, val_main_v19, val_main_v18, val_main_v17, val_main_v16, val_main_cst_2,
    val_main_cst_3, val_main_cst_4]
  simp only [lit1024, v15_at]
  rfl

theorem v27_at (k : Fin 1024) : val_main_v27 (F := Ideal) a.x0 a.x1 a.x2 a.x3 a.x6 a.x7 (ix2 g k) = h (A a) g k := by
  pointwise [val_main_v27, val_main_v26, val_main_v25, val_main_v24, val_main_v23]
  rw [v22_at, v15_at]
  rfl

theorem v28_at (j : Fin 2816) : val_main_v28 (F := Ideal) a.x0 a.x1 a.x2 a.x3 a.x4 a.x6 a.x7 (ix2 g j) = gp (A a) g j := by
  pointwise [val_main_v28]
  simp only [v27_at]
  rfl

theorem v29_at (j : Fin 2816) : val_main_v29 (F := Ideal) a.x0 a.x1 a.x2 a.x3 a.x5 a.x6 a.x7 (ix2 g j) = up (A a) g j := by
  pointwise [val_main_v29]
  simp only [v27_at]
  rfl

/-- The padded gate at row `i`, two rows of zeros in front. -/
theorem v31_at (i : Fin 8194) (j : Fin 2816) : val_main_v31 (F := Ideal) a.x0 a.x1 a.x2 a.x3 a.x4 a.x6 a.x7 (ix2 i j)
    = if 2 ≤ i.val then gp (A a) (i.val - 2) j else 0 := by
  pointwise [val_main_v31, val_main_v30, val_main_cst_5]
  by_cases h : i.val < 2
  · refine Eq.trans ?_ (if_neg (by omega)).symm
    rw [dif_pos h]
  · refine Eq.trans ?_ (if_pos (by omega)).symm
    rw [dif_neg h]
    exact v28_at a ⟨i.val - 2, by omega⟩ j

theorem v53_at (j : Fin 2816) : val_main_v53 (F := Ideal) a.x0 a.x1 a.x2 a.x3 a.x4 a.x6 a.x7 a.x8 a.x9 (ix2 g j) = gate (A a) g j := by
  pointwise [val_main_v53, val_main_v52, val_main_v51, val_main_v50, val_main_v49, val_main_v48, val_main_v47, val_main_v46,
    val_main_v45, val_main_v44, val_main_v43, val_main_v42, val_main_v41, val_main_v40, val_main_v39, val_main_v38, val_main_v37,
    val_main_v36, val_main_v35, val_main_v34, val_main_v33, val_main_v32]
  simp only [v31_at]
  unfold gate sh
  rw [if_pos (show 2 ≤ 2 + g.val by omega), Nat.add_sub_cancel_left, show 1 + g.val - 2 = g.val - 1 by omega,
    mul_comm _ (a.x8 _), mul_comm _ (a.x8 _), mul_comm _ (a.x8 _)]
  by_cases e : 1 ≤ g.val
  · rw [if_pos (show 2 ≤ 1 + g.val by omega), if_pos e]
    rfl
  · rw [if_neg (show ¬2 ≤ 1 + g.val by omega), if_neg e]
    rfl

theorem v55_at (j : Fin 2816) : val_main_v55 (F := Ideal) a.x0 a.x1 a.x2 a.x3 a.x4 a.x5 a.x6 a.x7 a.x8 a.x9 (ix2 g j) = act (A a) g j := by
  pointwise [val_main_v55, val_main_v54, val_main_call0_v5, val_main_call0_v4, val_main_call0_v3, val_main_call0_v2, val_main_call0_v1,
    val_main_call0_v0, val_main_call0_cst, val_main_call0_cst_0]
  rw [v53_at, v29_at]
  rfl

theorem x1_eq : val_main_v15 (F := Ideal) a.x0 a.x1 a.x2 a.x3 a.x6 = oX1 (A a) := ext2 fun g k => v15_at a g k
theorem gp_eq : val_main_v56 (F := Ideal) a.x0 a.x1 a.x2 a.x3 a.x4 a.x6 a.x7 = oGp (A a) :=
  ext2 fun g k => by pointwise [val_main_v56]; exact v28_at a g k
theorem up_eq : val_main_v57 (F := Ideal) a.x0 a.x1 a.x2 a.x3 a.x5 a.x6 a.x7 = oUp (A a) :=
  ext2 fun g k => by pointwise [val_main_v57]; exact v29_at a g k
theorem gate_eq : val_main_v58 (F := Ideal) a.x0 a.x1 a.x2 a.x3 a.x4 a.x6 a.x7 a.x8 a.x9 = oGate (A a) :=
  ext2 fun g k => by pointwise [val_main_v58]; exact v53_at a g k
theorem act_eq : val_main_v59 (F := Ideal) a.x0 a.x1 a.x2 a.x3 a.x4 a.x5 a.x6 a.x7 a.x8 a.x9 = oAct (A a) :=
  ext2 fun g k => by pointwise [val_main_v59]; exact v55_at a g k
theorem y_eq : val_main_v60 (F := Ideal) a.x1 a.x2 a.x6 = oY (A a) :=
  ext2 fun g k => by pointwise [val_main_v60]; exact v13_at a g k
theorem h_eq : val_main_v61 (F := Ideal) a.x0 a.x1 a.x2 a.x3 a.x6 a.x7 = oH (A a) :=
  ext2 fun g k => by pointwise [val_main_v61]; exact v27_at a g k

end Cert.Reference8Ideal.Fwd
-- ==== Proof.Fwd.Pays.lean ====
module

public import proofs.«01_k».proof.Proof.Fwd.Ref
public import proofs.«01_k».proof.Proof.Gen.Kernel8Ideal.Value

@[expose] public section

set_option maxRecDepth 16384

noncomputable section

namespace Cert.Kernel8Ideal.Fwd

open Cert.Kernel8Ideal Cert.Kernel8Ideal.Gen
open Idealize.ShloMosaic Idealize.ShloMosaic.TcCoe
open Cert.Mix (rowOf rowOf_val rt)
open Cert.Grad

/-! The payloads of a grid point, read at an index. -/

variable (r : Fin 256)

section Norm

variable (k : Fin 1024) (ya : FVec Ideal S256x512 .f32) (ga : FVec Ideal S1x512 .f32) (yc : FVec Ideal S256x512 .bf16)
  (x x1 : FVec Ideal S256x1024 .f32) (w0 w1 : FVec Ideal S512x1024 .bf16) (gf : FVec Ideal S1x1024 .f32)

theorem pay2_at (l : Fin 512) : k0_pay2 (F := Ideal) ya ga (ix2 r l) = ya (ix2 r l) * rt 512 (fun l => ya (ix2 r l)) * ga (ix2 0 l) := by
  pointwise [k0_pay2]
  rw [lit512]; rfl

theorem pay3_at : k0_pay3 (F := Ideal) ya ga yc x w0 w1 (ix2 r k)
    = x (ix2 r k) + (∑ l, yc (ix2 r l) * w0 (ix2 l k)) + ∑ l, k0_pay2 (F := Ideal) ya ga (ix2 r l) * w1 (ix2 l k) := by
  pointwise [k0_pay3]

theorem pay4_at : k0_pay4 (F := Ideal) x1 gf (ix2 r k) = x1 (ix2 r k) * rt 1024 (fun k => x1 (ix2 r k)) * gf (ix2 0 k) := by
  pointwise [k0_pay4]
  rw [lit1024]; rfl

end Norm

section Slab

variable (j : Fin 1408) (x1 : FVec Ideal S256x1024 .f32) (gf : FVec Ideal S1x1024 .f32) (h : FVec Ideal S256x1024 .bf16)
  (w : FVec Ideal S1408x1024 .bf16) (p q : FVec Ideal S256x1408 .f32) (b b2 : FVec Ideal S264x1408 .f32)
  (f0 f1 f2 fb : FVec Ideal S1x1408 .f32)

theorem pay5_at : k0_pay5 (F := Ideal) x1 gf w (ix2 r j) = ∑ l, k0_pay4 (F := Ideal) x1 gf (ix2 r l) * w (ix2 j l) := by
  pointwise [k0_pay5]
theorem pay6_at : k0_pay6 (F := Ideal) x1 gf w (ix2 r j) = ∑ l, k0_pay4 (F := Ideal) x1 gf (ix2 r l) * w (ix2 j l) := by
  pointwise [k0_pay6]
theorem pay7_at : k0_pay7 (F := Ideal) x1 gf w (ix2 r j) = k0_pay5 (F := Ideal) x1 gf w (ix2 r j) := by
  pointwise [k0_pay7]
theorem pay8_at : k0_pay8 (F := Ideal) x1 gf w (ix2 r j) = k0_pay6 (F := Ideal) x1 gf w (ix2 r j) := by
  pointwise [k0_pay8]
theorem pay9_at : k0_pay9 (F := Ideal) x1 gf w (ix2 r j) = k0_pay5 (F := Ideal) x1 gf w (ix2 r j) := by
  pointwise [k0_pay9]
theorem pay14_at : k0_pay14 (F := Ideal) h w (ix2 r j) = ∑ l, h (ix2 r l) * w (ix2 j l) := by
  pointwise [k0_pay14]
theorem pay15_at : k0_pay15 (F := Ideal) h w (ix2 r j) = ∑ l, h (ix2 r l) * w (ix2 j l) := by
  pointwise [k0_pay15]
theorem pay16_at : k0_pay16 (F := Ideal) h w (ix2 r j) = k0_pay14 (F := Ideal) h w (ix2 r j) := by
  pointwise [k0_pay16]
theorem pay17_at : k0_pay17 (F := Ideal) h w (ix2 r j) = k0_pay15 (F := Ideal) h w (ix2 r j) := by
  pointwise [k0_pay17]
theorem pay18_at : k0_pay18 (F := Ideal) p (ix2 r j) = p (ix2 r j) := by
  pointwise [k0_pay18]

/-- A slab's gate: the buffer's rows two and one up, and the tile's own. -/
def mix : EReal := f0 (ix2 0 j) * b (ix2 ⟨6 + r.val, by omega⟩ j) + f1 (ix2 0 j) * b (ix2 ⟨7 + r.val, by omega⟩ j)
  + f2 (ix2 0 j) * p (ix2 r j) + fb (ix2 0 j)

theorem rot2 : (8 + r.val + 264 - 2) % 264 = 6 + r.val := by omega
theorem rot1 : (8 + r.val + 264 - 1) % 264 = 7 + r.val := by omega

theorem pay11_at : k0_pay11 (F := Ideal) p b f0 (k0_pay10 (F := Ideal) b) f1 f2 fb (ix2 r j) = mix r j p b f0 f1 f2 fb := by
  pointwise [k0_pay11, k0_pay10]
  simp only [rot1, rot2]
  rfl
theorem pay12_at : k0_pay12 (F := Ideal) p b f0 b2 f1 f2 fb (ix2 r j) = k0_pay11 (F := Ideal) p b f0 b2 f1 f2 fb (ix2 r j) := by
  pointwise [k0_pay12]
theorem pay13_at : k0_pay13 (F := Ideal) p q b f0 b2 f1 f2 fb (ix2 r j)
    = k0_pay11 (F := Ideal) p b f0 b2 f1 f2 fb (ix2 r j) * Ideal.logistic (k0_pay11 (F := Ideal) p b f0 b2 f1 f2 fb (ix2 r j)) * q (ix2 r j) := by
  pointwise [k0_pay13]
theorem pay19_at : k0_pay19 (F := Ideal) p b f0 f1 f2 fb (ix2 r j) = mix r j p b f0 f1 f2 fb := by
  pointwise [k0_pay19]
  simp only [rot1, rot2]
  rfl
theorem pay20_at : k0_pay20 (F := Ideal) p b f0 f1 f2 fb (ix2 r j) = k0_pay19 (F := Ideal) p b f0 f1 f2 fb (ix2 r j) := by
  pointwise [k0_pay20]
theorem pay21_at : k0_pay21 (F := Ideal) p q b f0 f1 f2 fb (ix2 r j)
    = k0_pay19 (F := Ideal) p b f0 f1 f2 fb (ix2 r j) * Ideal.logistic (k0_pay19 (F := Ideal) p b f0 f1 f2 fb (ix2 r j)) * q (ix2 r j) := by
  pointwise [k0_pay21]

end Slab

theorem pay1_at (i : Fin 8) (j : Fin 2816) : k0_pay1 (F := Ideal) (ix2 i j) = 0 := by
  pointwise [k0_pay1]
theorem pay22_at (b : FVec Ideal S8x2816 .f32) (i : Fin 8) (j : Fin 2816) : k0_pay22 (F := Ideal) b (ix2 i j) = b (ix2 i j) := by
  pointwise [k0_pay22]

end Cert.Kernel8Ideal.Fwd
-- ==== Proof.Fwd.Point.lean ====
module

public import proofs.«01_k».proof.Proof.Fwd.Pays
public import proofs.«01_k».proof.Proof.Grad.Pieces
public import Idealize.ShloMosaic.Lib.Pipeline.ValueKit

@[expose] public section

set_option maxRecDepth 16384

noncomputable section

namespace Cert.Kernel8Ideal.Fwd

open Cert.Kernel8Ideal Cert.Kernel8Ideal.Gen
open Idealize.ShloMosaic Idealize.ShloMosaic.TcCoe
open Cert.Mix (rowOf rowOf_val rt)
open Cert.Grad Cert.Fwd

variable (m : (ℓ : Loc nD τ sig) → Buf (Elt Ideal) ℓ) (c : Dev nD) (t : Fin cfg0.N)

theorem map0 : ∀ t : Fin cfg0.N, win0_0.index t = ![t.val, 0] := by decide +kernel
theorem map1 : ∀ t : Fin cfg0.N, win0_1.index t = ![t.val, 0] := by decide +kernel
theorem map2 : ∀ t : Fin cfg0.N, win0_2.index t = ![t.val, 0] := by decide +kernel
theorem map3 : ∀ t : Fin cfg0.N, win0_3.index t = ![0, 0] := by decide +kernel
theorem map4 : ∀ t : Fin cfg0.N, win0_4.index t = ![0, 0] := by decide +kernel
theorem map5 : ∀ t : Fin cfg0.N, win0_5.index t = ![0, 0] := by decide +kernel
theorem map6 : ∀ t : Fin cfg0.N, win0_6.index t = ![0, 0] := by decide +kernel
theorem map7 : ∀ t : Fin cfg0.N, win0_7.index t = ![0, 0] := by decide +kernel
theorem map8 : ∀ t : Fin cfg0.N, win0_8.index t = ![0, 0] := by decide +kernel
theorem map9 : ∀ t : Fin cfg0.N, win0_9.index t = ![0, 0] := by decide +kernel

/-- The arguments' arrays. -/
def args : Cert.Reference8Ideal.Fwd.Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9)⟩

abbrev arr : Arr := Cert.Reference8Ideal.Fwd.A (args m c)

theorem lt32 : t.val < 32 := t.isLt

/-- A tile's row among all rows. -/
theorem row_lt (r : Fin 256) : 256 * t.val + r.val < 8192 := by have := lt32 t; omega

theorem row_at {n : ℕ} (X : (⟨2, ![8192, n]⟩ : Shape).Idx → EReal) (r : Fin 256) (l : Fin n) :
    rowOf X (256 * t.val + r.val) l = X (ix2 ⟨256 * t.val + r.val, row_lt t r⟩ l) :=
  rowOf_val X ⟨256 * t.val + r.val, row_lt t r⟩ l

theorem b0_at (r : Fin 256) (k : Fin 1024) : iblk m c 0 t (ix2 r k) = rowOf (arr m c).x (256 * t.val + r.val) k := by
  rw [row_at]
  refine (same_at (V m c main_arg0) _ (ix2 ⟨256 * t.val + r.val, row_lt t r⟩ k) ?_ ?_).trans (congrFun (V_main_arg0 m c) _) <;>
    blk_simp [map0] <;> (show _ = 256 * t.val + r.val; omega)

theorem b1_at (r : Fin 256) (k : Fin 512) : iblk m c 1 t (ix2 r k) = rowOf (arr m c).yc (256 * t.val + r.val) k := by
  rw [row_at]
  refine (same_at (V m c main_arg1) _ (ix2 ⟨256 * t.val + r.val, row_lt t r⟩ k) ?_ ?_).trans (congrFun (V_main_arg1 m c) _) <;>
    blk_simp [map1] <;> (show _ = 256 * t.val + r.val; omega)

theorem b2_at (r : Fin 256) (k : Fin 512) : iblk m c 2 t (ix2 r k) = rowOf (arr m c).ya (256 * t.val + r.val) k := by
  rw [row_at]
  refine (same_at (V m c main_arg2) _ (ix2 ⟨256 * t.val + r.val, row_lt t r⟩ k) ?_ ?_).trans (congrFun (V_main_arg2 m c) _) <;>
    blk_simp [map2] <;> (show _ = 256 * t.val + r.val; omega)

theorem b3_at (l : Fin 1024) (k : Fin 1024) : iblk m c 3 t (ix2 l k) = (arr m c).wo (ix2 l k) := by
  refine (same_at (V m c main_v0) _ (ix2 l k) ?_ ?_).trans ?_
  · blk_simp [map3]
  · blk_simp [map3]
  · dsimp only [V, hostOps0]
    after_results
    pointwise
    rfl

theorem b4_at (l : Fin 2816) (k : Fin 1024) : iblk m c 4 t (ix2 l k) = (arr m c).wg (ix2 k l) := by
  refine (same_at (V m c main_v2) _ (ix2 l k) ?_ ?_).trans ?_
  · blk_simp [map4]
  · blk_simp [map4]
  · dsimp only [V, hostOps0]
    after_results
    pointwise
    rfl

theorem b5_at (l : Fin 2816) (k : Fin 1024) : iblk m c 5 t (ix2 l k) = (arr m c).wu (ix2 k l) := by
  refine (same_at (V m c main_v4) _ (ix2 l k) ?_ ?_).trans ?_
  · blk_simp [map5]
  · blk_simp [map5]
  · dsimp only [V, hostOps0]
    after_results
    pointwise
    rfl

theorem b6_at (i : Fin 1) (k : Fin 512) : iblk m c 6 t (ix2 i k) = (arr m c).ga (ix2 i k) := by
  refine (same_at (V m c main_arg6) _ (ix2 i k) ?_ ?_).trans (congrFun (V_main_arg6 m c) _) <;> blk_simp [map6]

theorem b7_at (i : Fin 1) (k : Fin 1024) : iblk m c 7 t (ix2 i k) = (arr m c).gf (ix2 i k) := by
  refine (same_at (V m c main_arg7) _ (ix2 i k) ?_ ?_).trans (congrFun (V_main_arg7 m c) _) <;> blk_simp [map7]

theorem b8_at (i : Fin 3) (k : Fin 2816) : iblk m c 8 t (ix2 i k) = (arr m c).w (ix2 i k) := by
  refine (same_at (V m c main_arg8) _ (ix2 i k) ?_ ?_).trans (congrFun (V_main_arg8 m c) _) <;> blk_simp [map8]

theorem b9_at (i : Fin 1) (k : Fin 2816) : iblk m c 9 t (ix2 i k) = (arr m c).b (ix2 i k) := by
  refine (same_at (V m c main_arg9) _ (ix2 i k) ?_ ?_).trans (congrFun (V_main_arg9 m c) _) <;> blk_simp [map9]

/-- Parts of the blocks: rows of a weight, columns of the taps and of the bias. -/
theorem ld_out (s : Fin 2) (n : ℕ) (hn : n = 512 * s.val) (inb) (l : Fin 512) (k : Fin 1024) :
    View.ld (iblk m c 3 t) (Rect.unit ![n, 0] ![512, 1024] inb) (ix2 l k) = (arr m c).wo (ix2 ⟨512 * s.val + l.val, by omega⟩ k) := by
  subst hn
  rw [← b3_at m c t]
  exact same_at (n0 := 1024) (n1 := 1024) (iblk m c 3 t) _ _ (show 512 * s.val + 1 * l.val = 512 * s.val + l.val by omega)
    (show 0 + 1 * k.val = k.val by omega)

theorem ld_gate (s : Fin 2) (n : ℕ) (hn : n = 1408 * s.val) (inb) (j : Fin 1408) (l : Fin 1024) :
    View.ld (iblk m c 4 t) (Rect.unit ![n, 0] ![1408, 1024] inb) (ix2 j l) = (arr m c).wg (ix2 l ⟨1408 * s.val + j.val, by omega⟩) := by
  subst hn
  rw [← b4_at m c t]
  exact same_at (n0 := 2816) (n1 := 1024) (iblk m c 4 t) _ _ (show 1408 * s.val + 1 * j.val = 1408 * s.val + j.val by omega)
    (show 0 + 1 * l.val = l.val by omega)

theorem ld_up (s : Fin 2) (n : ℕ) (hn : n = 1408 * s.val) (inb) (j : Fin 1408) (l : Fin 1024) :
    View.ld (iblk m c 5 t) (Rect.unit ![n, 0] ![1408, 1024] inb) (ix2 j l) = (arr m c).wu (ix2 l ⟨1408 * s.val + j.val, by omega⟩) := by
  subst hn
  rw [← b5_at m c t]
  exact same_at (n0 := 2816) (n1 := 1024) (iblk m c 5 t) _ _ (show 1408 * s.val + 1 * j.val = 1408 * s.val + j.val by omega)
    (show 0 + 1 * l.val = l.val by omega)

theorem ld_tap (i : Fin 3) (s : Fin 2) (q n : ℕ) (hq : q = i.val) (hn : n = 1408 * s.val) (inb) (j : Fin 1408) :
    View.ld (iblk m c 8 t) (Rect.unit ![q, n] ![1, 1408] inb) (ix2 0 j) = (arr m c).w (ix2 i ⟨1408 * s.val + j.val, by omega⟩) := by
  subst hn hq
  rw [← b8_at m c t]
  exact same_at (n0 := 3) (n1 := 2816) (iblk m c 8 t) _ _ (show i.val + 1 * 0 = i.val by omega)
    (show 1408 * s.val + 1 * j.val = 1408 * s.val + j.val by omega)

theorem ld_bias (s : Fin 2) (n : ℕ) (hn : n = 1408 * s.val) (inb) (j : Fin 1408) :
    View.ld (iblk m c 9 t) (Rect.unit ![0, n] ![1, 1408] inb) (ix2 0 j) = (arr m c).b (ix2 0 ⟨1408 * s.val + j.val, by omega⟩) := by
  subst hn
  rw [← b9_at m c t]
  exact same_at (n0 := 1) (n1 := 2816) (iblk m c 9 t) _ _ (show 0 + 1 * 0 = 0 by omega)
    (show 1408 * s.val + 1 * j.val = 1408 * s.val + j.val by omega)

/-- What a tile reads of the weights, the taps and the bias. -/
def o0 : FVec Ideal S512x1024 .bf16 := View.ld (iblk m c 3 t) (Rect.unit ![0, 0] ![512, 1024] inb_S1024x1024_S512x1024_0_0)
def o1 : FVec Ideal S512x1024 .bf16 := View.ld (iblk m c 3 t) (Rect.unit ![512, 0] ![512, 1024] inb_S1024x1024_S512x1024_512_0)
def e0 : FVec Ideal S1408x1024 .bf16 := View.ld (iblk m c 4 t) (Rect.unit ![0, 0] ![1408, 1024] inb_S2816x1024_S1408x1024_0_0)
def e1 : FVec Ideal S1408x1024 .bf16 := View.ld (iblk m c 4 t) (Rect.unit ![1408, 0] ![1408, 1024] inb_S2816x1024_S1408x1024_1408_0)
def u0 : FVec Ideal S1408x1024 .bf16 := View.ld (iblk m c 5 t) (Rect.unit ![0, 0] ![1408, 1024] inb_S2816x1024_S1408x1024_0_0)
def u1 : FVec Ideal S1408x1024 .bf16 := View.ld (iblk m c 5 t) (Rect.unit ![1408, 0] ![1408, 1024] inb_S2816x1024_S1408x1024_1408_0)
def f00 : FVec Ideal S1x1408 .f32 := View.ld (iblk m c 8 t) (Rect.unit ![0, 0] ![1, 1408] inb_S3x2816_S1x1408_0_0)
def f01 : FVec Ideal S1x1408 .f32 := View.ld (iblk m c 8 t) (Rect.unit ![0, 1408] ![1, 1408] inb_S3x2816_S1x1408_0_1408)
def f10 : FVec Ideal S1x1408 .f32 := View.ld (iblk m c 8 t) (Rect.unit ![1, 0] ![1, 1408] inb_S3x2816_S1x1408_1_0)
def f11 : FVec Ideal S1x1408 .f32 := View.ld (iblk m c 8 t) (Rect.unit ![1, 1408] ![1, 1408] inb_S3x2816_S1x1408_1_1408)
def f20 : FVec Ideal S1x1408 .f32 := View.ld (iblk m c 8 t) (Rect.unit ![2, 0] ![1, 1408] inb_S3x2816_S1x1408_2_0)
def f21 : FVec Ideal S1x1408 .f32 := View.ld (iblk m c 8 t) (Rect.unit ![2, 1408] ![1, 1408] inb_S3x2816_S1x1408_2_1408)
def fb0 : FVec Ideal S1x1408 .f32 := View.ld (iblk m c 9 t) (Rect.unit ![0, 0] ![1, 1408] inb_S1x2816_S1x1408_0_0)
def fb1 : FVec Ideal S1x1408 .f32 := View.ld (iblk m c 9 t) (Rect.unit ![0, 1408] ![1, 1408] inb_S1x2816_S1x1408_0_1408)

/-- A tile's values, by the body's own steps. -/
def vx : FVec Ideal S256x1024 .f32 :=
  k0_pay3 (F := Ideal) (iblk m c 2 t) (iblk m c 6 t) (iblk m c 1 t) (iblk m c 0 t) (o0 m c t) (o1 m c t)
def vh : FVec Ideal S256x1024 .bf16 := k0_pay4 (F := Ideal) (vx m c t) (iblk m c 7 t)
def vg0 : FVec Ideal S256x1408 .f32 := k0_pay5 (F := Ideal) (vx m c t) (iblk m c 7 t) (e0 m c t)
def vu0 : FVec Ideal S256x1408 .f32 := k0_pay6 (F := Ideal) (vx m c t) (iblk m c 7 t) (u0 m c t)
def vg1 : FVec Ideal S256x1408 .f32 := k0_pay14 (F := Ideal) (vh m c t) (e1 m c t)
def vu1 : FVec Ideal S256x1408 .f32 := k0_pay15 (F := Ideal) (vh m c t) (u1 m c t)

section At

variable (r : Fin 256) (k : Fin 1024) (j : Fin 1408)

theorem yn_at (l : Fin 512) : k0_pay2 (F := Ideal) (iblk m c 2 t) (iblk m c 6 t) (ix2 r l) = yn (arr m c) (256 * t.val + r.val) l := by
  refine (pay2_at r _ _ l).trans ?_
  simp only [b2_at, b6_at]
  rfl

theorem yy_lo (l : Fin 512) : yy (arr m c) (256 * t.val + r.val) ⟨l.val, by omega⟩ = rowOf (arr m c).yc (256 * t.val + r.val) l :=
  dif_pos l.isLt
theorem yy_hi (l : Fin 512) : yy (arr m c) (256 * t.val + r.val) ⟨512 + l.val, by omega⟩ = yn (arr m c) (256 * t.val + r.val) l :=
  (dif_neg (show ¬ 512 + l.val < 512 by omega)).trans (congrArg (yn (arr m c) _) (Fin.ext (show 512 + l.val - 512 = l.val by omega)))

theorem vx_at : vx m c t (ix2 r k) = x1 (arr m c) (256 * t.val + r.val) k := by
  refine (pay3_at r k _ _ _ _ _ _).trans ?_
  rw [b0_at]
  unfold x1
  rw [sum_split 2 512 rfl, Fin.sum_univ_two, ← add_assoc]
  have p : ∀ {n : ℕ} {u u' v v' : Fin n → EReal}, (∀ q, u q = u' q) → (∀ q, v q = v' q) → ∑ q, u q * v q = ∑ q, u' q * v' q :=
    fun hu hv => Finset.sum_congr rfl fun q _ => congr (congrArg _ (hu q)) (hv q)
  refine congr (congrArg _ (congrArg _ (p (fun q => (b1_at m c t r q).trans ?_) fun q => ld_out m c t 0 0 rfl _ q k)))
    (p (fun q => (yn_at m c t r q).trans ?_) fun q => ld_out m c t 1 512 rfl _ q k)
  · exact (yy_lo m c t r q).symm.trans (congrArg (yy (arr m c) _) (Fin.ext (show q.val = 512 * 0 + q.val by omega)))
  · exact (yy_hi m c t r q).symm.trans (congrArg (yy (arr m c) _) (Fin.ext (show 512 + q.val = 512 * 1 + q.val by omega)))

theorem vx_row : (fun k => vx m c t (ix2 r k)) = x1 (arr m c) (256 * t.val + r.val) := funext fun k => vx_at m c t r k

theorem vh_at : vh m c t (ix2 r k) = h (arr m c) (256 * t.val + r.val) k := by
  unfold h
  rw [← vx_at, ← vx_row, ← b7_at m c t]; exact pay4_at r k _ _

theorem vg0_at : vg0 m c t (ix2 r j) = gp (arr m c) (256 * t.val + r.val) ⟨j.val, by omega⟩ :=
  (pay5_at r j _ _ _).trans (Finset.sum_congr rfl fun l _ => congr (congrArg _ (vh_at m c t r l))
    ((ld_gate m c t 0 0 rfl _ j l).trans (same_at (arr m c).wg _ _ rfl (show 1408 * 0 + j.val = j.val by omega))))
theorem vu0_at : vu0 m c t (ix2 r j) = up (arr m c) (256 * t.val + r.val) ⟨j.val, by omega⟩ :=
  (pay6_at r j _ _ _).trans (Finset.sum_congr rfl fun l _ => congr (congrArg _ (vh_at m c t r l))
    ((ld_up m c t 0 0 rfl _ j l).trans (same_at (arr m c).wu _ _ rfl (show 1408 * 0 + j.val = j.val by omega))))
theorem vg1_at : vg1 m c t (ix2 r j) = gp (arr m c) (256 * t.val + r.val) ⟨1408 + j.val, by omega⟩ :=
  (pay14_at r j _ _).trans (Finset.sum_congr rfl fun l _ => congr (congrArg _ (vh_at m c t r l))
    ((ld_gate m c t 1 1408 rfl _ j l).trans (same_at (arr m c).wg _ _ rfl (show 1408 * 1 + j.val = 1408 + j.val by omega))))
theorem vu1_at : vu1 m c t (ix2 r j) = up (arr m c) (256 * t.val + r.val) ⟨1408 + j.val, by omega⟩ :=
  (pay15_at r j _ _).trans (Finset.sum_congr rfl fun l _ => congr (congrArg _ (vh_at m c t r l))
    ((ld_up m c t 1 1408 rfl _ j l).trans (same_at (arr m c).wu _ _ rfl (show 1408 * 1 + j.val = 1408 + j.val by omega))))

end At

/-! The buffer: eight rows kept from the tile before, then the tile's own, in two slabs of columns. -/

/-- The buffer's contents where pieces are written over something. -/
abbrev bufv (f : (View.whole cc0_scratch0).ty.Contents (Elt Ideal)) (K : List (View.Piece (Elt Ideal) S264x2816 .f32)) : S264x2816.Idx → Elt Ideal .f32 :=
  (View.whole cc0_scratch0).read (Elt Ideal) ((View.whole cc0_scratch0).writes (Elt Ideal) f K)

def L0 (K : List (View.Piece (Elt Ideal) S264x2816 .f32)) : List (View.Piece (Elt Ideal) S264x2816 .f32) :=
  ⟨Rect.unit ![8, 0] ![256, 1408] inb_S264x2816_S256x1408_8_0, k0_pay9 (F := Ideal) (vx m c t) (iblk m c 7 t) (e0 m c t)⟩ :: K
def L1 (K : List (View.Piece (Elt Ideal) S264x2816 .f32)) : List (View.Piece (Elt Ideal) S264x2816 .f32) :=
  ⟨Rect.unit ![8, 1408] ![256, 1408] inb_S264x2816_S256x1408_8_1408, k0_pay18 (F := Ideal) (vg1 m c t)⟩ :: L0 m c t K

/-- The rows as the buffer numbers them: eight of zeros come first. -/
def pad (a : Arr) (n : ℕ) (j : Fin 2816) : EReal := if 8 ≤ n then gp a (n - 8) j else 0

theorem pad_eq (a : Arr) (n g : ℕ) (j : Fin 2816) (h : n = g + 8) : pad a n j = gp a g j := by
  subst h
  exact (if_pos (by omega)).trans (congrArg (fun n => gp a n j) (by omega))

theorem pad_sh (a : Arr) (n g s : ℕ) (j : Fin 2816) (h : n + s = g + 8) (hs : s ≤ 8) : pad a n j = sh a g s j := by
  unfold pad sh
  by_cases h8 : 8 ≤ n
  · rw [if_pos h8, if_pos (by omega)]
    exact congrArg (fun n => gp a n j) (by omega)
  · rw [if_neg h8, if_neg (by omega)]

section Buffer

variable (f : (View.whole cc0_scratch0).ty.Contents (Elt Ideal)) (K : List (View.Piece (Elt Ideal) S264x2816 .f32))
  (hK : ∀ (i : Fin 264) (j : Fin 2816), 6 ≤ i.val → i.val < 8 → bufv f K (ix2 i j) = pad (arr m c) (256 * t.val + i.val) j)

/-- The two slabs as a tile reads them. -/
def slab0 : FVec Ideal S264x1408 .f32 :=
  fun y => bufv f (L0 m c t K) ((Rect.unit (s := S264x2816) ![0, 0] ![264, 1408] inb_S264x2816_S264x1408_0_0).idx y)
def slab1 : FVec Ideal S264x1408 .f32 :=
  fun y => bufv f (L1 m c t K) ((Rect.unit (s := S264x2816) ![0, 1408] ![264, 1408] inb_S264x2816_S264x1408_0_1408).idx y)

include hK

theorem slab0_at (i : Fin 264) (j : Fin 1408) (h : 6 ≤ i.val) :
    slab0 m c t f K (ix2 i j) = pad (arr m c) (256 * t.val + i.val) ⟨j.val, by omega⟩ := by
  refine (same_at (n0 := 264) (n1 := 2816) (bufv f (L0 m c t K)) _ (ix2 i ⟨j.val, by omega⟩) (show 0 + 1 * i.val = i.val by omega)
    (show 0 + 1 * j.val = j.val by omega)).trans ?_
  by_cases h8 : i.val < 8
  · exact (read_miss (n0 := 264) (n1 := 2816) _ f _ _ K i _ (.inl h8)).trans (hK i _ h h8)
  · refine (read_hit (n0 := 264) (n1 := 2816) _ f _ _ K i _ ⟨i.val - 8, by omega⟩ j (show i.val = 8 + (i.val - 8) by omega)
      (show j.val = 0 + j.val by omega)).trans ?_
    refine ((pay9_at _ _ _ _ _).trans (vg0_at m c t _ _)).trans (pad_eq _ _ _ _ ?_).symm
    show 256 * t.val + i.val = 256 * t.val + (i.val - 8) + 8
    omega

theorem slab1_at (i : Fin 264) (j : Fin 1408) (h : 6 ≤ i.val) :
    slab1 m c t f K (ix2 i j) = pad (arr m c) (256 * t.val + i.val) ⟨1408 + j.val, by omega⟩ := by
  refine (same_at (n0 := 264) (n1 := 2816) (bufv f (L1 m c t K)) _ (ix2 i ⟨1408 + j.val, by omega⟩) (show 0 + 1 * i.val = i.val by omega)
    (show 1408 + 1 * j.val = 1408 + j.val by omega)).trans ?_
  by_cases h8 : i.val < 8
  · exact (read_miss (n0 := 264) (n1 := 2816) _ f _ _ _ i _ (.inl h8)).trans
      ((read_miss (n0 := 264) (n1 := 2816) _ f _ _ K i _ (.inl h8)).trans (hK i _ h h8))
  · refine (read_hit (n0 := 264) (n1 := 2816) _ f _ _ _ i _ ⟨i.val - 8, by omega⟩ j (show i.val = 8 + (i.val - 8) by omega) rfl).trans ?_
    refine ((pay18_at _ _ _).trans (vg1_at m c t _ _)).trans (pad_eq _ _ _ _ ?_).symm
    show 256 * t.val + i.val = 256 * t.val + (i.val - 8) + 8
    omega

variable (r : Fin 256) (j : Fin 1408)

theorem mix0_at : mix r j (vg0 m c t) (slab0 m c t f K) (f00 m c t) (f10 m c t) (f20 m c t) (fb0 m c t)
    = gate (arr m c) (256 * t.val + r.val) ⟨j.val, by omega⟩ := by
  unfold mix gate
  have z : (⟨1408 * (0 : Fin 2).val + j.val, by omega⟩ : Fin 2816) = ⟨j.val, by omega⟩ := Fin.ext (show 1408 * 0 + j.val = j.val by omega)
  rw [slab0_at m c t f K hK _ _ (show 6 ≤ 6 + r.val by omega), slab0_at m c t f K hK _ _ (show 6 ≤ 7 + r.val by omega), vg0_at,
    pad_sh _ _ (256 * t.val + r.val) 2 _ (show 256 * t.val + (6 + r.val) + 2 = _ by omega) (by omega),
    pad_sh _ _ (256 * t.val + r.val) 1 _ (show 256 * t.val + (7 + r.val) + 1 = _ by omega) (by omega),
    show f00 m c t (ix2 0 j) = _ from ld_tap m c t 0 0 0 0 rfl rfl _ j, show f10 m c t (ix2 0 j) = _ from ld_tap m c t 1 0 1 0 rfl rfl _ j,
    show f20 m c t (ix2 0 j) = _ from ld_tap m c t 2 0 2 0 rfl rfl _ j, show fb0 m c t (ix2 0 j) = _ from ld_bias m c t 0 0 rfl _ j, z]

theorem mix1_at : mix r j (vg1 m c t) (slab1 m c t f K) (f01 m c t) (f11 m c t) (f21 m c t) (fb1 m c t)
    = gate (arr m c) (256 * t.val + r.val) ⟨1408 + j.val, by omega⟩ := by
  unfold mix gate
  have z : (⟨1408 * (1 : Fin 2).val + j.val, by omega⟩ : Fin 2816) = ⟨1408 + j.val, by omega⟩ :=
    Fin.ext (show 1408 * 1 + j.val = 1408 + j.val by omega)
  rw [slab1_at m c t f K hK _ _ (show 6 ≤ 6 + r.val by omega), slab1_at m c t f K hK _ _ (show 6 ≤ 7 + r.val by omega), vg1_at,
    pad_sh _ _ (256 * t.val + r.val) 2 _ (show 256 * t.val + (6 + r.val) + 2 = _ by omega) (by omega),
    pad_sh _ _ (256 * t.val + r.val) 1 _ (show 256 * t.val + (7 + r.val) + 1 = _ by omega) (by omega),
    show f01 m c t (ix2 0 j) = _ from ld_tap m c t 0 1 0 1408 rfl rfl _ j, show f11 m c t (ix2 0 j) = _ from ld_tap m c t 1 1 1 1408 rfl rfl _ j,
    show f21 m c t (ix2 0 j) = _ from ld_tap m c t 2 1 2 1408 rfl rfl _ j, show fb1 m c t (ix2 0 j) = _ from ld_bias m c t 1 1408 rfl _ j, z]

theorem gate_at (j : Fin 2816) : View.canon [(⟨Rect.unit ![0, 1408] ![256, 1408] inb_S256x2816_S256x1408_0_1408,
        k0_pay20 (F := Ideal) (vg1 m c t) (slab1 m c t f K) (f01 m c t) (f11 m c t) (f21 m c t) (fb1 m c t)⟩ : View.Piece (Elt Ideal) S256x2816 .bf16),
      ⟨Rect.unit ![0, 0] ![256, 1408] inb_S256x2816_S256x1408_0_0,
        k0_pay12 (F := Ideal) (vg0 m c t) (slab0 m c t f K) (f00 m c t) (k0_pay10 (F := Ideal) (slab0 m c t f K)) (f10 m c t) (f20 m c t) (fb0 m c t)⟩] (ix2 r j)
    = gate (arr m c) (256 * t.val + r.val) j :=
  canon_two (Val := Elt Ideal) (e := .bf16) (n0 := 256) (n1 := 2816) (a := 1408) (b := 1408) _ _ _ _ rfl (fun r j => gate (arr m c) (256 * t.val + r.val) j)
    (fun r j => ((pay12_at r j _ _ _ _ _ _ _).trans (pay11_at r j _ _ _ _ _ _)).trans (mix0_at m c t f K hK r j))
    (fun r j => ((pay20_at r j _ _ _ _ _ _).trans (pay19_at r j _ _ _ _ _ _)).trans (mix1_at m c t f K hK r j)) r j

theorem act_at (j : Fin 2816) : View.canon [(⟨Rect.unit ![0, 1408] ![256, 1408] inb_S256x2816_S256x1408_0_1408,
        k0_pay21 (F := Ideal) (vg1 m c t) (vu1 m c t) (slab1 m c t f K) (f01 m c t) (f11 m c t) (f21 m c t) (fb1 m c t)⟩ : View.Piece (Elt Ideal) S256x2816 .bf16),
      ⟨Rect.unit ![0, 0] ![256, 1408] inb_S256x2816_S256x1408_0_0,
        k0_pay13 (F := Ideal) (vg0 m c t) (vu0 m c t) (slab0 m c t f K) (f00 m c t) (k0_pay10 (F := Ideal) (slab0 m c t f K)) (f10 m c t) (f20 m c t) (fb0 m c t)⟩] (ix2 r j)
    = act (arr m c) (256 * t.val + r.val) j :=
  canon_two (Val := Elt Ideal) (e := .bf16) (n0 := 256) (n1 := 2816) (a := 1408) (b := 1408) _ _ _ _ rfl (fun r j => act (arr m c) (256 * t.val + r.val) j)
    (fun r j => by rw [pay13_at, pay11_at, mix0_at m c t f K hK, vu0_at]; rfl)
    (fun r j => by rw [pay21_at, pay19_at, mix1_at m c t f K hK, vu1_at]; rfl) r j

end Buffer

section Outs

variable (r : Fin 256)

theorem gp_at (j : Fin 2816) : View.canon [(⟨Rect.unit ![0, 1408] ![256, 1408] inb_S256x2816_S256x1408_0_1408,
        k0_pay16 (F := Ideal) (vh m c t) (e1 m c t)⟩ : View.Piece (Elt Ideal) S256x2816 .bf16),
      ⟨Rect.unit ![0, 0] ![256, 1408] inb_S256x2816_S256x1408_0_0, k0_pay7 (F := Ideal) (vx m c t) (iblk m c 7 t) (e0 m c t)⟩] (ix2 r j)
    = gp (arr m c) (256 * t.val + r.val) j :=
  canon_two (Val := Elt Ideal) (e := .bf16) (n0 := 256) (n1 := 2816) (a := 1408) (b := 1408) _ _ _ _ rfl (fun r j => gp (arr m c) (256 * t.val + r.val) j)
    (fun r j => (pay7_at r j _ _ _).trans (vg0_at m c t r j)) (fun r j => (pay16_at r j _ _).trans (vg1_at m c t r j)) r j

theorem up_at (j : Fin 2816) : View.canon [(⟨Rect.unit ![0, 1408] ![256, 1408] inb_S256x2816_S256x1408_0_1408,
        k0_pay17 (F := Ideal) (vh m c t) (u1 m c t)⟩ : View.Piece (Elt Ideal) S256x2816 .bf16),
      ⟨Rect.unit ![0, 0] ![256, 1408] inb_S256x2816_S256x1408_0_0, k0_pay8 (F := Ideal) (vx m c t) (iblk m c 7 t) (u0 m c t)⟩] (ix2 r j)
    = up (arr m c) (256 * t.val + r.val) j :=
  canon_two (Val := Elt Ideal) (e := .bf16) (n0 := 256) (n1 := 2816) (a := 1408) (b := 1408) _ _ _ _ rfl (fun r j => up (arr m c) (256 * t.val + r.val) j)
    (fun r j => (pay8_at r j _ _ _).trans (vu0_at m c t r j)) (fun r j => (pay17_at r j _ _).trans (vu1_at m c t r j)) r j

theorem y_at (k : Fin 1024) : View.canon [(⟨Rect.unit ![0, 512] ![256, 512] inb_S256x1024_S256x512_0_512,
        k0_pay2 (F := Ideal) (iblk m c 2 t) (iblk m c 6 t)⟩ : View.Piece (Elt Ideal) S256x1024 .bf16),
      ⟨Rect.unit ![0, 0] ![256, 512] inb_S256x1024_S256x512_0_0, iblk m c 1 t⟩] (ix2 r k)
    = yy (arr m c) (256 * t.val + r.val) k :=
  canon_two (Val := Elt Ideal) (e := .bf16) (n0 := 256) (n1 := 1024) (a := 512) (b := 512) _ _ _ _ rfl (fun r k => yy (arr m c) (256 * t.val + r.val) k)
    (fun r l => (b1_at m c t r l).trans (yy_lo m c t r l).symm) (fun r l => (yn_at m c t r l).trans (yy_hi m c t r l).symm) r k

end Outs

/-- What the buffer holds after a tile: its last eight rows, at the top. -/
theorem keep (K : List (View.Piece (Elt Ideal) S264x2816 .f32)) (i : Fin 8) (j : Fin 2816) :
    k0_pay22 (F := Ideal) (fun y => bufv (View.whole cc0_scratch0).junk (L1 m c t K) ((Rect.unit (s := S264x2816) ![256, 0] ![8, 2816] inb_S264x2816_S8x2816_256_0).idx y)) (ix2 i j)
    = gp (arr m c) (256 * t.val + 248 + i.val) j := by
  refine (pay22_at _ i j).trans ?_
  refine (same_at (n0 := 264) (n1 := 2816) (bufv (View.whole cc0_scratch0).junk (L1 m c t K)) _ (ix2 ⟨256 + i.val, by omega⟩ j)
    (show 256 + 1 * i.val = 256 + i.val by omega) (show 0 + 1 * j.val = j.val by omega)).trans ?_
  by_cases h : j.val < 1408
  · refine (read_miss (n0 := 264) (n1 := 2816) _ _ _ _ _ _ _ (.inr (.inr (.inl h)))).trans ?_
    refine (read_hit (n0 := 264) (n1 := 2816) _ _ _ _ K _ _ ⟨248 + i.val, by omega⟩ ⟨j.val, h⟩ (show 256 + i.val = 8 + (248 + i.val) by omega)
      (show j.val = 0 + j.val by omega)).trans ?_
    exact ((pay9_at _ _ _ _ _).trans (vg0_at m c t _ _)).trans (congrArg (fun n => gp (arr m c) n j) (Nat.add_assoc _ _ _).symm)
  · refine (read_hit (n0 := 264) (n1 := 2816) _ _ _ _ _ _ _ ⟨248 + i.val, by omega⟩ ⟨j.val - 1408, by omega⟩
      (show 256 + i.val = 8 + (248 + i.val) by omega) (show j.val = 1408 + (j.val - 1408) by omega)).trans ?_
    refine ((pay18_at _ _ _).trans (vg1_at m c t _ _)).trans ?_
    rw [show (⟨1408 + (j.val - 1408), by omega⟩ : Fin 2816) = j from Fin.ext (show 1408 + (j.val - 1408) = j.val by omega)]
    exact congrArg (fun n => gp (arr m c) n j) (Nat.add_assoc _ _ _).symm

theorem scr_at (i : Fin 264) (j : Fin 2816) (h : i.val < 8) :
    (outsAt0 m c t.val t.isLt).2.2.2.2.2.2.2 (ix2 i j) = gp (arr m c) (256 * t.val + 248 + i.val) j := by
  by_cases h0 : t.val % 32 = 0
  · rw [outsAt0_A m c t h0]; frame_out
    refine (canon_hit (n0 := 264) (n1 := 2816) _ _ _ i j ⟨i.val, h⟩ j (Nat.zero_add _).symm (Nat.zero_add _).symm).trans ?_
    exact keep m c t [⟨Rect.unit ![0, 0] ![8, 2816] inb_S264x2816_S8x2816_0_0, k0_pay1 (F := Ideal)⟩] ⟨i.val, h⟩ j
  · rw [outsAt0_B m c t h0]; frame_out
    refine (canon_hit (n0 := 264) (n1 := 2816) _ _ _ i j ⟨i.val, h⟩ j (Nat.zero_add _).symm (Nat.zero_add _).symm).trans ?_
    exact keep m c t [] ⟨i.val, h⟩ j

/-- What the seven results hold after a grid point, over what the buffer held before it. -/
theorem tiled : ∃ f K, (∀ (i : Fin 264) (j : Fin 2816), 6 ≤ i.val → i.val < 8 → bufv f K (ix2 i j) = pad (arr m c) (256 * t.val + i.val) j)
    ∧ (outsAt0 m c t.val t.isLt).1 = vx m c t
    ∧ (outsAt0 m c t.val t.isLt).2.1 = View.canon [(⟨Rect.unit ![0, 1408] ![256, 1408] inb_S256x2816_S256x1408_0_1408,
        k0_pay16 (F := Ideal) (vh m c t) (e1 m c t)⟩ : View.Piece (Elt Ideal) S256x2816 .bf16),
      ⟨Rect.unit ![0, 0] ![256, 1408] inb_S256x2816_S256x1408_0_0, k0_pay7 (F := Ideal) (vx m c t) (iblk m c 7 t) (e0 m c t)⟩]
    ∧ (outsAt0 m c t.val t.isLt).2.2.1 = View.canon [(⟨Rect.unit ![0, 1408] ![256, 1408] inb_S256x2816_S256x1408_0_1408,
        k0_pay17 (F := Ideal) (vh m c t) (u1 m c t)⟩ : View.Piece (Elt Ideal) S256x2816 .bf16),
      ⟨Rect.unit ![0, 0] ![256, 1408] inb_S256x2816_S256x1408_0_0, k0_pay8 (F := Ideal) (vx m c t) (iblk m c 7 t) (u0 m c t)⟩]
    ∧ (outsAt0 m c t.val t.isLt).2.2.2.1 = View.canon [(⟨Rect.unit ![0, 1408] ![256, 1408] inb_S256x2816_S256x1408_0_1408,
        k0_pay20 (F := Ideal) (vg1 m c t) (slab1 m c t f K) (f01 m c t) (f11 m c t) (f21 m c t) (fb1 m c t)⟩ : View.Piece (Elt Ideal) S256x2816 .bf16),
      ⟨Rect.unit ![0, 0] ![256, 1408] inb_S256x2816_S256x1408_0_0,
        k0_pay12 (F := Ideal) (vg0 m c t) (slab0 m c t f K) (f00 m c t) (k0_pay10 (F := Ideal) (slab0 m c t f K)) (f10 m c t) (f20 m c t) (fb0 m c t)⟩]
    ∧ (outsAt0 m c t.val t.isLt).2.2.2.2.1 = View.canon [(⟨Rect.unit ![0, 1408] ![256, 1408] inb_S256x2816_S256x1408_0_1408,
        k0_pay21 (F := Ideal) (vg1 m c t) (vu1 m c t) (slab1 m c t f K) (f01 m c t) (f11 m c t) (f21 m c t) (fb1 m c t)⟩ : View.Piece (Elt Ideal) S256x2816 .bf16),
      ⟨Rect.unit ![0, 0] ![256, 1408] inb_S256x2816_S256x1408_0_0,
        k0_pay13 (F := Ideal) (vg0 m c t) (vu0 m c t) (slab0 m c t f K) (f00 m c t) (k0_pay10 (F := Ideal) (slab0 m c t f K)) (f10 m c t) (f20 m c t) (fb0 m c t)⟩]
    ∧ (outsAt0 m c t.val t.isLt).2.2.2.2.2.1 = View.canon [(⟨Rect.unit ![0, 512] ![256, 512] inb_S256x1024_S256x512_0_512,
        k0_pay2 (F := Ideal) (iblk m c 2 t) (iblk m c 6 t)⟩ : View.Piece (Elt Ideal) S256x1024 .bf16),
      ⟨Rect.unit ![0, 0] ![256, 512] inb_S256x1024_S256x512_0_0, iblk m c 1 t⟩]
    ∧ (outsAt0 m c t.val t.isLt).2.2.2.2.2.2.1 = vh m c t := by
  by_cases h0 : t.val % 32 = 0
  · have t0 : t.val = 0 := by have := lt32 t; omega
    refine ⟨(View.whole cc0_scratch0).junk, [⟨Rect.unit ![0, 0] ![8, 2816] inb_S264x2816_S8x2816_0_0, k0_pay1 (F := Ideal)⟩], ?_, ?_⟩
    · intro i j h6 h8
      refine (read_hit (n0 := 264) (n1 := 2816) _ _ _ _ [] i j ⟨i.val, h8⟩ j (Nat.zero_add _).symm (Nat.zero_add _).symm).trans ?_
      exact (pay1_at _ _).trans (if_neg (by omega)).symm
    · rw [outsAt0_A m c t h0]; frame_out
      and_intros <;> first | trivial | rfl
  · refine ⟨(Memref.isWhole_whole cc0_scratch0).unread (outsAt0 m c (t.val - 1) (by have := lt32 t; show _ < 32; omega)).2.2.2.2.2.2.2, [], ?_, ?_⟩
    · intro i j h6 h8
      refine (congrFun (Memref.IsWhole.read_unread (Memref.isWhole_whole cc0_scratch0) _) _).trans ?_
      have e := scr_at m c ⟨t.val - 1, by have := lt32 t; show _ < 32; omega⟩ i j h8
      refine e.trans (pad_eq _ _ _ _ ?_).symm
      show 256 * t.val + i.val = 256 * (t.val - 1) + 248 + i.val + 8
      omega
    · rw [outsAt0_B m c t h0]; frame_out
      and_intros <;> first | trivial | rfl

end Cert.Kernel8Ideal.Fwd
-- ==== Proof.Fwd.Value.lean ====
module

public import proofs.«01_k».proof.Proof.Fwd.Point
public import proofs.«01_k».proof.Defs
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import Idealize.ShloMosaic.Lib.Pipeline.ValueKit.Geometry

@[expose] public section

set_option maxRecDepth 16384

noncomputable section

namespace Cert.Kernel8Ideal.Fwd

open Cert.Kernel8Ideal Cert.Kernel8Ideal.Gen
open Idealize.ShloMosaic Idealize.ShloMosaic.TcCoe Idealize.SL.Sem
open Cert.Grad Cert.Fwd

section Arrays

variable (m : (ℓ : Loc nD τ sig) → Buf (Elt Ideal) ℓ) (c : Dev nD)

/-- An array whose entries a tile's contents match row by row. -/
theorem of_rows {n : ℕ} (G : (⟨2, ![8192, n]⟩ : Shape).Idx → EReal) (t : Fin cfg0.N) (X : (⟨2, ![256, n]⟩ : Shape).Idx → EReal)
    (e : ∀ r k, X (ix2 r k) = G (ix2 ⟨256 * t.val + r.val, row_lt t r⟩ k)) (y : (⟨2, ![256, n]⟩ : Shape).Idx)
    (z : (⟨2, ![8192, n]⟩ : Shape).Idx) (h0 : (z 0).val = 256 * t.val + (y 0).val) (h1 : (z 1).val = (y 1).val) : X y = G z :=
  ((congrArg X (eq_ix2 y)).trans (e (y 0) (y 1))).trans (same_at G _ _ h0.symm h1.symm)

theorem x1_out : (dats m 0 c).arrAt 10 cfg0.N = oX1 (arr m c) := by
  refine (dats m 0 c).arrAt_eq_of_covers 10 (oX1 (arr m c)) (by decide +kernel) fun t hf y => ?_
  rw [after0_10]
  obtain ⟨f, K, hK, e, -⟩ := tiled m c t
  refine of_rows (oX1 (arr m c)) t _ (fun r k => (congrFun e _).trans (vx_at m c t r k)) y _ ?_ ?_ <;>
    blk_simp [(by decide +kernel : ∀ t : Fin cfg0.N, win0_10.index t = ![t.val, 0])]
  omega

theorem gp_out : (dats m 0 c).arrAt 11 cfg0.N = oGp (arr m c) := by
  refine (dats m 0 c).arrAt_eq_of_covers 11 (oGp (arr m c)) (by decide +kernel) fun t hf y => ?_
  rw [after0_11]
  obtain ⟨f, K, hK, -, e, -⟩ := tiled m c t
  refine of_rows (oGp (arr m c)) t _ (fun r k => (congrFun e _).trans (gp_at m c t r k)) y _ ?_ ?_ <;>
    blk_simp [(by decide +kernel : ∀ t : Fin cfg0.N, win0_11.index t = ![t.val, 0])]
  omega

theorem up_out : (dats m 0 c).arrAt 12 cfg0.N = oUp (arr m c) := by
  refine (dats m 0 c).arrAt_eq_of_covers 12 (oUp (arr m c)) (by decide +kernel) fun t hf y => ?_
  rw [after0_12]
  obtain ⟨f, K, hK, -, -, e, -⟩ := tiled m c t
  refine of_rows (oUp (arr m c)) t _ (fun r k => (congrFun e _).trans (up_at m c t r k)) y _ ?_ ?_ <;>
    blk_simp [(by decide +kernel : ∀ t : Fin cfg0.N, win0_12.index t = ![t.val, 0])]
  omega

theorem gate_out : (dats m 0 c).arrAt 13 cfg0.N = oGate (arr m c) := by
  refine (dats m 0 c).arrAt_eq_of_covers 13 (oGate (arr m c)) (by decide +kernel) fun t hf y => ?_
  rw [after0_13]
  obtain ⟨f, K, hK, -, -, -, e, -⟩ := tiled m c t
  refine of_rows (oGate (arr m c)) t _ (fun r k => (congrFun e _).trans (gate_at m c t f K hK r k)) y _ ?_ ?_ <;>
    blk_simp [(by decide +kernel : ∀ t : Fin cfg0.N, win0_13.index t = ![t.val, 0])]
  omega

theorem act_out : (dats m 0 c).arrAt 14 cfg0.N = oAct (arr m c) := by
  refine (dats m 0 c).arrAt_eq_of_covers 14 (oAct (arr m c)) (by decide +kernel) fun t hf y => ?_
  rw [after0_14]
  obtain ⟨f, K, hK, -, -, -, -, e, -⟩ := tiled m c t
  refine of_rows (oAct (arr m c)) t _ (fun r k => (congrFun e _).trans (act_at m c t f K hK r k)) y _ ?_ ?_ <;>
    blk_simp [(by decide +kernel : ∀ t : Fin cfg0.N, win0_14.index t = ![t.val, 0])]
  omega

theorem y_out : (dats m 0 c).arrAt 15 cfg0.N = oY (arr m c) := by
  refine (dats m 0 c).arrAt_eq_of_covers 15 (oY (arr m c)) (by decide +kernel) fun t hf y => ?_
  rw [after0_15]
  obtain ⟨f, K, hK, -, -, -, -, -, e, -⟩ := tiled m c t
  refine of_rows (oY (arr m c)) t _ (fun r k => (congrFun e _).trans (y_at m c t r k)) y _ ?_ ?_ <;>
    blk_simp [(by decide +kernel : ∀ t : Fin cfg0.N, win0_15.index t = ![t.val, 0])]
  omega

theorem h_out : (dats m 0 c).arrAt 16 cfg0.N = oH (arr m c) := by
  refine (dats m 0 c).arrAt_eq_of_covers 16 (oH (arr m c)) (by decide +kernel) fun t hf y => ?_
  rw [after0_16]
  obtain ⟨f, K, hK, -, -, -, -, -, -, e⟩ := tiled m c t
  refine of_rows (oH (arr m c)) t _ (fun r k => (congrFun e _).trans (vh_at m c t r k)) y _ ?_ ?_ <;>
    blk_simp [(by decide +kernel : ∀ t : Fin cfg0.N, win0_16.index t = ![t.val, 0])]
  omega

end Arrays

/-- The arguments the reference is launched with. -/
def argsOf (m' : (ℓ : Loc Cert.Reference8Ideal.nD Cert.Reference8Ideal.τ Cert.Reference8Ideal.sig) → Buf (Elt Ideal) ℓ) (c : Dev Cert.Reference8Ideal.nD) :
    Cert.Reference8Ideal.Fwd.Args :=
  ⟨m' ((c.tc : Thread Cert.Reference8Ideal.nD Cert.Reference8Ideal.τ).loc Cert.Reference8Ideal.main_arg0), m' ((c.tc : Thread Cert.Reference8Ideal.nD Cert.Reference8Ideal.τ).loc Cert.Reference8Ideal.main_arg1), m' ((c.tc : Thread Cert.Reference8Ideal.nD Cert.Reference8Ideal.τ).loc Cert.Reference8Ideal.main_arg2), m' ((c.tc : Thread Cert.Reference8Ideal.nD Cert.Reference8Ideal.τ).loc Cert.Reference8Ideal.main_arg3), m' ((c.tc : Thread Cert.Reference8Ideal.nD Cert.Reference8Ideal.τ).loc Cert.Reference8Ideal.main_arg4), m' ((c.tc : Thread Cert.Reference8Ideal.nD Cert.Reference8Ideal.τ).loc Cert.Reference8Ideal.main_arg5), m' ((c.tc : Thread Cert.Reference8Ideal.nD Cert.Reference8Ideal.τ).loc Cert.Reference8Ideal.main_arg6), m' ((c.tc : Thread Cert.Reference8Ideal.nD Cert.Reference8Ideal.τ).loc Cert.Reference8Ideal.main_arg7), m' ((c.tc : Thread Cert.Reference8Ideal.nD Cert.Reference8Ideal.τ).loc Cert.Reference8Ideal.main_arg8), m' ((c.tc : Thread Cert.Reference8Ideal.nD Cert.Reference8Ideal.τ).loc Cert.Reference8Ideal.main_arg9)⟩

open Cert.Reference8Ideal.Fwd Cert.Reference8Ideal.Read in
theorem algebraic : Cert.algebraic_Kernel8Ideal_Reference8Ideal (hKernel8Ideal := Cert.Kernel8Ideal.Gen.facts) (hReference8Ideal := Cert.Reference8Ideal.Gen.facts) := by
  intro m g m' g' _ hm
  have hA : ∀ c : Dev Cert.Reference8Ideal.nD, argsOf m' c = args m c := fun c => by
    obtain ⟨h0, h1, h2, h3, h4, h5, h6, h7, h8, h9⟩ := hm c
    unfold argsOf args
    rw [h0, h1, h2, h3, h4, h5, h6, h7, h8, h9]
  refine ⟨fun c => oX1 (arr m c), fun c => oGp (arr m c), fun c => oUp (arr m c), fun c => oGate (arr m c), fun c => oAct (arr m c), fun c => oY (arr m c), fun c => oH (arr m c), ?_, ?_⟩
  · refine (θ_run _ _ _).mono (fun r h c => ?_) (Cert.Kernel8Ideal.Value.run_blocks (F := Ideal) m g)
    obtain ⟨o0, o1, o2, o3, o4, o5, o6, hr⟩ := h c
    exact ⟨o0.trans (x1_out m c), o1.trans (gp_out m c), o2.trans (up_out m c), o3.trans (gate_out m c), o4.trans (act_out m c), o5.trans (y_out m c), o6.trans (h_out m c), hr⟩
  · refine (θ_run _ _ _).mono (fun r h c => ?_) (Cert.Reference8Ideal.Value.run (F := Ideal) m' g')
    obtain ⟨o0, o1, o2, o3, o4, o5, o6, hr⟩ := h c
    have eA : A (argsOf m' c) = arr m c := congrArg A (hA c)
    refine ⟨o0.trans ?_, o1.trans ?_, o2.trans ?_, o3.trans ?_, o4.trans ?_, o5.trans ?_, o6.trans ?_, hr⟩
    · exact (val_main_v15_eq _ _ _ _ _).trans ((x1_eq (argsOf m' c)).trans (congrArg oX1 eA))
    · exact (val_main_v56_eq _ _ _ _ _ _ _).trans ((gp_eq (argsOf m' c)).trans (congrArg oGp eA))
    · exact (val_main_v57_eq _ _ _ _ _ _ _).trans ((up_eq (argsOf m' c)).trans (congrArg oUp eA))
    · exact (val_main_v58_eq _ _).trans ((gate_eq (argsOf m' c)).trans (congrArg oGate eA))
    · exact (val_main_v59_eq _ _).trans ((act_eq (argsOf m' c)).trans (congrArg oAct eA))
    · exact (val_main_v60_eq _ _ _).trans ((y_eq (argsOf m' c)).trans (congrArg oY eA))
    · exact (val_main_v61_eq _ _ _ _ _ _).trans ((h_eq (argsOf m' c)).trans (congrArg oH eA))

theorem frame_ideal : Cert.quiescent_Kernel8Ideal (hKernel8Ideal := Cert.Kernel8Ideal.Gen.facts) := fun m ρ _ =>
  Cert.Kernel8Ideal.Gen.frame m ρ

set_option maxHeartbeats 4000000 in
/-- The kernel over bits: its text is the ideal kernel's, whose run holds over any float values. -/
theorem frame_kernel : Cert.quiescent_Kernel8 (hKernel8 := Cert.Kernel8.Gen.facts) := fun m ρ _ => by
  have bodies : @Cert.Kernel8.defs₀ Bits _ Cert.Kernel8.Gen.facts = @Cert.Kernel8Ideal.defs₀ Bits _ Cert.Kernel8Ideal.Gen.facts := by
    unfold Cert.Kernel8.defs₀ Cert.Kernel8Ideal.defs₀
    refine congrArg Defs.onTc ?_
    funext l
    match l with
    | 0 => funext a; rfl
  have e : @Cert.Kernel8.defs Bits _ Cert.Kernel8.Gen.facts = @Cert.Kernel8Ideal.defs Bits _ Cert.Kernel8Ideal.Gen.facts :=
    congrArg (Pipeline.defs (@Cert.Kernel8Ideal.pcfgs Bits Cert.Kernel8Ideal.Gen.facts)) bodies
  rw [e]
  exact (θ_run Cert.Kernel8Ideal.defs _ _).mono (fun _ h => h) (Cert.Kernel8Ideal.Gen.frame (F := Bits) m ρ)

theorem frame_reference : Cert.quiescent_Reference8Ideal (hReference8Ideal := Cert.Reference8Ideal.Gen.facts) := fun m ρ _ =>
  (θ_run Cert.Reference8Ideal.defs _ _).mono (fun r h => ⟨fun c => (h c).2.2.2.2.2.2.2, sem_eq_zero_of_no_sems (by decide) r.2⟩)
    (Cert.Reference8Ideal.Value.run (F := Ideal) m ρ)

end Cert.Kernel8Ideal.Fwd
-- ==== Proof.Head.Spec.lean ====
module

public import proofs.«01_k».proof.Proof.Mix.Arrays

@[expose] public section

noncomputable section

namespace Cert.Head

open Idealize.ShloMosaic
open Cert.Mix (rowOf rowOf_val rt ofArrays y yr hy eighth)

/-! The mixer's first half going forward, by rows: the norm, the input projection, the gated causal
    convolution with its norm, and the head norms of the queries and keys. -/

/-- What it reads: the layer's input and its gain, the input projection, the convolution's taps and bias, the gains
    of the queries, keys and convolution. -/
structure Arr where
  x : (⟨2, ![8192, 1024]⟩ : Shape).Idx → EReal
  gx : (⟨2, ![1, 1024]⟩ : Shape).Idx → EReal
  wi : (⟨2, ![1024, 3072]⟩ : Shape).Idx → EReal
  w : (⟨2, ![3, 512]⟩ : Shape).Idx → EReal
  b : (⟨2, ![1, 512]⟩ : Shape).Idx → EReal
  gq : (⟨2, ![1, 64]⟩ : Shape).Idx → EReal
  gk : (⟨2, ![1, 64]⟩ : Shape).Idx → EReal
  go : (⟨2, ![1, 512]⟩ : Shape).Idx → EReal

variable (a : Arr) (g : ℕ)

def h (k : Fin 1024) : EReal := rowOf a.x g k * rt 1024 (rowOf a.x g) * a.gx (ix2 0 k)
def z (l : Fin 3072) : EReal := ∑ k, h a g k * a.wi (ix2 k l)
def zz : (⟨2, ![8192, 3072]⟩ : Shape).Idx → EReal := fun i => z a (i 0).val (i 1)

/-- The rows the backward pass reads, which the forward pass shares; there are no cotangents here. -/
def M : Cert.Mix.Arr :=
  ofArrays a.x a.gx (zz a) a.w a.b a.gq a.gk a.go (fun _ => 0) (fun _ => 0) (fun _ => 0) (fun _ => 0)

theorem zz_row (l : Fin 3072) (hg : g < 8192) : rowOf (zz a) g l = z a g l := rowOf_val (zz a) ⟨g, hg⟩ l

/-- The normed convolution, and the normed queries (scaled) and keys. -/
def yn (j : Fin 512) : EReal := y (M a) g j * yr (M a) g * (M a).go j
def qn (j : Fin 512) : EReal := hy ((M a).zq g) j * (M a).gq j * eighth
def kn (j : Fin 512) : EReal := hy ((M a).zk g) j * (M a).gk j
def qk (l : Fin 1024) : EReal := if h : l.val < 512 then qn a g ⟨l.val, h⟩ else kn a g ⟨l.val - 512, by omega⟩

def oZ : (⟨2, ![8192, 1536]⟩ : Shape).Idx → EReal := fun i => z a (i 0).val ⟨(i 1).val, Nat.lt_of_lt_of_le (i 1).isLt (by decide)⟩
def oA : (⟨2, ![8192, 1536]⟩ : Shape).Idx → EReal := fun i => z a (i 0).val ⟨1536 + (i 1).val, Nat.add_lt_add_left (i 1).isLt 1536⟩
def oY : (⟨2, ![8192, 512]⟩ : Shape).Idx → EReal := fun i => yn a (i 0).val (i 1)
def oQk : (⟨2, ![8192, 1024]⟩ : Shape).Idx → EReal := fun i => qk a (i 0).val (i 1)

end Cert.Head
-- ==== Proof.Head.Ref.lean ====
module

public import proofs.«01_k».proof.Proof.Head.Spec
public import proofs.«01_k».proof.Proof.Grad.Basic
public import proofs.«01_k».proof.Proof.Gen.Reference9Ideal.Read

@[expose] public section

set_option maxRecDepth 16384

noncomputable section

namespace Cert.Reference9Ideal.Head

open Cert.Reference9Ideal Cert.Reference9Ideal.Read Cert.Reference9Ideal.Gen
open Idealize.ShloMosaic Idealize.ShloMosaic.TcCoe
open Cert.Mix (rowOf rowOf_val ms rt ext2 part lane hOf oOf lane_eq hOf_lane hy hrt u us cv y yr eighth)
open Cert.Grad Cert.Head

/-- The reference's arguments. -/
structure Args where
  x0 : (⟨S8192x1024, .f32⟩ : BufTy).Contents (Elt Ideal)
  x1 : (⟨S1x1024, .f32⟩ : BufTy).Contents (Elt Ideal)
  x2 : (⟨S1024x3072, .f32⟩ : BufTy).Contents (Elt Ideal)
  x3 : (⟨S3x512, .f32⟩ : BufTy).Contents (Elt Ideal)
  x4 : (⟨S1x512, .f32⟩ : BufTy).Contents (Elt Ideal)
  x5 : (⟨S1x64, .f32⟩ : BufTy).Contents (Elt Ideal)
  x6 : (⟨S1x64, .f32⟩ : BufTy).Contents (Elt Ideal)
  x7 : (⟨S1x512, .f32⟩ : BufTy).Contents (Elt Ideal)

variable (a : Args) (g : Fin 8192) (j : Fin 512)

def A : Arr := ⟨a.x0, a.x1, a.x2, a.x3, a.x4, a.x5, a.x6, a.x7⟩

theorem lit64 : Ideal.ofBits .f32 0x42800000#32 = ((64 : ℝ) : EReal) := by
  simp [Ideal.ofBits, Ideal.ieee, -EReal.coe_mul]; norm_num

theorem row_x (k : Fin 1024) : a.x0 (ix2 g k) = rowOf a.x0 g k := (rowOf_val a.x0 g k).symm

theorem v11_at (k : Fin 1024) : val_main_v11 (F := Ideal) a.x0 a.x1 (ix2 g k) = h (A a) g k := by
  pointwise [val_main_v11, val_main_v10, val_main_v9, val_main_v8, val_main_v7, val_main_v6, val_main_v5, val_main_v4, val_main_v3, val_main_v2, val_main_v1, val_main_v0, val_main_cst, val_main_cst_0, val_main_cst_1]
  simp only [lit1024, row_x]
  rfl

theorem v12_at (l : Fin 3072) : val_main_v12 (F := Ideal) a.x0 a.x1 a.x2 (ix2 g l) = z (A a) g l := by
  pointwise [val_main_v12]
  simp only [v11_at]
  rfl

theorem v13_at : val_main_v13 (F := Ideal) a.x0 a.x1 a.x2 (ix2 g j) = (M (A a)).zb g j := by
  pointwise [val_main_v13]
  exact (v12_at a g _).trans (zz_row (A a) g _ g.isLt).symm

theorem v14_at : val_main_v14 (F := Ideal) a.x0 a.x1 a.x2 (ix2 g j) = (M (A a)).zc g j := by
  pointwise [val_main_v14]
  exact (v12_at a g _).trans (zz_row (A a) g _ g.isLt).symm

theorem v15_at : val_main_v15 (F := Ideal) a.x0 a.x1 a.x2 (ix2 g j) = (M (A a)).zx g j := by
  pointwise [val_main_v15]
  exact (v12_at a g _).trans (zz_row (A a) g _ g.isLt).symm

theorem v16_at : val_main_v16 (F := Ideal) a.x0 a.x1 a.x2 (ix2 g j) = (M (A a)).zq g j := by
  pointwise [val_main_v16]
  exact (v12_at a g _).trans (zz_row (A a) g _ g.isLt).symm

theorem v17_at : val_main_v17 (F := Ideal) a.x0 a.x1 a.x2 (ix2 g j) = (M (A a)).zk g j := by
  pointwise [val_main_v17]
  exact (v12_at a g _).trans (zz_row (A a) g _ g.isLt).symm

theorem v19_at : val_main_v19 (F := Ideal) a.x0 a.x1 a.x2 (ix2 g j) = u (M (A a)) g j := by
  pointwise [val_main_v19]
  rw [v14_at, v15_at]
  rfl

/-- The padded product at row `i`, two rows of zeros in front. -/
theorem v21_at (i : Fin 8194) : val_main_v21 (F := Ideal) a.x0 a.x1 a.x2 (ix2 i j) = if i.val < 2 then 0 else u (M (A a)) (i.val - 2) j := by
  pointwise [val_main_v21, val_main_v20, val_main_cst_2]
  by_cases h : i.val < 2
  · refine Eq.trans ?_ (if_pos h).symm
    rw [dif_pos h]
  · refine Eq.trans ?_ (if_neg h).symm
    rw [dif_neg h]
    exact v19_at a ⟨i.val - 2, by omega⟩ j

theorem us_at (s q : ℕ) (h : q + s = g.val + 2) (hs : s ≤ 2) : (if q < 2 then 0 else u (M (A a)) (q - 2) j) = us (M (A a)) s g j := by
  unfold us
  by_cases e : g.val < s
  · rw [if_pos (by omega), if_pos e]
  · rw [if_neg (by omega), if_neg e]
    exact congrArg (fun n => u (M (A a)) n j) (by omega)

theorem v43_at : val_main_v43 (F := Ideal) a.x0 a.x1 a.x2 a.x3 a.x4 (ix2 g j) = cv (M (A a)) g j := by
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22]
  simp only [v21_at]
  rw [us_at a g j 2 g.val rfl (by omega), us_at a g j 1 (1 + g.val) (by omega) (by omega), us_at a g j 0 (2 + g.val) (by omega) (by omega),
    mul_comm (us _ 2 _ _), mul_comm (us _ 1 _ _), mul_comm (us _ 0 _ _)]
  rfl

theorem v44_at : val_main_v44 (F := Ideal) a.x0 a.x1 a.x2 a.x3 a.x4 (ix2 g j) = y (M (A a)) g j := by
  pointwise [val_main_v44]
  rw [v13_at, v43_at]
  rfl

theorem v86_at : val_main_v86 (F := Ideal) a.x0 a.x1 a.x2 a.x3 a.x4 (ix2 g 0) = ms 512 (y (M (A a)) g) := by
  pointwise [val_main_v86, val_main_v85, val_main_v84, val_main_v83, val_main_v82, val_main_v81, val_main_v80, val_main_cst_10, val_main_cst_11, val_main_cst_12]
  simp only [v44_at, lit512]
  rfl

theorem v91_at : val_main_v91 (F := Ideal) a.x0 a.x1 a.x2 a.x3 a.x4 a.x7 (ix2 g j) = yn (A a) g j := by
  pointwise [val_main_v91, val_main_v90, val_main_v89, val_main_v88, val_main_v87]
  rw [v86_at, v44_at]
  rfl

section Heads

variable (p : Fin 8) (o : Fin 64)

theorem oOf_lane : oOf (lane p o) = o := Fin.ext (by show (64 * p.val + o.val) % 64 = o.val; omega)

theorem v45_at : val_main_v45 (F := Ideal) a.x0 a.x1 a.x2 (ix3 g p o) = part ((M (A a)).zq g) p o := by
  pointwise [val_main_v45]
  exact (congrArg (fun l => val_main_v16 (F := Ideal) a.x0 a.x1 a.x2 (ix2 g l)) (Fin.ext (show p.val * 64 + o.val = 64 * p.val + o.val by omega))).trans
    (v16_at a g (lane p o))

theorem v52_at : val_main_v52 (F := Ideal) a.x0 a.x1 a.x2 (ix3 g p 0) = ms 64 (part ((M (A a)).zq g) p) := by
  pointwise [val_main_v52, val_main_v51, val_main_v50, val_main_v49, val_main_v48, val_main_v47, val_main_v46, val_main_cst_3, val_main_cst_4, val_main_cst_5]
  simp only [v45_at, lit64]
  rfl

theorem v58_at : val_main_v58 (F := Ideal) a.x0 a.x1 a.x2 a.x5 (ix3 g p o) = hy ((M (A a)).zq g) (lane p o) * (M (A a)).gq (lane p o) := by
  pointwise [val_main_v58, val_main_v57, val_main_v56, val_main_v55, val_main_v54, val_main_v53]
  rw [v45_at, v52_at]
  show _ = _ * a.x5 (ix2 0 (oOf (lane p o)))
  rw [oOf_lane]
  unfold hy hrt
  rw [hOf_lane]
  rfl

theorem v59_at : val_main_v59 (F := Ideal) a.x0 a.x1 a.x2 (ix3 g p o) = part ((M (A a)).zk g) p o := by
  pointwise [val_main_v59]
  exact (congrArg (fun l => val_main_v17 (F := Ideal) a.x0 a.x1 a.x2 (ix2 g l)) (Fin.ext (show p.val * 64 + o.val = 64 * p.val + o.val by omega))).trans
    (v17_at a g (lane p o))

theorem v66_at : val_main_v66 (F := Ideal) a.x0 a.x1 a.x2 (ix3 g p 0) = ms 64 (part ((M (A a)).zk g) p) := by
  pointwise [val_main_v66, val_main_v65, val_main_v64, val_main_v63, val_main_v62, val_main_v61, val_main_v60, val_main_cst_6, val_main_cst_7, val_main_cst_8]
  simp only [v59_at, lit64]
  rfl

theorem v72_at : val_main_v72 (F := Ideal) a.x0 a.x1 a.x2 a.x6 (ix3 g p o) = hy ((M (A a)).zk g) (lane p o) * (M (A a)).gk (lane p o) := by
  pointwise [val_main_v72, val_main_v71, val_main_v70, val_main_v69, val_main_v68, val_main_v67]
  rw [v59_at, v66_at]
  show _ = _ * a.x6 (ix2 0 (oOf (lane p o)))
  rw [oOf_lane]
  unfold hy hrt
  rw [hOf_lane]
  rfl

theorem v75_at : val_main_v75 (F := Ideal) a.x0 a.x1 a.x2 a.x5 (ix2 g j) = qn (A a) g j := by
  pointwise [val_main_v75, val_main_v74, val_main_v73, val_main_cst_9]
  refine (congrArg (· * _) (v58_at a g (hOf j) (oOf j))).trans ?_
  rw [lane_eq]
  rfl

theorem v76_at : val_main_v76 (F := Ideal) a.x0 a.x1 a.x2 a.x6 (ix2 g j) = kn (A a) g j := by
  pointwise [val_main_v76]
  refine (v72_at a g (hOf j) (oOf j)).trans ?_
  rw [lane_eq]
  rfl

end Heads

theorem v77_at (l : Fin 1024) : val_main_v77 (F := Ideal) a.x0 a.x1 a.x2 a.x5 a.x6 (ix2 g l) = qk (A a) g l := by
  pointwise [val_main_v77]
  unfold qk
  split_ifs <;> first | exact v75_at a g _ | exact v76_at a g _

theorem z_eq : val_main_v78 (F := Ideal) a.x0 a.x1 a.x2 = oZ (A a) := ext2 fun g l => by
  pointwise [val_main_v78]
  exact v12_at a g _
theorem a_eq : val_main_v79 (F := Ideal) a.x0 a.x1 a.x2 = oA (A a) := ext2 fun g l => by
  pointwise [val_main_v79]
  exact v12_at a g _
theorem y_eq : val_main_v92 (F := Ideal) a.x0 a.x1 a.x2 a.x3 a.x4 a.x7 = oY (A a) := ext2 fun g j => by
  pointwise [val_main_v92]
  exact v91_at a g j
theorem qk_eq : val_main_v77 (F := Ideal) a.x0 a.x1 a.x2 a.x5 a.x6 = oQk (A a) := ext2 fun g l => v77_at a g l

end Cert.Reference9Ideal.Head
-- ==== Proof.Head.Pays.lean ====
module

public import proofs.«01_k».proof.Proof.Head.Ref
public import proofs.«01_k».proof.Proof.Gen.Kernel9Ideal.Value

@[expose] public section

set_option maxRecDepth 16384

noncomputable section

namespace Cert.Kernel9Ideal.Head

open Cert.Kernel9Ideal Cert.Kernel9Ideal.Gen
open Idealize.ShloMosaic Idealize.ShloMosaic.TcCoe
open Cert.Mix (rowOf rowOf_val rt hrt hy eighth hrt_ind)
open Cert.Grad

/-! The payloads of a grid point, read at an index. -/

variable (r : Fin 512)

section Norm

variable (k : Fin 1024) (j : Fin 768) (x : FVec Ideal S512x1024 .f32) (g : FVec Ideal S1x1024 .f32) (h : FVec Ideal S512x1024 .bf16)
  (w : FVec Ideal S1x1024x768 .bf16)

theorem pay4_at : k0_pay4 (F := Ideal) x g (ix2 r k) = x (ix2 r k) * rt 1024 (fun k => x (ix2 r k)) * g (ix2 0 k) := by
  pointwise [k0_pay4]
  rw [lit1024]; rfl
theorem pay5_at : k0_pay5 (F := Ideal) x g w (ix2 r j) = ∑ l, k0_pay4 (F := Ideal) x g (ix2 r l) * w (ix3 0 l j) := by
  pointwise [k0_pay5]
theorem pay6_at : k0_pay6 (F := Ideal) x g w (ix2 r j) = ∑ l, k0_pay4 (F := Ideal) x g (ix2 r l) * w (ix3 0 l j) := by
  pointwise [k0_pay6]
theorem pay7_at : k0_pay7 (F := Ideal) x g w (ix2 r j) = ∑ l, k0_pay4 (F := Ideal) x g (ix2 r l) * w (ix3 0 l j) := by
  pointwise [k0_pay7]
theorem pay8_at : k0_pay8 (F := Ideal) h w (ix2 r j) = ∑ l, h (ix2 r l) * w (ix3 0 l j) := by
  pointwise [k0_pay8]

end Norm

section Conv

variable (j : Fin 512) (p q v : FVec Ideal S512x512 .f32) (b : FVec Ideal S520x512 .f32) (f0 f1 f2 fb g : FVec Ideal S1x512 .f32)

theorem pay9_at : k0_pay9 (F := Ideal) p q (ix2 r j) = p (ix2 r j) * q (ix2 r j) := by
  pointwise [k0_pay9]
theorem pay10_at : k0_pay10 (F := Ideal) p q (ix2 r j) = k0_pay9 (F := Ideal) p q (ix2 r j) := by
  pointwise [k0_pay10]

theorem rot2 : (8 + r.val + 520 - 2) % 520 = 6 + r.val := by omega
theorem rot1 : (8 + r.val + 520 - 1) % 520 = 7 + r.val := by omega

/-- The convolution: the buffer's rows two and one up, and the tile's own product. -/
theorem pay11_at : k0_pay11 (F := Ideal) p q b f0 f1 f2 fb (ix2 r j)
    = f0 (ix2 0 j) * b (ix2 ⟨6 + r.val, by omega⟩ j) + f1 (ix2 0 j) * b (ix2 ⟨7 + r.val, by omega⟩ j)
      + f2 (ix2 0 j) * k0_pay9 (F := Ideal) p q (ix2 r j) + fb (ix2 0 j) := by
  pointwise [k0_pay11]
  simp only [rot1, rot2]
theorem pay3_at (i : Fin 8) : k0_pay3 (F := Ideal) (ix2 i j) = 0 := by
  pointwise [k0_pay3]
theorem pay12_at (b : FVec Ideal S8x512 .f32) (i : Fin 8) : k0_pay12 (F := Ideal) b (ix2 i j) = b (ix2 i j) := by
  pointwise [k0_pay12]
theorem pay13_at : k0_pay13 (F := Ideal) v p g (ix2 r j)
    = p (ix2 r j) * v (ix2 r j) * rt 512 (fun j => p (ix2 r j) * v (ix2 r j)) * g (ix2 0 j) := by
  pointwise [k0_pay13]
  rw [lit512]; rfl

end Conv

section Heads

variable (j : Fin 512) (v : FVec Ideal S512x512 .f32) (gm : FVec Ideal S512x512 .bf16) (hg : ∀ k j, gm (ix2 k j) = Cert.Mix.ind k j)
  (g : FVec Ideal S1x512 .f32)

include hg

theorem pay1_at : k0_pay1 (F := Ideal) (k0_pay14 (F := Ideal) v) (k0_pay16 (F := Ideal) v gm) g (ix2 r j)
    = hy (fun j => v (ix2 r j)) j * g (ix2 0 j) * eighth := by
  pointwise [k0_pay1, k0_pay14, k0_pay16]
  simp only [hg]
  exact congrArg (fun x => v (ix2 r j) * x * g (ix2 0 j) * eighth) (hrt_ind (fun j => v (ix2 r j)) j)

theorem pay2_at : k0_pay2 (F := Ideal) (k0_pay15 (F := Ideal) v) (k0_pay17 (F := Ideal) v) gm g (ix2 r j)
    = hy (fun j => v (ix2 r j)) j * g (ix2 0 j) := by
  pointwise [k0_pay2, k0_pay15, k0_pay17]
  simp only [hg]
  exact congrArg (fun x => v (ix2 r j) * x * g (ix2 0 j)) (hrt_ind (fun j => v (ix2 r j)) j)

end Heads

end Cert.Kernel9Ideal.Head
-- ==== Proof.Head.Point.lean ====
module

public import proofs.«01_k».proof.Proof.Head.Pays
public import proofs.«01_k».proof.Proof.Grad.Pieces
public import Idealize.ShloMosaic.Lib.Pipeline.ValueKit

@[expose] public section

set_option maxRecDepth 16384

noncomputable section

namespace Cert.Kernel9Ideal.Head

open Cert.Kernel9Ideal Cert.Kernel9Ideal.Gen
open Idealize.ShloMosaic Idealize.ShloMosaic.TcCoe
open Cert.Mix (rowOf rowOf_val rt oOf ind hy eighth u us cv y yr)
open Cert.Grad Cert.Head

variable (m : (ℓ : Loc nD τ sig) → Buf (Elt Ideal) ℓ) (c : Dev nD) (t : Fin cfg0.N)

theorem map0 : ∀ t : Fin cfg0.N, win0_0.index t = ![t.val, 0] := by decide +kernel
theorem map1 : ∀ t : Fin cfg0.N, win0_1.index t = ![0, 0] := by decide +kernel
theorem map2 : ∀ t : Fin cfg0.N, win0_2.index t = ![0, 0, 0] := by decide +kernel
theorem map3 : ∀ t : Fin cfg0.N, win0_3.index t = ![0, 0] := by decide +kernel
theorem map4 : ∀ t : Fin cfg0.N, win0_4.index t = ![0, 0] := by decide +kernel
theorem map5 : ∀ t : Fin cfg0.N, win0_5.index t = ![0, 0] := by decide +kernel
theorem map6 : ∀ t : Fin cfg0.N, win0_6.index t = ![0, 0] := by decide +kernel
theorem map7 : ∀ t : Fin cfg0.N, win0_7.index t = ![0, 0] := by decide +kernel
theorem map8 : ∀ t : Fin cfg0.N, win0_8.index t = ![0, 0] := by decide +kernel

/-- The arguments' arrays. -/
def args : Cert.Reference9Ideal.Head.Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7)⟩

abbrev arr : Arr := Cert.Reference9Ideal.Head.A (args m c)

theorem lt16 : t.val < 16 := t.isLt

/-- A tile's row among all rows. -/
theorem row_lt (r : Fin 512) : 512 * t.val + r.val < 8192 := by have := lt16 t; omega

theorem row_at {n : ℕ} (X : (⟨2, ![8192, n]⟩ : Shape).Idx → EReal) (r : Fin 512) (l : Fin n) :
    rowOf X (512 * t.val + r.val) l = X (ix2 ⟨512 * t.val + r.val, row_lt t r⟩ l) :=
  rowOf_val X ⟨512 * t.val + r.val, row_lt t r⟩ l

theorem b0_at (r : Fin 512) (k : Fin 1024) : iblk m c 0 t (ix2 r k) = rowOf (arr m c).x (512 * t.val + r.val) k := by
  rw [row_at]
  refine (same_at (V m c main_arg0) _ (ix2 ⟨512 * t.val + r.val, row_lt t r⟩ k) ?_ ?_).trans (congrFun (V_main_arg0 m c) _) <;>
    blk_simp [map0] <;> (show _ = 512 * t.val + r.val; omega)

theorem b1_at (k : Fin 1024) : iblk m c 1 t (ix2 0 k) = (arr m c).gx (ix2 0 k) := by
  refine (same_at (V m c main_arg1) _ (ix2 0 k) ?_ ?_).trans (congrFun (V_main_arg1 m c) _) <;> blk_simp [map1]

/-- The input projection, cut into four slabs and rounded on the host. -/
theorem w2_at (s : Fin 4) (l : Fin 1024) (j : Fin 768) : V m c main_v2 (ix3 s l j) = (arr m c).wi (ix2 l ⟨768 * s.val + j.val, by omega⟩) := by
  dsimp only [V, hostOps0, hostOps0_1, hostOps0_2, List.flatten, List.append, List.cons_append, List.nil_append, List.append_nil]
  after_results
  pointwise
  exact same_at (arr m c).wi _ _ rfl (show s.val * 768 + j.val = 768 * s.val + j.val by omega)

theorem b2_ld (s : Fin 4) (n : ℕ) (hn : n = s.val) (inb) (l : Fin 1024) (j : Fin 768) :
    View.ld (iblk m c 2 t) (Rect.unit ![n, 0, 0] ![1, 1024, 768] inb) (ix3 0 l j)
    = (arr m c).wi (ix2 l ⟨768 * s.val + j.val, by omega⟩) := by
  subst hn
  rw [← w2_at]
  refine (same_at3 (n0 := 4) (n1 := 1024) (n2 := 768) (iblk m c 2 t) _ (ix3 s l j) (show s.val + 1 * 0 = s.val by omega)
    (show 0 + 1 * l.val = l.val by omega) (show 0 + 1 * j.val = j.val by omega)).trans ?_
  refine same_at3 (V m c main_v2) _ _ ?_ ?_ ?_ <;> blk_simp [map2]

theorem b3_at (i : Fin 3) (k : Fin 512) : iblk m c 3 t (ix2 i k) = (arr m c).w (ix2 i k) := by
  refine (same_at (V m c main_arg3) _ (ix2 i k) ?_ ?_).trans (congrFun (V_main_arg3 m c) _) <;> blk_simp [map3]
theorem b4_at (k : Fin 512) : iblk m c 4 t (ix2 0 k) = (arr m c).b (ix2 0 k) := by
  refine (same_at (V m c main_arg4) _ (ix2 0 k) ?_ ?_).trans (congrFun (V_main_arg4 m c) _) <;> blk_simp [map4]
theorem b5_at (k : Fin 512) : iblk m c 5 t (ix2 0 k) = (arr m c).go (ix2 0 k) := by
  refine (same_at (V m c main_arg7) _ (ix2 0 k) ?_ ?_).trans (congrFun (V_main_arg7 m c) _) <;> blk_simp [map5]

/-- The matrix of the head means, and the gains tiled over the heads. -/
theorem w11_at (k j : Fin 512) : V m c main_v11 (ix2 k j) = ind k j := by
  dsimp only [V, hostOps0, hostOps0_1, hostOps0_2, List.flatten, List.append, List.cons_append, List.nil_append, List.append_nil]
  after_results
  simp only [StableHlo.TRef.ofBuf_toBuf, StableHlo.TRef.ofBuf, StableHlo.TRef.toBuf, cast_eq]
  pointwise
  have hk : k.val / 64 < 8 := by omega
  have hj : j.val / 64 < 8 := by omega
  have e : Ideal.ofBits FTy.f32 1015021568#32 = (((1 / 64 : ℝ)) : EReal) := by
    simp [Ideal.ofBits, Ideal.ieee, -EReal.coe_mul]; norm_num
  have h0 : ∀ a b : Fin 8, (FloatOps.uitofp (F := Ideal) FTy.f32
      (IntOp.cmpi CmpIPredicate.eq (IntOp.addi (BitVec.ofNat 32 a.val) 0#32) (BitVec.ofNat 32 b.val)) : EReal) =
      if a = b then 1 else 0 := by
    intro a b
    by_cases h : a = b
    · subst h; simp [FloatOps.uitofp, IntOp.cmpi, IntOp.addi]
    · have : BitVec.ofNat 32 a.val ≠ BitVec.ofNat 32 b.val := by
        revert h; revert a b; decide
      simp [FloatOps.uitofp, IntOp.cmpi, IntOp.addi, h, this]
  rw [e, h0 ⟨_, hk⟩ ⟨_, hj⟩]
  show (if Cert.Mix.hOf k = Cert.Mix.hOf j then (1 : EReal) else 0) * _ = if Cert.Mix.hOf k = Cert.Mix.hOf j then _ else 0
  split <;> simp

theorem w14_at (j : Fin 512) : V m c main_v14 (ix2 0 j) = (arr m c).gq (ix2 0 (oOf j)) := by
  dsimp only [V, hostOps0, hostOps0_1, hostOps0_2, List.flatten, List.append, List.cons_append, List.nil_append, List.append_nil]
  after_results
  pointwise
  rfl
theorem w17_at (j : Fin 512) : V m c main_v17 (ix2 0 j) = (arr m c).gk (ix2 0 (oOf j)) := by
  dsimp only [V, hostOps0, hostOps0_1, hostOps0_2, List.flatten, List.append, List.cons_append, List.nil_append, List.append_nil]
  after_results
  pointwise
  rfl

theorem b6_at (k j : Fin 512) : iblk m c 6 t (ix2 k j) = ind k j := by
  rw [← w11_at m c]
  refine same_at (V m c main_v11) _ _ ?_ ?_ <;> blk_simp [map6]
theorem b7_at (j : Fin 512) : iblk m c 7 t (ix2 0 j) = (M (arr m c)).gq j := by
  refine (same_at (V m c main_v14) _ (ix2 0 j) ?_ ?_).trans (w14_at m c j) <;> blk_simp [map7]
theorem b8_at (j : Fin 512) : iblk m c 8 t (ix2 0 j) = (M (arr m c)).gk j := by
  refine (same_at (V m c main_v17) _ (ix2 0 j) ?_ ?_).trans (w17_at m c j) <;> blk_simp [map8]

theorem ld_tap (i : Fin 3) (q : ℕ) (hq : q = i.val) (inb) (j : Fin 512) :
    View.ld (iblk m c 3 t) (Rect.unit ![q, 0] ![1, 512] inb) (ix2 0 j) = (arr m c).w (ix2 i j) := by
  subst hq
  rw [← b3_at m c t]
  exact same_at (n0 := 3) (n1 := 512) (iblk m c 3 t) _ _ (show i.val + 1 * 0 = i.val by omega) (show 0 + 1 * j.val = j.val by omega)

/-- What a tile reads of the projection and of the taps. -/
def w0 : FVec Ideal S1x1024x768 .bf16 := View.ld (iblk m c 2 t) (Rect.unit ![0, 0, 0] ![1, 1024, 768] inb_S4x1024x768_S1x1024x768_0_0_0)
def w1 : FVec Ideal S1x1024x768 .bf16 := View.ld (iblk m c 2 t) (Rect.unit ![1, 0, 0] ![1, 1024, 768] inb_S4x1024x768_S1x1024x768_1_0_0)
def w2 : FVec Ideal S1x1024x768 .bf16 := View.ld (iblk m c 2 t) (Rect.unit ![2, 0, 0] ![1, 1024, 768] inb_S4x1024x768_S1x1024x768_2_0_0)
def w3 : FVec Ideal S1x1024x768 .bf16 := View.ld (iblk m c 2 t) (Rect.unit ![3, 0, 0] ![1, 1024, 768] inb_S4x1024x768_S1x1024x768_3_0_0)
def f0 : FVec Ideal S1x512 .f32 := View.ld (iblk m c 3 t) (Rect.unit ![0, 0] ![1, 512] inb_S3x512_S1x512_0_0)
def f1 : FVec Ideal S1x512 .f32 := View.ld (iblk m c 3 t) (Rect.unit ![1, 0] ![1, 512] inb_S3x512_S1x512_1_0)
def f2 : FVec Ideal S1x512 .f32 := View.ld (iblk m c 3 t) (Rect.unit ![2, 0] ![1, 512] inb_S3x512_S1x512_2_0)

def vh : FVec Ideal S512x1024 .bf16 := k0_pay4 (F := Ideal) (iblk m c 0 t) (iblk m c 1 t)

/-- The two results of the projection, each in two slabs of columns. -/
def Lz : List (View.Piece (Elt Ideal) S512x1536 .f32) :=
  [⟨Rect.unit ![0, 768] ![512, 768] inb_S512x1536_S512x768_0_768, k0_pay6 (F := Ideal) (iblk m c 0 t) (iblk m c 1 t) (w1 m c t)⟩,
    ⟨Rect.unit ![0, 0] ![512, 768] inb_S512x1536_S512x768_0_0, k0_pay5 (F := Ideal) (iblk m c 0 t) (iblk m c 1 t) (w0 m c t)⟩]
def La : List (View.Piece (Elt Ideal) S512x1536 .f32) :=
  [⟨Rect.unit ![0, 768] ![512, 768] inb_S512x1536_S512x768_0_768, k0_pay8 (F := Ideal) (vh m c t) (w3 m c t)⟩,
    ⟨Rect.unit ![0, 0] ![512, 768] inb_S512x1536_S512x768_0_0, k0_pay7 (F := Ideal) (iblk m c 0 t) (iblk m c 1 t) (w2 m c t)⟩]

/-- Their parts as the tile reads them back. -/
def vb : FVec Ideal S512x512 .f32 :=
  fun i => View.canon (Lz m c t) ((Rect.unit (s := S512x1536) ![0, 0] ![512, 512] inb_S512x1536_S512x512_0_0).idx i)
def vc : FVec Ideal S512x512 .f32 :=
  fun i => View.canon (Lz m c t) ((Rect.unit (s := S512x1536) ![0, 512] ![512, 512] inb_S512x1536_S512x512_0_512).idx i)
def vx : FVec Ideal S512x512 .f32 :=
  fun i => View.canon (Lz m c t) ((Rect.unit (s := S512x1536) ![0, 1024] ![512, 512] inb_S512x1536_S512x512_0_1024).idx i)
def vq : FVec Ideal S512x512 .f32 :=
  fun i => View.canon (La m c t) ((Rect.unit (s := S512x1536) ![0, 0] ![512, 512] inb_S512x1536_S512x512_0_0).idx i)
def vk : FVec Ideal S512x512 .f32 :=
  fun i => View.canon (La m c t) ((Rect.unit (s := S512x1536) ![0, 512] ![512, 512] inb_S512x1536_S512x512_0_512).idx i)

section At

variable (r : Fin 512)

theorem vh_at (k : Fin 1024) : vh m c t (ix2 r k) = h (arr m c) (512 * t.val + r.val) k := by
  refine (pay4_at r k _ _).trans ?_
  simp only [b0_at, b1_at]
  rfl

theorem slab_at (s : Fin 4) (n : ℕ) (hn : n = s.val) (inb) (j : Fin 768) :
    ∑ l, vh m c t (ix2 r l) * View.ld (iblk m c 2 t) (Rect.unit ![n, 0, 0] ![1, 1024, 768] inb) (ix3 0 l j)
    = z (arr m c) (512 * t.val + r.val) ⟨768 * s.val + j.val, by omega⟩ :=
  Finset.sum_congr rfl fun l _ => congr (congrArg _ (vh_at m c t r l)) (b2_ld m c t s n hn inb l j)

theorem z_at (l : Fin 1536) : View.canon (Lz m c t) (ix2 r l) = z (arr m c) (512 * t.val + r.val) ⟨l.val, by omega⟩ :=
  canon_two (Val := Elt Ideal) (e := .f32) (n0 := 512) (n1 := 1536) (a := 768) (b := 768) _ _ _ _ rfl
    (fun r l => z (arr m c) (512 * t.val + r.val) ⟨l.val, by omega⟩)
    (fun r j => ((pay5_at r j _ _ _).trans (slab_at m c t r 0 0 rfl _ j)).trans
      (congrArg (z (arr m c) _) (Fin.ext (show 768 * 0 + j.val = j.val by omega))))
    (fun r j => ((pay6_at r j _ _ _).trans (slab_at m c t r 1 1 rfl _ j)).trans
      (congrArg (z (arr m c) _) (Fin.ext (show 768 * 1 + j.val = 768 + j.val by omega)))) r l

theorem a_at (l : Fin 1536) : View.canon (La m c t) (ix2 r l) = z (arr m c) (512 * t.val + r.val) ⟨1536 + l.val, by omega⟩ :=
  canon_two (Val := Elt Ideal) (e := .f32) (n0 := 512) (n1 := 1536) (a := 768) (b := 768) _ _ _ _ rfl
    (fun r l => z (arr m c) (512 * t.val + r.val) ⟨1536 + l.val, by omega⟩)
    (fun r j => ((pay7_at r j _ _ _).trans (slab_at m c t r 2 2 rfl _ j)).trans
      (congrArg (z (arr m c) _) (Fin.ext (show 768 * 2 + j.val = 1536 + j.val by omega))))
    (fun r j => ((pay8_at r j _ _).trans (slab_at m c t r 3 3 rfl _ j)).trans
      (congrArg (z (arr m c) _) (Fin.ext (show 768 * 3 + j.val = 1536 + (768 + j.val) by omega)))) r l

variable (j : Fin 512)

/-- A part's row is a column block of the projection's. -/
theorem part_at (L : List (View.Piece (Elt Ideal) S512x1536 .f32)) (n : ℕ) (inb) (o : ℕ) (hn : n + 512 ≤ 1536) (ho : o + 1536 ≤ 3072)
    (hL : ∀ l : Fin 1536, View.canon L (ix2 r l) = z (arr m c) (512 * t.val + r.val) ⟨o + l.val, by omega⟩) :
    View.canon L ((Rect.unit (s := S512x1536) ![0, n] ![512, 512] inb).idx (ix2 r j))
    = rowOf (zz (arr m c)) (512 * t.val + r.val) ⟨o + n + j.val, by omega⟩ := by
  rw [zz_row _ _ _ (row_lt t r)]
  refine (same_at (n0 := 512) (n1 := 1536) (View.canon L) _ (ix2 r ⟨n + j.val, by omega⟩) (show 0 + 1 * r.val = r.val by omega)
    (show n + 1 * j.val = n + j.val by omega)).trans ((hL _).trans ?_)
  exact congrArg (z (arr m c) _) (Fin.ext (Nat.add_assoc _ _ _).symm)

theorem vb_at : vb m c t (ix2 r j) = (M (arr m c)).zb (512 * t.val + r.val) j :=
  (part_at m c t r j (Lz m c t) 0 _ 0 (by omega) (by omega) fun l => (z_at m c t r l).trans
    (congrArg (z (arr m c) _) (Fin.ext (by first | rfl | exact (Nat.zero_add _).symm)))).trans
    (congrArg (rowOf (zz (arr m c)) _) (Fin.ext (show 0 + 0 + j.val = j.val by omega)))
theorem vc_at : vc m c t (ix2 r j) = (M (arr m c)).zc (512 * t.val + r.val) j :=
  (part_at m c t r j (Lz m c t) 512 _ 0 (by omega) (by omega) fun l => (z_at m c t r l).trans
    (congrArg (z (arr m c) _) (Fin.ext (by first | rfl | exact (Nat.zero_add _).symm)))).trans
    (congrArg (rowOf (zz (arr m c)) _) (Fin.ext (show 0 + 512 + j.val = 512 + j.val by omega)))
theorem vx_at : vx m c t (ix2 r j) = (M (arr m c)).zx (512 * t.val + r.val) j :=
  (part_at m c t r j (Lz m c t) 1024 _ 0 (by omega) (by omega) fun l => (z_at m c t r l).trans
    (congrArg (z (arr m c) _) (Fin.ext (by first | rfl | exact (Nat.zero_add _).symm)))).trans
    (congrArg (rowOf (zz (arr m c)) _) (Fin.ext (show 0 + 1024 + j.val = 1024 + j.val by omega)))
theorem vq_at : vq m c t (ix2 r j) = (M (arr m c)).zq (512 * t.val + r.val) j :=
  (part_at m c t r j (La m c t) 0 _ 1536 (by omega) (by omega) fun l => (a_at m c t r l).trans
    (congrArg (z (arr m c) _) (Fin.ext (by first | rfl | exact (Nat.zero_add _).symm)))).trans
    (congrArg (rowOf (zz (arr m c)) _) (Fin.ext (show 1536 + 0 + j.val = 1536 + j.val by omega)))
theorem vk_at : vk m c t (ix2 r j) = (M (arr m c)).zk (512 * t.val + r.val) j :=
  (part_at m c t r j (La m c t) 512 _ 1536 (by omega) (by omega) fun l => (a_at m c t r l).trans
    (congrArg (z (arr m c) _) (Fin.ext (by first | rfl | exact (Nat.zero_add _).symm)))).trans
    (congrArg (rowOf (zz (arr m c)) _) (Fin.ext (show 1536 + 512 + j.val = 2048 + j.val by omega)))

theorem u_at : k0_pay9 (F := Ideal) (vc m c t) (vx m c t) (ix2 r j) = u (M (arr m c)) (512 * t.val + r.val) j :=
  (pay9_at r j _ _).trans (congr (congrArg _ (vc_at m c t r j)) (vx_at m c t r j))

end At

/-! The buffer: eight rows kept from the tile before, then the tile's own. -/

/-- The buffer's contents where pieces are written over something. -/
abbrev bufv (f : (View.whole cc0_scratch0).ty.Contents (Elt Ideal)) (K : List (View.Piece (Elt Ideal) S520x512 .f32)) : S520x512.Idx → Elt Ideal .f32 :=
  (View.whole cc0_scratch0).read (Elt Ideal) ((View.whole cc0_scratch0).writes (Elt Ideal) f K)

def L0 (K : List (View.Piece (Elt Ideal) S520x512 .f32)) : List (View.Piece (Elt Ideal) S520x512 .f32) :=
  ⟨Rect.unit ![8, 0] ![512, 512] inb_S520x512_S512x512_8_0, k0_pay10 (F := Ideal) (vc m c t) (vx m c t)⟩ :: K

/-- The rows as the buffer numbers them: eight of zeros come first. -/
def pad (a : Arr) (n : ℕ) (j : Fin 512) : EReal := if 8 ≤ n then u (M a) (n - 8) j else 0

theorem pad_eq (a : Arr) (n g : ℕ) (j : Fin 512) (h : n = g + 8) : pad a n j = u (M a) g j := by
  subst h
  exact (if_pos (by omega)).trans (congrArg (fun n => u (M a) n j) (by omega))

theorem pad_us (a : Arr) (n g s : ℕ) (j : Fin 512) (h : n + s = g + 8) (hs : s ≤ 8) : pad a n j = us (M a) s g j := by
  unfold pad us
  by_cases h8 : 8 ≤ n
  · rw [if_pos h8, if_neg (by omega)]
    exact congrArg (fun n => u (M a) n j) (by omega)
  · rw [if_neg h8, if_pos (by omega)]

/-- A tile's own rows. -/
theorem buf_own (f : (View.whole cc0_scratch0).ty.Contents (Elt Ideal)) (K : List (View.Piece (Elt Ideal) S520x512 .f32))
    (i : Fin 520) (j : Fin 512) (h : 8 ≤ i.val) : bufv f (L0 m c t K) (ix2 i j) = pad (arr m c) (512 * t.val + i.val) j := by
  refine (read_hit (n0 := 520) (n1 := 512) _ f _ _ K i _ ⟨i.val - 8, by omega⟩ j (show i.val = 8 + (i.val - 8) by omega)
    (show j.val = 0 + j.val by omega)).trans ?_
  refine ((pay10_at _ _ _ _).trans (u_at m c t _ _)).trans (pad_eq _ _ _ _ ?_).symm
  show 512 * t.val + i.val = 512 * t.val + (i.val - 8) + 8
  omega

/-- All the rows that a tile reads, where the rows kept from the tile before are right. -/
theorem buf_at (f : (View.whole cc0_scratch0).ty.Contents (Elt Ideal)) (K : List (View.Piece (Elt Ideal) S520x512 .f32))
    (hK : ∀ (i : Fin 520) (j : Fin 512), 6 ≤ i.val → i.val < 8 → bufv f K (ix2 i j) = pad (arr m c) (512 * t.val + i.val) j)
    (i : Fin 520) (j : Fin 512) (h : 6 ≤ i.val) : bufv f (L0 m c t K) (ix2 i j) = pad (arr m c) (512 * t.val + i.val) j := by
  by_cases h8 : i.val < 8
  · exact (read_miss (n0 := 520) (n1 := 512) _ f _ _ K i _ (.inl h8)).trans (hK i _ h h8)
  · exact buf_own m c t f K i j (by omega)

/-- The first tile's buffer: rows of zeros, then the tile's own. -/
def bufA : S520x512.Idx → Elt Ideal .f32 :=
  View.canon (L0 m c t [⟨Rect.unit ![0, 0] ![8, 512] inb_S520x512_S8x512_0_0, k0_pay3 (F := Ideal)⟩])

theorem bufA_eq (y : S520x512.Idx) : bufA m c t y = bufv (View.whole cc0_scratch0).junk
    (L0 m c t [⟨Rect.unit ![0, 0] ![8, 512] inb_S520x512_S8x512_0_0, k0_pay3 (F := Ideal)⟩]) y :=
  (View.read_writes_junk_apply_eq_canon (View.whole cc0_scratch0) y _).symm

section Buffer

variable (B : S520x512.Idx → Elt Ideal .f32)
  (hB : ∀ (i : Fin 520) (j : Fin 512), 6 ≤ i.val → B (ix2 i j) = pad (arr m c) (512 * t.val + i.val) j)
  (r : Fin 512) (j : Fin 512)

include hB

theorem cv_at : k0_pay11 (F := Ideal) (vc m c t) (vx m c t) B (f0 m c t) (f1 m c t) (f2 m c t) (iblk m c 4 t) (ix2 r j)
    = cv (M (arr m c)) (512 * t.val + r.val) j := by
  refine (pay11_at r j _ _ _ _ _ _ _).trans ?_
  rw [hB _ _ (show 6 ≤ 6 + r.val by omega), hB _ _ (show 6 ≤ 7 + r.val by omega), u_at,
    pad_us _ _ (512 * t.val + r.val) 2 _ (show 512 * t.val + (6 + r.val) + 2 = _ by omega) (by omega),
    pad_us _ _ (512 * t.val + r.val) 1 _ (show 512 * t.val + (7 + r.val) + 1 = _ by omega) (by omega),
    show f0 m c t (ix2 0 j) = _ from ld_tap m c t 0 0 rfl _ j, show f1 m c t (ix2 0 j) = _ from ld_tap m c t 1 1 rfl _ j,
    show f2 m c t (ix2 0 j) = _ from ld_tap m c t 2 2 rfl _ j, b4_at]
  rfl

theorem y_at : k0_pay13 (F := Ideal) (k0_pay11 (F := Ideal) (vc m c t) (vx m c t) B (f0 m c t) (f1 m c t) (f2 m c t) (iblk m c 4 t))
      (vb m c t) (iblk m c 5 t) (ix2 r j)
    = yn (arr m c) (512 * t.val + r.val) j := by
  refine (pay13_at r j _ _ _).trans ?_
  simp only [cv_at m c t B hB, vb_at, b5_at]
  rfl

end Buffer

theorem qk_at (r : Fin 512) (l : Fin 1024) : View.canon [(⟨Rect.unit ![0, 512] ![512, 512] inb_S512x1024_S512x512_0_512,
        k0_pay2 (F := Ideal) (k0_pay15 (F := Ideal) (vk m c t)) (k0_pay17 (F := Ideal) (vk m c t)) (iblk m c 6 t) (iblk m c 8 t)⟩ : View.Piece (Elt Ideal) S512x1024 .f32),
      ⟨Rect.unit ![0, 0] ![512, 512] inb_S512x1024_S512x512_0_0,
        k0_pay1 (F := Ideal) (k0_pay14 (F := Ideal) (vq m c t)) (k0_pay16 (F := Ideal) (vq m c t) (iblk m c 6 t)) (iblk m c 7 t)⟩] (ix2 r l)
    = qk (arr m c) (512 * t.val + r.val) l :=
  canon_two (Val := Elt Ideal) (e := .f32) (n0 := 512) (n1 := 1024) (a := 512) (b := 512) _ _ _ _ rfl
    (fun r l => qk (arr m c) (512 * t.val + r.val) l)
    (fun r j => by
      refine (pay1_at r j _ _ (b6_at m c t) _).trans (Eq.trans ?_ (dif_pos j.isLt).symm)
      simp only [vq_at, b7_at]
      rfl)
    (fun r j => by
      refine (pay2_at r j _ _ (b6_at m c t) _).trans (Eq.trans ?_ (dif_neg (show ¬ 512 + j.val < 512 by omega)).symm)
      simp only [vk_at, b8_at]
      exact congrArg (kn (arr m c) _) (Fin.ext (show j.val = 512 + j.val - 512 by omega))) r l

/-- What the buffer keeps of a tile: its last eight rows. -/
theorem keep (X : S520x512.Idx → Elt Ideal .f32)
    (hX : ∀ (i : Fin 520) (j : Fin 512), 8 ≤ i.val → X (ix2 i j) = pad (arr m c) (512 * t.val + i.val) j) (i : Fin 8) (j : Fin 512) :
    k0_pay12 (F := Ideal) (fun y => X ((Rect.unit (s := S520x512) ![512, 0] ![8, 512] inb_S520x512_S8x512_512_0).idx y)) (ix2 i j)
    = u (M (arr m c)) (512 * t.val + 504 + i.val) j := by
  refine (pay12_at j _ i).trans ?_
  refine (same_at (n0 := 520) (n1 := 512) X _ (ix2 ⟨512 + i.val, by omega⟩ j)
    (show 512 + 1 * i.val = 512 + i.val by omega) (show 0 + 1 * j.val = j.val by omega)).trans ?_
  refine (hX _ _ (show 8 ≤ 512 + i.val by omega)).trans (pad_eq _ _ _ _ ?_)
  show 512 * t.val + (512 + i.val) = 512 * t.val + 504 + i.val + 8
  omega

theorem scr_at (i : Fin 520) (j : Fin 512) (h : i.val < 8) :
    (outsAt0 m c t.val t.isLt).2.2.2.2 (ix2 i j) = u (M (arr m c)) (512 * t.val + 504 + i.val) j := by
  by_cases h0 : t.val % 16 = 0
  · rw [outsAt0_A m c t h0]; frame_out
    simp only [View.readCov_eq_canon']
    refine (canon_hit (n0 := 520) (n1 := 512) _ _ _ i j ⟨i.val, h⟩ j (Nat.zero_add _).symm (Nat.zero_add _).symm).trans ?_
    exact keep m c t (bufA m c t) (fun i j h => (bufA_eq m c t _).trans (buf_own m c t _ _ i j h)) ⟨i.val, h⟩ j
  · rw [outsAt0_B m c t h0]; frame_out
    simp only [View.readCov_eq_canon']
    refine (canon_hit (n0 := 520) (n1 := 512) _ _ _ i j ⟨i.val, h⟩ j (Nat.zero_add _).symm (Nat.zero_add _).symm).trans ?_
    exact keep m c t (View.canon (L0 m c t []))
      (fun i j h => (View.read_writes_junk_apply_eq_canon (View.whole cc0_scratch0) _ _).symm.trans (buf_own m c t _ _ i j h)) ⟨i.val, h⟩ j

/-- What the four results hold after a grid point, over what the buffer held before it. -/
theorem tiled : ∃ B : S520x512.Idx → Elt Ideal .f32, (∀ (i : Fin 520) (j : Fin 512), 6 ≤ i.val → B (ix2 i j) = pad (arr m c) (512 * t.val + i.val) j)
    ∧ (outsAt0 m c t.val t.isLt).1 = View.canon (Lz m c t)
    ∧ (outsAt0 m c t.val t.isLt).2.1 = View.canon (La m c t)
    ∧ (outsAt0 m c t.val t.isLt).2.2.1 = k0_pay13 (F := Ideal)
      (k0_pay11 (F := Ideal) (vc m c t) (vx m c t) B (f0 m c t) (f1 m c t) (f2 m c t) (iblk m c 4 t)) (vb m c t) (iblk m c 5 t)
    ∧ (outsAt0 m c t.val t.isLt).2.2.2.1 = View.canon [(⟨Rect.unit ![0, 512] ![512, 512] inb_S512x1024_S512x512_0_512,
        k0_pay2 (F := Ideal) (k0_pay15 (F := Ideal) (vk m c t)) (k0_pay17 (F := Ideal) (vk m c t)) (iblk m c 6 t) (iblk m c 8 t)⟩ : View.Piece (Elt Ideal) S512x1024 .f32),
      ⟨Rect.unit ![0, 0] ![512, 512] inb_S512x1024_S512x512_0_0,
        k0_pay1 (F := Ideal) (k0_pay14 (F := Ideal) (vq m c t)) (k0_pay16 (F := Ideal) (vq m c t) (iblk m c 6 t)) (iblk m c 7 t)⟩] := by
  by_cases h0 : t.val % 16 = 0
  · have t0 : t.val = 0 := by have := lt16 t; omega
    refine ⟨fun y => bufA m c t ((Rect.unit (s := S520x512) ![0, 0] ![520, 512] inb_S520x512_S520x512_0_0).idx y), ?_, ?_⟩
    · intro i j h6
      refine (same_at (n0 := 520) (n1 := 512) (bufA m c t) _ (ix2 i j) (show 0 + 1 * i.val = i.val by omega)
        (show 0 + 1 * j.val = j.val by omega)).trans ((bufA_eq m c t _).trans (buf_at m c t _ _ (fun i j h6 h8 => ?_) i j h6))
      refine (read_hit (n0 := 520) (n1 := 512) _ _ _ _ [] i j ⟨i.val, h8⟩ j (Nat.zero_add _).symm (Nat.zero_add _).symm).trans ?_
      exact (pay3_at _ _).trans (if_neg (by omega)).symm
    · rw [outsAt0_A m c t h0]; frame_out
      simp only [View.readCov_eq_canon']
      and_intros <;> first | trivial | rfl
  · refine ⟨bufv ((Memref.isWhole_whole cc0_scratch0).unread (outsAt0 m c (t.val - 1) (by have := lt16 t; show _ < 16; omega)).2.2.2.2) (L0 m c t []), ?_, ?_⟩
    · refine buf_at m c t _ _ fun i j h6 h8 => ?_
      refine (congrFun (Memref.IsWhole.read_unread (Memref.isWhole_whole cc0_scratch0) _) _).trans ?_
      have e := scr_at m c ⟨t.val - 1, by have := lt16 t; show _ < 16; omega⟩ i j h8
      refine e.trans (pad_eq _ _ _ _ ?_).symm
      show 512 * t.val + i.val = 512 * (t.val - 1) + 504 + i.val + 8
      omega
    · rw [outsAt0_B m c t h0]; frame_out
      simp only [View.readCov_eq_canon']
      and_intros <;> first | trivial | rfl

end Cert.Kernel9Ideal.Head
-- ==== Proof.Head.Value.lean ====
module

public import proofs.«01_k».proof.Proof.Head.Point
public import proofs.«01_k».proof.Defs
public import proofs.«01_k».proof.Proof.Gen.Kernel9
public import proofs.«01_k».proof.Proof.Gen.Kernel9Ideal
public import proofs.«01_k».proof.Proof.Gen.Reference9Ideal
public import proofs.«01_k».proof.Proof.Gen.Reference9Ideal.Run
public import Idealize.ShloMosaic.Lib.Pipeline.ValueKit.Geometry

@[expose] public section

set_option maxRecDepth 16384

noncomputable section

namespace Cert.Kernel9Ideal.Head

open Cert.Kernel9Ideal Cert.Kernel9Ideal.Gen
open Idealize.ShloMosaic Idealize.ShloMosaic.TcCoe Idealize.SL.Sem
open Cert.Grad Cert.Head

section Arrays

variable (m : (ℓ : Loc nD τ sig) → Buf (Elt Ideal) ℓ) (c : Dev nD)

/-- An array whose entries a tile's contents match row by row. -/
theorem of_rows {n : ℕ} (G : (⟨2, ![8192, n]⟩ : Shape).Idx → EReal) (t : Fin cfg0.N) (X : (⟨2, ![512, n]⟩ : Shape).Idx → EReal)
    (e : ∀ r k, X (ix2 r k) = G (ix2 ⟨512 * t.val + r.val, row_lt t r⟩ k)) (y : (⟨2, ![512, n]⟩ : Shape).Idx)
    (z : (⟨2, ![8192, n]⟩ : Shape).Idx) (h0 : (z 0).val = 512 * t.val + (y 0).val) (h1 : (z 1).val = (y 1).val) : X y = G z :=
  ((congrArg X (eq_ix2 y)).trans (e (y 0) (y 1))).trans (same_at G _ _ h0.symm h1.symm)

theorem z_out : (dats m 0 c).arrAt 9 cfg0.N = oZ (arr m c) := by
  refine (dats m 0 c).arrAt_eq_of_covers 9 (oZ (arr m c)) (by decide +kernel) fun t hf y => ?_
  rw [after0_9]
  obtain ⟨B, hB, e, -⟩ := tiled m c t
  refine of_rows (oZ (arr m c)) t _ (fun r k => (congrFun e _).trans (z_at m c t r k)) y _ ?_ ?_ <;>
    blk_simp [(by decide +kernel : ∀ t : Fin cfg0.N, win0_9.index t = ![t.val, 0])]
  omega

theorem a_out : (dats m 0 c).arrAt 10 cfg0.N = oA (arr m c) := by
  refine (dats m 0 c).arrAt_eq_of_covers 10 (oA (arr m c)) (by decide +kernel) fun t hf y => ?_
  rw [after0_10]
  obtain ⟨B, hB, -, e, -⟩ := tiled m c t
  refine of_rows (oA (arr m c)) t _ (fun r k => (congrFun e _).trans (a_at m c t r k)) y _ ?_ ?_ <;>
    blk_simp [(by decide +kernel : ∀ t : Fin cfg0.N, win0_10.index t = ![t.val, 0])]
  omega

theorem y_out : (dats m 0 c).arrAt 11 cfg0.N = oY (arr m c) := by
  refine (dats m 0 c).arrAt_eq_of_covers 11 (oY (arr m c)) (by decide +kernel) fun t hf y => ?_
  rw [after0_11]
  obtain ⟨B, hB, -, -, e, -⟩ := tiled m c t
  refine of_rows (oY (arr m c)) t _ (fun r k => (congrFun e _).trans (y_at m c t B hB r k)) y _ ?_ ?_ <;>
    blk_simp [(by decide +kernel : ∀ t : Fin cfg0.N, win0_11.index t = ![t.val, 0])]
  omega

theorem qk_out : (dats m 0 c).arrAt 12 cfg0.N = oQk (arr m c) := by
  refine (dats m 0 c).arrAt_eq_of_covers 12 (oQk (arr m c)) (by decide +kernel) fun t hf y => ?_
  rw [after0_12]
  obtain ⟨B, hB, -, -, -, e⟩ := tiled m c t
  refine of_rows (oQk (arr m c)) t _ (fun r k => (congrFun e _).trans (qk_at m c t r k)) y _ ?_ ?_ <;>
    blk_simp [(by decide +kernel : ∀ t : Fin cfg0.N, win0_12.index t = ![t.val, 0])]
  omega

end Arrays

/-- The arguments the reference is launched with. -/
def argsOf (m' : (ℓ : Loc Cert.Reference9Ideal.nD Cert.Reference9Ideal.τ Cert.Reference9Ideal.sig) → Buf (Elt Ideal) ℓ) (c : Dev Cert.Reference9Ideal.nD) :
    Cert.Reference9Ideal.Head.Args :=
  ⟨m' ((c.tc : Thread Cert.Reference9Ideal.nD Cert.Reference9Ideal.τ).loc Cert.Reference9Ideal.main_arg0), m' ((c.tc : Thread Cert.Reference9Ideal.nD Cert.Reference9Ideal.τ).loc Cert.Reference9Ideal.main_arg1), m' ((c.tc : Thread Cert.Reference9Ideal.nD Cert.Reference9Ideal.τ).loc Cert.Reference9Ideal.main_arg2), m' ((c.tc : Thread Cert.Reference9Ideal.nD Cert.Reference9Ideal.τ).loc Cert.Reference9Ideal.main_arg3), m' ((c.tc : Thread Cert.Reference9Ideal.nD Cert.Reference9Ideal.τ).loc Cert.Reference9Ideal.main_arg4), m' ((c.tc : Thread Cert.Reference9Ideal.nD Cert.Reference9Ideal.τ).loc Cert.Reference9Ideal.main_arg5), m' ((c.tc : Thread Cert.Reference9Ideal.nD Cert.Reference9Ideal.τ).loc Cert.Reference9Ideal.main_arg6), m' ((c.tc : Thread Cert.Reference9Ideal.nD Cert.Reference9Ideal.τ).loc Cert.Reference9Ideal.main_arg7)⟩

open Cert.Reference9Ideal.Head Cert.Reference9Ideal.Read in
theorem algebraic : Cert.algebraic_Kernel9Ideal_Reference9Ideal (hKernel9Ideal := Cert.Kernel9Ideal.Gen.facts) (hReference9Ideal := Cert.Reference9Ideal.Gen.facts) := by
  intro m g m' g' _ hm
  have hA : ∀ c : Dev Cert.Reference9Ideal.nD, argsOf m' c = args m c := fun c => by
    obtain ⟨h0, h1, h2, h3, h4, h5, h6, h7⟩ := hm c
    unfold argsOf args
    rw [h0, h1, h2, h3, h4, h5, h6, h7]
  refine ⟨fun c => oZ (arr m c), fun c => oA (arr m c), fun c => oY (arr m c), fun c => oQk (arr m c), ?_, ?_⟩
  · refine (θ_run _ _ _).mono (fun r h c => ?_) (Cert.Kernel9Ideal.Value.run_blocks (F := Ideal) m g)
    obtain ⟨o0, o1, o2, o3, hr⟩ := h c
    exact ⟨o0.trans (z_out m c), o1.trans (a_out m c), o2.trans (y_out m c), o3.trans (qk_out m c), hr⟩
  · refine (θ_run _ _ _).mono (fun r h c => ?_) (Cert.Reference9Ideal.Value.run (F := Ideal) m' g')
    obtain ⟨o0, o1, o2, o3, hr⟩ := h c
    have eA : A (argsOf m' c) = arr m c := congrArg A (hA c)
    refine ⟨o0.trans ?_, o1.trans ?_, o2.trans ?_, o3.trans ?_, hr⟩
    · exact (val_main_v78_eq _ _ _).trans ((z_eq (argsOf m' c)).trans (congrArg oZ eA))
    · exact (val_main_v79_eq _ _ _).trans ((a_eq (argsOf m' c)).trans (congrArg oA eA))
    · exact (val_main_v92_eq _ _).trans ((y_eq (argsOf m' c)).trans (congrArg oY eA))
    · exact (val_main_v77_eq _ _).trans ((qk_eq (argsOf m' c)).trans (congrArg oQk eA))

theorem frame_ideal : Cert.quiescent_Kernel9Ideal (hKernel9Ideal := Cert.Kernel9Ideal.Gen.facts) := fun m ρ _ =>
  Cert.Kernel9Ideal.Gen.frame m ρ

set_option maxHeartbeats 4000000 in
/-- The kernel over bits: its text is the ideal kernel's, whose run holds over any float values. -/
theorem frame_kernel : Cert.quiescent_Kernel9 (hKernel9 := Cert.Kernel9.Gen.facts) := fun m ρ _ => by
  have bodies : @Cert.Kernel9.defs₀ Bits _ Cert.Kernel9.Gen.facts = @Cert.Kernel9Ideal.defs₀ Bits _ Cert.Kernel9Ideal.Gen.facts := by
    unfold Cert.Kernel9.defs₀ Cert.Kernel9Ideal.defs₀
    refine congrArg Defs.onTc ?_
    funext l
    match l with
    | 0 => funext a; rfl
  have e : @Cert.Kernel9.defs Bits _ Cert.Kernel9.Gen.facts = @Cert.Kernel9Ideal.defs Bits _ Cert.Kernel9Ideal.Gen.facts :=
    congrArg (Pipeline.defs (@Cert.Kernel9Ideal.pcfgs Bits Cert.Kernel9Ideal.Gen.facts)) bodies
  rw [e]
  exact (θ_run Cert.Kernel9Ideal.defs _ _).mono (fun _ h => h) (Cert.Kernel9Ideal.Gen.frame (F := Bits) m ρ)

theorem frame_reference : Cert.quiescent_Reference9Ideal (hReference9Ideal := Cert.Reference9Ideal.Gen.facts) := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

end Cert.Kernel9Ideal.Head
-- ==== Proof.Wg.Out.lean ====
module

public import proofs.«01_k».proof.Proof.Wg.Basic
public import proofs.«01_k».proof.Defs
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Pipeline.ValueKit
public import Idealize.ShloMosaic.Lib.Pipeline.ValueKit.Geometry

@[expose] public section

set_option maxRecDepth 16384

noncomputable section

namespace Cert.Kernel10Ideal.Wg

open Cert.Kernel10Ideal Cert.Kernel10Ideal.Gen
open Idealize.ShloMosaic Idealize.ShloMosaic.TcCoe Idealize.SL.Sem
open Cert.Mix (rowOf ext2)
open Cert.Grad Cert.Wg

section Point

variable (m : (ℓ : Loc nD τ sig) → Buf (Elt Ideal) ℓ) (c : Dev nD) (t : Fin cfg0.N)

/-- The two arrays of the product. -/
abbrev fA : (⟨2, ![8192, 1024]⟩ : Shape).Idx → EReal := V m c main_v13
abbrev fB : (⟨2, ![8192, 1024]⟩ : Shape).Idx → EReal := V m c main_arg4

theorem map0 : ∀ t : Fin cfg0.N, win0_0.index t = ![t.val, 0] := by decide +kernel
theorem map1 : ∀ t : Fin cfg0.N, win0_1.index t = ![t.val, 0] := by decide +kernel

theorem a_at (r : Fin 1024) (l : Fin 1024) : iblk m c 0 t (ix2 r l) = rowOf (fA m c) (1024 * t.val + r.val) l := by
  rw [row8_at _ t.isLt]
  refine same_at (fA m c) _ _ ?_ ?_ <;> blk_simp [map0] <;> (show _ = 1024 * t.val + r.val; omega)

theorem b_at (r : Fin 1024) (l : Fin 1024) : iblk m c 1 t (ix2 r l) = rowOf (fB m c) (1024 * t.val + r.val) l := by
  rw [row8_at _ t.isLt]
  refine same_at (fB m c) _ _ ?_ ?_ <;> blk_simp [map1] <;> (show _ = 1024 * t.val + r.val; omega)

theorem step (acc : FVec Ideal S1024x1024 .f32) (y : Fin 1024 × Fin 1024) :
    k0_pay2 (F := Ideal) acc (iblk m c 0 t) (iblk m c 1 t) (ix2 y.1 y.2)
    = acc (ix2 y.1 y.2) + tile8 (term (fA m c) (fB m c) y.1 y.2) t.val := by
  pointwise [k0_pay2]
  simp only [a_at, b_at]
  rfl

theorem zero_at (y : Fin 1024 × Fin 1024) : k0_pay1 (F := Ideal) (ix2 y.1 y.2) = 0 := by
  pointwise [k0_pay1]

theorem acc_point (y : Fin 1024 × Fin 1024) : (outsAt0 m c t.val t.isLt).1 (ix2 y.1 y.2)
    = ∑ s ∈ Finset.range (t.val + 1), tile8 (term (fA m c) (fB m c) y.1 y.2) s := by
  have := Pipeline.eq_sum_of_reset_step_apply_single (fun n h (y : Fin 1024 × Fin 1024) => (outsAt0 m c n h).1 (ix2 y.1 y.2)) 8
    (fun _ => 0) (fun s y => tile8 (term (fA m c) (fB m c) y.1 y.2) s)
    (fun t h y => by
      rw [outsAt0_A m c t h (by omega)]; frame_out
      exact (step m c t _ y).trans (congrArg (· + _) (zero_at y)))
    (fun t h y => by
      by_cases h1 : t.val % 8 = 7
      · rw [outsAt0_C m c t h h1]; frame_out; exact step m c t _ y
      · rw [outsAt0_B m c t h h1]; frame_out; exact step m c t _ y) (by decide) t y
  exact this.trans (zero_add _)

theorem acc_last (y : (⟨2, ![1024, 1024]⟩ : Shape).Idx) : (outsAt0 m c 7 (by decide)).1 y = prod (fA m c) (fB m c) y := by
  have e := acc_point m c ⟨7, by decide⟩ (y 0, y 1)
  rw [← eq_ix2 (n0 := 1024) (n1 := 1024) y] at e
  exact e.trans (tiles8_total _)

theorem cast_eq (v : FVec Ideal S1024x1024 .f32) : k0_pay3 (F := Ideal) v = v := ext2 fun i j => by
  pointwise [k0_pay3]

theorem both_last : (outsAt0 m c 7 (by decide)).2 = (outsAt0 m c 7 (by decide)).1 := by
  rw [outsAt0_C m c ⟨7, by decide⟩ (by decide) (by decide)]
  frame_out
  exact cast_eq _

theorem out2 : (dats m 0 c).arrAt 2 cfg0.N = prod (fA m c) (fB m c) := by
  refine (dats m 0 c).arrAt_eq_of_after_last 2 (⟨7, by decide⟩ : Fin cfg0.N) (by decide +kernel) (prod (fA m c) (fB m c))
    fun (j : (⟨2, ![1024, 1024]⟩ : Shape).Idx) => ?_
  rw [after0_2]
  exact acc_last m c j

theorem out3 : (dats m 0 c).arrAt 3 cfg0.N = prod (fA m c) (fB m c) := by
  refine (dats m 0 c).arrAt_eq_of_after_last 3 (⟨7, by decide⟩ : Fin cfg0.N) (by decide +kernel) (prod (fA m c) (fB m c))
    fun (j : (⟨2, ![1024, 1024]⟩ : Shape).Idx) => ?_
  rw [after0_3]
  exact (congrFun (both_last m c) j).trans (acc_last m c j)

end Point

section Host

open Cert.Reference10Ideal.Read

variable (m : (ℓ : Loc nD τ sig) → Buf (Elt Ideal) ℓ) (c : Dev nD)

/-- The mixer's two halves, joined on the host, are the reference's. -/
theorem fA_eq : fA m c = val_main_v13 (F := Ideal) (m ((c : Thread nD τ).loc main_arg0)) (m ((c : Thread nD τ).loc main_arg1))
    (m ((c : Thread nD τ).loc main_arg2)) := by
  dsimp only [fA, V, hostOps0]
  after_results
  rfl

theorem fB_eq : fB m c = m ((c : Thread nD τ).loc main_arg4) := V_main_arg4 m c

variable (x0 : (⟨Cert.Reference10Ideal.S8192x512, .bf16⟩ : BufTy).Contents (Elt Ideal)) (x1 : (⟨Cert.Reference10Ideal.S8192x512, .f32⟩ : BufTy).Contents (Elt Ideal))
  (x2 : (⟨Cert.Reference10Ideal.S1x512, .f32⟩ : BufTy).Contents (Elt Ideal)) (x4 : (⟨Cert.Reference10Ideal.S8192x1024, .f32⟩ : BufTy).Contents (Elt Ideal))

theorem ref16 : val_main_v16 (F := Ideal) x0 x1 x2 x4 = prod (val_main_v13 (F := Ideal) x0 x1 x2) x4 := ext2 fun i j => by
  rw [prod_at]
  pointwise [val_main_v16, val_main_v15]
  exact Finset.sum_congr rfl fun _ _ => mul_comm _ _

theorem ref17 : val_main_v17 (F := Ideal) x0 x1 x2 x4 = prod (val_main_v13 (F := Ideal) x0 x1 x2) x4 := ext2 fun i j => by
  rw [← ref16]
  rfl

end Host

theorem algebraic : Cert.algebraic_Kernel10Ideal_Reference10Ideal (hKernel10Ideal := Cert.Kernel10Ideal.Gen.facts) (hReference10Ideal := Cert.Reference10Ideal.Gen.facts) := by
  intro m g m' g' _ hm
  refine ⟨fun c => prod (fA m c) (fB m c), fun c => prod (fA m c) (fB m c), ?_, ?_⟩
  · refine (θ_run _ _ _).mono (fun r h c => ?_) (Cert.Kernel10Ideal.Value.run_blocks (F := Ideal) m g)
    obtain ⟨o0, o1, hr⟩ := h c
    exact ⟨o0.trans (out2 m c), o1.trans (out3 m c), hr⟩
  · refine (θ_run _ _ _).mono (fun r h c => ?_) (Cert.Reference10Ideal.Value.run (F := Ideal) m' g')
    obtain ⟨o0, o1, hr⟩ := h c
    obtain ⟨h0, h1, h2, h3, h4⟩ := hm c
    refine ⟨o0.trans ((Cert.Reference10Ideal.Read.val_main_v16_eq _ _ _ _).trans ((ref16 _ _ _ _).trans ?_)),
      o1.trans ((Cert.Reference10Ideal.Read.val_main_v17_eq _ _ _ _).trans ((ref17 _ _ _ _).trans ?_)), hr⟩
    all_goals show _ = prod (fA m c) (fB m c)
    all_goals rw [fA_eq, fB_eq, h0, h1, h2, h4]

theorem frame_ideal : Cert.quiescent_Kernel10Ideal (hKernel10Ideal := Cert.Kernel10Ideal.Gen.facts) := fun m ρ _ =>
  Cert.Kernel10Ideal.Gen.frame m ρ

set_option maxHeartbeats 4000000 in
/-- The kernel over bits: its text is the ideal kernel's, whose run holds over any float values. -/
theorem frame_kernel : Cert.quiescent_Kernel10 (hKernel10 := Cert.Kernel10.Gen.facts) := fun m ρ _ => by
  have bodies : @Cert.Kernel10.defs₀ Bits _ Cert.Kernel10.Gen.facts = @Cert.Kernel10Ideal.defs₀ Bits _ Cert.Kernel10Ideal.Gen.facts := by
    unfold Cert.Kernel10.defs₀ Cert.Kernel10Ideal.defs₀
    refine congrArg Defs.onTc ?_
    funext l
    match l with
    | 0 => funext a; rfl
  have e : @Cert.Kernel10.defs Bits _ Cert.Kernel10.Gen.facts = @Cert.Kernel10Ideal.defs Bits _ Cert.Kernel10Ideal.Gen.facts :=
    congrArg (Pipeline.defs (@Cert.Kernel10Ideal.pcfgs Bits Cert.Kernel10Ideal.Gen.facts)) bodies
  rw [e]
  exact (θ_run Cert.Kernel10Ideal.defs _ _).mono (fun _ h => h) (Cert.Kernel10Ideal.Gen.frame (F := Bits) m ρ)

theorem frame_reference : Cert.quiescent_Reference10Ideal (hReference10Ideal := Cert.Reference10Ideal.Gen.facts) := fun m ρ _ =>
  (θ_run Cert.Reference10Ideal.defs _ _).mono (fun r h => ⟨fun c => (h c).2.2, sem_eq_zero_of_no_sems (by decide) r.2⟩)
    (Cert.Reference10Ideal.Value.run (F := Ideal) m ρ)

end Cert.Kernel10Ideal.Wg
-- ==== Proof.Wg.PleGate.lean ====
module

public import proofs.«01_k».proof.Proof.Wg.Basic
public import proofs.«01_k».proof.Defs
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.Pipeline.ValueKit
public import Idealize.ShloMosaic.Lib.Pipeline.ValueKit.Geometry

@[expose] public section

set_option maxRecDepth 16384

noncomputable section

namespace Cert.Kernel11Ideal.Wg

open Cert.Kernel11Ideal Cert.Kernel11Ideal.Gen
open Idealize.ShloMosaic Idealize.ShloMosaic.TcCoe Idealize.SL.Sem
open Cert.Mix (rowOf ext2)
open Cert.Grad Cert.Wg

section Point

variable (m : (ℓ : Loc nD τ sig) → Buf (Elt Ideal) ℓ) (c : Dev nD) (t : Fin cfg0.N)

/-- The two arrays of the product. -/
abbrev fA : (⟨2, ![8192, 1024]⟩ : Shape).Idx → EReal := V m c main_v12
abbrev fB : (⟨2, ![8192, 1024]⟩ : Shape).Idx → EReal := V m c main_arg3

theorem map0 : ∀ t : Fin cfg0.N, win0_0.index t = ![t.val, 0] := by decide +kernel
theorem map1 : ∀ t : Fin cfg0.N, win0_1.index t = ![t.val, 0] := by decide +kernel

theorem a_at (r : Fin 1024) (l : Fin 1024) : iblk m c 0 t (ix2 r l) = rowOf (fA m c) (1024 * t.val + r.val) l := by
  rw [row8_at _ t.isLt]
  refine same_at (fA m c) _ _ ?_ ?_ <;> blk_simp [map0] <;> (show _ = 1024 * t.val + r.val; omega)

theorem b_at (r : Fin 1024) (l : Fin 1024) : iblk m c 1 t (ix2 r l) = rowOf (fB m c) (1024 * t.val + r.val) l := by
  rw [row8_at _ t.isLt]
  refine same_at (fB m c) _ _ ?_ ?_ <;> blk_simp [map1] <;> (show _ = 1024 * t.val + r.val; omega)

theorem step (acc : FVec Ideal S1024x1024 .f32) (y : Fin 1024 × Fin 1024) :
    k0_pay2 (F := Ideal) acc (iblk m c 0 t) (iblk m c 1 t) (ix2 y.1 y.2)
    = acc (ix2 y.1 y.2) + tile8 (term (fA m c) (fB m c) y.1 y.2) t.val := by
  pointwise [k0_pay2]
  simp only [a_at, b_at]
  rfl

theorem zero_at (y : Fin 1024 × Fin 1024) : k0_pay1 (F := Ideal) (ix2 y.1 y.2) = 0 := by
  pointwise [k0_pay1]

theorem acc_point (y : Fin 1024 × Fin 1024) : (outsAt0 m c t.val t.isLt).1 (ix2 y.1 y.2)
    = ∑ s ∈ Finset.range (t.val + 1), tile8 (term (fA m c) (fB m c) y.1 y.2) s := by
  have := Pipeline.eq_sum_of_reset_step_apply_single (fun n h (y : Fin 1024 × Fin 1024) => (outsAt0 m c n h).1 (ix2 y.1 y.2)) 8
    (fun _ => 0) (fun s y => tile8 (term (fA m c) (fB m c) y.1 y.2) s)
    (fun t h y => by
      rw [outsAt0_A m c t h (by omega)]; frame_out
      exact (step m c t _ y).trans (congrArg (· + _) (zero_at y)))
    (fun t h y => by
      by_cases h1 : t.val % 8 = 7
      · rw [outsAt0_C m c t h h1]; frame_out; exact step m c t _ y
      · rw [outsAt0_B m c t h h1]; frame_out; exact step m c t _ y) (by decide) t y
  exact this.trans (zero_add _)

theorem acc_last (y : (⟨2, ![1024, 1024]⟩ : Shape).Idx) : (outsAt0 m c 7 (by decide)).1 y = prod (fA m c) (fB m c) y := by
  have e := acc_point m c ⟨7, by decide⟩ (y 0, y 1)
  rw [← eq_ix2 (n0 := 1024) (n1 := 1024) y] at e
  exact e.trans (tiles8_total _)

theorem cast_eq (v : FVec Ideal S1024x1024 .f32) : k0_pay3 (F := Ideal) v = v := ext2 fun i j => by
  pointwise [k0_pay3]

theorem both_last : (outsAt0 m c 7 (by decide)).2 = (outsAt0 m c 7 (by decide)).1 := by
  rw [outsAt0_C m c ⟨7, by decide⟩ (by decide) (by decide)]
  frame_out
  exact cast_eq _

theorem out2 : (dats m 0 c).arrAt 2 cfg0.N = prod (fA m c) (fB m c) := by
  refine (dats m 0 c).arrAt_eq_of_after_last 2 (⟨7, by decide⟩ : Fin cfg0.N) (by decide +kernel) (prod (fA m c) (fB m c))
    fun (j : (⟨2, ![1024, 1024]⟩ : Shape).Idx) => ?_
  rw [after0_2]
  exact acc_last m c j

theorem out3 : (dats m 0 c).arrAt 3 cfg0.N = prod (fA m c) (fB m c) := by
  refine (dats m 0 c).arrAt_eq_of_after_last 3 (⟨7, by decide⟩ : Fin cfg0.N) (by decide +kernel) (prod (fA m c) (fB m c))
    fun (j : (⟨2, ![1024, 1024]⟩ : Shape).Idx) => ?_
  rw [after0_3]
  exact (congrFun (both_last m c) j).trans (acc_last m c j)

end Point

section Host

open Cert.Reference11Ideal.Read

variable (m : (ℓ : Loc nD τ sig) → Buf (Elt Ideal) ℓ) (c : Dev nD)

/-- The normed rows, made on the host, are the reference's. -/
theorem fA_eq : fA m c = val_main_v11 (F := Ideal) (m ((c : Thread nD τ).loc main_arg0)) (m ((c : Thread nD τ).loc main_arg1)) := by
  dsimp only [fA, V, hostOps0]
  after_results
  rfl

theorem fB_eq : fB m c = m ((c : Thread nD τ).loc main_arg3) := V_main_arg3 m c

variable (x0 : (⟨Cert.Reference11Ideal.S8192x1024, .f32⟩ : BufTy).Contents (Elt Ideal)) (x1 : (⟨Cert.Reference11Ideal.S1x1024, .f32⟩ : BufTy).Contents (Elt Ideal)) (x3 : (⟨Cert.Reference11Ideal.S8192x1024, .bf16⟩ : BufTy).Contents (Elt Ideal))

theorem ref15 : val_main_v15 (F := Ideal) x0 x1 x3 = prod (val_main_v11 (F := Ideal) x0 x1) x3 := ext2 fun i j => by
  rw [prod_at]
  pointwise [val_main_v15, val_main_v14, val_main_v13]
  exact Finset.sum_congr rfl fun _ _ => mul_comm _ _

theorem ref16 : val_main_v16 (F := Ideal) x0 x1 x3 = prod (val_main_v11 (F := Ideal) x0 x1) x3 := ext2 fun i j => by
  rw [← ref15]
  rfl

end Host

theorem algebraic : Cert.algebraic_Kernel11Ideal_Reference11Ideal (hKernel11Ideal := Cert.Kernel11Ideal.Gen.facts) (hReference11Ideal := Cert.Reference11Ideal.Gen.facts) := by
  intro m g m' g' _ hm
  refine ⟨fun c => prod (fA m c) (fB m c), fun c => prod (fA m c) (fB m c), ?_, ?_⟩
  · refine (θ_run _ _ _).mono (fun r h c => ?_) (Cert.Kernel11Ideal.Value.run_blocks (F := Ideal) m g)
    obtain ⟨o0, o1, hr⟩ := h c
    exact ⟨o0.trans (out2 m c), o1.trans (out3 m c), hr⟩
  · refine (θ_run _ _ _).mono (fun r h c => ?_) (Cert.Reference11Ideal.Value.run (F := Ideal) m' g')
    obtain ⟨o0, o1, hr⟩ := h c
    obtain ⟨h0, h1, h2, h3⟩ := hm c
    refine ⟨o0.trans ((Cert.Reference11Ideal.Read.val_main_v15_eq _ _ _).trans ((ref15 _ _ _).trans ?_)),
      o1.trans ((Cert.Reference11Ideal.Read.val_main_v16_eq _ _ _).trans ((ref16 _ _ _).trans ?_)), hr⟩
    all_goals show _ = prod (fA m c) (fB m c)
    all_goals rw [fA_eq, fB_eq, h0, h1, h3]

theorem frame_ideal : Cert.quiescent_Kernel11Ideal (hKernel11Ideal := Cert.Kernel11Ideal.Gen.facts) := fun m ρ _ =>
  Cert.Kernel11Ideal.Gen.frame m ρ

set_option maxHeartbeats 4000000 in
/-- The kernel over bits: its text is the ideal kernel's, whose run holds over any float values. -/
theorem frame_kernel : Cert.quiescent_Kernel11 (hKernel11 := Cert.Kernel11.Gen.facts) := fun m ρ _ => by
  have bodies : @Cert.Kernel11.defs₀ Bits _ Cert.Kernel11.Gen.facts = @Cert.Kernel11Ideal.defs₀ Bits _ Cert.Kernel11Ideal.Gen.facts := by
    unfold Cert.Kernel11.defs₀ Cert.Kernel11Ideal.defs₀
    refine congrArg Defs.onTc ?_
    funext l
    match l with
    | 0 => funext a; rfl
  have e : @Cert.Kernel11.defs Bits _ Cert.Kernel11.Gen.facts = @Cert.Kernel11Ideal.defs Bits _ Cert.Kernel11Ideal.Gen.facts :=
    congrArg (Pipeline.defs (@Cert.Kernel11Ideal.pcfgs Bits Cert.Kernel11Ideal.Gen.facts)) bodies
  rw [e]
  exact (θ_run Cert.Kernel11Ideal.defs _ _).mono (fun _ h => h) (Cert.Kernel11Ideal.Gen.frame (F := Bits) m ρ)

theorem frame_reference : Cert.quiescent_Reference11Ideal (hReference11Ideal := Cert.Reference11Ideal.Gen.facts) := fun m ρ _ =>
  (θ_run Cert.Reference11Ideal.defs _ _).mono (fun r h => ⟨fun c => (h c).2.2, sem_eq_zero_of_no_sems (by decide) r.2⟩)
    (Cert.Reference11Ideal.Value.run (F := Ideal) m ρ)

end Cert.Kernel11Ideal.Wg
-- ==== Proof.Wg.PleProj.lean ====
module

public import proofs.«01_k».proof.Proof.Wg.Basic
public import proofs.«01_k».proof.Defs
public import proofs.«01_k».proof.Proof.Gen.Kernel12
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Lib.Pipeline.ValueKit
public import Idealize.ShloMosaic.Lib.Pipeline.ValueKit.Geometry

@[expose] public section

set_option maxRecDepth 16384

noncomputable section

namespace Cert.Kernel12Ideal.Wg

open Cert.Kernel12Ideal Cert.Kernel12Ideal.Gen
open Idealize.ShloMosaic Idealize.ShloMosaic.TcCoe Idealize.SL.Sem
open Cert.Mix (rowOf ext2)
open Cert.Grad Cert.Wg

section Point

variable (m : (ℓ : Loc nD τ sig) → Buf (Elt Ideal) ℓ) (c : Dev nD) (t : Fin cfg0.N)

/-- The two arrays of the product. -/
abbrev fA : (⟨2, ![8192, 256]⟩ : Shape).Idx → EReal := V m c main_arg0
abbrev fB : (⟨2, ![8192, 1024]⟩ : Shape).Idx → EReal := V m c main_arg2

theorem map0 : ∀ t : Fin cfg0.N, win0_0.index t = ![t.val, 0] := by decide +kernel
theorem map1 : ∀ t : Fin cfg0.N, win0_1.index t = ![t.val, 0] := by decide +kernel

theorem a_at (r : Fin 1024) (l : Fin 256) : iblk m c 0 t (ix2 r l) = rowOf (fA m c) (1024 * t.val + r.val) l := by
  rw [row8_at _ t.isLt]
  refine same_at (fA m c) _ _ ?_ ?_ <;> blk_simp [map0] <;> (show _ = 1024 * t.val + r.val; omega)

theorem b_at (r : Fin 1024) (l : Fin 1024) : iblk m c 1 t (ix2 r l) = rowOf (fB m c) (1024 * t.val + r.val) l := by
  rw [row8_at _ t.isLt]
  refine same_at (fB m c) _ _ ?_ ?_ <;> blk_simp [map1] <;> (show _ = 1024 * t.val + r.val; omega)

theorem step (acc : FVec Ideal S256x1024 .f32) (y : Fin 256 × Fin 1024) :
    k0_pay2 (F := Ideal) acc (iblk m c 0 t) (iblk m c 1 t) (ix2 y.1 y.2)
    = acc (ix2 y.1 y.2) + tile8 (term (fA m c) (fB m c) y.1 y.2) t.val := by
  pointwise [k0_pay2]
  simp only [a_at, b_at]
  rfl

theorem zero_at (y : Fin 256 × Fin 1024) : k0_pay1 (F := Ideal) (ix2 y.1 y.2) = 0 := by
  pointwise [k0_pay1]

theorem acc_point (y : Fin 256 × Fin 1024) : (outsAt0 m c t.val t.isLt).1 (ix2 y.1 y.2)
    = ∑ s ∈ Finset.range (t.val + 1), tile8 (term (fA m c) (fB m c) y.1 y.2) s := by
  have := Pipeline.eq_sum_of_reset_step_apply_single (fun n h (y : Fin 256 × Fin 1024) => (outsAt0 m c n h).1 (ix2 y.1 y.2)) 8
    (fun _ => 0) (fun s y => tile8 (term (fA m c) (fB m c) y.1 y.2) s)
    (fun t h y => by
      rw [outsAt0_A m c t h (by omega)]; frame_out
      exact (step m c t _ y).trans (congrArg (· + _) (zero_at y)))
    (fun t h y => by
      by_cases h1 : t.val % 8 = 7
      · rw [outsAt0_C m c t h h1]; frame_out; exact step m c t _ y
      · rw [outsAt0_B m c t h h1]; frame_out; exact step m c t _ y) (by decide) t y
  exact this.trans (zero_add _)

theorem acc_last (y : (⟨2, ![256, 1024]⟩ : Shape).Idx) : (outsAt0 m c 7 (by decide)).1 y = prod (fA m c) (fB m c) y := by
  have e := acc_point m c ⟨7, by decide⟩ (y 0, y 1)
  rw [← eq_ix2 (n0 := 256) (n1 := 1024) y] at e
  exact e.trans (tiles8_total _)

theorem cast_eq (v : FVec Ideal S256x1024 .f32) : k0_pay3 (F := Ideal) v = v := ext2 fun i j => by
  pointwise [k0_pay3]

theorem both_last : (outsAt0 m c 7 (by decide)).2 = (outsAt0 m c 7 (by decide)).1 := by
  rw [outsAt0_C m c ⟨7, by decide⟩ (by decide) (by decide)]
  frame_out
  exact cast_eq _

theorem out2 : (dats m 0 c).arrAt 2 cfg0.N = prod (fA m c) (fB m c) := by
  refine (dats m 0 c).arrAt_eq_of_after_last 2 (⟨7, by decide⟩ : Fin cfg0.N) (by decide +kernel) (prod (fA m c) (fB m c))
    fun (j : (⟨2, ![256, 1024]⟩ : Shape).Idx) => ?_
  rw [after0_2]
  exact acc_last m c j

theorem out3 : (dats m 0 c).arrAt 3 cfg0.N = prod (fA m c) (fB m c) := by
  refine (dats m 0 c).arrAt_eq_of_after_last 3 (⟨7, by decide⟩ : Fin cfg0.N) (by decide +kernel) (prod (fA m c) (fB m c))
    fun (j : (⟨2, ![256, 1024]⟩ : Shape).Idx) => ?_
  rw [after0_3]
  exact (congrFun (both_last m c) j).trans (acc_last m c j)

end Point

section Host

open Cert.Reference12Ideal.Read

variable (m : (ℓ : Loc nD τ sig) → Buf (Elt Ideal) ℓ) (c : Dev nD)

theorem fA_eq : fA m c = m ((c : Thread nD τ).loc main_arg0) := V_main_arg0 m c
theorem fB_eq : fB m c = m ((c : Thread nD τ).loc main_arg2) := V_main_arg2 m c

variable (x0 : (⟨Cert.Reference12Ideal.S8192x256, .f32⟩ : BufTy).Contents (Elt Ideal)) (x2 : (⟨Cert.Reference12Ideal.S8192x1024, .bf16⟩ : BufTy).Contents (Elt Ideal))

theorem ref3 : val_main_v3 (F := Ideal) x0 x2 = prod x0 x2 := ext2 fun i j => by
  rw [prod_at]
  pointwise [val_main_v3, val_main_v2, val_main_v1]
  exact Finset.sum_congr rfl fun _ _ => mul_comm _ _

theorem ref4 : val_main_v4 (F := Ideal) x0 x2 = prod x0 x2 := ext2 fun i j => by
  rw [← ref3]
  rfl

end Host

theorem algebraic : Cert.algebraic_Kernel12Ideal_Reference12Ideal (hKernel12Ideal := Cert.Kernel12Ideal.Gen.facts) (hReference12Ideal := Cert.Reference12Ideal.Gen.facts) := by
  intro m g m' g' _ hm
  refine ⟨fun c => prod (fA m c) (fB m c), fun c => prod (fA m c) (fB m c), ?_, ?_⟩
  · refine (θ_run _ _ _).mono (fun r h c => ?_) (Cert.Kernel12Ideal.Value.run_blocks (F := Ideal) m g)
    obtain ⟨o0, o1, hr⟩ := h c
    exact ⟨o0.trans (out2 m c), o1.trans (out3 m c), hr⟩
  · refine (θ_run _ _ _).mono (fun r h c => ?_) (Cert.Reference12Ideal.Value.run (F := Ideal) m' g')
    obtain ⟨o0, o1, hr⟩ := h c
    obtain ⟨h0, h1, h2⟩ := hm c
    refine ⟨o0.trans ((Cert.Reference12Ideal.Read.val_main_v3_eq _ _).trans ((ref3 _ _).trans ?_)),
      o1.trans ((Cert.Reference12Ideal.Read.val_main_v4_eq _ _).trans ((ref4 _ _).trans ?_)), hr⟩
    all_goals show _ = prod (fA m c) (fB m c)
    all_goals rw [fA_eq, fB_eq, h0, h2]

theorem frame_ideal : Cert.quiescent_Kernel12Ideal (hKernel12Ideal := Cert.Kernel12Ideal.Gen.facts) := fun m ρ _ =>
  Cert.Kernel12Ideal.Gen.frame m ρ

set_option maxHeartbeats 4000000 in
/-- The kernel over bits: its text is the ideal kernel's, whose run holds over any float values. -/
theorem frame_kernel : Cert.quiescent_Kernel12 (hKernel12 := Cert.Kernel12.Gen.facts) := fun m ρ _ => by
  have bodies : @Cert.Kernel12.defs₀ Bits _ Cert.Kernel12.Gen.facts = @Cert.Kernel12Ideal.defs₀ Bits _ Cert.Kernel12Ideal.Gen.facts := by
    unfold Cert.Kernel12.defs₀ Cert.Kernel12Ideal.defs₀
    refine congrArg Defs.onTc ?_
    funext l
    match l with
    | 0 => funext a; rfl
  have e : @Cert.Kernel12.defs Bits _ Cert.Kernel12.Gen.facts = @Cert.Kernel12Ideal.defs Bits _ Cert.Kernel12Ideal.Gen.facts :=
    congrArg (Pipeline.defs (@Cert.Kernel12Ideal.pcfgs Bits Cert.Kernel12Ideal.Gen.facts)) bodies
  rw [e]
  exact (θ_run Cert.Kernel12Ideal.defs _ _).mono (fun _ h => h) (Cert.Kernel12Ideal.Gen.frame (F := Bits) m ρ)

theorem frame_reference : Cert.quiescent_Reference12Ideal (hReference12Ideal := Cert.Reference12Ideal.Gen.facts) := fun m ρ _ =>
  (θ_run Cert.Reference12Ideal.defs _ _).mono (fun r h => ⟨fun c => (h c).2.2, sem_eq_zero_of_no_sems (by decide) r.2⟩)
    (Cert.Reference12Ideal.Value.run (F := Ideal) m ρ)

end Cert.Kernel12Ideal.Wg
-- ==== Proof.lean ====
/- The proof of the claims: for each of the calls the three frames, and the equality of kernel and reference over the extended
   reals, one of them where the entries of three arrays are real. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Mix.Bits
public import proofs.«01_k».proof.Proof.Mix.Value
public import proofs.«01_k».proof.Proof.Ffn.Value
public import proofs.«01_k».proof.Proof.In.Value
public import proofs.«01_k».proof.Proof.Wg.Gate
public import proofs.«01_k».proof.Proof.Wg.Down
public import proofs.«01_k».proof.Proof.Tail.Value
public import proofs.«01_k».proof.Proof.Back.Value
public import proofs.«01_k».proof.Proof.Fwd.Value
public import proofs.«01_k».proof.Proof.Head.Value
public import proofs.«01_k».proof.Proof.Wg.Out
public import proofs.«01_k».proof.Proof.Wg.PleGate
public import proofs.«01_k».proof.Proof.Wg.PleProj
public import Idealize.ShloMosaic.Adequacy
public import Idealize.ShloMosaic.Init

@[expose] public section

noncomputable section

namespace Cert.Proof

open Idealize.ShloMosaic Idealize.SL.Sem

/-- The mixers' kernel over the extended reals. -/
theorem frame_ideal : Cert.quiescent_KernelIdeal (hKernelIdeal := Cert.KernelIdeal.Gen.facts) := fun m ρ _ =>
  Cert.KernelIdeal.Mix.frame (F := Ideal) m ρ

/-- The mixers' reference: its operations write none of its arguments, and it has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2.2.2.2.2, sem_eq_zero_of_no_sems (by decide) r.2⟩)
    (Cert.ReferenceIdeal.Value.run (F := Ideal) m ρ)

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Back.preFacts,
  Cert.KernelIdeal.Mix.frame_kernel, frame_ideal, frame_reference,
  Cert.Kernel2Ideal.Ffn.frame_kernel, Cert.Kernel2Ideal.Ffn.frame_ideal, Cert.Kernel2Ideal.Ffn.frame_reference,
  Cert.Kernel3Ideal.In.frame_kernel, Cert.Kernel3Ideal.In.frame_ideal, Cert.Kernel3Ideal.In.frame_reference,
  Cert.Kernel4Ideal.Wg.frame_kernel, Cert.Kernel4Ideal.Wg.frame_ideal, Cert.Kernel4Ideal.Wg.frame_reference,
  Cert.Kernel5Ideal.Wg.frame_kernel, Cert.Kernel5Ideal.Wg.frame_ideal, Cert.Kernel5Ideal.Wg.frame_reference,
  Cert.Kernel6Ideal.Tail.frame_kernel, Cert.Kernel6Ideal.Tail.frame_ideal, Cert.Kernel6Ideal.Tail.frame_reference,
  Cert.Kernel7Ideal.Back.frame_kernel, Cert.Kernel7Ideal.Back.frame_ideal, Cert.Kernel7Ideal.Back.frame_ideal_pre, Cert.Kernel7Ideal.Back.frame_reference, Cert.Kernel7Ideal.Back.frame_reference_pre,
  Cert.Kernel8Ideal.Fwd.frame_kernel, Cert.Kernel8Ideal.Fwd.frame_ideal, Cert.Kernel8Ideal.Fwd.frame_reference,
  Cert.Kernel9Ideal.Head.frame_kernel, Cert.Kernel9Ideal.Head.frame_ideal, Cert.Kernel9Ideal.Head.frame_reference,
  Cert.Kernel10Ideal.Wg.frame_kernel, Cert.Kernel10Ideal.Wg.frame_ideal, Cert.Kernel10Ideal.Wg.frame_reference,
  Cert.Kernel11Ideal.Wg.frame_kernel, Cert.Kernel11Ideal.Wg.frame_ideal, Cert.Kernel11Ideal.Wg.frame_reference,
  Cert.Kernel12Ideal.Wg.frame_kernel, Cert.Kernel12Ideal.Wg.frame_ideal, Cert.Kernel12Ideal.Wg.frame_reference,
  trivial, Cert.KernelIdeal.Mix.algebraic,
  trivial, Cert.Kernel2Ideal.Ffn.algebraic,
  trivial, Cert.Kernel3Ideal.In.algebraic,
  trivial, Cert.Kernel4Ideal.Wg.algebraic,
  trivial, Cert.Kernel5Ideal.Wg.algebraic,
  trivial, Cert.Kernel6Ideal.Tail.algebraic,
  trivial, Cert.Kernel7Ideal.Back.algebraic,
  trivial, Cert.Kernel8Ideal.Fwd.algebraic,
  trivial, Cert.Kernel9Ideal.Head.algebraic,
  trivial, Cert.Kernel10Ideal.Wg.algebraic,
  trivial, Cert.Kernel11Ideal.Wg.algebraic,
  trivial, Cert.Kernel12Ideal.Wg.algebraic⟩

end Cert.Proof

end
